-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Up [hPre_up_experts : Cert.Pre_up_experts.Facts] (m : (ℓ : Loc Cert.Up.nD Cert.Up.τ Cert.Up.sig) → Buf (Elt Bits) ℓ) : Prop :=
  ∀ c : Dev Cert.Up.nD,
    (Cert.Pre_up_experts.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_up_experts : Cert.Pre_up_experts.Facts] (m : (ℓ : Loc Cert.UpIdeal.nD Cert.UpIdeal.τ Cert.UpIdeal.sig) → Buf (Elt Ideal) ℓ) : Prop :=
  ∀ c : Dev Cert.UpIdeal.nD,
    (Cert.Pre_up_experts.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpIdeal_up_tiles [hPre_up_tiles : Cert.Pre_up_tiles.Facts] (m : (ℓ : Loc Cert.UpIdeal.nD Cert.UpIdeal.τ Cert.UpIdeal.sig) → Buf (Elt Ideal) ℓ) : Prop :=
  ∀ c : Dev Cert.UpIdeal.nD,
    (Cert.Pre_up_tiles.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_up_tiles [hPre_up_tiles : Cert.Pre_up_tiles.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_up_tiles.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))) = (fun _ => 1#1)

def Pre_Down [hPre_down_experts : Cert.Pre_down_experts.Facts] (m : (ℓ : Loc Cert.Down.nD Cert.Down.τ Cert.Down.sig) → Buf (Elt Bits) ℓ) : Prop :=
  ∀ c : Dev Cert.Down.nD,
    (Cert.Pre_down_experts.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_down_experts : Cert.Pre_down_experts.Facts] (m : (ℓ : Loc Cert.DownIdeal.nD Cert.DownIdeal.τ Cert.DownIdeal.sig) → Buf (Elt Ideal) ℓ) : Prop :=
  ∀ c : Dev Cert.DownIdeal.nD,
    (Cert.Pre_down_experts.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownIdeal_down_tiles [hPre_down_tiles : Cert.Pre_down_tiles.Facts] (m : (ℓ : Loc Cert.DownIdeal.nD Cert.DownIdeal.τ Cert.DownIdeal.sig) → Buf (Elt Ideal) ℓ) : Prop :=
  ∀ c : Dev Cert.DownIdeal.nD,
    (Cert.Pre_down_tiles.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_down_tiles [hPre_down_tiles : Cert.Pre_down_tiles.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_down_tiles.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))) = (fun _ => 1#1)

def Pre_DenseUp (m : (ℓ : Loc Cert.DenseUp.nD Cert.DenseUp.τ Cert.DenseUp.sig) → Buf (Elt Bits) ℓ) : Prop :=
  True

def Pre_DenseUpIdeal (m : (ℓ : Loc Cert.DenseUpIdeal.nD Cert.DenseUpIdeal.τ Cert.DenseUpIdeal.sig) → Buf (Elt Ideal) ℓ) : Prop :=
  True

def Pre_DenseUpReferenceIdeal (m : (ℓ : Loc Cert.DenseUpReferenceIdeal.nD Cert.DenseUpReferenceIdeal.τ Cert.DenseUpReferenceIdeal.sig) → Buf (Elt Ideal) ℓ) : Prop :=
  True

def Pre_DenseDown (m : (ℓ : Loc Cert.DenseDown.nD Cert.DenseDown.τ Cert.DenseDown.sig) → Buf (Elt Bits) ℓ) : Prop :=
  True

def Pre_DenseDownIdeal (m : (ℓ : Loc Cert.DenseDownIdeal.nD Cert.DenseDownIdeal.τ Cert.DenseDownIdeal.sig) → Buf (Elt Ideal) ℓ) : Prop :=
  True

def Pre_DenseDownReferenceIdeal (m : (ℓ : Loc Cert.DenseDownReferenceIdeal.nD Cert.DenseDownReferenceIdeal.τ Cert.DenseDownReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_tables [hPre_tables : Cert.Pre_tables.Facts] (m : (ℓ : Loc Cert.InProjIdeal.nD Cert.InProjIdeal.τ Cert.InProjIdeal.sig) → Buf (Elt Ideal) ℓ) : Prop :=
  ∀ c : Dev Cert.InProjIdeal.nD,
    (Cert.Pre_tables.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_tables [hPre_tables : Cert.Pre_tables.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_tables.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Up [hUp : Cert.Up.Facts] [hPre_up_experts : Cert.Pre_up_experts.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_up_experts : Cert.Pre_up_experts.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpIdeal_pre_up_tiles [hUpIdeal : Cert.UpIdeal.Facts] [hPre_up_tiles : Cert.Pre_up_tiles.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_tiles m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_UpReferenceIdeal_pre_up_tiles [hUpReferenceIdeal : Cert.UpReferenceIdeal.Facts] [hPre_up_tiles : Cert.Pre_up_tiles.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_up_tiles m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_Down [hDown : Cert.Down.Facts] [hPre_down_experts : Cert.Pre_down_experts.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_down_experts : Cert.Pre_down_experts.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_down_tiles [hDownIdeal : Cert.DownIdeal.Facts] [hPre_down_tiles : Cert.Pre_down_tiles.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_tiles m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_down_tiles [hDownReferenceIdeal : Cert.DownReferenceIdeal.Facts] [hPre_down_tiles : Cert.Pre_down_tiles.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_down_tiles m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DenseUp [hDenseUp : Cert.DenseUp.Facts] : Prop :=
  ∀ (m : (ℓ : Loc Cert.DenseUp.nD Cert.DenseUp.τ Cert.DenseUp.sig) → Buf (Elt Bits) ℓ) (g : Dev Cert.DenseUp.nD → PrngReg), Pre_DenseUp m →
    θ_run (Cert.DenseUp.defs (F := Bits)) (onTc (τ := Cert.DenseUp.τ) (Cert.DenseUp.main (F := Bits))) ⟨m, fun _ => 0, g⟩ (fun r => (∀ c : Dev Cert.DenseUp.nD,
      r.2.mem ((c.tc : Thread Cert.DenseUp.nD Cert.DenseUp.τ).loc Cert.DenseUp.main_arg0) = m ((c.tc : Thread Cert.DenseUp.nD Cert.DenseUp.τ).loc Cert.DenseUp.main_arg0)
      ∧ r.2.mem ((c.tc : Thread Cert.DenseUp.nD Cert.DenseUp.τ).loc Cert.DenseUp.main_arg1) = m ((c.tc : Thread Cert.DenseUp.nD Cert.DenseUp.τ).loc Cert.DenseUp.main_arg1)
      ∧ r.2.mem ((c.tc : Thread Cert.DenseUp.nD Cert.DenseUp.τ).loc Cert.DenseUp.main_arg2) = m ((c.tc : Thread Cert.DenseUp.nD Cert.DenseUp.τ).loc Cert.DenseUp.main_arg2))
      ∧ r.2.sem = fun _ => 0)

def quiescent_DenseUpIdeal [hDenseUpIdeal : Cert.DenseUpIdeal.Facts] : Prop :=
  ∀ (m : (ℓ : Loc Cert.DenseUpIdeal.nD Cert.DenseUpIdeal.τ Cert.DenseUpIdeal.sig) → Buf (Elt Ideal) ℓ) (g : Dev Cert.DenseUpIdeal.nD → PrngReg), Pre_DenseUpIdeal m →
    θ_run (Cert.DenseUpIdeal.defs (F := Ideal)) (onTc (τ := Cert.DenseUpIdeal.τ) (Cert.DenseUpIdeal.main (F := Ideal))) ⟨m, fun _ => 0, g⟩ (fun r => (∀ c : Dev Cert.DenseUpIdeal.nD,
      r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
      ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
      ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2))
      ∧ r.2.sem = fun _ => 0)

def quiescent_DenseUpReferenceIdeal [hDenseUpReferenceIdeal : Cert.DenseUpReferenceIdeal.Facts] : Prop :=
  ∀ (m : (ℓ : Loc Cert.DenseUpReferenceIdeal.nD Cert.DenseUpReferenceIdeal.τ Cert.DenseUpReferenceIdeal.sig) → Buf (Elt Ideal) ℓ) (g : Dev Cert.DenseUpReferenceIdeal.nD → PrngReg), Pre_DenseUpReferenceIdeal m →
    θ_run (Cert.DenseUpReferenceIdeal.defs (F := Ideal)) (onTc (τ := Cert.DenseUpReferenceIdeal.τ) (Cert.DenseUpReferenceIdeal.main (F := Ideal))) ⟨m, fun _ => 0, g⟩ (fun r => (∀ c : Dev Cert.DenseUpReferenceIdeal.nD,
      r.2.mem ((c.tc : Thread Cert.DenseUpReferenceIdeal.nD Cert.DenseUpReferenceIdeal.τ).loc Cert.DenseUpReferenceIdeal.main_arg0) = m ((c.tc : Thread Cert.DenseUpReferenceIdeal.nD Cert.DenseUpReferenceIdeal.τ).loc Cert.DenseUpReferenceIdeal.main_arg0)
      ∧ r.2.mem ((c.tc : Thread Cert.DenseUpReferenceIdeal.nD Cert.DenseUpReferenceIdeal.τ).loc Cert.DenseUpReferenceIdeal.main_arg1) = m ((c.tc : Thread Cert.DenseUpReferenceIdeal.nD Cert.DenseUpReferenceIdeal.τ).loc Cert.DenseUpReferenceIdeal.main_arg1)
      ∧ r.2.mem ((c.tc : Thread Cert.DenseUpReferenceIdeal.nD Cert.DenseUpReferenceIdeal.τ).loc Cert.DenseUpReferenceIdeal.main_arg2) = m ((c.tc : Thread Cert.DenseUpReferenceIdeal.nD Cert.DenseUpReferenceIdeal.τ).loc Cert.DenseUpReferenceIdeal.main_arg2))
      ∧ r.2.sem = fun _ => 0)

def quiescent_DenseDown [hDenseDown : Cert.DenseDown.Facts] : Prop :=
  ∀ (m : (ℓ : Loc Cert.DenseDown.nD Cert.DenseDown.τ Cert.DenseDown.sig) → Buf (Elt Bits) ℓ) (g : Dev Cert.DenseDown.nD → PrngReg), Pre_DenseDown m →
    θ_run (Cert.DenseDown.defs (F := Bits)) (onTc (τ := Cert.DenseDown.τ) (Cert.DenseDown.main (F := Bits))) ⟨m, fun _ => 0, g⟩ (fun r => (∀ c : Dev Cert.DenseDown.nD,
      r.2.mem ((c.tc : Thread Cert.DenseDown.nD Cert.DenseDown.τ).loc Cert.DenseDown.main_arg0) = m ((c.tc : Thread Cert.DenseDown.nD Cert.DenseDown.τ).loc Cert.DenseDown.main_arg0)
      ∧ r.2.mem ((c.tc : Thread Cert.DenseDown.nD Cert.DenseDown.τ).loc Cert.DenseDown.main_arg1) = m ((c.tc : Thread Cert.DenseDown.nD Cert.DenseDown.τ).loc Cert.DenseDown.main_arg1)
      ∧ r.2.mem ((c.tc : Thread Cert.DenseDown.nD Cert.DenseDown.τ).loc Cert.DenseDown.main_arg2) = m ((c.tc : Thread Cert.DenseDown.nD Cert.DenseDown.τ).loc Cert.DenseDown.main_arg2)
      ∧ r.2.mem ((c.tc : Thread Cert.DenseDown.nD Cert.DenseDown.τ).loc Cert.DenseDown.main_arg3) = m ((c.tc : Thread Cert.DenseDown.nD Cert.DenseDown.τ).loc Cert.DenseDown.main_arg3))
      ∧ r.2.sem = fun _ => 0)

def quiescent_DenseDownIdeal [hDenseDownIdeal : Cert.DenseDownIdeal.Facts] : Prop :=
  ∀ (m : (ℓ : Loc Cert.DenseDownIdeal.nD Cert.DenseDownIdeal.τ Cert.DenseDownIdeal.sig) → Buf (Elt Ideal) ℓ) (g : Dev Cert.DenseDownIdeal.nD → PrngReg), Pre_DenseDownIdeal m →
    θ_run (Cert.DenseDownIdeal.defs (F := Ideal)) (onTc (τ := Cert.DenseDownIdeal.τ) (Cert.DenseDownIdeal.main (F := Ideal))) ⟨m, fun _ => 0, g⟩ (fun r => (∀ c : Dev Cert.DenseDownIdeal.nD,
      r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
      ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
      ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
      ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3))
      ∧ r.2.sem = fun _ => 0)

def quiescent_DenseDownReferenceIdeal [hDenseDownReferenceIdeal : Cert.DenseDownReferenceIdeal.Facts] : Prop :=
  ∀ (m : (ℓ : Loc Cert.DenseDownReferenceIdeal.nD Cert.DenseDownReferenceIdeal.τ Cert.DenseDownReferenceIdeal.sig) → Buf (Elt Ideal) ℓ) (g : Dev Cert.DenseDownReferenceIdeal.nD → PrngReg), Pre_DenseDownReferenceIdeal m →
    θ_run (Cert.DenseDownReferenceIdeal.defs (F := Ideal)) (onTc (τ := Cert.DenseDownReferenceIdeal.τ) (Cert.DenseDownReferenceIdeal.main (F := Ideal))) ⟨m, fun _ => 0, g⟩ (fun r => (∀ c : Dev Cert.DenseDownReferenceIdeal.nD,
      r.2.mem ((c.tc : Thread Cert.DenseDownReferenceIdeal.nD Cert.DenseDownReferenceIdeal.τ).loc Cert.DenseDownReferenceIdeal.main_arg0) = m ((c.tc : Thread Cert.DenseDownReferenceIdeal.nD Cert.DenseDownReferenceIdeal.τ).loc Cert.DenseDownReferenceIdeal.main_arg0)
      ∧ r.2.mem ((c.tc : Thread Cert.DenseDownReferenceIdeal.nD Cert.DenseDownReferenceIdeal.τ).loc Cert.DenseDownReferenceIdeal.main_arg1) = m ((c.tc : Thread Cert.DenseDownReferenceIdeal.nD Cert.DenseDownReferenceIdeal.τ).loc Cert.DenseDownReferenceIdeal.main_arg1)
      ∧ r.2.mem ((c.tc : Thread Cert.DenseDownReferenceIdeal.nD Cert.DenseDownReferenceIdeal.τ).loc Cert.DenseDownReferenceIdeal.main_arg2) = m ((c.tc : Thread Cert.DenseDownReferenceIdeal.nD Cert.DenseDownReferenceIdeal.τ).loc Cert.DenseDownReferenceIdeal.main_arg2)
      ∧ r.2.mem ((c.tc : Thread Cert.DenseDownReferenceIdeal.nD Cert.DenseDownReferenceIdeal.τ).loc Cert.DenseDownReferenceIdeal.main_arg3) = m ((c.tc : Thread Cert.DenseDownReferenceIdeal.nD Cert.DenseDownReferenceIdeal.τ).loc Cert.DenseDownReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_tables [hInProjIdeal : Cert.InProjIdeal.Facts] [hPre_tables : Cert.Pre_tables.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_tables m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def quiescent_InProjReferenceIdeal_pre_tables [hInProjReferenceIdeal : Cert.InProjReferenceIdeal.Facts] [hPre_tables : Cert.Pre_tables.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_tables m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Up_UpIdeal : Prop :=
  True

def algebraic_UpIdeal_UpReferenceIdeal_pre_up_tiles [hUpIdeal : Cert.UpIdeal.Facts] [hUpReferenceIdeal : Cert.UpReferenceIdeal.Facts] [hPre_up_tiles : Cert.Pre_up_tiles.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal_up_tiles m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v104) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_Down_DownIdeal : Prop :=
  True

def algebraic_DownIdeal_DownReferenceIdeal_pre_down_tiles [hDownIdeal : Cert.DownIdeal.Facts] [hDownReferenceIdeal : Cert.DownReferenceIdeal.Facts] [hPre_down_tiles : Cert.Pre_down_tiles.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal_down_tiles m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v64) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_DenseUp_DenseUpIdeal : Prop :=
  True

def algebraic_DenseUpIdeal_DenseUpReferenceIdeal [hDenseUpIdeal : Cert.DenseUpIdeal.Facts] [hDenseUpReferenceIdeal : Cert.DenseUpReferenceIdeal.Facts] : Prop :=
  ∀ (m : (ℓ : Loc Cert.DenseUpIdeal.nD Cert.DenseUpIdeal.τ Cert.DenseUpIdeal.sig) → Buf (Elt Ideal) ℓ) (g : Dev Cert.DenseUpIdeal.nD → PrngReg)
    (m' : (ℓ : Loc Cert.DenseUpReferenceIdeal.nD Cert.DenseUpReferenceIdeal.τ Cert.DenseUpReferenceIdeal.sig) → Buf (Elt Ideal) ℓ) (g' : Dev Cert.DenseUpReferenceIdeal.nD → PrngReg), Pre_DenseUpIdeal m →
    (∀ c : Dev Cert.DenseUpIdeal.nD,
      m' ((c.tc : Thread Cert.DenseUpReferenceIdeal.nD Cert.DenseUpReferenceIdeal.τ).loc Cert.DenseUpReferenceIdeal.main_arg0) = m ((c.tc : Thread Cert.DenseUpIdeal.nD Cert.DenseUpIdeal.τ).loc Cert.DenseUpIdeal.main_arg0)
      ∧ m' ((c.tc : Thread Cert.DenseUpReferenceIdeal.nD Cert.DenseUpReferenceIdeal.τ).loc Cert.DenseUpReferenceIdeal.main_arg1) = m ((c.tc : Thread Cert.DenseUpIdeal.nD Cert.DenseUpIdeal.τ).loc Cert.DenseUpIdeal.main_arg1)
      ∧ m' ((c.tc : Thread Cert.DenseUpReferenceIdeal.nD Cert.DenseUpReferenceIdeal.τ).loc Cert.DenseUpReferenceIdeal.main_arg2) = m ((c.tc : Thread Cert.DenseUpIdeal.nD Cert.DenseUpIdeal.τ).loc Cert.DenseUpIdeal.main_arg2)) →
    ∃ (v0 : (c : Dev Cert.DenseUpIdeal.nD) → Buf (Elt Ideal) ((c.tc : Thread Cert.DenseUpIdeal.nD Cert.DenseUpIdeal.τ).loc Cert.DenseUpIdeal.main_v0)),
      θ_run (Cert.DenseUpIdeal.defs (F := Ideal)) (onTc (τ := Cert.DenseUpIdeal.τ) (Cert.DenseUpIdeal.main (F := Ideal))) ⟨m, fun _ => 0, g⟩ (fun r => ∀ c : Dev Cert.DenseUpIdeal.nD,
          r.2.mem ((c.tc : Thread Cert.DenseUpIdeal.nD Cert.DenseUpIdeal.τ).loc Cert.DenseUpIdeal.main_v0) = v0 c
          ∧ r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
          ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
          ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2))
      ∧ θ_run (Cert.DenseUpReferenceIdeal.defs (F := Ideal)) (onTc (τ := Cert.DenseUpReferenceIdeal.τ) (Cert.DenseUpReferenceIdeal.main (F := Ideal))) ⟨m', fun _ => 0, g'⟩ (fun r => ∀ c : Dev Cert.DenseUpReferenceIdeal.nD,
          r.2.mem ((c.tc : Thread Cert.DenseUpReferenceIdeal.nD Cert.DenseUpReferenceIdeal.τ).loc Cert.DenseUpReferenceIdeal.main_v9) = v0 c
          ∧ r.2.mem ((c.tc : Thread Cert.DenseUpReferenceIdeal.nD Cert.DenseUpReferenceIdeal.τ).loc Cert.DenseUpReferenceIdeal.main_arg0) = m' ((c.tc : Thread Cert.DenseUpReferenceIdeal.nD Cert.DenseUpReferenceIdeal.τ).loc Cert.DenseUpReferenceIdeal.main_arg0)
          ∧ r.2.mem ((c.tc : Thread Cert.DenseUpReferenceIdeal.nD Cert.DenseUpReferenceIdeal.τ).loc Cert.DenseUpReferenceIdeal.main_arg1) = m' ((c.tc : Thread Cert.DenseUpReferenceIdeal.nD Cert.DenseUpReferenceIdeal.τ).loc Cert.DenseUpReferenceIdeal.main_arg1)
          ∧ r.2.mem ((c.tc : Thread Cert.DenseUpReferenceIdeal.nD Cert.DenseUpReferenceIdeal.τ).loc Cert.DenseUpReferenceIdeal.main_arg2) = m' ((c.tc : Thread Cert.DenseUpReferenceIdeal.nD Cert.DenseUpReferenceIdeal.τ).loc Cert.DenseUpReferenceIdeal.main_arg2))

def preserves_DenseDown_DenseDownIdeal : Prop :=
  True

def algebraic_DenseDownIdeal_DenseDownReferenceIdeal [hDenseDownIdeal : Cert.DenseDownIdeal.Facts] [hDenseDownReferenceIdeal : Cert.DenseDownReferenceIdeal.Facts] : Prop :=
  ∀ (m : (ℓ : Loc Cert.DenseDownIdeal.nD Cert.DenseDownIdeal.τ Cert.DenseDownIdeal.sig) → Buf (Elt Ideal) ℓ) (g : Dev Cert.DenseDownIdeal.nD → PrngReg)
    (m' : (ℓ : Loc Cert.DenseDownReferenceIdeal.nD Cert.DenseDownReferenceIdeal.τ Cert.DenseDownReferenceIdeal.sig) → Buf (Elt Ideal) ℓ) (g' : Dev Cert.DenseDownReferenceIdeal.nD → PrngReg), Pre_DenseDownIdeal m →
    (∀ c : Dev Cert.DenseDownIdeal.nD,
      m' ((c.tc : Thread Cert.DenseDownReferenceIdeal.nD Cert.DenseDownReferenceIdeal.τ).loc Cert.DenseDownReferenceIdeal.main_arg0) = m ((c.tc : Thread Cert.DenseDownIdeal.nD Cert.DenseDownIdeal.τ).loc Cert.DenseDownIdeal.main_arg0)
      ∧ m' ((c.tc : Thread Cert.DenseDownReferenceIdeal.nD Cert.DenseDownReferenceIdeal.τ).loc Cert.DenseDownReferenceIdeal.main_arg1) = m ((c.tc : Thread Cert.DenseDownIdeal.nD Cert.DenseDownIdeal.τ).loc Cert.DenseDownIdeal.main_arg1)
      ∧ m' ((c.tc : Thread Cert.DenseDownReferenceIdeal.nD Cert.DenseDownReferenceIdeal.τ).loc Cert.DenseDownReferenceIdeal.main_arg2) = m ((c.tc : Thread Cert.DenseDownIdeal.nD Cert.DenseDownIdeal.τ).loc Cert.DenseDownIdeal.main_arg2)
      ∧ m' ((c.tc : Thread Cert.DenseDownReferenceIdeal.nD Cert.DenseDownReferenceIdeal.τ).loc Cert.DenseDownReferenceIdeal.main_arg3) = m ((c.tc : Thread Cert.DenseDownIdeal.nD Cert.DenseDownIdeal.τ).loc Cert.DenseDownIdeal.main_arg3)) →
    ∃ (v0 : (c : Dev Cert.DenseDownIdeal.nD) → Buf (Elt Ideal) ((c.tc : Thread Cert.DenseDownIdeal.nD Cert.DenseDownIdeal.τ).loc Cert.DenseDownIdeal.main_v1_0)) (v1 : (c : Dev Cert.DenseDownIdeal.nD) → Buf (Elt Ideal) ((c.tc : Thread Cert.DenseDownIdeal.nD Cert.DenseDownIdeal.τ).loc Cert.DenseDownIdeal.main_v1_1)),
      θ_run (Cert.DenseDownIdeal.defs (F := Ideal)) (onTc (τ := Cert.DenseDownIdeal.τ) (Cert.DenseDownIdeal.main (F := Ideal))) ⟨m, fun _ => 0, g⟩ (fun r => ∀ c : Dev Cert.DenseDownIdeal.nD,
          r.2.mem ((c.tc : Thread Cert.DenseDownIdeal.nD Cert.DenseDownIdeal.τ).loc Cert.DenseDownIdeal.main_v1_0) = v0 c
          ∧ r.2.mem ((c.tc : Thread Cert.DenseDownIdeal.nD Cert.DenseDownIdeal.τ).loc Cert.DenseDownIdeal.main_v1_1) = v1 c
          ∧ r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
          ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
          ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
          ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3))
      ∧ θ_run (Cert.DenseDownReferenceIdeal.defs (F := Ideal)) (onTc (τ := Cert.DenseDownReferenceIdeal.τ) (Cert.DenseDownReferenceIdeal.main (F := Ideal))) ⟨m', fun _ => 0, g'⟩ (fun r => ∀ c : Dev Cert.DenseDownReferenceIdeal.nD,
          r.2.mem ((c.tc : Thread Cert.DenseDownReferenceIdeal.nD Cert.DenseDownReferenceIdeal.τ).loc Cert.DenseDownReferenceIdeal.main_v4) = v0 c
          ∧ r.2.mem ((c.tc : Thread Cert.DenseDownReferenceIdeal.nD Cert.DenseDownReferenceIdeal.τ).loc Cert.DenseDownReferenceIdeal.main_v18) = v1 c
          ∧ r.2.mem ((c.tc : Thread Cert.DenseDownReferenceIdeal.nD Cert.DenseDownReferenceIdeal.τ).loc Cert.DenseDownReferenceIdeal.main_arg0) = m' ((c.tc : Thread Cert.DenseDownReferenceIdeal.nD Cert.DenseDownReferenceIdeal.τ).loc Cert.DenseDownReferenceIdeal.main_arg0)
          ∧ r.2.mem ((c.tc : Thread Cert.DenseDownReferenceIdeal.nD Cert.DenseDownReferenceIdeal.τ).loc Cert.DenseDownReferenceIdeal.main_arg1) = m' ((c.tc : Thread Cert.DenseDownReferenceIdeal.nD Cert.DenseDownReferenceIdeal.τ).loc Cert.DenseDownReferenceIdeal.main_arg1)
          ∧ r.2.mem ((c.tc : Thread Cert.DenseDownReferenceIdeal.nD Cert.DenseDownReferenceIdeal.τ).loc Cert.DenseDownReferenceIdeal.main_arg2) = m' ((c.tc : Thread Cert.DenseDownReferenceIdeal.nD Cert.DenseDownReferenceIdeal.τ).loc Cert.DenseDownReferenceIdeal.main_arg2)
          ∧ r.2.mem ((c.tc : Thread Cert.DenseDownReferenceIdeal.nD Cert.DenseDownReferenceIdeal.τ).loc Cert.DenseDownReferenceIdeal.main_arg3) = m' ((c.tc : Thread Cert.DenseDownReferenceIdeal.nD Cert.DenseDownReferenceIdeal.τ).loc Cert.DenseDownReferenceIdeal.main_arg3))

def preserves_InProj_InProjIdeal : Prop :=
  True

def algebraic_InProjIdeal_InProjReferenceIdeal_pre_tables [hInProjIdeal : Cert.InProjIdeal.Facts] [hInProjReferenceIdeal : Cert.InProjReferenceIdeal.Facts] [hPre_tables : Cert.Pre_tables.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_tables m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v48) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hDenseUp : Cert.DenseUp.Facts) (hDenseUpIdeal : Cert.DenseUpIdeal.Facts) (hDenseUpReferenceIdeal : Cert.DenseUpReferenceIdeal.Facts) (hDenseDown : Cert.DenseDown.Facts) (hDenseDownIdeal : Cert.DenseDownIdeal.Facts) (hDenseDownReferenceIdeal : Cert.DenseDownReferenceIdeal.Facts) (hInProj : Cert.InProj.Facts) (hInProjIdeal : Cert.InProjIdeal.Facts) (hInProjReferenceIdeal : Cert.InProjReferenceIdeal.Facts) (hPre_finite : Cert.Pre_finite.Facts) (hPre_up_experts : Cert.Pre_up_experts.Facts) (hPre_up_tiles : Cert.Pre_up_tiles.Facts) (hPre_down_experts : Cert.Pre_down_experts.Facts) (hPre_down_tiles : Cert.Pre_down_tiles.Facts) (hPre_tables : Cert.Pre_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp) (hPre_up_experts := hPre_up_experts)
    ∧ quiescent_UpIdeal (hUpIdeal := hUpIdeal) (hPre_up_experts := hPre_up_experts)
    ∧ quiescent_UpIdeal_pre_up_tiles (hUpIdeal := hUpIdeal) (hPre_up_tiles := hPre_up_tiles)
    ∧ quiescent_UpReferenceIdeal (hUpReferenceIdeal := hUpReferenceIdeal)
    ∧ quiescent_UpReferenceIdeal_pre_up_tiles (hUpReferenceIdeal := hUpReferenceIdeal) (hPre_up_tiles := hPre_up_tiles)
    ∧ quiescent_Down (hDown := hDown) (hPre_down_experts := hPre_down_experts)
    ∧ quiescent_DownIdeal (hDownIdeal := hDownIdeal) (hPre_down_experts := hPre_down_experts)
    ∧ quiescent_DownIdeal_pre_down_tiles (hDownIdeal := hDownIdeal) (hPre_down_tiles := hPre_down_tiles)
    ∧ quiescent_DownReferenceIdeal (hDownReferenceIdeal := hDownReferenceIdeal)
    ∧ quiescent_DownReferenceIdeal_pre_down_tiles (hDownReferenceIdeal := hDownReferenceIdeal) (hPre_down_tiles := hPre_down_tiles)
    ∧ quiescent_DenseUp (hDenseUp := hDenseUp)
    ∧ quiescent_DenseUpIdeal (hDenseUpIdeal := hDenseUpIdeal)
    ∧ quiescent_DenseUpReferenceIdeal (hDenseUpReferenceIdeal := hDenseUpReferenceIdeal)
    ∧ quiescent_DenseDown (hDenseDown := hDenseDown)
    ∧ quiescent_DenseDownIdeal (hDenseDownIdeal := hDenseDownIdeal)
    ∧ quiescent_DenseDownReferenceIdeal (hDenseDownReferenceIdeal := hDenseDownReferenceIdeal)
    ∧ quiescent_InProj (hInProj := hInProj)
    ∧ quiescent_InProjIdeal (hInProjIdeal := hInProjIdeal)
    ∧ quiescent_InProjIdeal_pre_tables (hInProjIdeal := hInProjIdeal) (hPre_tables := hPre_tables)
    ∧ quiescent_InProjReferenceIdeal (hInProjReferenceIdeal := hInProjReferenceIdeal)
    ∧ quiescent_InProjReferenceIdeal_pre_tables (hInProjReferenceIdeal := hInProjReferenceIdeal) (hPre_tables := hPre_tables)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal_pre_up_tiles (hUpIdeal := hUpIdeal) (hUpReferenceIdeal := hUpReferenceIdeal) (hPre_up_tiles := hPre_up_tiles)
    ∧ preserves_Down_DownIdeal
    ∧ algebraic_DownIdeal_DownReferenceIdeal_pre_down_tiles (hDownIdeal := hDownIdeal) (hDownReferenceIdeal := hDownReferenceIdeal) (hPre_down_tiles := hPre_down_tiles)
    ∧ preserves_DenseUp_DenseUpIdeal
    ∧ algebraic_DenseUpIdeal_DenseUpReferenceIdeal (hDenseUpIdeal := hDenseUpIdeal) (hDenseUpReferenceIdeal := hDenseUpReferenceIdeal)
    ∧ preserves_DenseDown_DenseDownIdeal
    ∧ algebraic_DenseDownIdeal_DenseDownReferenceIdeal (hDenseDownIdeal := hDenseDownIdeal) (hDenseDownReferenceIdeal := hDenseDownReferenceIdeal)
    ∧ preserves_InProj_InProjIdeal
    ∧ algebraic_InProjIdeal_InProjReferenceIdeal_pre_tables (hInProjIdeal := hInProjIdeal) (hInProjReferenceIdeal := hInProjReferenceIdeal) (hPre_tables := hPre_tables)
-- ==== Pre_down_experts.lean ====
abbrev S40960x7168 : Shape := ⟨2, ![40960, 7168]⟩
abbrev S2x8x7168x2048 : Shape := ⟨4, ![2, 8, 7168, 2048]⟩
abbrev S40 : Shape := ⟨1, ![40]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S40960x7168 .bf16) (main_arg1 : FVec F S2x8x7168x2048 .f32) (main_arg2 : IVec S40 32) (main_arg3 : IVec S40 32) : IVec S40 1 :=
  let main_c : IVec S_ 32 := constantI S_ 32 0#32
  let main_v0 : IVec S40 32 := broadcastInDim S40 ![] bcast_S_S40 main_c
  let main_v1 : IVec S40 1 := cmpi .sge main_arg2 main_v0
  let main_c_0 : IVec S_ 32 := constantI S_ 32 8#32
  let main_v2 : IVec S40 32 := broadcastInDim S40 ![] bcast_S_S40 main_c_0
  let main_v3 : IVec S40 1 := cmpi .slt main_arg2 main_v2
  let main_v4 : IVec S40 1 := andi main_v1 main_v3
  main_v4
-- ==== Pre_down_tiles.lean ====
abbrev S40960x7168 : Shape := ⟨2, ![40960, 7168]⟩
abbrev S2x8x7168x2048 : Shape := ⟨4, ![2, 8, 7168, 2048]⟩
abbrev S40 : Shape := ⟨1, ![40]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S40960x7168 .bf16) (main_arg1 : FVec F S2x8x7168x2048 .f32) (main_arg2 : IVec S40 32) (main_arg3 : IVec S40 32) : IVec S40 1 :=
  let main_c : IVec S_ 32 := constantI S_ 32 0#32
  let main_v0 : IVec S40 32 := broadcastInDim S40 ![] bcast_S_S40 main_c
  let main_v1 : IVec S40 1 := cmpi .sge main_arg2 main_v0
  let main_c_0 : IVec S_ 32 := constantI S_ 32 8#32
  let main_v2 : IVec S40 32 := broadcastInDim S40 ![] bcast_S_S40 main_c_0
  let main_v3 : IVec S40 1 := cmpi .slt main_arg2 main_v2
  let main_v4 : IVec S40 1 := andi main_v1 main_v3
  let main_c_1 : IVec S_ 32 := constantI S_ 32 0#32
  let main_v5 : IVec S40 32 := broadcastInDim S40 ![] bcast_S_S40 main_c_1
  let main_v6 : IVec S40 1 := cmpi .eq main_arg3 main_v5
  let main_c_2 : IVec S_ 32 := constantI S_ 32 1#32
  let main_v7 : IVec S40 32 := broadcastInDim S40 ![] bcast_S_S40 main_c_2
  let main_v8 : IVec S40 1 := cmpi .eq main_arg3 main_v7
  let main_v9 : IVec S40 1 := ori main_v6 main_v8
  let main_v10 : IVec S40 1 := andi main_v4 main_v9
  main_v10
-- ==== Pre_finite.lean ====
abbrev S44x16384x128 : Shape := ⟨3, ![44, 16384, 128]⟩
abbrev S16x128 : Shape := ⟨2, ![16, 128]⟩
abbrev S24x16384x128 : Shape := ⟨3, ![24, 16384, 128]⟩
abbrev S_ : Shape := ⟨0, ![]⟩

class Facts : Prop where
  slices_S44x16384x128_S24x16384x128_0_0_0 : S44x16384x128.Slices ![0, 0, 0] S24x16384x128
  bcast_S_S24x16384x128 : S_.BroadcastsInDim S24x16384x128 (![] : Fin 0 → Fin S24x16384x128.rank)

variable [Facts]

def fn {F : FTy → Type} [FloatOps F] (main_arg0 : FVec F S44x16384x128 .f32) (main_arg1 : FVec F S16x128 .f32) : IVec S24x16384x128 1 :=
  let main_v0 : FVec F S24x16384x128 .f32 := (extractStridedSlice S24x16384x128 ![0, 0, 0] · slices_S44x16384x128_S24x16384x128_0_0_0) main_arg0
  let main_v1 : FVec F S24x16384x128 .f32 := Host.absf main_v0
  let main_cst : FVec F S_ .f32 := constant S_ .f32 0x7F800000#32
  let main_v2 : FVec F S24x16384x128 .f32 := broadcastInDim S24x16384x128 ![] bcast_S_S24x16384x128 main_cst
  let main_v3 : IVec S24x16384x128 1 := cmpf .olt main_v1 main_v2
  main_v3
-- ==== Pre_tables.lean ====
abbrev S16384x2048 : Shape := ⟨2, ![16384, 2048]⟩
abbrev S4x2048x5632 : Shape := ⟨3, ![4, 2048, 5632]⟩
abbrev S16384x128 : Shape := ⟨2, ![16384, 128]⟩
abbrev S16384x16 : Shape := ⟨2, ![16384, 16]⟩
abbrev S_ : Shape := ⟨0, ![]⟩
abbrev S16384x96 : Shape := ⟨2, ![16384, 96]⟩

class Facts : Prop where
  slices_S16384x128_S16384x16_0_0 : S16384x128.Slices ![0, 0] S16384x16
  slices_S16384x128_S16384x16_0_16 : S16384x128.Slices ![0, 16] S16384x16
  bcast_S_S16384x16 : S_.BroadcastsInDim S16384x16 (![] : Fin 0 → Fin S16384x16.rank)
  bcast_S_S16384x96 : S_.BroadcastsInDim S16384x96 (![] : Fin 0 → Fin S16384x96.rank)
  concatenates_S16384x16_S16384x16_S16384x96_S16384x128_d1 : Shape.Concatenates [S16384x16, S16384x16, S16384x96] S16384x128 1

variable [Facts]

def fn {F : FTy → Type} [FloatOps F] (main_arg0 : FVec F S16384x2048 .bf16) (main_arg1 : FVec F S4x2048x5632 .f32) (main_arg2 : FVec F S16384x128 .f32) (main_arg3 : FVec F S16384x128 .f32) (main_arg4 : FVec F S16384x128 .f32) : IVec S16384x128 1 :=
  let main_v0 : FVec F S16384x16 .f32 := (extractStridedSlice S16384x16 ![0, 0] · slices_S16384x128_S16384x16_0_0) main_arg2
  let main_v1 : FVec F S16384x16 .f32 := (extractStridedSlice S16384x16 ![0, 16] · slices_S16384x128_S16384x16_0_16) main_arg4
  let main_cst : FVec F S_ .f32 := constant S_ .f32 0x00000000#32
  let main_v2 : FVec F S16384x16 .f32 := broadcastInDim S16384x16 ![] bcast_S_S16384x16 main_cst
  let main_cst_0 : FVec F S_ .f32 := constant S_ .f32 0x00000000#32
  let main_v3 : FVec F S16384x96 .f32 := broadcastInDim S16384x96 ![] bcast_S_S16384x96 main_cst_0
  let main_cst_1 : FVec F S_ .f32 := constant S_ .f32 0x3F800000#32
  let main_v4 : FVec F S16384x96 .f32 := broadcastInDim S16384x96 ![] bcast_S_S16384x96 main_cst_1
  let main_v5 : FVec F S16384x96 .f32 := addf main_v3 main_v4
  let main_v6 : FVec F S16384x128 .f32 := concatenate S16384x128 1 [⟨S16384x16, main_v0⟩, ⟨S16384x16, main_v0⟩, ⟨S16384x96, main_v5⟩] concatenates_S16384x16_S16384x16_S16384x96_S16384x128_d1
  let main_v7 : IVec S16384x128 1 := cmpf .oeq main_arg2 main_v6
  let main_v8 : FVec F S16384x16 .f32 := Host.negf main_v1
  let main_v9 : FVec F S16384x128 .f32 := concatenate S16384x128 1 [⟨S16384x16, main_v8⟩, ⟨S16384x16, main_v2⟩, ⟨S16384x96, main_v3⟩] concatenates_S16384x16_S16384x16_S16384x96_S16384x128_d1
  let main_v10 : IVec S16384x128 1 := cmpf .oeq main_arg3 main_v9
  let main_v11 : IVec S16384x128 1 := andi main_v7 main_v10
  let main_v12 : FVec F S16384x128 .f32 := concatenate S16384x128 1 [⟨S16384x16, main_v2⟩, ⟨S16384x16, main_v1⟩, ⟨S16384x96, main_v3⟩] concatenates_S16384x16_S16384x16_S16384x96_S16384x128_d1
  let main_v13 : IVec S16384x128 1 := cmpf .oeq main_arg4 main_v12
  let main_v14 : IVec S16384x128 1 := andi main_v11 main_v13
  main_v14
-- ==== Pre_up_experts.lean ====
abbrev S40960x2048 : Shape := ⟨2, ![40960, 2048]⟩
abbrev S2x8x2048x7168 : Shape := ⟨4, ![2, 8, 2048, 7168]⟩
abbrev S40 : Shape := ⟨1, ![40]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S40960x2048 .f32) (main_arg1 : FVec F S2x8x2048x7168 .f32) (main_arg2 : FVec F S2x8x2048x7168 .f32) (main_arg3 : IVec S40 32) (main_arg4 : IVec S40 32) : IVec S40 1 :=
  let main_c : IVec S_ 32 := constantI S_ 32 0#32
  let main_v0 : IVec S40 32 := broadcastInDim S40 ![] bcast_S_S40 main_c
  let main_v1 : IVec S40 1 := cmpi .sge main_arg3 main_v0
  let main_c_0 : IVec S_ 32 := constantI S_ 32 8#32
  let main_v2 : IVec S40 32 := broadcastInDim S40 ![] bcast_S_S40 main_c_0
  let main_v3 : IVec S40 1 := cmpi .slt main_arg3 main_v2
  let main_v4 : IVec S40 1 := andi main_v1 main_v3
  main_v4
-- ==== Pre_up_tiles.lean ====
abbrev S40960x2048 : Shape := ⟨2, ![40960, 2048]⟩
abbrev S2x8x2048x7168 : Shape := ⟨4, ![2, 8, 2048, 7168]⟩
abbrev S40 : Shape := ⟨1, ![40]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S40960x2048 .f32) (main_arg1 : FVec F S2x8x2048x7168 .f32) (main_arg2 : FVec F S2x8x2048x7168 .f32) (main_arg3 : IVec S40 32) (main_arg4 : IVec S40 32) : IVec S40 1 :=
  let main_c : IVec S_ 32 := constantI S_ 32 0#32
  let main_v0 : IVec S40 32 := broadcastInDim S40 ![] bcast_S_S40 main_c
  let main_v1 : IVec S40 1 := cmpi .sge main_arg3 main_v0
  let main_c_0 : IVec S_ 32 := constantI S_ 32 8#32
  let main_v2 : IVec S40 32 := broadcastInDim S40 ![] bcast_S_S40 main_c_0
  let main_v3 : IVec S40 1 := cmpi .slt main_arg3 main_v2
  let main_v4 : IVec S40 1 := andi main_v1 main_v3
  let main_c_1 : IVec S_ 32 := constantI S_ 32 0#32
  let main_v5 : IVec S40 32 := broadcastInDim S40 ![] bcast_S_S40 main_c_1
  let main_v6 : IVec S40 1 := cmpi .eq main_arg4 main_v5
  let main_c_2 : IVec S_ 32 := constantI S_ 32 1#32
  let main_v7 : IVec S40 32 := broadcastInDim S40 ![] bcast_S_S40 main_c_2
  let main_v8 : IVec S40 1 := cmpi .eq main_arg4 main_v7
  let main_v9 : IVec S40 1 := ori main_v6 main_v8
  let main_v10 : IVec S40 1 := andi main_v4 main_v9
  main_v10
-- ==== Kernel.lean ====
abbrev S44x16384x128 : Shape := ⟨3, ![44, 16384, 128]⟩
abbrev S16x128 : Shape := ⟨2, ![16, 128]⟩
abbrev S16x1x128 : Shape := ⟨3, ![16, 1, 128]⟩
abbrev S16384x1536 : Shape := ⟨2, ![16384, 1536]⟩
abbrev S1x8192x128 : Shape := ⟨3, ![1, 8192, 128]⟩
abbrev S1x1x128 : Shape := ⟨3, ![1, 1, 128]⟩
abbrev S8192x128 : Shape := ⟨2, ![8192, 128]⟩
abbrev S128x256 : Shape := ⟨2, ![128, 256]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩
abbrev S1x128 : Shape := ⟨2, ![1, 128]⟩

abbrev nBuf : Space → Nat
  | .hbm => 4
  | .vmem => 13
  | .smem => 0
  | _ => 0

abbrev bufTy : (tb : Table) → Fin (tcTables nBuf tb) → BufTy
  | .hbm, ⟨0, _⟩ => ⟨S44x16384x128, .f32⟩
  | .hbm, ⟨1, _⟩ => ⟨S16x128, .f32⟩
  | .hbm, ⟨2, _⟩ => ⟨S16x1x128, .f32⟩
  | .hbm, ⟨3, _⟩ => ⟨S16384x1536, .bf16⟩
  | .local _ .vmem, ⟨0, _⟩ => ⟨S1x8192x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | .local _ .vmem, ⟨5, _⟩ => ⟨S1x8192x128, .f32⟩
  | .local _ .vmem, ⟨6, _⟩ => ⟨S1x1x128, .f32⟩
  | .local _ .vmem, ⟨7, _⟩ => ⟨S1x1x128, .f32⟩
  | .local _ .vmem, ⟨8, _⟩ => ⟨S8192x128, .bf16⟩
  | .local _ .vmem, ⟨9, _⟩ => ⟨S8192x128, .bf16⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | _, _ => ⟨S44x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 12], ![false, false]⟩

@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_off1 (k0_t1 : Fin k0_t1_loop.trips) : Fin 3 → Nat :=
  let c0 : Index := 0#32
  let c0_i32 : BitVec 32 := 0#32
  let c1_i32 : BitVec 32 := 1#32
  let arg10 : BitVec 32 := Scf.iv c0_i32 c1_i32 k0_t1
  let c0_i32_9 : BitVec 32 := 0#32
  let v7 : BitVec 1 := Scalar.cmpi .sgt arg10 c0_i32_9
  let v8 : BitVec 32 := Scalar.extui v7
  let c0_i32_10 : BitVec 32 := 0#32
  let v9 : BitVec 1 := Scalar.cmpi .slt arg10 c0_i32_10
  let v10 : BitVec 32 := Scalar.extui v9
  let v11 : BitVec 32 := Scalar.subi v8 v10
  let c4_i32 : BitVec 32 := 4#32
  let c0_i32_11 : BitVec 32 := 0#32
  let v12 : BitVec 1 := Scalar.cmpi .sgt c4_i32 c0_i32_11
  let v13 : BitVec 32 := Scalar.extui v12
  let c0_i32_12 : BitVec 32 := 0#32
  let v14 : BitVec 1 := Scalar.cmpi .slt c4_i32 c0_i32_12
  let v15 : BitVec 32 := Scalar.extui v14
  let v16 : BitVec 32 := Scalar.subi v13 v15
  let v17 : BitVec 1 := Scalar.cmpi .ne v11 v16
  let v18 : BitVec 32 := Scalar.remsi arg10 c4_i32
  let c0_i32_13 : BitVec 32 := 0#32
  let v19 : BitVec 1 := Scalar.cmpi .ne v18 c0_i32_13
  let v20 : BitVec 1 := Scalar.andi v17 v19
  let v6 : BitVec 32 := Scalar.divsi arg10 c4_i32
  let c1_i32_14 : BitVec 32 := 1#32
  let v21 : BitVec 32 := Scalar.subi v6 c1_i32_14
  let v22 : BitVec 32 := Scalar.select v20 v21 v6
  let c16_i32 : BitVec 32 := 16#32
  let c4_i32_15 : BitVec 32 := 4#32
  let c0_i32_16 : BitVec 32 := 0#32
  let v23 : BitVec 1 := Scalar.cmpi .eq c4_i32_15 c0_i32_16
  let c1_i32_17 : BitVec 32 := 1#32
  let v24 : BitVec 32 := Scalar.select v23 c1_i32_17 c4_i32_15
  let v25 : BitVec 32 := Scalar.remsi arg10 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let v37 : BitVec 32 := Scalar.muli c16_i32 v33
  let v38 : BitVec 32 := Scalar.addi v22 v37
  let v41 : Index := Scalar.indexCast v38
  let c0_24 : Index := 0#32
  ![0, v41.toNat, 0]
def k0_off2 (k0_t1 : Fin k0_t1_loop.trips) : Fin 3 → Nat :=
  let c0_25 : Index := 0#32
  let c0_i32 : BitVec 32 := 0#32
  let c1_i32 : BitVec 32 := 1#32
  let arg10 : BitVec 32 := Scf.iv c0_i32 c1_i32 k0_t1
  let c0_i32_9 : BitVec 32 := 0#32
  let v7 : BitVec 1 := Scalar.cmpi .sgt arg10 c0_i32_9
  let v8 : BitVec 32 := Scalar.extui v7
  let c0_i32_10 : BitVec 32 := 0#32
  let v9 : BitVec 1 := Scalar.cmpi .slt arg10 c0_i32_10
  let v10 : BitVec 32 := Scalar.extui v9
  let v11 : BitVec 32 := Scalar.subi v8 v10
  let c4_i32 : BitVec 32 := 4#32
  let c0_i32_11 : BitVec 32 := 0#32
  let v12 : BitVec 1 := Scalar.cmpi .sgt c4_i32 c0_i32_11
  let v13 : BitVec 32 := Scalar.extui v12
  let c0_i32_12 : BitVec 32 := 0#32
  let v14 : BitVec 1 := Scalar.cmpi .slt c4_i32 c0_i32_12
  let v15 : BitVec 32 := Scalar.extui v14
  let v16 : BitVec 32 := Scalar.subi v13 v15
  let v17 : BitVec 1 := Scalar.cmpi .ne v11 v16
  let v18 : BitVec 32 := Scalar.remsi arg10 c4_i32
  let c0_i32_13 : BitVec 32 := 0#32
  let v19 : BitVec 1 := Scalar.cmpi .ne v18 c0_i32_13
  let v20 : BitVec 1 := Scalar.andi v17 v19
  let v6 : BitVec 32 := Scalar.divsi arg10 c4_i32
  let c1_i32_14 : BitVec 32 := 1#32
  let v21 : BitVec 32 := Scalar.subi v6 c1_i32_14
  let v22 : BitVec 32 := Scalar.select v20 v21 v6
  let c16_i32_23 : BitVec 32 := 16#32
  let c256_i32 : BitVec 32 := 256#32
  let c0_i32_22 : BitVec 32 := 0#32
  let c4_i32_15 : BitVec 32 := 4#32
  let c0_i32_16 : BitVec 32 := 0#32
  let v23 : BitVec 1 := Scalar.cmpi .eq c4_i32_15 c0_i32_16
  let c1_i32_17 : BitVec 32 := 1#32
  let v24 : BitVec 32 := Scalar.select v23 c1_i32_17 c4_i32_15
  let v25 : BitVec 32 := Scalar.remsi arg10 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let c64_i32_21 : BitVec 32 := 64#32
  let v34 : BitVec 32 := Scalar.subi v33 c64_i32_21
  let v35 : BitVec 32 := Scalar.maxsi c0_i32_22 v34
  let v36 : BitVec 32 := Scalar.minsi c256_i32 v35
  let v39 : BitVec 32 := Scalar.muli c16_i32_23 v36
  let v40 : BitVec 32 := Scalar.addi v22 v39
  let v45 : Index := Scalar.indexCast v40
  let c0_26 : Index := 0#32
  ![0, v45.toNat, 0]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c0_i32_9 : BitVec 32 := 0#32
  let v7 : BitVec 1 := Scalar.cmpi .sgt arg10 c0_i32_9
  let v8 : BitVec 32 := Scalar.extui v7
  let c0_i32_10 : BitVec 32 := 0#32
  let v9 : BitVec 1 := Scalar.cmpi .slt arg10 c0_i32_10
  let v10 : BitVec 32 := Scalar.extui v9
  let v11 : BitVec 32 := Scalar.subi v8 v10
  let c4_i32 : BitVec 32 := 4#32
  let c0_i32_11 : BitVec 32 := 0#32
  let v12 : BitVec 1 := Scalar.cmpi .sgt c4_i32 c0_i32_11
  let v13 : BitVec 32 := Scalar.extui v12
  let c0_i32_12 : BitVec 32 := 0#32
  let v14 : BitVec 1 := Scalar.cmpi .slt c4_i32 c0_i32_12
  let v15 : BitVec 32 := Scalar.extui v14
  let v16 : BitVec 32 := Scalar.subi v13 v15
  let v17 : BitVec 1 := Scalar.cmpi .ne v11 v16
  let v18 : BitVec 32 := Scalar.remsi arg10 c4_i32
  let c0_i32_13 : BitVec 32 := 0#32
  let v19 : BitVec 1 := Scalar.cmpi .ne v18 c0_i32_13
  let v20 : BitVec 1 := Scalar.andi v17 v19
  let v6 : BitVec 32 := Scalar.divsi arg10 c4_i32
  let c1_i32_14 : BitVec 32 := 1#32
  let v21 : BitVec 32 := Scalar.subi v6 c1_i32_14
  let v22 : BitVec 32 := Scalar.select v20 v21 v6
  let c16_i32 : BitVec 32 := 16#32
  let c4_i32_15 : BitVec 32 := 4#32
  let c0_i32_16 : BitVec 32 := 0#32
  let v23 : BitVec 1 := Scalar.cmpi .eq c4_i32_15 c0_i32_16
  let c1_i32_17 : BitVec 32 := 1#32
  let v24 : BitVec 32 := Scalar.select v23 c1_i32_17 c4_i32_15
  let v25 : BitVec 32 := Scalar.remsi arg10 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let v37 : BitVec 32 := Scalar.muli c16_i32 v33
  let v38 : BitVec 32 := Scalar.addi v22 v37
  let v75 : Index := Scalar.indexCast v38
  let c0_34 : Index := 0#32
  ![v75.toNat, 0]
@[reducible] def k0_t2_loop : Scf.Loop 32 :=
  let c0_i32_1 : BitVec 32 := 0#32
  let c64_i32_2 : BitVec 32 := 64#32
  let v4 : BitVec 32 := Scalar.addi c0_i32_1 c64_i32_2
  let c1_i32_3 : BitVec 32 := 1#32
  ⟨c0_i32_1, v4, c1_i32_3⟩
def k0_off4 (k0_t2 : Fin k0_t2_loop.trips) : Fin 3 → Nat :=
  let c0 : Index := 0#32
  let c0_i32_1 : BitVec 32 := 0#32
  let c1_i32_3 : BitVec 32 := 1#32
  let arg10 : BitVec 32 := Scf.iv c0_i32_1 c1_i32_3 k0_t2
  let c0_i32_9 : BitVec 32 := 0#32
  let v7 : BitVec 1 := Scalar.cmpi .sgt arg10 c0_i32_9
  let v8 : BitVec 32 := Scalar.extui v7
  let c0_i32_10 : BitVec 32 := 0#32
  let v9 : BitVec 1 := Scalar.cmpi .slt arg10 c0_i32_10
  let v10 : BitVec 32 := Scalar.extui v9
  let v11 : BitVec 32 := Scalar.subi v8 v10
  let c16_i32 : BitVec 32 := 16#32
  let c0_i32_11 : BitVec 32 := 0#32
  let v12 : BitVec 1 := Scalar.cmpi .sgt c16_i32 c0_i32_11
  let v13 : BitVec 32 := Scalar.extui v12
  let c0_i32_12 : BitVec 32 := 0#32
  let v14 : BitVec 1 := Scalar.cmpi .slt c16_i32 c0_i32_12
  let v15 : BitVec 32 := Scalar.extui v14
  let v16 : BitVec 32 := Scalar.subi v13 v15
  let v17 : BitVec 1 := Scalar.cmpi .ne v11 v16
  let v18 : BitVec 32 := Scalar.remsi arg10 c16_i32
  let c0_i32_13 : BitVec 32 := 0#32
  let v19 : BitVec 1 := Scalar.cmpi .ne v18 c0_i32_13
  let v20 : BitVec 1 := Scalar.andi v17 v19
  let v6 : BitVec 32 := Scalar.divsi arg10 c16_i32
  let c1_i32_14 : BitVec 32 := 1#32
  let v21 : BitVec 32 := Scalar.subi v6 c1_i32_14
  let v22 : BitVec 32 := Scalar.select v20 v21 v6
  let c4_i32 : BitVec 32 := 4#32
  let c16_i32_15 : BitVec 32 := 16#32
  let c0_i32_16 : BitVec 32 := 0#32
  let v23 : BitVec 1 := Scalar.cmpi .eq c16_i32_15 c0_i32_16
  let c1_i32_17 : BitVec 32 := 1#32
  let v24 : BitVec 32 := Scalar.select v23 c1_i32_17 c16_i32_15
  let v25 : BitVec 32 := Scalar.remsi arg10 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let v37 : BitVec 32 := Scalar.muli c4_i32 v33
  let v38 : BitVec 32 := Scalar.addi v22 v37
  let v41 : Index := Scalar.indexCast v38
  let c0_24 : Index := 0#32
  ![0, v41.toNat, 0]
def k0_off5 (k0_t2 : Fin k0_t2_loop.trips) : Fin 3 → Nat :=
  let c0_25 : Index := 0#32
  let c0_i32_1 : BitVec 32 := 0#32
  let c1_i32_3 : BitVec 32 := 1#32
  let arg10 : BitVec 32 := Scf.iv c0_i32_1 c1_i32_3 k0_t2
  let c0_i32_9 : BitVec 32 := 0#32
  let v7 : BitVec 1 := Scalar.cmpi .sgt arg10 c0_i32_9
  let v8 : BitVec 32 := Scalar.extui v7
  let c0_i32_10 : BitVec 32 := 0#32
  let v9 : BitVec 1 := Scalar.cmpi .slt arg10 c0_i32_10
  let v10 : BitVec 32 := Scalar.extui v9
  let v11 : BitVec 32 := Scalar.subi v8 v10
  let c16_i32 : BitVec 32 := 16#32
  let c0_i32_11 : BitVec 32 := 0#32
  let v12 : BitVec 1 := Scalar.cmpi .sgt c16_i32 c0_i32_11
  let v13 : BitVec 32 := Scalar.extui v12
  let c0_i32_12 : BitVec 32 := 0#32
  let v14 : BitVec 1 := Scalar.cmpi .slt c16_i32 c0_i32_12
  let v15 : BitVec 32 := Scalar.extui v14
  let v16 : BitVec 32 := Scalar.subi v13 v15
  let v17 : BitVec 1 := Scalar.cmpi .ne v11 v16
  let v18 : BitVec 32 := Scalar.remsi arg10 c16_i32
  let c0_i32_13 : BitVec 32 := 0#32
  let v19 : BitVec 1 := Scalar.cmpi .ne v18 c0_i32_13
  let v20 : BitVec 1 := Scalar.andi v17 v19
  let v6 : BitVec 32 := Scalar.divsi arg10 c16_i32
  let c1_i32_14 : BitVec 32 := 1#32
  let v21 : BitVec 32 := Scalar.subi v6 c1_i32_14
  let v22 : BitVec 32 := Scalar.select v20 v21 v6
  let c4_i32_23 : BitVec 32 := 4#32
  let c1792_i32 : BitVec 32 := 1792#32
  let c0_i32_22 : BitVec 32 := 0#32
  let c16_i32_15 : BitVec 32 := 16#32
  let c0_i32_16 : BitVec 32 := 0#32
  let v23 : BitVec 1 := Scalar.cmpi .eq c16_i32_15 c0_i32_16
  let c1_i32_17 : BitVec 32 := 1#32
  let v24 : BitVec 32 := Scalar.select v23 c1_i32_17 c16_i32_15
  let v25 : BitVec 32 := Scalar.remsi arg10 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let c64_i32_21 : BitVec 32 := 64#32
  let v34 : BitVec 32 := Scalar.subi v33 c64_i32_21
  let v35 : BitVec 32 := Scalar.maxsi c0_i32_22 v34
  let v36 : BitVec 32 := Scalar.minsi c1792_i32 v35
  let v39 : BitVec 32 := Scalar.muli c4_i32_23 v36
  let v40 : BitVec 32 := Scalar.addi v22 v39
  let v45 : Index := Scalar.indexCast v40
  let c0_26 : Index := 0#32
  ![0, v45.toNat, 0]
def k0_off6 (k0_t2 : Fin k0_t2_loop.trips) : Fin 2 → Nat :=
  let c0_i32_1 : BitVec 32 := 0#32
  let c1_i32_3 : BitVec 32 := 1#32
  let arg10 : BitVec 32 := Scf.iv c0_i32_1 c1_i32_3 k0_t2
  let c0_i32_9 : BitVec 32 := 0#32
  let v7 : BitVec 1 := Scalar.cmpi .sgt arg10 c0_i32_9
  let v8 : BitVec 32 := Scalar.extui v7
  let c0_i32_10 : BitVec 32 := 0#32
  let v9 : BitVec 1 := Scalar.cmpi .slt arg10 c0_i32_10
  let v10 : BitVec 32 := Scalar.extui v9
  let v11 : BitVec 32 := Scalar.subi v8 v10
  let c16_i32 : BitVec 32 := 16#32
  let c0_i32_11 : BitVec 32 := 0#32
  let v12 : BitVec 1 := Scalar.cmpi .sgt c16_i32 c0_i32_11
  let v13 : BitVec 32 := Scalar.extui v12
  let c0_i32_12 : BitVec 32 := 0#32
  let v14 : BitVec 1 := Scalar.cmpi .slt c16_i32 c0_i32_12
  let v15 : BitVec 32 := Scalar.extui v14
  let v16 : BitVec 32 := Scalar.subi v13 v15
  let v17 : BitVec 1 := Scalar.cmpi .ne v11 v16
  let v18 : BitVec 32 := Scalar.remsi arg10 c16_i32
  let c0_i32_13 : BitVec 32 := 0#32
  let v19 : BitVec 1 := Scalar.cmpi .ne v18 c0_i32_13
  let v20 : BitVec 1 := Scalar.andi v17 v19
  let v6 : BitVec 32 := Scalar.divsi arg10 c16_i32
  let c1_i32_14 : BitVec 32 := 1#32
  let v21 : BitVec 32 := Scalar.subi v6 c1_i32_14
  let v22 : BitVec 32 := Scalar.select v20 v21 v6
  let c4_i32 : BitVec 32 := 4#32
  let c16_i32_15 : BitVec 32 := 16#32
  let c0_i32_16 : BitVec 32 := 0#32
  let v23 : BitVec 1 := Scalar.cmpi .eq c16_i32_15 c0_i32_16
  let c1_i32_17 : BitVec 32 := 1#32
  let v24 : BitVec 32 := Scalar.select v23 c1_i32_17 c16_i32_15
  let v25 : BitVec 32 := Scalar.remsi arg10 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c128_i32 : BitVec 32 := 128#32
  let v33 : BitVec 32 := Scalar.muli v32 c128_i32
  let v37 : BitVec 32 := Scalar.muli c4_i32 v33
  let v38 : BitVec 32 := Scalar.addi v22 v37
  let v64 : Index := Scalar.indexCast v38
  let c0_32 : Index := 0#32
  ![v64.toNat, 0]
@[reducible] def k0_t3_loop : Scf.Loop 32 :=
  let c0_i32_5 : BitVec 32 := 0#32
  let c64_i32_6 : BitVec 32 := 64#32
  let v5 : BitVec 32 := Scalar.addi c0_i32_5 c64_i32_6
  let c1_i32_7 : BitVec 32 := 1#32
  ⟨c0_i32_5, v5, c1_i32_7⟩
def k0_mult1 (k0_t3 : Fin k0_t3_loop.trips) : BitVec 32 :=
  let c0_i32_5 : BitVec 32 := 0#32
  let c1_i32_7 : BitVec 32 := 1#32
  let arg10 : BitVec 32 := Scf.iv c0_i32_5 c1_i32_7 k0_t3
  let c64_i32_9 : BitVec 32 := 64#32
  let c0_i32_10 : BitVec 32 := 0#32
  let v6 : BitVec 1 := Scalar.cmpi .eq c64_i32_9 c0_i32_10
  let c1_i32_11 : BitVec 32 := 1#32
  let v7 : BitVec 32 := Scalar.select v6 c1_i32_11 c64_i32_9
  let v8 : BitVec 32 := Scalar.remsi arg10 v7
  let c0_i32_13 : BitVec 32 := 0#32
  let v10 : BitVec 1 := Scalar.cmpi .slt v8 c0_i32_13
  let c0_i32_14 : BitVec 32 := 0#32
  let v11 : BitVec 1 := Scalar.cmpi .slt v7 c0_i32_14
  let v12 : BitVec 1 := Scalar.xori v10 v11
  let c0_i32_12 : BitVec 32 := 0#32
  let v9 : BitVec 1 := Scalar.cmpi .ne v8 c0_i32_12
  let v13 : BitVec 1 := Scalar.andi v12 v9
  let v14 : BitVec 32 := Scalar.addi v8 v7
  let v15 : BitVec 32 := Scalar.select v13 v14 v8
  let c128_i32 : BitVec 32 := 128#32
  let v16 : BitVec 32 := Scalar.muli v15 c128_i32
  v16
def k0_mult2 (k0_t3 : Fin k0_t3_loop.trips) : BitVec 32 :=
  let c7936_i32 : BitVec 32 := 7936#32
  let c0_i32_16 : BitVec 32 := 0#32
  let c0_i32_5 : BitVec 32 := 0#32
  let c1_i32_7 : BitVec 32 := 1#32
  let arg10 : BitVec 32 := Scf.iv c0_i32_5 c1_i32_7 k0_t3
  let c64_i32_9 : BitVec 32 := 64#32
  let c0_i32_10 : BitVec 32 := 0#32
  let v6 : BitVec 1 := Scalar.cmpi .eq c64_i32_9 c0_i32_10
  let c1_i32_11 : BitVec 32 := 1#32
  let v7 : BitVec 32 := Scalar.select v6 c1_i32_11 c64_i32_9
  let v8 : BitVec 32 := Scalar.remsi arg10 v7
  let c0_i32_13 : BitVec 32 := 0#32
  let v10 : BitVec 1 := Scalar.cmpi .slt v8 c0_i32_13
  let c0_i32_14 : BitVec 32 := 0#32
  let v11 : BitVec 1 := Scalar.cmpi .slt v7 c0_i32_14
  let v12 : BitVec 1 := Scalar.xori v10 v11
  let c0_i32_12 : BitVec 32 := 0#32
  let v9 : BitVec 1 := Scalar.cmpi .ne v8 c0_i32_12
  let v13 : BitVec 1 := Scalar.andi v12 v9
  let v14 : BitVec 32 := Scalar.addi v8 v7
  let v15 : BitVec 32 := Scalar.select v13 v14 v8
  let c128_i32 : BitVec 32 := 128#32
  let v16 : BitVec 32 := Scalar.muli v15 c128_i32
  let c64_i32_15 : BitVec 32 := 64#32
  let v17 : BitVec 32 := Scalar.subi v16 c64_i32_15
  let v18 : BitVec 32 := Scalar.maxsi c0_i32_16 v17
  let v19 : BitVec 32 := Scalar.minsi c7936_i32 v18
  v19
def k0_off7 (k0_t3 : Fin k0_t3_loop.trips) : Fin 3 → Nat :=
  let c0 : Index := 0#32
  let c0_i32_5 : BitVec 32 := 0#32
  let c1_i32_7 : BitVec 32 := 1#32
  let arg10 : BitVec 32 := Scf.iv c0_i32_5 c1_i32_7 k0_t3
  let c64_i32_9 : BitVec 32 := 64#32
  let c0_i32_10 : BitVec 32 := 0#32
  let v6 : BitVec 1 := Scalar.cmpi .eq c64_i32_9 c0_i32_10
  let c1_i32_11 : BitVec 32 := 1#32
  let v7 : BitVec 32 := Scalar.select v6 c1_i32_11 c64_i32_9
  let v8 : BitVec 32 := Scalar.remsi arg10 v7
  let c0_i32_13 : BitVec 32 := 0#32
  let v10 : BitVec 1 := Scalar.cmpi .slt v8 c0_i32_13
  let c0_i32_14 : BitVec 32 := 0#32
  let v11 : BitVec 1 := Scalar.cmpi .slt v7 c0_i32_14
  let v12 : BitVec 1 := Scalar.xori v10 v11
  let c0_i32_12 : BitVec 32 := 0#32
  let v9 : BitVec 1 := Scalar.cmpi .ne v8 c0_i32_12
  let v13 : BitVec 1 := Scalar.andi v12 v9
  let v14 : BitVec 32 := Scalar.addi v8 v7
  let v15 : BitVec 32 := Scalar.select v13 v14 v8
  let c128_i32 : BitVec 32 := 128#32
  let v16 : BitVec 32 := Scalar.muli v15 c128_i32
  let v20 : BitVec 32 := v16
  let v22 : Index := Scalar.indexCast v20
  let c0_17 : Index := 0#32
  ![0, v22.toNat, 0]
def k0_off8 (k0_t3 : Fin k0_t3_loop.trips) : Fin 3 → Nat :=
  let c0_18 : Index := 0#32
  let c7936_i32 : BitVec 32 := 7936#32
  let c0_i32_16 : BitVec 32 := 0#32
  let c0_i32_5 : BitVec 32 := 0#32
  let c1_i32_7 : BitVec 32 := 1#32
  let arg10 : BitVec 32 := Scf.iv c0_i32_5 c1_i32_7 k0_t3
  let c64_i32_9 : BitVec 32 := 64#32
  let c0_i32_10 : BitVec 32 := 0#32
  let v6 : BitVec 1 := Scalar.cmpi .eq c64_i32_9 c0_i32_10
  let c1_i32_11 : BitVec 32 := 1#32
  let v7 : BitVec 32 := Scalar.select v6 c1_i32_11 c64_i32_9
  let v8 : BitVec 32 := Scalar.remsi arg10 v7
  let c0_i32_13 : BitVec 32 := 0#32
  let v10 : BitVec 1 := Scalar.cmpi .slt v8 c0_i32_13
  let c0_i32_14 : BitVec 32 := 0#32
  let v11 : BitVec 1 := Scalar.cmpi .slt v7 c0_i32_14
  let v12 : BitVec 1 := Scalar.xori v10 v11
  let c0_i32_12 : BitVec 32 := 0#32
  let v9 : BitVec 1 := Scalar.cmpi .ne v8 c0_i32_12
  let v13 : BitVec 1 := Scalar.andi v12 v9
  let v14 : BitVec 32 := Scalar.addi v8 v7
  let v15 : BitVec 32 := Scalar.select v13 v14 v8
  let c128_i32 : BitVec 32 := 128#32
  let v16 : BitVec 32 := Scalar.muli v15 c128_i32
  let c64_i32_15 : BitVec 32 := 64#32
  let v17 : BitVec 32 := Scalar.subi v16 c64_i32_15
  let v18 : BitVec 32 := Scalar.maxsi c0_i32_16 v17
  let v19 : BitVec 32 := Scalar.minsi c7936_i32 v18
  let v21 : BitVec 32 := v19
  let v26 : Index := Scalar.indexCast v21
  let c0_19 : Index := 0#32
  ![0, v26.toNat, 0]
def k0_off9 (k0_t3 : Fin k0_t3_loop.trips) : Fin 2 → Nat :=
  let c0_i32_5 : BitVec 32 := 0#32
  let c1_i32_7 : BitVec 32 := 1#32
  let arg10 : BitVec 32 := Scf.iv c0_i32_5 c1_i32_7 k0_t3
  let c64_i32_9 : BitVec 32 := 64#32
  let c0_i32_10 : BitVec 32 := 0#32
  let v6 : BitVec 1 := Scalar.cmpi .eq c64_i32_9 c0_i32_10
  let c1_i32_11 : BitVec 32 := 1#32
  let v7 : BitVec 32 := Scalar.select v6 c1_i32_11 c64_i32_9
  let v8 : BitVec 32 := Scalar.remsi arg10 v7
  let c0_i32_13 : BitVec 32 := 0#32
  let v10 : BitVec 1 := Scalar.cmpi .slt v8 c0_i32_13
  let c0_i32_14 : BitVec 32 := 0#32
  let v11 : BitVec 1 := Scalar.cmpi .slt v7 c0_i32_14
  let v12 : BitVec 1 := Scalar.xori v10 v11
  let c0_i32_12 : BitVec 32 := 0#32
  let v9 : BitVec 1 := Scalar.cmpi .ne v8 c0_i32_12
  let v13 : BitVec 1 := Scalar.andi v12 v9
  let v14 : BitVec 32 := Scalar.addi v8 v7
  let v15 : BitVec 32 := Scalar.select v13 v14 v8
  let c128_i32 : BitVec 32 := 128#32
  let v16 : BitVec 32 := Scalar.muli v15 c128_i32
  let v20 : BitVec 32 := v16
  let v45 : Index := Scalar.indexCast v20
  let c0_25 : Index := 0#32
  ![v45.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S44x16384x128 : Shape := ⟨3, ![44, 16384, 128]⟩
abbrev S16x128 : Shape := ⟨2, ![16, 128]⟩
abbrev S44x2x8192x128 : Shape := ⟨4, ![44, 2, 8192, 128]⟩
abbrev S2x8192x44x128 : Shape := ⟨4, ![2, 8192, 44, 128]⟩
abbrev S2x8192x12x128 : Shape := ⟨4, ![2, 8192, 12, 128]⟩
abbrev S2x8192x1x12x128 : Shape := ⟨5, ![2, 8192, 1, 12, 128]⟩
abbrev S2x1x12x8192x128 : Shape := ⟨5, ![2, 1, 12, 8192, 128]⟩
abbrev S_ : Shape := ⟨0, ![]⟩
abbrev S2x1x12x8320x128 : Shape := ⟨5, ![2, 1, 12, 8320, 128]⟩
abbrev S2x1x12x128x64x128 : Shape := ⟨6, ![2, 1, 12, 128, 64, 128]⟩
abbrev S2x1x12x128x192x128 : Shape := ⟨6, ![2, 1, 12, 128, 192, 128]⟩
abbrev S2x1x12x128x64x192 : Shape := ⟨6, ![2, 1, 12, 128, 64, 192]⟩
abbrev S128 : Shape := ⟨1, ![128]⟩
abbrev S128x1 : Shape := ⟨2, ![128, 1]⟩
abbrev S64 : Shape := ⟨1, ![64]⟩
abbrev S1x64 : Shape := ⟨2, ![1, 64]⟩
abbrev S128x64 : Shape := ⟨2, ![128, 64]⟩
abbrev S192 : Shape := ⟨1, ![192]⟩
abbrev S1x192 : Shape := ⟨2, ![1, 192]⟩
abbrev S128x192 : Shape := ⟨2, ![128, 192]⟩
abbrev S128x1x192 : Shape := ⟨3, ![128, 1, 192]⟩
abbrev S128x64x1 : Shape := ⟨3, ![128, 64, 1]⟩
abbrev S128x64x192 : Shape := ⟨3, ![128, 64, 192]⟩
abbrev S2x1x12x128x64 : Shape := ⟨5, ![2, 1, 12, 128, 64]⟩
abbrev S2x1x12x128x64x1 : Shape := ⟨6, ![2, 1, 12, 128, 64, 1]⟩
abbrev S2x1x12x8192 : Shape := ⟨4, ![2, 1, 12, 8192]⟩
abbrev S2x8192x1x12 : Shape := ⟨4, ![2, 8192, 1, 12]⟩
abbrev S2x8192x12 : Shape := ⟨3, ![2, 8192, 12]⟩
abbrev S2x2048x4x12x128 : Shape := ⟨5, ![2, 2048, 4, 12, 128]⟩
abbrev S2x4x12x2048x128 : Shape := ⟨5, ![2, 4, 12, 2048, 128]⟩
abbrev S2x4x12x2176x128 : Shape := ⟨5, ![2, 4, 12, 2176, 128]⟩
abbrev S2x4x12x32x64x128 : Shape := ⟨6, ![2, 4, 12, 32, 64, 128]⟩
abbrev S2x4x12x32x192x128 : Shape := ⟨6, ![2, 4, 12, 32, 192, 128]⟩
abbrev S2x4x12x32x64x192 : Shape := ⟨6, ![2, 4, 12, 32, 64, 192]⟩
abbrev S32 : Shape := ⟨1, ![32]⟩
abbrev S32x1 : Shape := ⟨2, ![32, 1]⟩
abbrev S32x64 : Shape := ⟨2, ![32, 64]⟩
abbrev S32x192 : Shape := ⟨2, ![32, 192]⟩
abbrev S32x1x192 : Shape := ⟨3, ![32, 1, 192]⟩
abbrev S32x64x1 : Shape := ⟨3, ![32, 64, 1]⟩
abbrev S32x64x192 : Shape := ⟨3, ![32, 64, 192]⟩
abbrev S2x4x12x32x64 : Shape := ⟨5, ![2, 4, 12, 32, 64]⟩
abbrev S2x4x12x32x64x1 : Shape := ⟨6, ![2, 4, 12, 32, 64, 1]⟩
abbrev S2x4x12x2048 : Shape := ⟨4, ![2, 4, 12, 2048]⟩
abbrev S2x2048x4x12 : Shape := ⟨4, ![2, 2048, 4, 12]⟩
abbrev S2x512x16x12x128 : Shape := ⟨5, ![2, 512, 16, 12, 128]⟩
abbrev S2x16x12x512x128 : Shape := ⟨5, ![2, 16, 12, 512, 128]⟩
abbrev S2x16x12x640x128 : Shape := ⟨5, ![2, 16, 12, 640, 128]⟩
abbrev S2x16x12x8x64x128 : Shape := ⟨6, ![2, 16, 12, 8, 64, 128]⟩
abbrev S2x16x12x8x192x128 : Shape := ⟨6, ![2, 16, 12, 8, 192, 128]⟩
abbrev S2x16x12x8x64x192 : Shape := ⟨6, ![2, 16, 12, 8, 64, 192]⟩
abbrev S8 : Shape := ⟨1, ![8]⟩
abbrev S8x1 : Shape := ⟨2, ![8, 1]⟩
abbrev S8x64 : Shape := ⟨2, ![8, 64]⟩
abbrev S8x192 : Shape := ⟨2, ![8, 192]⟩
abbrev S8x1x192 : Shape := ⟨3, ![8, 1, 192]⟩
abbrev S8x64x1 : Shape := ⟨3, ![8, 64, 1]⟩
abbrev S8x64x192 : Shape := ⟨3, ![8, 64, 192]⟩
abbrev S2x16x12x8x64 : Shape := ⟨5, ![2, 16, 12, 8, 64]⟩
abbrev S2x16x12x8x64x1 : Shape := ⟨6, ![2, 16, 12, 8, 64, 1]⟩
abbrev S2x16x12x512 : Shape := ⟨4, ![2, 16, 12, 512]⟩
abbrev S2x512x16x12 : Shape := ⟨4, ![2, 512, 16, 12]⟩
abbrev S1x2x8192x12 : Shape := ⟨4, ![1, 2, 8192, 12]⟩
abbrev S3x2x8192x12 : Shape := ⟨4, ![3, 2, 8192, 12]⟩
abbrev S3x2x8192x12x1 : Shape := ⟨5, ![3, 2, 8192, 12, 1]⟩
abbrev S1x2x8192x12x128 : Shape := ⟨5, ![1, 2, 8192, 12, 128]⟩
abbrev S3x2x8192x12x128 : Shape := ⟨5, ![3, 2, 8192, 12, 128]⟩
abbrev S12x128 : Shape := ⟨2, ![12, 128]⟩
abbrev S2x8192x12x1 : Shape := ⟨4, ![2, 8192, 12, 1]⟩
abbrev S1x1x12x128 : Shape := ⟨4, ![1, 1, 12, 128]⟩
abbrev S16384x1536 : Shape := ⟨2, ![16384, 1536]⟩

abbrev nBuf : Space → Nat
  | .hbm => 356
  | .vmem => 0
  | .smem => 0
  | _ => 0

abbrev hbmTy0_0 (i : Nat) : BufTy := match i % 128 with
  | 0 => ⟨S44x16384x128, .f32⟩
  | 1 => ⟨S16x128, .f32⟩
  | 2 => ⟨S44x2x8192x128, .f32⟩
  | 3 => ⟨S2x8192x44x128, .f32⟩
  | 4 => ⟨S2x8192x12x128, .f32⟩
  | 5 => ⟨S2x8192x12x128, .f32⟩
  | 6 => ⟨S2x8192x12x128, .f32⟩
  | 7 => ⟨S2x8192x1x12x128, .f32⟩
  | 8 => ⟨S2x1x12x8192x128, .f32⟩
  | 9 => ⟨S_, .i32⟩
  | 10 => ⟨S_, .f32⟩
  | 11 => ⟨S2x1x12x8192x128, .f32⟩
  | 12 => ⟨S2x8192x1x12x128, .f32⟩
  | 13 => ⟨S2x1x12x8192x128, .f32⟩
  | 14 => ⟨S_, .i32⟩
  | 15 => ⟨S_, .f32⟩
  | 16 => ⟨S2x1x12x8320x128, .f32⟩
  | 17 => ⟨S2x8192x1x12x128, .f32⟩
  | 18 => ⟨S2x1x12x8192x128, .f32⟩
  | 19 => ⟨S_, .i32⟩
  | 20 => ⟨S_, .f32⟩
  | 21 => ⟨S2x1x12x8320x128, .f32⟩
  | 22 => ⟨S2x1x12x128x64x128, .f32⟩
  | 23 => ⟨S2x1x12x8192x128, .f32⟩
  | 24 => ⟨S2x1x12x128x64x128, .f32⟩
  | 25 => ⟨S2x1x12x8192x128, .f32⟩
  | 26 => ⟨S2x1x12x128x64x128, .f32⟩
  | 27 => ⟨S2x1x12x8192x128, .f32⟩
  | 28 => ⟨S2x1x12x128x64x128, .f32⟩
  | 29 => ⟨S2x1x12x128x192x128, .f32⟩
  | 30 => ⟨S2x1x12x8192x128, .f32⟩
  | 31 => ⟨S2x1x12x128x64x128, .f32⟩
  | 32 => ⟨S2x1x12x8192x128, .f32⟩
  | 33 => ⟨S2x1x12x128x64x128, .f32⟩
  | 34 => ⟨S2x1x12x8192x128, .f32⟩
  | 35 => ⟨S2x1x12x128x64x128, .f32⟩
  | 36 => ⟨S2x1x12x128x192x128, .f32⟩
  | 37 => ⟨S2x1x12x128x64x192, .f32⟩
  | 38 => ⟨S128, .i32⟩
  | 39 => ⟨S128x1, .i32⟩
  | 40 => ⟨S_, .i32⟩
  | 41 => ⟨S128x1, .i32⟩
  | 42 => ⟨S128x1, .i32⟩
  | 43 => ⟨S64, .i32⟩
  | 44 => ⟨S1x64, .i32⟩
  | 45 => ⟨S128x64, .i32⟩
  | 46 => ⟨S128x64, .i32⟩
  | 47 => ⟨S128x64, .i32⟩
  | 48 => ⟨S128, .i32⟩
  | 49 => ⟨S128x1, .i32⟩
  | 50 => ⟨S_, .i32⟩
  | 51 => ⟨S128x1, .i32⟩
  | 52 => ⟨S128x1, .i32⟩
  | 53 => ⟨S_, .i32⟩
  | 54 => ⟨S128x1, .i32⟩
  | 55 => ⟨S128x1, .i32⟩
  | 56 => ⟨S192, .i32⟩
  | 57 => ⟨S1x192, .i32⟩
  | 58 => ⟨S128x192, .i32⟩
  | 59 => ⟨S128x192, .i32⟩
  | 60 => ⟨S128x192, .i32⟩
  | 61 => ⟨S128x1x192, .i32⟩
  | 62 => ⟨S128x64x1, .i32⟩
  | 63 => ⟨S128x64x192, .i32⟩
  | 64 => ⟨S128x64x192, .i32⟩
  | 65 => ⟨S128x64x192, .i32⟩
  | 66 => ⟨S128x64x192, .i32⟩
  | 67 => ⟨S_, .i32⟩
  | 68 => ⟨S128x64x192, .i32⟩
  | 69 => ⟨S128x64x192, .i1⟩
  | 70 => ⟨S128x1x192, .i32⟩
  | 71 => ⟨S_, .i32⟩
  | 72 => ⟨S128x1x192, .i32⟩
  | 73 => ⟨S128x1x192, .i1⟩
  | 74 => ⟨S128x64x192, .i1⟩
  | 75 => ⟨S128x64x192, .i1⟩
  | 76 => ⟨S128x1x192, .i32⟩
  | 77 => ⟨S_, .i32⟩
  | 78 => ⟨S128x1x192, .i32⟩
  | 79 => ⟨S128x1x192, .i1⟩
  | 80 => ⟨S128x64x192, .i1⟩
  | 81 => ⟨S128x64x192, .i1⟩
  | 82 => ⟨S_, .f32⟩
  | 83 => ⟨S_, .f32⟩
  | 84 => ⟨S2x1x12x128x64x192, .i1⟩
  | 85 => ⟨S2x1x12x128x64x192, .f32⟩
  | 86 => ⟨S2x1x12x128x64x192, .f32⟩
  | 87 => ⟨S_, .f32⟩
  | 88 => ⟨S2x1x12x128x64, .f32⟩
  | 89 => ⟨S2x1x12x128x64x1, .f32⟩
  | 90 => ⟨S2x1x12x128x64x192, .f32⟩
  | 91 => ⟨S2x1x12x128x64x192, .f32⟩
  | 92 => ⟨S2x1x12x128x64x192, .f32⟩
  | 93 => ⟨S_, .f32⟩
  | 94 => ⟨S2x1x12x128x64, .f32⟩
  | 95 => ⟨S2x1x12x128x64x128, .f32⟩
  | 96 => ⟨S2x1x12x128x64x1, .f32⟩
  | 97 => ⟨S2x1x12x128x64x128, .f32⟩
  | 98 => ⟨S2x1x12x128x64x128, .f32⟩
  | 99 => ⟨S2x1x12x128x64, .f32⟩
  | 100 => ⟨S2x1x12x128x64, .f32⟩
  | 101 => ⟨S2x1x12x128x64, .f32⟩
  | 102 => ⟨S2x1x12x8192x128, .f32⟩
  | 103 => ⟨S2x8192x1x12x128, .f32⟩
  | 104 => ⟨S2x8192x12x128, .f32⟩
  | 105 => ⟨S2x1x12x8192, .f32⟩
  | 106 => ⟨S2x8192x1x12, .f32⟩
  | 107 => ⟨S2x8192x12, .f32⟩
  | 108 => ⟨S2x2048x4x12x128, .f32⟩
  | 109 => ⟨S2x4x12x2048x128, .f32⟩
  | 110 => ⟨S_, .i32⟩
  | 111 => ⟨S_, .f32⟩
  | 112 => ⟨S2x4x12x2048x128, .f32⟩
  | 113 => ⟨S2x2048x4x12x128, .f32⟩
  | 114 => ⟨S2x4x12x2048x128, .f32⟩
  | 115 => ⟨S_, .i32⟩
  | 116 => ⟨S_, .f32⟩
  | 117 => ⟨S2x4x12x2176x128, .f32⟩
  | 118 => ⟨S2x2048x4x12x128, .f32⟩
  | 119 => ⟨S2x4x12x2048x128, .f32⟩
  | 120 => ⟨S_, .i32⟩
  | 121 => ⟨S_, .f32⟩
  | 122 => ⟨S2x4x12x2176x128, .f32⟩
  | 123 => ⟨S2x4x12x32x64x128, .f32⟩
  | 124 => ⟨S2x4x12x2048x128, .f32⟩
  | 125 => ⟨S2x4x12x32x64x128, .f32⟩
  | 126 => ⟨S2x4x12x2048x128, .f32⟩
  | 127 => ⟨S2x4x12x32x64x128, .f32⟩
  | _ => ⟨S44x16384x128, .f32⟩

abbrev hbmTy0_1 (i : Nat) : BufTy := match i % 128 with
  | 0 => ⟨S2x4x12x2048x128, .f32⟩
  | 1 => ⟨S2x4x12x32x64x128, .f32⟩
  | 2 => ⟨S2x4x12x32x192x128, .f32⟩
  | 3 => ⟨S2x4x12x2048x128, .f32⟩
  | 4 => ⟨S2x4x12x32x64x128, .f32⟩
  | 5 => ⟨S2x4x12x2048x128, .f32⟩
  | 6 => ⟨S2x4x12x32x64x128, .f32⟩
  | 7 => ⟨S2x4x12x2048x128, .f32⟩
  | 8 => ⟨S2x4x12x32x64x128, .f32⟩
  | 9 => ⟨S2x4x12x32x192x128, .f32⟩
  | 10 => ⟨S2x4x12x32x64x192, .f32⟩
  | 11 => ⟨S32, .i32⟩
  | 12 => ⟨S32x1, .i32⟩
  | 13 => ⟨S_, .i32⟩
  | 14 => ⟨S32x1, .i32⟩
  | 15 => ⟨S32x1, .i32⟩
  | 16 => ⟨S64, .i32⟩
  | 17 => ⟨S1x64, .i32⟩
  | 18 => ⟨S32x64, .i32⟩
  | 19 => ⟨S32x64, .i32⟩
  | 20 => ⟨S32x64, .i32⟩
  | 21 => ⟨S32, .i32⟩
  | 22 => ⟨S32x1, .i32⟩
  | 23 => ⟨S_, .i32⟩
  | 24 => ⟨S32x1, .i32⟩
  | 25 => ⟨S32x1, .i32⟩
  | 26 => ⟨S_, .i32⟩
  | 27 => ⟨S32x1, .i32⟩
  | 28 => ⟨S32x1, .i32⟩
  | 29 => ⟨S192, .i32⟩
  | 30 => ⟨S1x192, .i32⟩
  | 31 => ⟨S32x192, .i32⟩
  | 32 => ⟨S32x192, .i32⟩
  | 33 => ⟨S32x192, .i32⟩
  | 34 => ⟨S32x1x192, .i32⟩
  | 35 => ⟨S32x64x1, .i32⟩
  | 36 => ⟨S32x64x192, .i32⟩
  | 37 => ⟨S32x64x192, .i32⟩
  | 38 => ⟨S32x64x192, .i32⟩
  | 39 => ⟨S32x64x192, .i32⟩
  | 40 => ⟨S_, .i32⟩
  | 41 => ⟨S32x64x192, .i32⟩
  | 42 => ⟨S32x64x192, .i1⟩
  | 43 => ⟨S32x1x192, .i32⟩
  | 44 => ⟨S_, .i32⟩
  | 45 => ⟨S32x1x192, .i32⟩
  | 46 => ⟨S32x1x192, .i1⟩
  | 47 => ⟨S32x64x192, .i1⟩
  | 48 => ⟨S32x64x192, .i1⟩
  | 49 => ⟨S32x1x192, .i32⟩
  | 50 => ⟨S_, .i32⟩
  | 51 => ⟨S32x1x192, .i32⟩
  | 52 => ⟨S32x1x192, .i1⟩
  | 53 => ⟨S32x64x192, .i1⟩
  | 54 => ⟨S32x64x192, .i1⟩
  | 55 => ⟨S_, .f32⟩
  | 56 => ⟨S_, .f32⟩
  | 57 => ⟨S2x4x12x32x64x192, .i1⟩
  | 58 => ⟨S2x4x12x32x64x192, .f32⟩
  | 59 => ⟨S2x4x12x32x64x192, .f32⟩
  | 60 => ⟨S_, .f32⟩
  | 61 => ⟨S2x4x12x32x64, .f32⟩
  | 62 => ⟨S2x4x12x32x64x1, .f32⟩
  | 63 => ⟨S2x4x12x32x64x192, .f32⟩
  | 64 => ⟨S2x4x12x32x64x192, .f32⟩
  | 65 => ⟨S2x4x12x32x64x192, .f32⟩
  | 66 => ⟨S_, .f32⟩
  | 67 => ⟨S2x4x12x32x64, .f32⟩
  | 68 => ⟨S2x4x12x32x64x128, .f32⟩
  | 69 => ⟨S2x4x12x32x64x1, .f32⟩
  | 70 => ⟨S2x4x12x32x64x128, .f32⟩
  | 71 => ⟨S2x4x12x32x64x128, .f32⟩
  | 72 => ⟨S2x4x12x32x64, .f32⟩
  | 73 => ⟨S2x4x12x32x64, .f32⟩
  | 74 => ⟨S2x4x12x32x64, .f32⟩
  | 75 => ⟨S2x4x12x2048x128, .f32⟩
  | 76 => ⟨S2x2048x4x12x128, .f32⟩
  | 77 => ⟨S2x8192x12x128, .f32⟩
  | 78 => ⟨S2x4x12x2048, .f32⟩
  | 79 => ⟨S2x2048x4x12, .f32⟩
  | 80 => ⟨S2x8192x12, .f32⟩
  | 81 => ⟨S2x512x16x12x128, .f32⟩
  | 82 => ⟨S2x16x12x512x128, .f32⟩
  | 83 => ⟨S_, .i32⟩
  | 84 => ⟨S_, .f32⟩
  | 85 => ⟨S2x16x12x512x128, .f32⟩
  | 86 => ⟨S2x512x16x12x128, .f32⟩
  | 87 => ⟨S2x16x12x512x128, .f32⟩
  | 88 => ⟨S_, .i32⟩
  | 89 => ⟨S_, .f32⟩
  | 90 => ⟨S2x16x12x640x128, .f32⟩
  | 91 => ⟨S2x512x16x12x128, .f32⟩
  | 92 => ⟨S2x16x12x512x128, .f32⟩
  | 93 => ⟨S_, .i32⟩
  | 94 => ⟨S_, .f32⟩
  | 95 => ⟨S2x16x12x640x128, .f32⟩
  | 96 => ⟨S2x16x12x8x64x128, .f32⟩
  | 97 => ⟨S2x16x12x512x128, .f32⟩
  | 98 => ⟨S2x16x12x8x64x128, .f32⟩
  | 99 => ⟨S2x16x12x512x128, .f32⟩
  | 100 => ⟨S2x16x12x8x64x128, .f32⟩
  | 101 => ⟨S2x16x12x512x128, .f32⟩
  | 102 => ⟨S2x16x12x8x64x128, .f32⟩
  | 103 => ⟨S2x16x12x8x192x128, .f32⟩
  | 104 => ⟨S2x16x12x512x128, .f32⟩
  | 105 => ⟨S2x16x12x8x64x128, .f32⟩
  | 106 => ⟨S2x16x12x512x128, .f32⟩
  | 107 => ⟨S2x16x12x8x64x128, .f32⟩
  | 108 => ⟨S2x16x12x512x128, .f32⟩
  | 109 => ⟨S2x16x12x8x64x128, .f32⟩
  | 110 => ⟨S2x16x12x8x192x128, .f32⟩
  | 111 => ⟨S2x16x12x8x64x192, .f32⟩
  | 112 => ⟨S8, .i32⟩
  | 113 => ⟨S8x1, .i32⟩
  | 114 => ⟨S_, .i32⟩
  | 115 => ⟨S8x1, .i32⟩
  | 116 => ⟨S8x1, .i32⟩
  | 117 => ⟨S64, .i32⟩
  | 118 => ⟨S1x64, .i32⟩
  | 119 => ⟨S8x64, .i32⟩
  | 120 => ⟨S8x64, .i32⟩
  | 121 => ⟨S8x64, .i32⟩
  | 122 => ⟨S8, .i32⟩
  | 123 => ⟨S8x1, .i32⟩
  | 124 => ⟨S_, .i32⟩
  | 125 => ⟨S8x1, .i32⟩
  | 126 => ⟨S8x1, .i32⟩
  | 127 => ⟨S_, .i32⟩
  | _ => ⟨S44x16384x128, .f32⟩

abbrev hbmTy0_2 (i : Nat) : BufTy := match i % 128 with
  | 0 => ⟨S8x1, .i32⟩
  | 1 => ⟨S8x1, .i32⟩
  | 2 => ⟨S192, .i32⟩
  | 3 => ⟨S1x192, .i32⟩
  | 4 => ⟨S8x192, .i32⟩
  | 5 => ⟨S8x192, .i32⟩
  | 6 => ⟨S8x192, .i32⟩
  | 7 => ⟨S8x1x192, .i32⟩
  | 8 => ⟨S8x64x1, .i32⟩
  | 9 => ⟨S8x64x192, .i32⟩
  | 10 => ⟨S8x64x192, .i32⟩
  | 11 => ⟨S8x64x192, .i32⟩
  | 12 => ⟨S8x64x192, .i32⟩
  | 13 => ⟨S_, .i32⟩
  | 14 => ⟨S8x64x192, .i32⟩
  | 15 => ⟨S8x64x192, .i1⟩
  | 16 => ⟨S8x1x192, .i32⟩
  | 17 => ⟨S_, .i32⟩
  | 18 => ⟨S8x1x192, .i32⟩
  | 19 => ⟨S8x1x192, .i1⟩
  | 20 => ⟨S8x64x192, .i1⟩
  | 21 => ⟨S8x64x192, .i1⟩
  | 22 => ⟨S8x1x192, .i32⟩
  | 23 => ⟨S_, .i32⟩
  | 24 => ⟨S8x1x192, .i32⟩
  | 25 => ⟨S8x1x192, .i1⟩
  | 26 => ⟨S8x64x192, .i1⟩
  | 27 => ⟨S8x64x192, .i1⟩
  | 28 => ⟨S_, .f32⟩
  | 29 => ⟨S_, .f32⟩
  | 30 => ⟨S2x16x12x8x64x192, .i1⟩
  | 31 => ⟨S2x16x12x8x64x192, .f32⟩
  | 32 => ⟨S2x16x12x8x64x192, .f32⟩
  | 33 => ⟨S_, .f32⟩
  | 34 => ⟨S2x16x12x8x64, .f32⟩
  | 35 => ⟨S2x16x12x8x64x1, .f32⟩
  | 36 => ⟨S2x16x12x8x64x192, .f32⟩
  | 37 => ⟨S2x16x12x8x64x192, .f32⟩
  | 38 => ⟨S2x16x12x8x64x192, .f32⟩
  | 39 => ⟨S_, .f32⟩
  | 40 => ⟨S2x16x12x8x64, .f32⟩
  | 41 => ⟨S2x16x12x8x64x128, .f32⟩
  | 42 => ⟨S2x16x12x8x64x1, .f32⟩
  | 43 => ⟨S2x16x12x8x64x128, .f32⟩
  | 44 => ⟨S2x16x12x8x64x128, .f32⟩
  | 45 => ⟨S2x16x12x8x64, .f32⟩
  | 46 => ⟨S2x16x12x8x64, .f32⟩
  | 47 => ⟨S2x16x12x8x64, .f32⟩
  | 48 => ⟨S2x16x12x512x128, .f32⟩
  | 49 => ⟨S2x512x16x12x128, .f32⟩
  | 50 => ⟨S2x8192x12x128, .f32⟩
  | 51 => ⟨S2x16x12x512, .f32⟩
  | 52 => ⟨S2x512x16x12, .f32⟩
  | 53 => ⟨S2x8192x12, .f32⟩
  | 54 => ⟨S1x2x8192x12, .f32⟩
  | 55 => ⟨S1x2x8192x12, .f32⟩
  | 56 => ⟨S1x2x8192x12, .f32⟩
  | 57 => ⟨S3x2x8192x12, .f32⟩
  | 58 => ⟨S_, .f32⟩
  | 59 => ⟨S2x8192x12, .f32⟩
  | 60 => ⟨S_, .f32⟩
  | 61 => ⟨S2x8192x12, .f32⟩
  | 62 => ⟨S2x8192x12, .f32⟩
  | 63 => ⟨S1x2x8192x12, .f32⟩
  | 64 => ⟨S3x2x8192x12, .f32⟩
  | 65 => ⟨S3x2x8192x12, .f32⟩
  | 66 => ⟨S3x2x8192x12, .f32⟩
  | 67 => ⟨S_, .f32⟩
  | 68 => ⟨S2x8192x12, .f32⟩
  | 69 => ⟨S1x2x8192x12, .f32⟩
  | 70 => ⟨S3x2x8192x12, .f32⟩
  | 71 => ⟨S3x2x8192x12, .f32⟩
  | 72 => ⟨S3x2x8192x12x1, .f32⟩
  | 73 => ⟨S1x2x8192x12x128, .f32⟩
  | 74 => ⟨S1x2x8192x12x128, .f32⟩
  | 75 => ⟨S1x2x8192x12x128, .f32⟩
  | 76 => ⟨S3x2x8192x12x128, .f32⟩
  | 77 => ⟨S3x2x8192x12x128, .f32⟩
  | 78 => ⟨S3x2x8192x12x128, .f32⟩
  | 79 => ⟨S_, .f32⟩
  | 80 => ⟨S2x8192x12x128, .f32⟩
  | 81 => ⟨S12x128, .f32⟩
  | 82 => ⟨S2x8192x12x128, .f32⟩
  | 83 => ⟨S_, .f32⟩
  | 84 => ⟨S2x8192x12, .f32⟩
  | 85 => ⟨S2x8192x12x1, .f32⟩
  | 86 => ⟨S_, .f32⟩
  | 87 => ⟨S2x8192x12x1, .f32⟩
  | 88 => ⟨S2x8192x12x1, .f32⟩
  | 89 => ⟨S_, .f32⟩
  | 90 => ⟨S2x8192x12x1, .f32⟩
  | 91 => ⟨S2x8192x12x1, .f32⟩
  | 92 => ⟨S2x8192x12x1, .f32⟩
  | 93 => ⟨S2x8192x12x128, .f32⟩
  | 94 => ⟨S2x8192x12x128, .f32⟩
  | 95 => ⟨S1x1x12x128, .f32⟩
  | 96 => ⟨S2x8192x12x128, .f32⟩
  | 97 => ⟨S2x8192x12x128, .f32⟩
  | 98 => ⟨S16384x1536, .f32⟩
  | 99 => ⟨S16384x1536, .bf16⟩
  | _ => ⟨S44x16384x128, .f32⟩

abbrev hbmTy (i : Nat) : BufTy := match i / 128 with
  | 0 => hbmTy0_0 i
  | 1 => hbmTy0_1 i
  | 2 => hbmTy0_2 i
  | _ => ⟨S44x16384x128, .f32⟩

abbrev bufTy : (tb : Table) → Fin (tcTables nBuf tb) → BufTy
  | .hbm, ⟨i, _⟩ => hbmTy i
  | _, _ => ⟨S44x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_call2_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_3 : Ref sig .tc := ⟨.hbm, 50, rfl⟩
abbrev main_v41 : Ref sig .tc := ⟨.hbm, 51, rfl⟩
abbrev main_v42 : Ref sig .tc := ⟨.hbm, 52, rfl⟩
abbrev main_c_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_c_5 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_c_7 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_c_10 : Ref sig .tc := ⟨.hbm, 110, rfl⟩
abbrev main_call4_v0 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_c_11 : Ref sig .tc := ⟨.hbm, 115, rfl⟩
abbrev main_call5_v0 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_c_12 : Ref sig .tc := ⟨.hbm, 120, rfl⟩
abbrev main_call6_v0 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_c_13 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_c_14 : Ref sig .tc := ⟨.hbm, 151, rfl⟩
abbrev main_v124 : Ref sig .tc := ⟨.hbm, 152, rfl⟩
abbrev main_v125 : Ref sig .tc := ⟨.hbm, 153, rfl⟩
abbrev main_c_15 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_c_16 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_c_17 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_c_18 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_19 : Ref sig .tc := ⟨.hbm, 183, rfl⟩
abbrev main_call7_v0 : Ref sig .tc := ⟨.hbm, 184, rfl⟩
abbrev main_call7_v1 : Ref sig .tc := ⟨.hbm, 185, rfl⟩
abbrev main_call7_v2 : Ref sig .tc := ⟨.hbm, 186, rfl⟩
abbrev main_v151 : Ref sig .tc := ⟨.hbm, 187, rfl⟩
abbrev main_cst_20 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_cst_21 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_c_22 : Ref sig .tc := ⟨.hbm, 211, rfl⟩
abbrev main_call8_v0 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_c_23 : Ref sig .tc := ⟨.hbm, 216, rfl⟩
abbrev main_call9_v0 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_c_24 : Ref sig .tc := ⟨.hbm, 221, rfl⟩
abbrev main_call10_v0 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_c_25 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_c_26 : Ref sig .tc := ⟨.hbm, 252, rfl⟩
abbrev main_v207 : Ref sig .tc := ⟨.hbm, 253, rfl⟩
abbrev main_v208 : Ref sig .tc := ⟨.hbm, 254, rfl⟩
abbrev main_c_27 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_c_28 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_c_29 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_c_30 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_cst_31 : Ref sig .tc := ⟨.hbm, 284, rfl⟩
abbrev main_call11_v0 : Ref sig .tc := ⟨.hbm, 285, rfl⟩
abbrev main_call11_v1 : Ref sig .tc := ⟨.hbm, 286, rfl⟩
abbrev main_call11_v2 : Ref sig .tc := ⟨.hbm, 287, rfl⟩
abbrev main_v234 : Ref sig .tc := ⟨.hbm, 288, rfl⟩
abbrev main_cst_32 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_cst_33 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_cst_34 : Ref sig .tc := ⟨.hbm, 314, rfl⟩
abbrev main_v258 : Ref sig .tc := ⟨.hbm, 315, rfl⟩
abbrev main_cst_35 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_cst_36 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_cst_37 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_cst_38 : Ref sig .tc := ⟨.hbm, 339, rfl⟩
abbrev main_v279 : Ref sig .tc := ⟨.hbm, 340, rfl⟩
abbrev main_v280 : Ref sig .tc := ⟨.hbm, 341, rfl⟩
abbrev main_cst_39 : Ref sig .tc := ⟨.hbm, 342, rfl⟩
abbrev main_v281 : Ref sig .tc := ⟨.hbm, 343, rfl⟩
abbrev main_v282 : Ref sig .tc := ⟨.hbm, 344, rfl⟩
abbrev main_cst_40 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩

abbrev nD : Nat := 1
abbrev τ : Topo := Topo.v7x

variable {F : FTy → Type} [FloatOps F]

def κ : String → Option EReal := fun
  | "mask" => some ⊥
  | _ => none
-- ==== Up.lean ====
abbrev S40960x2048 : Shape := ⟨2, ![40960, 2048]⟩
abbrev S2x8x2048x7168 : Shape := ⟨4, ![2, 8, 2048, 7168]⟩
abbrev S40 : Shape := ⟨1, ![40]⟩
abbrev S40960x7168 : Shape := ⟨2, ![40960, 7168]⟩
abbrev S1024x2048 : Shape := ⟨2, ![1024, 2048]⟩
abbrev S1x1x2048x512 : Shape := ⟨4, ![1, 1, 2048, 512]⟩
abbrev S1 : Shape := ⟨1, ![1]⟩
abbrev S1024x512 : Shape := ⟨2, ![1024, 512]⟩
abbrev S2048x512 : Shape := ⟨2, ![2048, 512]⟩

abbrev nBuf : Space → Nat
  | .hbm => 4
  | .vmem => 9
  | .smem => 2
  | _ => 0

abbrev bufTy : (tb : Table) → Fin (tcTables nBuf tb) → BufTy
  | .hbm, ⟨0, _⟩ => ⟨S40960x2048, .f32⟩
  | .hbm, ⟨1, _⟩ => ⟨S2x8x2048x7168, .f32⟩
  | .hbm, ⟨2, _⟩ => ⟨S2x8x2048x7168, .f32⟩
  | .hbm, ⟨3, _⟩ => ⟨S40960x7168, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | .local _ .smem, ⟨0, _⟩ => ⟨S40, .i32⟩
  | .local _ .smem, ⟨1, _⟩ => ⟨S40, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![40, 14], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond3 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg1.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S40960x2048 : Shape := ⟨2, ![40960, 2048]⟩
abbrev S2x8x2048x7168 : Shape := ⟨4, ![2, 8, 2048, 7168]⟩
abbrev S40 : Shape := ⟨1, ![40]⟩
abbrev S40x1 : Shape := ⟨2, ![40, 1]⟩
abbrev S1x8 : Shape := ⟨2, ![1, 8]⟩
abbrev S40x8 : Shape := ⟨2, ![40, 8]⟩
abbrev S40x1024x8 : Shape := ⟨3, ![40, 1024, 8]⟩
abbrev S40960x8 : Shape := ⟨2, ![40960, 8]⟩
abbrev S_ : Shape := ⟨0, ![]⟩
abbrev S40960x7168 : Shape := ⟨2, ![40960, 7168]⟩
abbrev S40960x1 : Shape := ⟨2, ![40960, 1]⟩
abbrev S1x1x2048x7168 : Shape := ⟨4, ![1, 1, 2048, 7168]⟩
abbrev S2048x7168 : Shape := ⟨2, ![2048, 7168]⟩

abbrev nBuf : Space → Nat
  | .hbm => 180
  | .vmem => 0
  | .smem => 0
  | _ => 0

abbrev hbmTy0_0 (i : Nat) : BufTy := match i % 128 with
  | 0 => ⟨S40960x2048, .f32⟩
  | 1 => ⟨S2x8x2048x7168, .f32⟩
  | 2 => ⟨S2x8x2048x7168, .f32⟩
  | 3 => ⟨S40, .i32⟩
  | 4 => ⟨S40, .i32⟩
  | 5 => ⟨S40x1, .i32⟩
  | 6 => ⟨S1x8, .i32⟩
  | 7 => ⟨S40x8, .i32⟩
  | 8 => ⟨S40x8, .i32⟩
  | 9 => ⟨S40x8, .i1⟩
  | 10 => ⟨S40x8, .f32⟩
  | 11 => ⟨S40, .f32⟩
  | 12 => ⟨S40x1, .f32⟩
  | 13 => ⟨S40x8, .f32⟩
  | 14 => ⟨S40x8, .f32⟩
  | 15 => ⟨S40x1024x8, .f32⟩
  | 16 => ⟨S40960x8, .f32⟩
  | 17 => ⟨S_, .f32⟩
  | 18 => ⟨S40960x7168, .f32⟩
  | 19 => ⟨S40960x1, .f32⟩
  | 20 => ⟨S1x1x2048x7168, .f32⟩
  | 21 => ⟨S2048x7168, .f32⟩
  | 22 => ⟨S40960x7168, .f32⟩
  | 23 => ⟨S40960x7168, .f32⟩
  | 24 => ⟨S40960x7168, .f32⟩
  | 25 => ⟨S_, .f32⟩
  | 26 => ⟨S40960x7168, .f32⟩
  | 27 => ⟨S40960x7168, .f32⟩
  | 28 => ⟨S_, .f32⟩
  | 29 => ⟨S40960x7168, .f32⟩
  | 30 => ⟨S40960x7168, .f32⟩
  | 31 => ⟨S40960x7168, .f32⟩
  | 32 => ⟨S1x1x2048x7168, .f32⟩
  | 33 => ⟨S2048x7168, .f32⟩
  | 34 => ⟨S40960x7168, .f32⟩
  | 35 => ⟨S40960x7168, .f32⟩
  | 36 => ⟨S40960x7168, .f32⟩
  | 37 => ⟨S40960x7168, .f32⟩
  | 38 => ⟨S40960x7168, .f32⟩
  | 39 => ⟨S40960x1, .f32⟩
  | 40 => ⟨S1x1x2048x7168, .f32⟩
  | 41 => ⟨S2048x7168, .f32⟩
  | 42 => ⟨S40960x7168, .f32⟩
  | 43 => ⟨S40960x7168, .f32⟩
  | 44 => ⟨S40960x7168, .f32⟩
  | 45 => ⟨S_, .f32⟩
  | 46 => ⟨S40960x7168, .f32⟩
  | 47 => ⟨S40960x7168, .f32⟩
  | 48 => ⟨S_, .f32⟩
  | 49 => ⟨S40960x7168, .f32⟩
  | 50 => ⟨S40960x7168, .f32⟩
  | 51 => ⟨S40960x7168, .f32⟩
  | 52 => ⟨S1x1x2048x7168, .f32⟩
  | 53 => ⟨S2048x7168, .f32⟩
  | 54 => ⟨S40960x7168, .f32⟩
  | 55 => ⟨S40960x7168, .f32⟩
  | 56 => ⟨S40960x7168, .f32⟩
  | 57 => ⟨S40960x7168, .f32⟩
  | 58 => ⟨S40960x7168, .f32⟩
  | 59 => ⟨S40960x1, .f32⟩
  | 60 => ⟨S1x1x2048x7168, .f32⟩
  | 61 => ⟨S2048x7168, .f32⟩
  | 62 => ⟨S40960x7168, .f32⟩
  | 63 => ⟨S40960x7168, .f32⟩
  | 64 => ⟨S40960x7168, .f32⟩
  | 65 => ⟨S_, .f32⟩
  | 66 => ⟨S40960x7168, .f32⟩
  | 67 => ⟨S40960x7168, .f32⟩
  | 68 => ⟨S_, .f32⟩
  | 69 => ⟨S40960x7168, .f32⟩
  | 70 => ⟨S40960x7168, .f32⟩
  | 71 => ⟨S40960x7168, .f32⟩
  | 72 => ⟨S1x1x2048x7168, .f32⟩
  | 73 => ⟨S2048x7168, .f32⟩
  | 74 => ⟨S40960x7168, .f32⟩
  | 75 => ⟨S40960x7168, .f32⟩
  | 76 => ⟨S40960x7168, .f32⟩
  | 77 => ⟨S40960x7168, .f32⟩
  | 78 => ⟨S40960x7168, .f32⟩
  | 79 => ⟨S40960x1, .f32⟩
  | 80 => ⟨S1x1x2048x7168, .f32⟩
  | 81 => ⟨S2048x7168, .f32⟩
  | 82 => ⟨S40960x7168, .f32⟩
  | 83 => ⟨S40960x7168, .f32⟩
  | 84 => ⟨S40960x7168, .f32⟩
  | 85 => ⟨S_, .f32⟩
  | 86 => ⟨S40960x7168, .f32⟩
  | 87 => ⟨S40960x7168, .f32⟩
  | 88 => ⟨S_, .f32⟩
  | 89 => ⟨S40960x7168, .f32⟩
  | 90 => ⟨S40960x7168, .f32⟩
  | 91 => ⟨S40960x7168, .f32⟩
  | 92 => ⟨S1x1x2048x7168, .f32⟩
  | 93 => ⟨S2048x7168, .f32⟩
  | 94 => ⟨S40960x7168, .f32⟩
  | 95 => ⟨S40960x7168, .f32⟩
  | 96 => ⟨S40960x7168, .f32⟩
  | 97 => ⟨S40960x7168, .f32⟩
  | 98 => ⟨S40960x7168, .f32⟩
  | 99 => ⟨S40960x1, .f32⟩
  | 100 => ⟨S1x1x2048x7168, .f32⟩
  | 101 => ⟨S2048x7168, .f32⟩
  | 102 => ⟨S40960x7168, .f32⟩
  | 103 => ⟨S40960x7168, .f32⟩
  | 104 => ⟨S40960x7168, .f32⟩
  | 105 => ⟨S_, .f32⟩
  | 106 => ⟨S40960x7168, .f32⟩
  | 107 => ⟨S40960x7168, .f32⟩
  | 108 => ⟨S_, .f32⟩
  | 109 => ⟨S40960x7168, .f32⟩
  | 110 => ⟨S40960x7168, .f32⟩
  | 111 => ⟨S40960x7168, .f32⟩
  | 112 => ⟨S1x1x2048x7168, .f32⟩
  | 113 => ⟨S2048x7168, .f32⟩
  | 114 => ⟨S40960x7168, .f32⟩
  | 115 => ⟨S40960x7168, .f32⟩
  | 116 => ⟨S40960x7168, .f32⟩
  | 117 => ⟨S40960x7168, .f32⟩
  | 118 => ⟨S40960x7168, .f32⟩
  | 119 => ⟨S40960x1, .f32⟩
  | 120 => ⟨S1x1x2048x7168, .f32⟩
  | 121 => ⟨S2048x7168, .f32⟩
  | 122 => ⟨S40960x7168, .f32⟩
  | 123 => ⟨S40960x7168, .f32⟩
  | 124 => ⟨S40960x7168, .f32⟩
  | 125 => ⟨S_, .f32⟩
  | 126 => ⟨S40960x7168, .f32⟩
  | 127 => ⟨S40960x7168, .f32⟩
  | _ => ⟨S40960x2048, .f32⟩

abbrev hbmTy0_1 (i : Nat) : BufTy := match i % 128 with
  | 0 => ⟨S_, .f32⟩
  | 1 => ⟨S40960x7168, .f32⟩
  | 2 => ⟨S40960x7168, .f32⟩
  | 3 => ⟨S40960x7168, .f32⟩
  | 4 => ⟨S1x1x2048x7168, .f32⟩
  | 5 => ⟨S2048x7168, .f32⟩
  | 6 => ⟨S40960x7168, .f32⟩
  | 7 => ⟨S40960x7168, .f32⟩
  | 8 => ⟨S40960x7168, .f32⟩
  | 9 => ⟨S40960x7168, .f32⟩
  | 10 => ⟨S40960x7168, .f32⟩
  | 11 => ⟨S40960x1, .f32⟩
  | 12 => ⟨S1x1x2048x7168, .f32⟩
  | 13 => ⟨S2048x7168, .f32⟩
  | 14 => ⟨S40960x7168, .f32⟩
  | 15 => ⟨S40960x7168, .f32⟩
  | 16 => ⟨S40960x7168, .f32⟩
  | 17 => ⟨S_, .f32⟩
  | 18 => ⟨S40960x7168, .f32⟩
  | 19 => ⟨S40960x7168, .f32⟩
  | 20 => ⟨S_, .f32⟩
  | 21 => ⟨S40960x7168, .f32⟩
  | 22 => ⟨S40960x7168, .f32⟩
  | 23 => ⟨S40960x7168, .f32⟩
  | 24 => ⟨S1x1x2048x7168, .f32⟩
  | 25 => ⟨S2048x7168, .f32⟩
  | 26 => ⟨S40960x7168, .f32⟩
  | 27 => ⟨S40960x7168, .f32⟩
  | 28 => ⟨S40960x7168, .f32⟩
  | 29 => ⟨S40960x7168, .f32⟩
  | 30 => ⟨S40960x7168, .f32⟩
  | 31 => ⟨S40960x1, .f32⟩
  | 32 => ⟨S1x1x2048x7168, .f32⟩
  | 33 => ⟨S2048x7168, .f32⟩
  | 34 => ⟨S40960x7168, .f32⟩
  | 35 => ⟨S40960x7168, .f32⟩
  | 36 => ⟨S40960x7168, .f32⟩
  | 37 => ⟨S_, .f32⟩
  | 38 => ⟨S40960x7168, .f32⟩
  | 39 => ⟨S40960x7168, .f32⟩
  | 40 => ⟨S_, .f32⟩
  | 41 => ⟨S40960x7168, .f32⟩
  | 42 => ⟨S40960x7168, .f32⟩
  | 43 => ⟨S40960x7168, .f32⟩
  | 44 => ⟨S1x1x2048x7168, .f32⟩
  | 45 => ⟨S2048x7168, .f32⟩
  | 46 => ⟨S40960x7168, .f32⟩
  | 47 => ⟨S40960x7168, .f32⟩
  | 48 => ⟨S40960x7168, .f32⟩
  | 49 => ⟨S40960x7168, .f32⟩
  | 50 => ⟨S40960x7168, .f32⟩
  | 51 => ⟨S40960x7168, .bf16⟩
  | _ => ⟨S40960x2048, .f32⟩

abbrev hbmTy (i : Nat) : BufTy := match i / 128 with
  | 0 => hbmTy0_0 i
  | 1 => hbmTy0_1 i
  | _ => ⟨S40960x2048, .f32⟩

abbrev bufTy : (tb : Table) → Fin (tcTables nBuf tb) → BufTy
  | .hbm, ⟨i, _⟩ => hbmTy i
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_call3_v0 : Ref sig .tc := ⟨.hbm, 63, rfl⟩
abbrev main_call3_v1 : Ref sig .tc := ⟨.hbm, 64, rfl⟩
abbrev main_call3_cst : Ref sig .tc := ⟨.hbm, 65, rfl⟩
abbrev main_call3_v2 : Ref sig .tc := ⟨.hbm, 66, rfl⟩
abbrev main_call3_v3 : Ref sig .tc := ⟨.hbm, 67, rfl⟩
abbrev main_call3_cst_0 : Ref sig .tc := ⟨.hbm, 68, rfl⟩
abbrev main_call3_v4 : Ref sig .tc := ⟨.hbm, 69, rfl⟩
abbrev main_call3_v5 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_call4_v0 : Ref sig .tc := ⟨.hbm, 83, rfl⟩
abbrev main_call4_v1 : Ref sig .tc := ⟨.hbm, 84, rfl⟩
abbrev main_call4_cst : Ref sig .tc := ⟨.hbm, 85, rfl⟩
abbrev main_call4_v2 : Ref sig .tc := ⟨.hbm, 86, rfl⟩
abbrev main_call4_v3 : Ref sig .tc := ⟨.hbm, 87, rfl⟩
abbrev main_call4_cst_0 : Ref sig .tc := ⟨.hbm, 88, rfl⟩
abbrev main_call4_v4 : Ref sig .tc := ⟨.hbm, 89, rfl⟩
abbrev main_call4_v5 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_call5_v0 : Ref sig .tc := ⟨.hbm, 103, rfl⟩
abbrev main_call5_v1 : Ref sig .tc := ⟨.hbm, 104, rfl⟩
abbrev main_call5_cst : Ref sig .tc := ⟨.hbm, 105, rfl⟩
abbrev main_call5_v2 : Ref sig .tc := ⟨.hbm, 106, rfl⟩
abbrev main_call5_v3 : Ref sig .tc := ⟨.hbm, 107, rfl⟩
abbrev main_call5_cst_0 : Ref sig .tc := ⟨.hbm, 108, rfl⟩
abbrev main_call5_v4 : Ref sig .tc := ⟨.hbm, 109, rfl⟩
abbrev main_call5_v5 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_call6_v0 : Ref sig .tc := ⟨.hbm, 123, rfl⟩
abbrev main_call6_v1 : Ref sig .tc := ⟨.hbm, 124, rfl⟩
abbrev main_call6_cst : Ref sig .tc := ⟨.hbm, 125, rfl⟩
abbrev main_call6_v2 : Ref sig .tc := ⟨.hbm, 126, rfl⟩
abbrev main_call6_v3 : Ref sig .tc := ⟨.hbm, 127, rfl⟩
abbrev main_call6_cst_0 : Ref sig .tc := ⟨.hbm, 128, rfl⟩
abbrev main_call6_v4 : Ref sig .tc := ⟨.hbm, 129, rfl⟩
abbrev main_call6_v5 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_call7_v0 : Ref sig .tc := ⟨.hbm, 143, rfl⟩
abbrev main_call7_v1 : Ref sig .tc := ⟨.hbm, 144, rfl⟩
abbrev main_call7_cst : Ref sig .tc := ⟨.hbm, 145, rfl⟩
abbrev main_call7_v2 : Ref sig .tc := ⟨.hbm, 146, rfl⟩
abbrev main_call7_v3 : Ref sig .tc := ⟨.hbm, 147, rfl⟩
abbrev main_call7_cst_0 : Ref sig .tc := ⟨.hbm, 148, rfl⟩
abbrev main_call7_v4 : Ref sig .tc := ⟨.hbm, 149, rfl⟩
abbrev main_call7_v5 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_call8_v0 : Ref sig .tc := ⟨.hbm, 163, rfl⟩
abbrev main_call8_v1 : Ref sig .tc := ⟨.hbm, 164, rfl⟩
abbrev main_call8_cst : Ref sig .tc := ⟨.hbm, 165, rfl⟩
abbrev main_call8_v2 : Ref sig .tc := ⟨.hbm, 166, rfl⟩
abbrev main_call8_v3 : Ref sig .tc := ⟨.hbm, 167, rfl⟩
abbrev main_call8_cst_0 : Ref sig .tc := ⟨.hbm, 168, rfl⟩
abbrev main_call8_v4 : Ref sig .tc := ⟨.hbm, 169, rfl⟩
abbrev main_call8_v5 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩

abbrev nD : Nat := 1
abbrev τ : Topo := Topo.v7x

variable {F : FTy → Type} [FloatOps F]
-- ==== Down.lean ====
abbrev S40960x7168 : Shape := ⟨2, ![40960, 7168]⟩
abbrev S2x8x7168x2048 : Shape := ⟨4, ![2, 8, 7168, 2048]⟩
abbrev S40 : Shape := ⟨1, ![40]⟩
abbrev S40960x2048 : Shape := ⟨2, ![40960, 2048]⟩
abbrev S1024x512 : Shape := ⟨2, ![1024, 512]⟩
abbrev S1x1x512x2048 : Shape := ⟨4, ![1, 1, 512, 2048]⟩
abbrev S1 : Shape := ⟨1, ![1]⟩
abbrev S1024x2048 : Shape := ⟨2, ![1024, 2048]⟩
abbrev S512x2048 : Shape := ⟨2, ![512, 2048]⟩

abbrev nBuf : Space → Nat
  | .hbm => 3
  | .vmem => 6
  | .smem => 2
  | _ => 0

abbrev bufTy : (tb : Table) → Fin (tcTables nBuf tb) → BufTy
  | .hbm, ⟨0, _⟩ => ⟨S40960x7168, .bf16⟩
  | .hbm, ⟨1, _⟩ => ⟨S2x8x7168x2048, .f32⟩
  | .hbm, ⟨2, _⟩ => ⟨S40960x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x2048, .f32⟩
  | .local _ .vmem, ⟨3, _⟩ => ⟨S1x1x512x2048, .f32⟩
  | .local _ .vmem, ⟨4, _⟩ => ⟨S1024x2048, .f32⟩
  | .local _ .vmem, ⟨5, _⟩ => ⟨S1024x2048, .f32⟩
  | .local _ .smem, ⟨0, _⟩ => ⟨S40, .i32⟩
  | .local _ .smem, ⟨1, _⟩ => ⟨S40, .i32⟩
  | _, _ => ⟨S40960x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![40, 14], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (i : grid0.Coords) : BitVec 1 :=
  let arg1 : BitVec 32 := BitVec.ofNat 32 (i 1).val
  let c0_i32_8 : BitVec 32 := 0#32
  let v17 : BitVec 1 := Scalar.cmpi .eq arg1 c0_i32_8
  let v18 : BitVec 32 := Scalar.extui v17
  let c0_i32_9 : BitVec 32 := 0#32
  let v19 : BitVec 1 := Scalar.cmpi .ne v18 c0_i32_9
  v19

def k0_cond3 (i : grid0.Coords) : BitVec 1 :=
  let arg1 : BitVec 32 := BitVec.ofNat 32 (i 1).val
  let c0_i32_10 : BitVec 32 := 0#32
  let v20 : BitVec 1 := Scalar.cmpi .sgt arg1 c0_i32_10
  let v21 : BitVec 32 := Scalar.extui v20
  let c0_i32_11 : BitVec 32 := 0#32
  let v22 : BitVec 1 := Scalar.cmpi .ne v21 c0_i32_11
  v22

def k0_cond4 (i : grid0.Coords) (v6 : BitVec 32) : BitVec 1 :=
  let c0_i32_0 : BitVec 32 := 0#32
  let v7 : BitVec 1 := Scalar.cmpi .eq v6 c0_i32_0
  let arg1 : BitVec 32 := BitVec.ofNat 32 (i 1).val
  let c0_i32_1 : BitVec 32 := 0#32
  let v8 : BitVec 1 := Scalar.cmpi .eq arg1 c0_i32_1
  let v9 : BitVec 1 := Scalar.andi v7 v8
  let v10 : BitVec 32 := Scalar.extui v9
  let c0_i32_2 : BitVec 32 := 0#32
  let v11 : BitVec 1 := Scalar.cmpi .ne v10 c0_i32_2
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownReferenceIdeal.lean ====
abbrev S40960x7168 : Shape := ⟨2, ![40960, 7168]⟩
abbrev S2x8x7168x2048 : Shape := ⟨4, ![2, 8, 7168, 2048]⟩
abbrev S40 : Shape := ⟨1, ![40]⟩
abbrev S40x1 : Shape := ⟨2, ![40, 1]⟩
abbrev S1x8 : Shape := ⟨2, ![1, 8]⟩
abbrev S40x8 : Shape := ⟨2, ![40, 8]⟩
abbrev S40x1024x8 : Shape := ⟨3, ![40, 1024, 8]⟩
abbrev S40960x8 : Shape := ⟨2, ![40960, 8]⟩
abbrev S_ : Shape := ⟨0, ![]⟩
abbrev S40960x2048 : Shape := ⟨2, ![40960, 2048]⟩
abbrev S40960x1 : Shape := ⟨2, ![40960, 1]⟩
abbrev S1x1x7168x2048 : Shape := ⟨4, ![1, 1, 7168, 2048]⟩
abbrev S7168x2048 : Shape := ⟨2, ![7168, 2048]⟩

abbrev nBuf : Space → Nat
  | .hbm => 75
  | .vmem => 0
  | .smem => 0
  | _ => 0

abbrev bufTy : (tb : Table) → Fin (tcTables nBuf tb) → BufTy
  | .hbm, ⟨0, _⟩ => ⟨S40960x7168, .bf16⟩
  | .hbm, ⟨1, _⟩ => ⟨S2x8x7168x2048, .f32⟩
  | .hbm, ⟨2, _⟩ => ⟨S40, .i32⟩
  | .hbm, ⟨3, _⟩ => ⟨S40, .i32⟩
  | .hbm, ⟨4, _⟩ => ⟨S40x1, .i32⟩
  | .hbm, ⟨5, _⟩ => ⟨S1x8, .i32⟩
  | .hbm, ⟨6, _⟩ => ⟨S40x8, .i32⟩
  | .hbm, ⟨7, _⟩ => ⟨S40x8, .i32⟩
  | .hbm, ⟨8, _⟩ => ⟨S40x8, .i1⟩
  | .hbm, ⟨9, _⟩ => ⟨S40x8, .f32⟩
  | .hbm, ⟨10, _⟩ => ⟨S40, .f32⟩
  | .hbm, ⟨11, _⟩ => ⟨S40x1, .f32⟩
  | .hbm, ⟨12, _⟩ => ⟨S40x8, .f32⟩
  | .hbm, ⟨13, _⟩ => ⟨S40x8, .f32⟩
  | .hbm, ⟨14, _⟩ => ⟨S40x1024x8, .f32⟩
  | .hbm, ⟨15, _⟩ => ⟨S40960x8, .f32⟩
  | .hbm, ⟨16, _⟩ => ⟨S40960x7168, .f32⟩
  | .hbm, ⟨17, _⟩ => ⟨S_, .f32⟩
  | .hbm, ⟨18, _⟩ => ⟨S40960x2048, .f32⟩
  | .hbm, ⟨19, _⟩ => ⟨S40960x1, .f32⟩
  | .hbm, ⟨20, _⟩ => ⟨S1x1x7168x2048, .f32⟩
  | .hbm, ⟨21, _⟩ => ⟨S7168x2048, .f32⟩
  | .hbm, ⟨22, _⟩ => ⟨S40960x2048, .f32⟩
  | .hbm, ⟨23, _⟩ => ⟨S40960x2048, .f32⟩
  | .hbm, ⟨24, _⟩ => ⟨S40960x2048, .f32⟩
  | .hbm, ⟨25, _⟩ => ⟨S40960x2048, .f32⟩
  | .hbm, ⟨26, _⟩ => ⟨S40960x1, .f32⟩
  | .hbm, ⟨27, _⟩ => ⟨S1x1x7168x2048, .f32⟩
  | .hbm, ⟨28, _⟩ => ⟨S7168x2048, .f32⟩
  | .hbm, ⟨29, _⟩ => ⟨S40960x2048, .f32⟩
  | .hbm, ⟨30, _⟩ => ⟨S40960x2048, .f32⟩
  | .hbm, ⟨31, _⟩ => ⟨S40960x2048, .f32⟩
  | .hbm, ⟨32, _⟩ => ⟨S40960x2048, .f32⟩
  | .hbm, ⟨33, _⟩ => ⟨S40960x1, .f32⟩
  | .hbm, ⟨34, _⟩ => ⟨S1x1x7168x2048, .f32⟩
  | .hbm, ⟨35, _⟩ => ⟨S7168x2048, .f32⟩
  | .hbm, ⟨36, _⟩ => ⟨S40960x2048, .f32⟩
  | .hbm, ⟨37, _⟩ => ⟨S40960x2048, .f32⟩
  | .hbm, ⟨38, _⟩ => ⟨S40960x2048, .f32⟩
  | .hbm, ⟨39, _⟩ => ⟨S40960x2048, .f32⟩
  | .hbm, ⟨40, _⟩ => ⟨S40960x1, .f32⟩
  | .hbm, ⟨41, _⟩ => ⟨S1x1x7168x2048, .f32⟩
  | .hbm, ⟨42, _⟩ => ⟨S7168x2048, .f32⟩
  | .hbm, ⟨43, _⟩ => ⟨S40960x2048, .f32⟩
  | .hbm, ⟨44, _⟩ => ⟨S40960x2048, .f32⟩
  | .hbm, ⟨45, _⟩ => ⟨S40960x2048, .f32⟩
  | .hbm, ⟨46, _⟩ => ⟨S40960x2048, .f32⟩
  | .hbm, ⟨47, _⟩ => ⟨S40960x1, .f32⟩
  | .hbm, ⟨48, _⟩ => ⟨S1x1x7168x2048, .f32⟩
  | .hbm, ⟨49, _⟩ => ⟨S7168x2048, .f32⟩
  | .hbm, ⟨50, _⟩ => ⟨S40960x2048, .f32⟩
  | .hbm, ⟨51, _⟩ => ⟨S40960x2048, .f32⟩
  | .hbm, ⟨52, _⟩ => ⟨S40960x2048, .f32⟩
  | .hbm, ⟨53, _⟩ => ⟨S40960x2048, .f32⟩
  | .hbm, ⟨54, _⟩ => ⟨S40960x1, .f32⟩
  | .hbm, ⟨55, _⟩ => ⟨S1x1x7168x2048, .f32⟩
  | .hbm, ⟨56, _⟩ => ⟨S7168x2048, .f32⟩
  | .hbm, ⟨57, _⟩ => ⟨S40960x2048, .f32⟩
  | .hbm, ⟨58, _⟩ => ⟨S40960x2048, .f32⟩
  | .hbm, ⟨59, _⟩ => ⟨S40960x2048, .f32⟩
  | .hbm, ⟨60, _⟩ => ⟨S40960x2048, .f32⟩
  | .hbm, ⟨61, _⟩ => ⟨S40960x1, .f32⟩
  | .hbm, ⟨62, _⟩ => ⟨S1x1x7168x2048, .f32⟩
  | .hbm, ⟨63, _⟩ => ⟨S7168x2048, .f32⟩
  | .hbm, ⟨64, _⟩ => ⟨S40960x2048, .f32⟩
  | .hbm, ⟨65, _⟩ => ⟨S40960x2048, .f32⟩
  | .hbm, ⟨66, _⟩ => ⟨S40960x2048, .f32⟩
  | .hbm, ⟨67, _⟩ => ⟨S40960x2048, .f32⟩
  | .hbm, ⟨68, _⟩ => ⟨S40960x1, .f32⟩
  | .hbm, ⟨69, _⟩ => ⟨S1x1x7168x2048, .f32⟩
  | .hbm, ⟨70, _⟩ => ⟨S7168x2048, .f32⟩
  | .hbm, ⟨71, _⟩ => ⟨S40960x2048, .f32⟩
  | .hbm, ⟨72, _⟩ => ⟨S40960x2048, .f32⟩
  | .hbm, ⟨73, _⟩ => ⟨S40960x2048, .f32⟩
  | .hbm, ⟨74, _⟩ => ⟨S40960x2048, .f32⟩
  | _, _ => ⟨S40960x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩

abbrev nD : Nat := 1
abbrev τ : Topo := Topo.v7x

variable {F : FTy → Type} [FloatOps F]
-- ==== DenseUp.lean ====
abbrev S16384x2048 : Shape := ⟨2, ![16384, 2048]⟩
abbrev S2x2048x5632 : Shape := ⟨3, ![2, 2048, 5632]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2x2048x5632, .f32⟩
  | .hbm, ⟨2, _⟩ => ⟨S2x2048x5632, .f32⟩
  | .hbm, ⟨3, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DenseUpReferenceIdeal.lean ====
abbrev S16384x2048 : Shape := ⟨2, ![16384, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S16384x5632 : Shape := ⟨2, ![16384, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x5632, .f32⟩
  | .hbm, ⟨2, _⟩ => ⟨S2x2048x5632, .f32⟩
  | .hbm, ⟨3, _⟩ => ⟨S16384x2048, .f32⟩
  | .hbm, ⟨4, _⟩ => ⟨S1x2048x5632, .f32⟩
  | .hbm, ⟨5, _⟩ => ⟨S2048x5632, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S_, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S1x2048x5632, .f32⟩
  | .hbm, ⟨17, _⟩ => ⟨S2048x5632, .f32⟩
  | .hbm, ⟨18, _⟩ => ⟨S16384x5632, .f32⟩
  | .hbm, ⟨19, _⟩ => ⟨S16384x5632, .f32⟩
  | .hbm, ⟨20, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== DenseDown.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x2048 : Shape := ⟨2, ![1, 2048]⟩
abbrev S512x512 : Shape := ⟨2, ![512, 512]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2048, .f32⟩
  | .hbm, ⟨4, _⟩ => ⟨S1x2048, .f32⟩
  | .hbm, ⟨5, _⟩ => ⟨S16384x2048, .f32⟩
  | .hbm, ⟨6, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S1x512x2048, .f32⟩
  | .local _ .vmem, ⟨3, _⟩ => ⟨S1x512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32 : BitVec 32 := 10#32
  let v11 : BitVec 1 := Scalar.cmpi .eq arg1 c10_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseDownReferenceIdeal.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2048, .f32⟩
  | .hbm, ⟨4, _⟩ => ⟨S16384x5632, .f32⟩
  | .hbm, ⟨5, _⟩ => ⟨S1x5632x2048, .f32⟩
  | .hbm, ⟨6, _⟩ => ⟨S5632x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InProj.lean ====
abbrev S16384x2048 : Shape := ⟨2, ![16384, 2048]⟩
abbrev S4x2048x5632 : Shape := ⟨3, ![4, 2048, 5632]⟩
abbrev S16384x128 : Shape := ⟨2, ![16384, 128]⟩
abbrev S44x16384x128 : Shape := ⟨3, ![44, 16384, 128]⟩
abbrev S1024x2048 : Shape := ⟨2, ![1024, 2048]⟩
abbrev S1x2048x512 : Shape := ⟨3, ![1, 2048, 512]⟩
abbrev S1024x128 : Shape := ⟨2, ![1024, 128]⟩
abbrev S4x1024x128 : Shape := ⟨3, ![4, 1024, 128]⟩
abbrev S2048x512 : Shape := ⟨2, ![2048, 512]⟩
abbrev S1024x512 : Shape := ⟨2, ![1024, 512]⟩
abbrev S1x1024x128 : Shape := ⟨3, ![1, 1024, 128]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S4x2048x5632, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S44x16384x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S4x1024x128, .f32⟩
  | .local _ .vmem, ⟨11, _⟩ => ⟨S4x1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c6_i32 : BitVec 32 := 6#32
  let v5 : BitVec 1 := Scalar.cmpi .slt arg1 c6_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c6_i32_4 : BitVec 32 := 6#32
  let v8 : BitVec 1 := Scalar.cmpi .sge arg1 c6_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjReferenceIdeal.lean ====
abbrev S16384x2048 : Shape := ⟨2, ![16384, 2048]⟩
abbrev S4x2048x5632 : Shape := ⟨3, ![4, 2048, 5632]⟩
abbrev S16384x128 : Shape := ⟨2, ![16384, 128]⟩
abbrev S16384x16 : Shape := ⟨2, ![16384, 16]⟩
abbrev S2x8192x1x16 : Shape := ⟨4, ![2, 8192, 1, 16]⟩
abbrev S1x2048x5632 : Shape := ⟨3, ![1, 2048, 5632]⟩
abbrev S2048x5632 : Shape := ⟨2, ![2048, 5632]⟩
abbrev S16384x5632 : Shape := ⟨2, ![16384, 5632]⟩
abbrev S2x8192x44x128 : Shape := ⟨4, ![2, 8192, 44, 128]⟩
abbrev S2x8192x12x128 : Shape := ⟨4, ![2, 8192, 12, 128]⟩
abbrev S2x8192x12x32 : Shape := ⟨4, ![2, 8192, 12, 32]⟩
abbrev S2x8192x12x16 : Shape := ⟨4, ![2, 8192, 12, 16]⟩
abbrev S2x8192x12x96 : Shape := ⟨4, ![2, 8192, 12, 96]⟩
abbrev S_ : Shape := ⟨0, ![]⟩
abbrev S2x8192x20x128 : Shape := ⟨4, ![2, 8192, 20, 128]⟩
abbrev S44x2x8192x128 : Shape := ⟨4, ![44, 2, 8192, 128]⟩
abbrev S44x16384x128 : Shape := ⟨3, ![44, 16384, 128]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x5632, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S16384x16, .f32⟩
  | .hbm, ⟨6, _⟩ => ⟨S16384x16, .f32⟩
  | .hbm, ⟨7, _⟩ => ⟨S2x8192x1x16, .f32⟩
  | .hbm, ⟨8, _⟩ => ⟨S2x8192x1x16, .f32⟩
  | .hbm, ⟨9, _⟩ => ⟨S16384x2048, .f32⟩
  | .hbm, ⟨10, _⟩ => ⟨S1x2048x5632, .f32⟩
  | .hbm, ⟨11, _⟩ => ⟨S2048x5632, .f32⟩
  | .hbm, ⟨12, _⟩ => ⟨S16384x5632, .f32⟩
  | .hbm, ⟨13, _⟩ => ⟨S2x8192x44x128, .f32⟩
  | .hbm, ⟨14, _⟩ => ⟨S2x8192x12x128, .f32⟩
  | .hbm, ⟨15, _⟩ => ⟨S2x8192x12x32, .f32⟩
  | .hbm, ⟨16, _⟩ => ⟨S2x8192x12x16, .f32⟩
  | .hbm, ⟨17, _⟩ => ⟨S2x8192x12x16, .f32⟩
  | .hbm, ⟨18, _⟩ => ⟨S2x8192x12x16, .f32⟩
  | .hbm, ⟨19, _⟩ => ⟨S2x8192x12x16, .f32⟩
  | .hbm, ⟨20, _⟩ => ⟨S2x8192x12x16, .f32⟩
  | .hbm, ⟨21, _⟩ => ⟨S2x8192x12x16, .f32⟩
  | .hbm, ⟨22, _⟩ => ⟨S2x8192x12x16, .f32⟩
  | .hbm, ⟨23, _⟩ => ⟨S2x8192x12x16, .f32⟩
  | .hbm, ⟨24, _⟩ => ⟨S2x8192x12x16, .f32⟩
  | .hbm, ⟨25, _⟩ => ⟨S2x8192x12x16, .f32⟩
  | .hbm, ⟨26, _⟩ => ⟨S2x8192x12x16, .f32⟩
  | .hbm, ⟨27, _⟩ => ⟨S2x8192x12x16, .f32⟩
  | .hbm, ⟨28, _⟩ => ⟨S2x8192x12x32, .f32⟩
  | .hbm, ⟨29, _⟩ => ⟨S2x8192x12x96, .f32⟩
  | .hbm, ⟨30, _⟩ => ⟨S2x8192x12x128, .f32⟩
  | .hbm, ⟨31, _⟩ => ⟨S_, .f32⟩
  | .hbm, ⟨32, _⟩ => ⟨S2x8192x12x128, .f32⟩
  | .hbm, ⟨33, _⟩ => ⟨S2x8192x12x128, .f32⟩
  | .hbm, ⟨34, _⟩ => ⟨S2x8192x12x128, .f32⟩
  | .hbm, ⟨35, _⟩ => ⟨S2x8192x12x32, .f32⟩
  | .hbm, ⟨36, _⟩ => ⟨S2x8192x12x16, .f32⟩
  | .hbm, ⟨37, _⟩ => ⟨S2x8192x12x16, .f32⟩
  | .hbm, ⟨38, _⟩ => ⟨S2x8192x12x16, .f32⟩
  | .hbm, ⟨39, _⟩ => ⟨S2x8192x12x16, .f32⟩
  | .hbm, ⟨40, _⟩ => ⟨S2x8192x12x16, .f32⟩
  | .hbm, ⟨41, _⟩ => ⟨S2x8192x12x16, .f32⟩
  | .hbm, ⟨42, _⟩ => ⟨S2x8192x12x16, .f32⟩
  | .hbm, ⟨43, _⟩ => ⟨S2x8192x12x16, .f32⟩
  | .hbm, ⟨44, _⟩ => ⟨S2x8192x12x16, .f32⟩
  | .hbm, ⟨45, _⟩ => ⟨S2x8192x12x16, .f32⟩
  | .hbm, ⟨46, _⟩ => ⟨S2x8192x12x16, .f32⟩
  | .hbm, ⟨47, _⟩ => ⟨S2x8192x12x16, .f32⟩
  | .hbm, ⟨48, _⟩ => ⟨S2x8192x12x32, .f32⟩
  | .hbm, ⟨49, _⟩ => ⟨S2x8192x12x96, .f32⟩
  | .hbm, ⟨50, _⟩ => ⟨S2x8192x12x128, .f32⟩
  | .hbm, ⟨51, _⟩ => ⟨S2x8192x20x128, .f32⟩
  | .hbm, ⟨52, _⟩ => ⟨S2x8192x44x128, .f32⟩
  | .hbm, ⟨53, _⟩ => ⟨S44x2x8192x128, .f32⟩
  | .hbm, ⟨54, _⟩ => ⟨S44x16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩

abbrev nD : Nat := 1
abbrev τ : Topo := Topo.v7x

variable {F : FTy → Type} [FloatOps F]
-- ==== Proof.KFrame.lean ====
/-
  The frame of the attention kernel as printed (any float values): it runs, faults nowhere, leaves its two
  arguments as they were and ends with every counter at zero.  Nothing is said of what it computes: the three
  scratch buffers and the output block are carried through the three loops at contents left unnamed.
-/
module

public import proofs.«01_k».proof.Proof.Gen.Kernel.Frame
public import proofs.«01_k».proof.Proof.Gen.Kernel.Loops
public import proofs.«01_k».proof.Proof.Gen.Kernel.Skeleton
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A memref's buffer on core `c` held at contents `f`. -/
abbrev pt (c : Dev nD) {s : Shape} {e : EltTy} (M : Memref sig .tc .vmem s e) (f : BufTy.Contents (Elt F) M.view.ty) : sProp 𝕄 :=
  M.view.loc (c : Thread nD τ) ↦[M.view.set]{fullShare} f

/-- Before a trip of the first or second loop: the three blocks read at their contents, the three scratch buffers at
    some contents. -/
abbrev invS (c : Dev nD) (a2 a3 a4 : Memref sig .tc .vmem S1x8192x128 .f32) (a7 a8 a9 : Memref sig .tc .vmem S8192x128 .f32)
    (X2 : BufTy.Contents (Elt F) a2.view.ty) (X3 : BufTy.Contents (Elt F) a3.view.ty) (X4 : BufTy.Contents (Elt F) a4.view.ty) :
    sProp 𝕄 :=
  iprop(pt c a2 X2 ∗ pt c a3 X3 ∗ pt c a4 X4 ∗ (∃ f, pt c a7 f) ∗ (∃ f, pt c a8 f) ∗ (∃ f, pt c a9 f))

/-- The first loop (stride 16). -/
@[sl_loop, instance_reducible] def loop1 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x8192x128 .f32) (harg4 : arg4.IsWhole) (arg5 : Memref sig .tc .vmem S1x1x128 .f32) (harg5 : arg5.IsWhole) (arg6 : Memref sig .tc .vmem S8192x128 .bf16) (harg6 : arg6.IsWhole) (arg7 : Memref sig .tc .vmem S8192x128 .f32) (harg7 : arg7.IsWhole) (arg8 : Memref sig .tc .vmem S8192x128 .f32) (harg8 : arg8.IsWhole) (arg9 : Memref sig .tc .vmem S8192x128 .f32) (harg9 : arg9.IsWhole)
    (X2 : BufTy.Contents (Elt F) arg2.view.ty) (X3 : BufTy.Contents (Elt F) arg3.view.ty) (X4 : BufTy.Contents (Elt F) arg4.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 where
  inv _ _ := invS c arg2 arg3 arg4 arg7 arg8 arg9 X2 X3 X4
  step k _ := by
    unfold k0_t1_body
    iintro ⟨H2, H3, H4, ⟨%f7, H7⟩, ⟨%f8, H8⟩, ⟨%f9, H9⟩⟩
    sl_exec
    sl_step
    sl_close

/-- The second loop (stride 4). -/
@[sl_loop, instance_reducible] def loop2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x8192x128 .f32) (harg4 : arg4.IsWhole) (arg5 : Memref sig .tc .vmem S1x1x128 .f32) (harg5 : arg5.IsWhole) (arg6 : Memref sig .tc .vmem S8192x128 .bf16) (harg6 : arg6.IsWhole) (arg7 : Memref sig .tc .vmem S8192x128 .f32) (harg7 : arg7.IsWhole) (arg8 : Memref sig .tc .vmem S8192x128 .f32) (harg8 : arg8.IsWhole) (arg9 : Memref sig .tc .vmem S8192x128 .f32) (harg9 : arg9.IsWhole)
    (X2 : BufTy.Contents (Elt F) arg2.view.ty) (X3 : BufTy.Contents (Elt F) arg3.view.ty) (X4 : BufTy.Contents (Elt F) arg4.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 where
  inv _ _ := invS c arg2 arg3 arg4 arg7 arg8 arg9 X2 X3 X4
  step k _ := by
    unfold k0_t2_body
    iintro ⟨H2, H3, H4, ⟨%f7, H7⟩, ⟨%f8, H8⟩, ⟨%f9, H9⟩⟩
    sl_exec
    sl_step
    sl_close

/-- The third loop (stride 1), which writes the output block. -/
@[sl_loop, instance_reducible] def loop3 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x8192x128 .f32) (harg4 : arg4.IsWhole) (arg5 : Memref sig .tc .vmem S1x1x128 .f32) (harg5 : arg5.IsWhole) (arg6 : Memref sig .tc .vmem S8192x128 .bf16) (harg6 : arg6.IsWhole) (arg7 : Memref sig .tc .vmem S8192x128 .f32) (harg7 : arg7.IsWhole) (arg8 : Memref sig .tc .vmem S8192x128 .f32) (harg8 : arg8.IsWhole) (arg9 : Memref sig .tc .vmem S8192x128 .f32) (harg9 : arg9.IsWhole)
    (X2 : BufTy.Contents (Elt F) arg2.view.ty) (X3 : BufTy.Contents (Elt F) arg3.view.ty) (X4 : BufTy.Contents (Elt F) arg4.view.ty) (X5 : BufTy.Contents (Elt F) arg5.view.ty) :
    LoopInvTy_k0_t3 (F := F) Unit ℕ (UR sig nD τ) ℕ Variants.none c none Set.univ i arg2 harg2 arg3 harg3 arg4 harg4 arg5 harg5 arg6 harg6 arg7 harg7 arg8 harg8 arg9 harg9 where
  inv _ _ := iprop(invS c arg2 arg3 arg4 arg7 arg8 arg9 X2 X3 X4 ∗ pt c arg5 X5 ∗ (∃ f, pt c arg6 f))
  step k _ := by
    unfold k0_t3_body
    iintro ⟨⟨H2, H3, H4, ⟨%f7, H7⟩, ⟨%f8, H8⟩, ⟨%f9, H9⟩⟩, H5, ⟨%f6, H6⟩⟩
    sl_exec
    sl_step
    sl_close

/-- A memref held at some contents, as the pipeline states it. -/
abbrev someOwn (c : Dev nD) {s : Shape} {e : EltTy} (M : Memref sig .tc .vmem s e) : sProp 𝕄 :=
  iprop(∃ d, owns (c : Thread nD τ) M fullShare d)

/-- The whole body: from the four input blocks at their contents and the output block and the scratch at any, the
    three loops run one after the other and everything is handed back, the inputs as they were. -/
theorem kernelRun (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x8192x128 .f32) (harg4 : arg4.IsWhole) (arg5 : Memref sig .tc .vmem S1x1x128 .f32) (harg5 : arg5.IsWhole) (arg6 : Memref sig .tc .vmem S8192x128 .bf16) (harg6 : arg6.IsWhole) (arg7 : Memref sig .tc .vmem S8192x128 .f32) (harg7 : arg7.IsWhole) (arg8 : Memref sig .tc .vmem S8192x128 .f32) (harg8 : arg8.IsWhole) (arg9 : Memref sig .tc .vmem S8192x128 .f32) (harg9 : arg9.IsWhole)
    (d2 : S1x8192x128.Idx → Elt F .f32) (d3 : S1x8192x128.Idx → Elt F .f32) (d4 : S1x8192x128.Idx → Elt F .f32) (d5 : S1x1x128.Idx → Elt F .f32) (K : PUnit → sProp 𝕄) :
    iprop(owns (c : Thread nD τ) arg2 fullShare d2 ∗ owns (c : Thread nD τ) arg3 fullShare d3 ∗ owns (c : Thread nD τ) arg4 fullShare d4
        ∗ owns (c : Thread nD τ) arg5 fullShare d5 ∗ someOwn c arg6 ∗ someOwn c arg7 ∗ someOwn c arg8 ∗ someOwn c arg9
        ∗ (iprop(owns (c : Thread nD τ) arg2 fullShare d2 ∗ owns (c : Thread nD τ) arg3 fullShare d3 ∗ owns (c : Thread nD τ) arg4 fullShare d4
        ∗ owns (c : Thread nD τ) arg5 fullShare d5 ∗ someOwn c arg6 ∗ someOwn c arg7 ∗ someOwn c arg8 ∗ someOwn c arg9) -∗ K ⟨⟩))
      ⊢ wp frame (wpE (defs₀ (F := F)) Variants.none c none) Set.univ
          (cc0_dilated_attention i arg2 harg2 arg3 harg3 arg4 harg4 arg5 harg5 arg6 harg6 arg7 harg7 arg8 harg8 arg9 harg9) K := by
  simp only [cc0_dilated_attention_eq_skeleton]; unfold cc0_dilated_attention_skel
  unfold someOwn owns
  iintro ⟨⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, Hk⟩
  sl_exec
  sl_step
  iapply Hk
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  sl_close

/-! ## The proof data and the launch -/

/-- The output window (the fifth) is forgotten. -/
def forgets0 : Fin 5 → Bool := fun w => w == 4

/-- What the region starts from and what the body leaves: the inputs' blocks stay; the output's is not named. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | w => Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- The region's invariant, buffer by buffer. -/
theorem PhiA_eq (c : Dev nD) : (Pipeline.ΦA spec0 c : sProp 𝕄)
    = iprop((someOwn (F := F) c (Memref.whole cc0_scratch0) ∗ someOwn (F := F) c (Memref.whole cc0_scratch1) ∗ someOwn (F := F) c (Memref.whole cc0_scratch2)) ∗ ∃ r, prngReg c r) := by
  unfold Pipeline.ΦA someOwn; rw [scopedRest0_eq]; simp only [owns_whole]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))
@[inherit_doc bodyPre] def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (∃ d, owns (c : Thread nD τ) (st0_4 t) fullShare d))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0_of m (dats m 0 c) rfl (fun _ => rfl), before0_1_of m (dats m 0 c) rfl (fun _ => rfl),
    before0_2_of m (dats m 0 c) rfl (fun _ => rfl), before0_3_of m (dats m 0 c) rfl (fun _ => rfl)]
  iintro ⟨⟨⟨HA, HM, HL⟩, Hg⟩, HO, ⟨%_, H0⟩, ⟨%_, H1⟩, ⟨%_, H2⟩, ⟨%_, H3⟩, H4⟩
  iapply (kernelRun c (grid0.coords t) (st0_0 t) _ (st0_1 t) _ (st0_2 t) _ (st0_3 t) _ (st0_4 t) _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [HA]; · iexact HA
  isplitl [HM]; · iexact HM
  isplitl [HL]; · iexact HL
  iintro ⟨H0, H1, H2, H3, H4, HA, HM, HL⟩
  isplitl [HA HM HL Hg]
  · isplitl [HA HM HL]
    · isplitl [HA]; · iexact HA
      isplitl [HM]; · iexact HM
      iexact HL
    iexact Hg
  isplitl [HO]; · iexact HO
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

/-- The body obligation of the library, the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole program runs; afterwards the counters are zero and the arrays that are not the output are as launched. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: both arguments end as they began, and every counter at zero. -/
theorem quiet :
    θ_run defs (onTc (τ := τ) (main (F := F))) (s₀ m ρ)
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun r h => ⟨fun c => ⟨by
      have h0 := (h.1 c).1 2
      rw [Pipeline.RDat.ArrAt_in ((dats m 0 c).toRForget forgets0) 2 rfl] at h0
      exact h0.trans (V_main_arg0 m c),
      ((h.1 c).2 main_arg1 (Pipeline.mem_restRefs_of main_arg1 (by decide) (by decide))).trans (V_main_arg1 m c)⟩, h.2⟩) (run_main m ρ)

end Cert.Kernel.Hand

end
-- ==== Proof.KIRun.lean ====
/-
  The attention kernel's three loops, run: what one trip writes into the scratch and the output block, named as a
  function of what the buffers held, and the contents after `k` trips as the iterate of that function.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

/-- Iterating a numbered step: what is held before step `k`. -/
def iter {α : Type} {n : ℕ} (T : Fin n → α → α) (x : α) : ℕ → α
  | 0 => x
  | k + 1 => if h : k < n then T ⟨k, h⟩ (iter T x k) else iter T x k

theorem iter_succ {α : Type} {n : ℕ} (T : Fin n → α → α) (x : α) (k : Fin n) :
    iter T x (k.val + 1) = T k (iter T x k.val) := dif_pos k.isLt

/-- The rows a trip of the first loop writes: 128 of them, 16 apart. -/
abbrev rows1 (k : Fin k0_t1_loop.trips) : Rect S8192x128 := ⟨⟨k0_off3 k, S128x128.size, ![16, 1], k0_off3_inb k⟩, spos_16_1⟩
/-- The rows a trip of the second loop writes: 128 of them, 4 apart. -/
abbrev rows2 (k : Fin k0_t2_loop.trips) : Rect S8192x128 := ⟨⟨k0_off6 k, S128x128.size, ![4, 1], k0_off6_inb k⟩, spos_4_1⟩
/-- The rows a trip of the third loop writes: 128 consecutive ones. -/
abbrev rows3 (k : Fin k0_t3_loop.trips) : Rect S8192x128 := Rect.unit (s := S8192x128) (k0_off9 k) S128x128.size (k0_off9_inb k)
/-- The query rows, and the key rows, of a trip of the first loop. -/
abbrev qrect1 (k : Fin k0_t1_loop.trips) : LoadRect S1x8192x128 := ⟨k0_off1 k, S1x128x128.size, ![1, 16, 1], k0_off1_inb k⟩
@[inherit_doc qrect1] abbrev krect1 (k : Fin k0_t1_loop.trips) : LoadRect S1x8192x128 := ⟨k0_off2 k, S1x256x128.size, ![1, 16, 1], k0_off2_inb k⟩
/-- The query rows, and the key rows, of a trip of the second loop. -/
abbrev qrect2 (k : Fin k0_t2_loop.trips) : LoadRect S1x8192x128 := ⟨k0_off4 k, S1x128x128.size, ![1, 4, 1], k0_off4_inb k⟩
@[inherit_doc qrect2] abbrev krect2 (k : Fin k0_t2_loop.trips) : LoadRect S1x8192x128 := ⟨k0_off5 k, S1x256x128.size, ![1, 4, 1], k0_off5_inb k⟩
/-- The query rows, and the key rows, of a trip of the third loop. -/
abbrev qrect3 (k : Fin k0_t3_loop.trips) : Rect S1x8192x128 := Rect.unit (s := S1x8192x128) (k0_off7 k) S1x128x128.size (k0_off7_inb k)
@[inherit_doc qrect3] abbrev krect3 (k : Fin k0_t3_loop.trips) : Rect S1x8192x128 := Rect.unit (s := S1x8192x128) (k0_off8 k) S1x256x128.size (k0_off8_inb k)

/-- First query of a trip's tile (in units of the stride), as the word the program computes; then the first key. -/
def q1 (k : ℕ) : BitVec 32 := BitVec.ofNat 32 (k % 4 * 128)
@[inherit_doc q1] def k1 (k : ℕ) : BitVec 32 := BitVec.ofNat 32 (min 256 (k % 4 * 128 - 64))
@[inherit_doc q1] def q2 (k : ℕ) : BitVec 32 := BitVec.ofNat 32 (k % 16 * 128)
@[inherit_doc q1] def k2 (k : ℕ) : BitVec 32 := BitVec.ofNat 32 (min 1792 (k % 16 * 128 - 64))

section Trips

variable (arg2 arg3 arg4 : Memref sig .tc .vmem S1x8192x128 .f32) (arg5 : Memref sig .tc .vmem S1x1x128 .f32)
  (arg6 : Memref sig .tc .vmem S8192x128 .bf16) (arg7 arg8 arg9 : Memref sig .tc .vmem S8192x128 .f32)
  (X2 : BufTy.Contents (Elt F) arg2.view.ty) (X3 : BufTy.Contents (Elt F) arg3.view.ty) (X4 : BufTy.Contents (Elt F) arg4.view.ty)
  (X5 : BufTy.Contents (Elt F) arg5.view.ty)

/-- The contents of the three scratch buffers: weighted sums, maxima, sums of weights. -/
abbrev Scr : Type := BufTy.Contents (Elt F) arg7.view.ty × BufTy.Contents (Elt F) arg8.view.ty × BufTy.Contents (Elt F) arg9.view.ty

/-- A trip of the first loop on the scratch. -/
def trip1 (k : Fin k0_t1_loop.trips) (f : Scr (F := F) arg7 arg8 arg9) : Scr (F := F) arg7 arg8 arg9 :=
  (arg7.view.writes (Elt F) f.1 [⟨rows1 k, k0_pay11 k0_pay1 (q1 k.val) (k1 k.val) (k0_pay5 (arg2.view.readAt (Elt F) (qrect1 k) X2)) (arg3.view.readAt (Elt F) (krect1 k) X3) (arg4.view.readAt (Elt F) (krect1 k) X4)⟩],
   arg8.view.writes (Elt F) f.2.1 [⟨rows1 k, k0_pay9 k0_pay1 (q1 k.val) (k1 k.val) (k0_pay5 (arg2.view.readAt (Elt F) (qrect1 k) X2)) (arg3.view.readAt (Elt F) (krect1 k) X3)⟩],
   arg9.view.writes (Elt F) f.2.2 [⟨rows1 k, k0_pay10 k0_pay1 (q1 k.val) (k1 k.val) (k0_pay5 (arg2.view.readAt (Elt F) (qrect1 k) X2)) (arg3.view.readAt (Elt F) (krect1 k) X3)⟩])

/-- A trip of the second loop on the scratch. -/
def trip2 (k : Fin k0_t2_loop.trips) (f : Scr (F := F) arg7 arg8 arg9) : Scr (F := F) arg7 arg8 arg9 :=
  (arg7.view.writes (Elt F) f.1 [⟨rows2 k, k0_pay3 (k0_pay18 k0_pay1 (q2 k.val) (k2 k.val) (k0_pay12 (arg2.view.readAt (Elt F) (qrect2 k) X2)) (arg3.view.readAt (Elt F) (krect2 k) X3) (arg4.view.readAt (Elt F) (krect2 k) X4) (arg8.view.readAt (Elt F) (rows2 k) f.2.1) (arg7.view.readAt (Elt F) (rows2 k) f.1))⟩],
   arg8.view.writes (Elt F) f.2.1 [⟨rows2 k, k0_pay19 k0_pay1 (q2 k.val) (k2 k.val) (k0_pay12 (arg2.view.readAt (Elt F) (qrect2 k) X2)) (arg3.view.readAt (Elt F) (krect2 k) X3) (arg8.view.readAt (Elt F) (rows2 k) f.2.1)⟩],
   arg9.view.writes (Elt F) f.2.2 [⟨rows2 k, k0_pay2 (k0_pay17 k0_pay1 (q2 k.val) (k2 k.val) (k0_pay12 (arg2.view.readAt (Elt F) (qrect2 k) X2)) (arg3.view.readAt (Elt F) (krect2 k) X3) (arg8.view.readAt (Elt F) (rows2 k) f.2.1) (arg9.view.readAt (Elt F) (rows2 k) f.2.2))⟩])

/-- A trip of the third loop on the output block, the scratch holding `f`. -/
def trip3 (f : Scr (F := F) arg7 arg8 arg9) (k : Fin k0_t3_loop.trips) (o : BufTy.Contents (Elt F) arg6.view.ty) : BufTy.Contents (Elt F) arg6.view.ty :=
  arg6.view.writes (Elt F) o [⟨rows3 k, k0_pay4 (k0_pay20 (arg4.view.readAt (Elt F) (krect3 k) X4))
    (k0_pay21 k0_pay1 0#32 1#32 k (arg2.view.readAt (Elt F) (qrect3 k) X2) (arg3.view.readAt (Elt F) (krect3 k) X3))
    (k0_pay22 k0_pay1 0#32 1#32 k (arg2.view.readAt (Elt F) (qrect3 k) X2) (arg3.view.readAt (Elt F) (krect3 k) X3))
    (arg8.view.readAt (Elt F) (rows3 k) f.2.1) (arg9.view.readAt (Elt F) (rows3 k) f.2.2) (arg7.view.readAt (Elt F) (rows3 k) f.1)
    (arg5.view.readAt (Elt F) (Rect.unit (s := S1x1x128) ![0, 0, 0] S1x1x128.size inb_S1x1x128_S1x1x128_0_0_0) X5)⟩]

end Trips

/-- A memref's buffer on core `c` held at contents `f`. -/
abbrev pt (c : Dev nD) {s : Shape} {e : EltTy} (M : Memref sig .tc .vmem s e) (f : BufTy.Contents (Elt F) M.view.ty) : sProp 𝕄 :=
  M.view.loc (c : Thread nD τ) ↦[M.view.set]{fullShare} f

/-- Before a trip of the first or second loop: the three blocks at their contents, the three scratch buffers at `f`. -/
abbrev invS (c : Dev nD) (a2 a3 a4 : Memref sig .tc .vmem S1x8192x128 .f32) (a7 a8 a9 : Memref sig .tc .vmem S8192x128 .f32)
    (X2 : BufTy.Contents (Elt F) a2.view.ty) (X3 : BufTy.Contents (Elt F) a3.view.ty) (X4 : BufTy.Contents (Elt F) a4.view.ty)
    (f : Scr (F := F) a7 a8 a9) : sProp 𝕄 :=
  iprop(pt c a2 X2 ∗ pt c a3 X3 ∗ pt c a4 X4 ∗ pt c a7 f.1 ∗ pt c a8 f.2.1 ∗ pt c a9 f.2.2)

/-- The first loop (stride 16). -/
@[instance_reducible] def loop1 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x8192x128 .f32) (harg4 : arg4.IsWhole) (arg5 : Memref sig .tc .vmem S1x1x128 .f32) (harg5 : arg5.IsWhole) (arg6 : Memref sig .tc .vmem S8192x128 .bf16) (harg6 : arg6.IsWhole) (arg7 : Memref sig .tc .vmem S8192x128 .f32) (harg7 : arg7.IsWhole) (arg8 : Memref sig .tc .vmem S8192x128 .f32) (harg8 : arg8.IsWhole) (arg9 : Memref sig .tc .vmem S8192x128 .f32) (harg9 : arg9.IsWhole)
    (X2 : BufTy.Contents (Elt F) arg2.view.ty) (X3 : BufTy.Contents (Elt F) arg3.view.ty) (X4 : BufTy.Contents (Elt F) arg4.view.ty)
    (G : Scr (F := F) arg7 arg8 arg9) :
    LoopInvTy_k0_t1 (F := F) Unit ℕ (UR sig nD τ) ℕ Variants.none c none Set.univ i arg2 harg2 arg3 harg3 arg4 harg4 arg5 harg5 arg6 harg6 arg7 harg7 arg8 harg8 arg9 harg9 where
  inv k _ := invS c arg2 arg3 arg4 arg7 arg8 arg9 X2 X3 X4 (iter (trip1 arg2 arg3 arg4 arg7 arg8 arg9 X2 X3 X4) G k)
  step k _ := by
    rw [iter_succ]
    generalize iter (trip1 arg2 arg3 arg4 arg7 arg8 arg9 X2 X3 X4) G k.val = f
    unfold k0_t1_body
    iintro ⟨H2, H3, H4, H7, H8, H9⟩
    sl_exec
    sl_step
    have e1 : loop1.sl.v33 k = q1 k.val := (by decide +kernel : ∀ k : Fin k0_t1_loop.trips, loop1.sl.v33 k = q1 k.val) k
    have e2 : loop1.sl.v36 k = k1 k.val := (by decide +kernel : ∀ k : Fin k0_t1_loop.trips, loop1.sl.v36 k = k1 k.val) k
    rw [e1, e2]
    unfold loop1.sl.v43
    unfold trip1 invS
    dsimp only
    sl_close

/-- The second loop (stride 4). -/
@[instance_reducible] def loop2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x8192x128 .f32) (harg4 : arg4.IsWhole) (arg5 : Memref sig .tc .vmem S1x1x128 .f32) (harg5 : arg5.IsWhole) (arg6 : Memref sig .tc .vmem S8192x128 .bf16) (harg6 : arg6.IsWhole) (arg7 : Memref sig .tc .vmem S8192x128 .f32) (harg7 : arg7.IsWhole) (arg8 : Memref sig .tc .vmem S8192x128 .f32) (harg8 : arg8.IsWhole) (arg9 : Memref sig .tc .vmem S8192x128 .f32) (harg9 : arg9.IsWhole)
    (X2 : BufTy.Contents (Elt F) arg2.view.ty) (X3 : BufTy.Contents (Elt F) arg3.view.ty) (X4 : BufTy.Contents (Elt F) arg4.view.ty)
    (G : Scr (F := F) arg7 arg8 arg9) :
    LoopInvTy_k0_t2 (F := F) Unit ℕ (UR sig nD τ) ℕ Variants.none c none Set.univ i arg2 harg2 arg3 harg3 arg4 harg4 arg5 harg5 arg6 harg6 arg7 harg7 arg8 harg8 arg9 harg9 where
  inv k _ := invS c arg2 arg3 arg4 arg7 arg8 arg9 X2 X3 X4 (iter (trip2 arg2 arg3 arg4 arg7 arg8 arg9 X2 X3 X4) G k)
  step k _ := by
    rw [iter_succ]
    generalize iter (trip2 arg2 arg3 arg4 arg7 arg8 arg9 X2 X3 X4) G k.val = f
    unfold k0_t2_body
    iintro ⟨H2, H3, H4, H7, H8, H9⟩
    sl_exec
    sl_step
    unfold loop2.sl.r_1 loop2.sl.r_2 loop2.sl.r
    have e1 : loop2.sl.v33 k = q2 k.val := (by decide +kernel : ∀ k : Fin k0_t2_loop.trips, loop2.sl.v33 k = q2 k.val) k
    have e2 : loop2.sl.v36 k = k2 k.val := (by decide +kernel : ∀ k : Fin k0_t2_loop.trips, loop2.sl.v36 k = k2 k.val) k
    rw [e1, e2]
    unfold loop2.sl.v43
    unfold trip2 invS
    dsimp only
    sl_close

/-- The third loop (stride 1), which writes the output block. -/
@[instance_reducible] def loop3 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x8192x128 .f32) (harg4 : arg4.IsWhole) (arg5 : Memref sig .tc .vmem S1x1x128 .f32) (harg5 : arg5.IsWhole) (arg6 : Memref sig .tc .vmem S8192x128 .bf16) (harg6 : arg6.IsWhole) (arg7 : Memref sig .tc .vmem S8192x128 .f32) (harg7 : arg7.IsWhole) (arg8 : Memref sig .tc .vmem S8192x128 .f32) (harg8 : arg8.IsWhole) (arg9 : Memref sig .tc .vmem S8192x128 .f32) (harg9 : arg9.IsWhole)
    (X2 : BufTy.Contents (Elt F) arg2.view.ty) (X3 : BufTy.Contents (Elt F) arg3.view.ty) (X4 : BufTy.Contents (Elt F) arg4.view.ty) (X5 : BufTy.Contents (Elt F) arg5.view.ty)
    (G : Scr (F := F) arg7 arg8 arg9) (G6 : BufTy.Contents (Elt F) arg6.view.ty) :
    LoopInvTy_k0_t3 (F := F) Unit ℕ (UR sig nD τ) ℕ Variants.none c none Set.univ i arg2 harg2 arg3 harg3 arg4 harg4 arg5 harg5 arg6 harg6 arg7 harg7 arg8 harg8 arg9 harg9 where
  inv k _ := iprop(invS c arg2 arg3 arg4 arg7 arg8 arg9 X2 X3 X4 G ∗ pt c arg5 X5
    ∗ pt c arg6 (iter (trip3 arg2 arg3 arg4 arg5 arg6 arg7 arg8 arg9 X2 X3 X4 X5 G) G6 k))
  step k _ := by
    rw [iter_succ]
    generalize iter (trip3 arg2 arg3 arg4 arg5 arg6 arg7 arg8 arg9 X2 X3 X4 X5 G) G6 k.val = f
    unfold k0_t3_body
    iintro ⟨⟨H2, H3, H4, H7, H8, H9⟩, H5, H6⟩
    sl_exec
    sl_step
    unfold trip3 invS
    sl_close

variable (m : (ℓ : Loc nD τ sig) → Buf (Elt F) ℓ) (ρ : Dev nD → PrngReg)

/-- A memref held at some contents, as the pipeline states it. -/
abbrev someOwn (c : Dev nD) {s : Shape} {e : EltTy} (M : Memref sig .tc .vmem s e) : sProp 𝕄 :=
  iprop(∃ d, owns (c : Thread nD τ) M fullShare d)

/-- The output block after the three loops, run from any contents of the output block and of the scratch. -/
def outBuf (arg2 arg3 arg4 : Memref sig .tc .vmem S1x8192x128 .f32) (arg5 : Memref sig .tc .vmem S1x1x128 .f32)
    (arg6 : Memref sig .tc .vmem S8192x128 .bf16) (arg7 arg8 arg9 : Memref sig .tc .vmem S8192x128 .f32)
    (X2 : BufTy.Contents (Elt F) arg2.view.ty) (X3 : BufTy.Contents (Elt F) arg3.view.ty) (X4 : BufTy.Contents (Elt F) arg4.view.ty)
    (X5 : BufTy.Contents (Elt F) arg5.view.ty) (G6 : BufTy.Contents (Elt F) arg6.view.ty) (G : Scr (F := F) arg7 arg8 arg9) :
    BufTy.Contents (Elt F) arg6.view.ty :=
  iter (trip3 arg2 arg3 arg4 arg5 arg6 arg7 arg8 arg9 X2 X3 X4 X5
    (iter (trip2 arg2 arg3 arg4 arg7 arg8 arg9 X2 X3 X4) (iter (trip1 arg2 arg3 arg4 arg7 arg8 arg9 X2 X3 X4) G 64) 64)) G6 64

/-- `O` is what the body leaves in the output block, as a function of the four input blocks alone: whatever buffers
    stage the blocks, and whatever the output block and the scratch held. -/
def Leaves (O : (S1x8192x128.Idx → Elt F .f32) → (S1x8192x128.Idx → Elt F .f32) → (S1x8192x128.Idx → Elt F .f32) → (S1x1x128.Idx → Elt F .f32) → S8192x128.Idx → Elt F .bf16) : Prop :=
  ∀ (arg2 arg3 arg4 : Memref sig .tc .vmem S1x8192x128 .f32) (arg5 : Memref sig .tc .vmem S1x1x128 .f32)
    (arg6 : Memref sig .tc .vmem S8192x128 .bf16) (arg7 arg8 arg9 : Memref sig .tc .vmem S8192x128 .f32)
    (X2 : BufTy.Contents (Elt F) arg2.view.ty) (X3 : BufTy.Contents (Elt F) arg3.view.ty) (X4 : BufTy.Contents (Elt F) arg4.view.ty)
    (X5 : BufTy.Contents (Elt F) arg5.view.ty) (G6 : BufTy.Contents (Elt F) arg6.view.ty) (G : Scr (F := F) arg7 arg8 arg9),
    arg6.view.read (Elt F) (outBuf arg2 arg3 arg4 arg5 arg6 arg7 arg8 arg9 X2 X3 X4 X5 G6 G)
      = O (arg2.view.read (Elt F) X2) (arg3.view.read (Elt F) X3) (arg4.view.read (Elt F) X4) (arg5.view.read (Elt F) X5)

variable {O : (S1x8192x128.Idx → Elt F .f32) → (S1x8192x128.Idx → Elt F .f32) → (S1x8192x128.Idx → Elt F .f32) → (S1x1x128.Idx → Elt F .f32) → S8192x128.Idx → Elt F .bf16}
  (hO : Leaves O)

include hO in
/-- The whole body: from the four input blocks at their contents and the output block and the scratch at any, the
    three loops run one after the other; the inputs are handed back as they were and the output block at `O`. -/
theorem kernelRun (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x8192x128 .f32) (harg4 : arg4.IsWhole) (arg5 : Memref sig .tc .vmem S1x1x128 .f32) (harg5 : arg5.IsWhole) (arg6 : Memref sig .tc .vmem S8192x128 .bf16) (harg6 : arg6.IsWhole) (arg7 : Memref sig .tc .vmem S8192x128 .f32) (harg7 : arg7.IsWhole) (arg8 : Memref sig .tc .vmem S8192x128 .f32) (harg8 : arg8.IsWhole) (arg9 : Memref sig .tc .vmem S8192x128 .f32) (harg9 : arg9.IsWhole)
    (d2 : S1x8192x128.Idx → Elt F .f32) (d3 : S1x8192x128.Idx → Elt F .f32) (d4 : S1x8192x128.Idx → Elt F .f32) (d5 : S1x1x128.Idx → Elt F .f32) (K : PUnit → sProp 𝕄) :
    iprop(owns (c : Thread nD τ) arg2 fullShare d2 ∗ owns (c : Thread nD τ) arg3 fullShare d3 ∗ owns (c : Thread nD τ) arg4 fullShare d4
        ∗ owns (c : Thread nD τ) arg5 fullShare d5 ∗ someOwn c arg6 ∗ someOwn c arg7 ∗ someOwn c arg8 ∗ someOwn c arg9
        ∗ (iprop(owns (c : Thread nD τ) arg2 fullShare d2 ∗ owns (c : Thread nD τ) arg3 fullShare d3 ∗ owns (c : Thread nD τ) arg4 fullShare d4
        ∗ owns (c : Thread nD τ) arg5 fullShare d5 ∗ owns (c : Thread nD τ) arg6 fullShare (O d2 d3 d4 d5) ∗ someOwn c arg7 ∗ someOwn c arg8 ∗ someOwn c arg9) -∗ K ⟨⟩))
      ⊢ wp frame (wpE (defs₀ (F := F)) Variants.none c none) Set.univ
          (cc0_dilated_attention i arg2 harg2 arg3 harg3 arg4 harg4 arg5 harg5 arg6 harg6 arg7 harg7 arg8 harg8 arg9 harg9) K := by
  simp only [cc0_dilated_attention_eq_skeleton]; unfold cc0_dilated_attention_skel
  unfold someOwn owns
  iintro ⟨⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, Hk⟩
  sl_for (fun k _ => invS c arg2 arg3 arg4 arg7 arg8 arg9 f2 f3 f4 (iter (trip1 arg2 arg3 arg4 arg7 arg8 arg9 f2 f3 f4) (f7, f8, f9) k)) $$ [H2 H3 H4 H7 H8 H9]
  case region => exact (loop1 c i arg2 harg2 arg3 harg3 arg4 harg4 arg5 harg5 arg6 harg6 arg7 harg7 arg8 harg8 arg9 harg9 f2 f3 f4 (f7, f8, f9)).step
  · isplitl [H2]; · iexact H2
    isplitl [H3]; · iexact H3
    isplitl [H4]; · iexact H4
    isplitl [H7]; · iexact H7
    isplitl [H8]; · iexact H8
    iexact H9
  rw [show Scf.trips k0_t1_loop.lb k0_t1_loop.ub k0_t1_loop.st = 64 from by decide +kernel]
  iintro %_ ⟨H2, H3, H4, H7, H8, H9⟩
  sl_for (fun k _ => invS c arg2 arg3 arg4 arg7 arg8 arg9 f2 f3 f4 (iter (trip2 arg2 arg3 arg4 arg7 arg8 arg9 f2 f3 f4) (iter (trip1 arg2 arg3 arg4 arg7 arg8 arg9 f2 f3 f4) (f7, f8, f9) 64) k)) $$ [H2 H3 H4 H7 H8 H9]
  case region => exact (loop2 c i arg2 harg2 arg3 harg3 arg4 harg4 arg5 harg5 arg6 harg6 arg7 harg7 arg8 harg8 arg9 harg9 f2 f3 f4 _).step
  · isplitl [H2]; · iexact H2
    isplitl [H3]; · iexact H3
    isplitl [H4]; · iexact H4
    isplitl [H7]; · iexact H7
    isplitl [H8]; · iexact H8
    iexact H9
  rw [show Scf.trips k0_t2_loop.lb k0_t2_loop.ub k0_t2_loop.st = 64 from by decide +kernel]
  iintro %_ ⟨H2, H3, H4, H7, H8, H9⟩
  sl_for (fun k _ => iprop(invS c arg2 arg3 arg4 arg7 arg8 arg9 f2 f3 f4 (iter (trip2 arg2 arg3 arg4 arg7 arg8 arg9 f2 f3 f4) (iter (trip1 arg2 arg3 arg4 arg7 arg8 arg9 f2 f3 f4) (f7, f8, f9) 64) 64) ∗ pt c arg5 f5
    ∗ pt c arg6 (iter (trip3 arg2 arg3 arg4 arg5 arg6 arg7 arg8 arg9 f2 f3 f4 f5 (iter (trip2 arg2 arg3 arg4 arg7 arg8 arg9 f2 f3 f4) (iter (trip1 arg2 arg3 arg4 arg7 arg8 arg9 f2 f3 f4) (f7, f8, f9) 64) 64)) f6 k))) $$ [H2 H3 H4 H5 H6 H7 H8 H9]
  case region => exact (loop3 c i arg2 harg2 arg3 harg3 arg4 harg4 arg5 harg5 arg6 harg6 arg7 harg7 arg8 harg8 arg9 harg9 f2 f3 f4 f5 _ f6).step
  · isplitl [H2 H3 H4 H7 H8 H9]
    · isplitl [H2]; · iexact H2
      isplitl [H3]; · iexact H3
      isplitl [H4]; · iexact H4
      isplitl [H7]; · iexact H7
      isplitl [H8]; · iexact H8
      iexact H9
    isplitl [H5]; · iexact H5
    iexact H6
  rw [show Scf.trips k0_t3_loop.lb k0_t3_loop.ub k0_t3_loop.st = 64 from by decide +kernel]
  iintro %_ ⟨⟨H2, H3, H4, H7, H8, H9⟩, H5, H6⟩
  sl_step
  iapply Hk
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro
    subst h2 h3 h4 h5
    exact hO arg2 arg3 arg4 arg5 arg6 arg7 arg8 arg9 f2 f3 f4 f5 f6 (f7, f8, f9)
  sl_close

/-! ## The proof data and the launch -/

/-- What the region starts from and what the body leaves: the inputs' blocks stay; the output's is `O` of them. -/

def dats (O : (S1x8192x128.Idx → Elt F .f32) → (S1x8192x128.Idx → Elt F .f32) → (S1x8192x128.Idx → Elt F .f32) → (S1x1x128.Idx → Elt F .f32) → S8192x128.Idx → Elt F .bf16) (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => O (iblk m c 0 t) (iblk m c 1 t) (iblk m c 2 t) (iblk m c 3 t)
  Φ _ := Pipeline.ΦA spec0 c
  q w := Pipeline.shareOf spec0 w
  owed _ := 0

theorem A_eq (c : Dev nD) (w : Fin cfg0.W) : (dats m O 0 c).A w = V m c (Pipeline.arrRef spec0 w) := by dsimp only [dats]

/-- The region's invariant, buffer by buffer. -/
theorem PhiA_eq (c : Dev nD) : (Pipeline.ΦA spec0 c : sProp 𝕄)
    = iprop((someOwn (F := F) c (Memref.whole cc0_scratch0) ∗ someOwn (F := F) c (Memref.whole cc0_scratch1) ∗ someOwn (F := F) c (Memref.whole cc0_scratch2)) ∗ ∃ r, prngReg c r) := by
  unfold Pipeline.ΦA someOwn; rw [scopedRest0_eq]; simp only [owns_whole]

/-- What the body is called with at a point, and what it returns. -/
def bodyPre (O : (S1x8192x128.Idx → Elt F .f32) → (S1x8192x128.Idx → Elt F .f32) → (S1x8192x128.Idx → Elt F .f32) → (S1x1x128.Idx → Elt F .f32) → S8192x128.Idx → Elt F .bf16) (c : Dev nD) (t : Fin cfg0.N) : sProp 𝕄 :=
  iprop((dats m O 0 c).Φ t.castSucc ∗ (dats m O 0 c).owesAt () t.castSucc
    ∗ (∃ d, owns (c : Thread nD τ) (st0_0 t) fullShare ((dats m O 0 c).before 0 t d))
    ∗ (∃ d, owns (c : Thread nD τ) (st0_1 t) fullShare ((dats m O 0 c).before 1 t d))
    ∗ (∃ d, owns (c : Thread nD τ) (st0_2 t) fullShare ((dats m O 0 c).before 2 t d))
    ∗ (∃ d, owns (c : Thread nD τ) (st0_3 t) fullShare ((dats m O 0 c).before 3 t d))
    ∗ (∃ d, owns (c : Thread nD τ) (st0_4 t) fullShare ((dats m O 0 c).before 4 t d)))
@[inherit_doc bodyPre] def bodyPost (O : (S1x8192x128.Idx → Elt F .f32) → (S1x8192x128.Idx → Elt F .f32) → (S1x8192x128.Idx → Elt F .f32) → (S1x1x128.Idx → Elt F .f32) → S8192x128.Idx → Elt F .bf16) (c : Dev nD) (t : Fin cfg0.N) : sProp 𝕄 :=
  iprop((dats m O 0 c).Φ t.succ ∗ (dats m O 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (O (iblk m c 0 t) (iblk m c 1 t) (iblk m c 2 t) (iblk m c 3 t)))

include hO in
/-- The body at a point. -/
theorem sound_body (c : Dev nD) (t : Fin cfg0.N) :
    bodyPre m O c t ⊢ wp frame (wpE (defs₀ (F := F)) Variants.none c none) Set.univ (bodyAt0 t) (fun _ => bodyPost m O c t) := by
  unfold bodyPre bodyPost bodyAt0
  rw [show (dats m O 0 c).Φ t.succ = (dats m O 0 c).Φ t.castSucc from rfl,
    show (dats m O 0 c).owesAt () t.succ = (dats m O 0 c).owesAt () t.castSucc from rfl,
    show (dats m O 0 c).Φ t.castSucc = Pipeline.ΦA spec0 c from rfl, PhiA_eq]
  simp only [before0_0_of m (dats m O 0 c) rfl (fun _ => rfl), before0_1_of m (dats m O 0 c) rfl (fun _ => rfl),
    before0_2_of m (dats m O 0 c) rfl (fun _ => rfl), before0_3_of m (dats m O 0 c) rfl (fun _ => rfl)]
  iintro ⟨⟨⟨HA, HM, HL⟩, Hg⟩, HO, ⟨%_, H0⟩, ⟨%_, H1⟩, ⟨%_, H2⟩, ⟨%_, H3⟩, ⟨%d4, H4⟩⟩
  iapply (kernelRun hO c (grid0.coords t) (st0_0 t) _ (st0_1 t) _ (st0_2 t) _ (st0_3 t) _ (st0_4 t) _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HA]; · iexact HA
  isplitl [HM]; · iexact HM
  isplitl [HL]; · iexact HL
  iintro ⟨H0, H1, H2, H3, H4, HA, HM, HL⟩
  isplitl [HA HM HL Hg]
  · isplitl [HA HM HL]
    · isplitl [HA]; · iexact HA
      isplitl [HM]; · iexact HM
      iexact HL
    iexact Hg
  isplitl [HO]; · iexact HO
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

include hO in
/-- The body obligation of the library. -/
theorem body_obligation (c : Dev nD) :
    BodyObligation (dats (F := F) m O 0 c) (defs₀ (F := F)) Variants.none () Set.univ := fun t => by
  rw [bigSep_W0, bigSep_W0, defs₀_row]
  exact triple_restated (sound_body m hO c t) rfl .rfl fun _ => .rfl

include hO in
set_option backward.isDefEq.respectTransparency.types false in
/-- The whole program runs; afterwards the counters are zero, every window's array holds what the pipeline left in it
    and the other arrays are as launched. -/
theorem run_main :
    θ_run defs (onTc (τ := τ) (main (F := F))) (s₀ m ρ)
      (fun r => Pipeline.FramePost cfgs (dats m O) 0 (V m) r ∧ r.2.sem = fun _ => 0) :=
  Pipeline.θ_run_frame_shared (Q' := _) cfgs (dats m O) (0 : Fin 1) launch₀0 defs₀ Variants.none m ρ main
    (hbody := fun c => (body_obligation m hO c).loose) (hq := fun _ _ _ => rfl)
    (howed := fun _ _ => rfl) (V := V m) (hmain := hmain m Variants.none) (hA := A_eq m) (hΦ := fun _ _ => rfl)

end Cert.KernelIdeal.Hand

end
-- ==== Proof.Math.lean ====
/-
  The mathematics of one attention row, apart from any program: softmax sums over a masked score, their running
  form (rescaled whenever the maximum grows), their form as a softmax of log-sum-exps, and that the two agree.
-/
module

public import Idealize.ShloMosaic.PureOps.Ideal

@[expose] public section

noncomputable section

namespace Attn

open Idealize.ShloMosaic

variable {X : Type} [Fintype X]

/-- The largest score. -/
def M (s : X → EReal) : EReal := Finset.univ.sup s
/-- The sum of the weights `exp (s − μ)`. -/
def L (s : X → EReal) (μ : EReal) : EReal := ∑ x, Ideal.exp (s x - μ)
/-- The sum of the values `w` so weighted. -/
def A (s w : X → EReal) (μ : EReal) : EReal := ∑ x, Ideal.exp (s x - μ) * w x

/-- A score whose entries are real or `⊥` (masked), not all of them masked. -/
structure Score (s : X → EReal) : Prop where
  real : ∀ x, s x = ⊥ ∨ ∃ r : ℝ, s x = r
  some : ∃ x, ∃ r : ℝ, s x = r

/-- The exponential is never negative. -/
theorem exp_nonneg (y : EReal) : 0 ≤ Ideal.exp y := by
  cases y with
  | bot => simp
  | top => simp
  | coe r => simpa using (Real.exp_pos r).le

/-- A real factor that is not negative distributes over a finite sum. -/
theorem mul_sum (c : ℝ) (hc : 0 ≤ c) {ι : Type} (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (EReal.coe_nonneg.2 hc) (EReal.coe_ne_top c), ih]

/-- Rescaling one weight from the reference point `μ` to `ν`. -/
theorem exp_shift {y : EReal} (hy : y = ⊥ ∨ ∃ r : ℝ, y = r) (μ ν : ℝ) :
    ((Real.exp (μ - ν) : ℝ) : EReal) * Ideal.exp (y - μ) = Ideal.exp (y - ν) := by
  rcases hy with rfl | ⟨r, rfl⟩
  · simp [sub_eq_add_neg]
  · rw [← EReal.coe_sub, ← EReal.coe_sub, Ideal.exp_coe, Ideal.exp_coe, ← EReal.coe_mul, ← Real.exp_add]
    congr 2; ring

theorem exp_sub_coe (μ ν : ℝ) : Ideal.exp ((μ : EReal) - ν) = ((Real.exp (μ - ν) : ℝ) : EReal) := by
  rw [← EReal.coe_sub, Ideal.exp_coe]

variable {s w : X → EReal}

/-- The sum of weights, rescaled. -/
theorem shiftL (hs : Score s) (μ ν : ℝ) : Ideal.exp ((μ : EReal) - ν) * L s μ = L s ν := by
  rw [exp_sub_coe]; unfold L
  rw [mul_sum _ (Real.exp_pos _).le]
  exact Finset.sum_congr rfl fun x _ => exp_shift (hs.real x) μ ν

/-- The weighted sum, rescaled. -/
theorem shiftA (hs : Score s) (μ ν : ℝ) : Ideal.exp ((μ : EReal) - ν) * A s w μ = A s w ν := by
  rw [exp_sub_coe]; unfold A
  rw [mul_sum _ (Real.exp_pos _).le]
  exact Finset.sum_congr rfl fun x _ => by rw [← mul_assoc, exp_shift (hs.real x) μ ν]

/-- The largest score is real. -/
theorem M_real (hs : Score s) : ∃ r : ℝ, M s = r := by
  obtain ⟨x, r, hx⟩ := hs.some
  have hne : (Finset.univ : Finset X).Nonempty := ⟨x, Finset.mem_univ x⟩
  obtain ⟨y, -, hy⟩ := Finset.exists_mem_eq_sup _ hne s
  rcases hs.real y with h | ⟨q, h⟩
  · have : (r : EReal) ≤ M s := hx ▸ Finset.le_sup (f := s) (Finset.mem_univ x)
    unfold M at this; rw [hy, h] at this
    exact absurd (le_bot_iff.1 this) (EReal.coe_ne_bot r)
  · exact ⟨q, hy.trans h⟩

/-- The sum of weights is a positive real. -/
theorem L_real (hs : Score s) (μ : ℝ) : ∃ r : ℝ, 0 < r ∧ L s μ = r := by
  classical
  obtain ⟨x, r, hx⟩ := hs.some
  have key : ∀ y, ∃ q : ℝ, 0 ≤ q ∧ Ideal.exp (s y - μ) = q := by
    intro y
    rcases hs.real y with h | ⟨q, h⟩
    · exact ⟨0, le_rfl, by simp [h, sub_eq_add_neg]⟩
    · exact ⟨Real.exp (q - μ), (Real.exp_pos _).le, by rw [h, exp_sub_coe]⟩
  choose f hf0 hf using key
  refine ⟨∑ y, f y, ?_, ?_⟩
  · refine Finset.sum_pos' (fun y _ => hf0 y) ⟨x, Finset.mem_univ x, ?_⟩
    have : ((f x : ℝ) : EReal) = ((Real.exp (r - μ) : ℝ) : EReal) := by rw [← hf x, hx, exp_sub_coe]
    rw [EReal.coe_eq_coe_iff.1 this]; exact Real.exp_pos _
  · unfold L
    rw [Finset.sum_congr rfl fun y _ => hf y]
    induction (Finset.univ : Finset X) using Finset.induction_on with
    | empty => simp
    | insert a t ha ih => rw [Finset.sum_insert ha, Finset.sum_insert ha, ih, EReal.coe_add]

/-- The log-sum-exp of a branch, as `max + log (sum)`. -/
def lse (s : X → EReal) : EReal := M s + Ideal.log (L s (M s))

/-- It is real, and weighting by it is rescaling the sum of weights. -/
theorem lse_real (hs : Score s) : ∃ r : ℝ, lse s = r ∧ ∀ ν : ℝ, Ideal.exp ((r : EReal) - ν) = L s ν := by
  obtain ⟨μ, hμ⟩ := M_real hs
  obtain ⟨D, hD, hL⟩ := L_real hs μ
  refine ⟨μ + Real.log D, ?_, fun ν => ?_⟩
  · unfold lse; rw [hμ, hL, Ideal.log_coe, if_neg (not_le.2 hD), ← EReal.coe_add]
  · rw [← shiftL hs μ ν, hL, exp_sub_coe, exp_sub_coe, ← EReal.coe_mul]
    congr 1
    rw [show μ + Real.log D - ν = (μ - ν) + Real.log D by ring, Real.exp_add, Real.exp_log hD]

/-- Three branches folded one after the other into a running maximum, sum of weights and weighted sum, then divided. -/
def running (s : Fin 3 → X → EReal) (w : X → EReal) : EReal :=
  let m1 := M (s 2)
  let m2 := max m1 (M (s 1))
  let m3 := max m2 (M (s 0))
  Ideal.div (Ideal.exp (m2 - m3) * (Ideal.exp (m1 - m2) * A (s 2) w m1 + A (s 1) w m2) + A (s 0) w m3)
    (Ideal.exp (m2 - m3) * (Ideal.exp (m1 - m2) * L (s 2) m1 + L (s 1) m2) + L (s 0) m3)

/-- Three branches each softmaxed by itself, then averaged with the softmax of their log-sum-exps. -/
def combined (s : Fin 3 → X → EReal) (w : X → EReal) : EReal :=
  let Λ := Finset.univ.sup fun i => lse (s i)
  ∑ i, Ideal.div (Ideal.exp (lse (s i) - Λ)) (∑ j, Ideal.exp (lse (s j) - Λ)) * Ideal.div (A (s i) w (M (s i))) (L (s i) (M (s i)))

/-- The weights of all branches over all keys, summed against one reference point. -/
theorem running_eq (s : Fin 3 → X → EReal) (w : X → EReal) (hs : ∀ i, Score (s i)) :
    ∃ μ : ℝ, running s w = Ideal.div (∑ i, A (s i) w μ) (∑ i, L (s i) μ) := by
  obtain ⟨μ0, h0⟩ := M_real (hs 0)
  obtain ⟨μ1, h1⟩ := M_real (hs 1)
  obtain ⟨μ2, h2⟩ := M_real (hs 2)
  have e2 : max (M (s 2)) (M (s 1)) = ((max μ2 μ1 : ℝ) : EReal) := by
    rw [h1, h2]; exact (EReal.coe_strictMono.monotone.map_max).symm
  have e3 : max (((max μ2 μ1 : ℝ) : EReal)) (M (s 0)) = ((max (max μ2 μ1) μ0 : ℝ) : EReal) := by
    rw [h0]; exact (EReal.coe_strictMono.monotone.map_max).symm
  have dist : ∀ (a b : ℝ) (x y : EReal), Ideal.exp ((a : EReal) - b) * (x + y) = Ideal.exp ((a : EReal) - b) * x + Ideal.exp ((a : EReal) - b) * y := by
    intro a b x y
    rw [exp_sub_coe, EReal.left_distrib_of_nonneg_of_ne_top (EReal.coe_nonneg.2 (Real.exp_pos _).le) (EReal.coe_ne_top _)]
  refine ⟨max (max μ2 μ1) μ0, ?_⟩
  unfold running
  dsimp only
  rw [e2, e3, h2]
  rw [shiftA (hs 2), shiftL (hs 2), dist, dist, shiftA (hs 2), shiftL (hs 2), shiftA (hs 1), shiftL (hs 1),
    Fin.sum_univ_three, Fin.sum_univ_three]
  congr 1 <;> abel

theorem combined_eq (s : Fin 3 → X → EReal) (w : X → EReal) (hs : ∀ i, Score (s i)) :
    ∃ μ : ℝ, combined s w = Ideal.div (∑ i, A (s i) w μ) (∑ i, L (s i) μ) := by
  choose r hr hrL using fun i => lse_real (hs i)
  choose μ hμ using fun i => M_real (hs i)
  obtain ⟨i0, -, hi0⟩ := Finset.exists_mem_eq_sup Finset.univ Finset.univ_nonempty fun i => lse (s i)
  refine ⟨r i0, ?_⟩
  choose D hD hL using fun i => L_real (hs i) (r i0)
  choose E hE hLE using fun i => L_real (hs i) (μ i)
  have hsum : ∑ j, L (s j) (r i0) = ((∑ j, D j : ℝ) : EReal) := by
    simp only [hL, Fin.sum_univ_three, EReal.coe_add]
  have hpos : (∑ j, D j) ≠ 0 := (Finset.sum_pos (fun i _ => hD i) Finset.univ_nonempty).ne'
  unfold combined
  dsimp only
  rw [hi0]
  simp only [hr, hrL]
  rw [hsum, Ideal.div_coe hpos, mul_comm, mul_sum _ (one_div_nonneg.2 (Finset.sum_nonneg fun i _ => (hD i).le))]
  refine Finset.sum_congr rfl fun i _ => ?_
  rw [Ideal.div_coe hpos, hμ, hLE, Ideal.div_coe (hE i).ne', ← shiftA (hs i) (μ i) (r i0), ← shiftL (hs i) (μ i) (r i0), hLE, exp_sub_coe]
  have hone : ((E i : ℝ) : EReal) * ((1 / E i : ℝ) : EReal) = 1 := by
    rw [← EReal.coe_mul, mul_one_div_cancel (hE i).ne']; rfl
  generalize ((Real.exp (μ i - r i0) : ℝ) : EReal) = c
  generalize ((1 / (∑ j, D j) : ℝ) : EReal) = t
  calc c * (E i : EReal) * t * (A (s i) w (μ i) * ((1 / E i : ℝ) : EReal))
      = t * (c * A (s i) w (μ i)) * ((E i : EReal) * ((1 / E i : ℝ) : EReal)) := by
        simp only [mul_assoc, mul_left_comm, mul_comm]
    _ = _ := by rw [hone, mul_one]

/-- The quotient of the two sums does not depend on the reference point. -/
theorem quot_shift (s : Fin 3 → X → EReal) (w : X → EReal) (hs : ∀ i, Score (s i)) (μ ν : ℝ) :
    Ideal.div (∑ i, A (s i) w μ) (∑ i, L (s i) μ) = Ideal.div (∑ i, A (s i) w ν) (∑ i, L (s i) ν) := by
  choose D hD hL using fun i => L_real (hs i) μ
  have hpos : (0 : ℝ) < ∑ j, D j := Finset.sum_pos (fun i _ => hD i) Finset.univ_nonempty
  have hsum : ∑ j, L (s j) μ = ((∑ j, D j : ℝ) : EReal) := by
    simp only [hL, Fin.sum_univ_three, EReal.coe_add]
  have hc := Real.exp_pos (μ - ν)
  have eA : ∑ i, A (s i) w ν = ((Real.exp (μ - ν) : ℝ) : EReal) * ∑ i, A (s i) w μ := by
    rw [mul_sum _ hc.le]
    exact Finset.sum_congr rfl fun i _ => by rw [← exp_sub_coe, shiftA (hs i)]
  have eL : ∑ i, L (s i) ν = ((Real.exp (μ - ν) * ∑ j, D j : ℝ) : EReal) := by
    rw [EReal.coe_mul, ← hsum, mul_sum _ hc.le]
    exact Finset.sum_congr rfl fun i _ => by rw [← exp_sub_coe, shiftL (hs i)]
  rw [eA, eL, hsum, Ideal.div_coe hpos.ne', Ideal.div_coe (mul_pos hc hpos).ne', mul_comm ((Real.exp (μ - ν) : ℝ) : EReal), mul_assoc, ← EReal.coe_mul]
  congr 2
  field_simp

/-- The two ways of combining three branches agree. -/
theorem running_eq_combined (s : Fin 3 → X → EReal) (w : X → EReal) (hs : ∀ i, Score (s i)) :
    running s w = combined s w := by
  obtain ⟨μ, h⟩ := running_eq s w hs
  obtain ⟨ν, h'⟩ := combined_eq s w hs
  rw [h, h', quot_shift s w hs μ ν]

/-! ### A window of the keys -/

/-- The keys a window of `n` entries shows: entry `i` shows key `φ i` when `P i`, and exactly the keys `ok` are shown,
    each once. -/
structure Win {n : ℕ} (φ : Fin n → X) (P : Fin n → Prop) (ok : X → Prop) : Prop where
  inj : ∀ i j, P i → P j → φ i = φ j → i = j
  sound : ∀ i, P i → ok (φ i)
  hit : ∀ x, ok x → ∃ i, P i ∧ φ i = x

variable {n : ℕ} {φ : Fin n → X} {P : Fin n → Prop} {ok : X → Prop}

/-- A sum over the window is the sum over all keys, when what is not shown counts for nothing. -/
theorem Win.sum (h : Win φ P ok) (g : Fin n → EReal) (G : X → EReal) (hg : ∀ i, P i → g i = G (φ i))
    (hg0 : ∀ i, ¬ P i → g i = 0) (hG0 : ∀ x, ¬ ok x → G x = 0) : ∑ i, g i = ∑ x, G x := by
  classical
  rw [← Finset.sum_filter_of_ne (s := Finset.univ) (p := P) (fun i _ hi => by_contra fun hP => hi (hg0 i hP)),
    ← Finset.sum_filter_of_ne (s := Finset.univ) (f := G) (p := ok) (fun x _ hx => by_contra fun hP => hx (hG0 x hP))]
  refine Finset.sum_bij (fun i _ => φ i) ?_ ?_ ?_ ?_
  · intro i hi; simp only [Finset.mem_filter, Finset.mem_univ, true_and] at hi ⊢; exact h.sound i hi
  · intro i hi j hj e
    simp only [Finset.mem_filter, Finset.mem_univ, true_and] at hi hj
    exact h.inj i j hi hj e
  · intro x hx
    simp only [Finset.mem_filter, Finset.mem_univ, true_and] at hx
    obtain ⟨i, hi, e⟩ := h.hit x hx
    exact ⟨i, by simpa using hi, e⟩
  · intro i hi
    simp only [Finset.mem_filter, Finset.mem_univ, true_and] at hi
    exact hg i hi

/-- A maximum over the window likewise. -/
theorem Win.sup (h : Win φ P ok) (g : Fin n → EReal) (G : X → EReal) (hg : ∀ i, P i → g i = G (φ i))
    (hg0 : ∀ i, ¬ P i → g i = ⊥) (hG0 : ∀ x, ¬ ok x → G x = ⊥) : Finset.univ.sup g = Finset.univ.sup G := by
  classical
  apply le_antisymm
  · refine Finset.sup_le fun i _ => ?_
    by_cases hi : P i
    · rw [hg i hi]; exact Finset.le_sup (f := G) (Finset.mem_univ _)
    · rw [hg0 i hi]; exact bot_le
  · refine Finset.sup_le fun x _ => ?_
    by_cases hx : ok x
    · obtain ⟨i, hi, rfl⟩ := h.hit x hx
      rw [← hg i hi]; exact Finset.le_sup (f := g) (Finset.mem_univ _)
    · rw [hG0 x hx]; exact bot_le

variable [DecidablePred P] [DecidablePred ok]

/-- The maximum, the sum of weights and the weighted sum of a masked window are those of the masked score over all
    keys. -/
theorem Win.all (h : Win φ P ok) (t : Fin n → EReal) (S : X → EReal) (ht : ∀ i, P i → t i = S (φ i)) :
    M (fun i => if P i then t i else ⊥) = M (fun x => if ok x then S x else ⊥)
    ∧ (∀ μ, L (fun i => if P i then t i else ⊥) μ = L (fun x => if ok x then S x else ⊥) μ)
    ∧ ∀ (v : Fin n → EReal) (w : X → EReal) (_ : ∀ i, P i → v i = w (φ i)) μ,
        A (fun i => if P i then t i else ⊥) v μ = A (fun x => if ok x then S x else ⊥) w μ := by
  have hb : ∀ μ : EReal, Ideal.exp (⊥ - μ) = 0 := fun μ => by rw [sub_eq_add_neg, EReal.bot_add, Ideal.exp_bot]
  refine ⟨h.sup _ _ ?_ ?_ ?_, fun μ => h.sum _ _ ?_ ?_ ?_, fun v w hv μ => h.sum _ _ ?_ ?_ ?_⟩
  · intro i hi; simp only [if_pos hi, if_pos (h.sound i hi), ht i hi]
  · intro i hi; simp only [if_neg hi]
  · intro x hx; simp only [if_neg hx]
  · intro i hi; simp only [if_pos hi, if_pos (h.sound i hi), ht i hi]
  · intro i hi; simp only [if_neg hi, hb]
  · intro x hx; simp only [if_neg hx, hb]
  · intro i hi; simp only [if_pos hi, if_pos (h.sound i hi), ht i hi, hv i hi]
  · intro i hi; simp only [if_neg hi, hb, zero_mul]
  · intro x hx; simp only [if_neg hx, hb, zero_mul]

end Attn

end
-- ==== Proof.KTile.lean ====
/-
  What one tile of 128 queries computes from its window of 256 keys, at exact real arithmetic: the row maximum, the
  sum of weights and the weighted sum of the masked scores, fresh (stride 16) or folded into those of the strides
  before (strides 4 and 1); and the normed output row the last stride writes.
-/
module

public import proofs.«01_k».proof.Proof.Gen.KernelIdeal.Skeleton
public import Idealize.ShloMosaic.Lib.Pointwise
public import proofs.«01_k».proof.Proof.Math

@[expose] public section

noncomputable section

namespace Cert.KernelIdeal.Hand

open Cert.KernelIdeal Cert.KernelIdeal.Gen
open Idealize.ShloMosaic

/-- The accumulator of a maximum is the least extended real. -/
theorem ofBits_neg_inf : Ideal.ofBits FTy.f32 4286578688#32 = ⊥ := by rfl

/-- A maximum folded from the least extended real is the supremum. -/
theorem fold_max_eq {n : ℕ} (f : Fin n → EReal) : Finset.fold max (Ideal.ofBits FTy.f32 4286578688#32) f Finset.univ = Attn.M f := by
  rw [ofBits_neg_inf]; rfl

/-- The two halves of a sum over a window of 256. -/
theorem split256 (f : Fin 256 → EReal) (h1 : ∀ x : Fin 128, x.val < 256) (h2 : ∀ x : Fin 128, 128 + x.val < 256) :
    (∑ x : Fin 128, f ⟨x.val, h1 x⟩) + ∑ x : Fin 128, f ⟨128 + x.val, h2 x⟩ = ∑ x, f x :=
  (Fin.sum_univ_add (a := 128) (b := 128) f).symm

/-- A small signed word's value. -/
theorem toInt_small (n : ℕ) (h : n ≤ 100000) : (BitVec.ofNat 32 n).toInt = n := by
  rw [BitVec.toInt_eq_toNat_cond, BitVec.toNat_ofNat, Nat.mod_eq_of_lt (by omega)]
  rw [if_pos (by omega)]

theorem bmod_small (z : ℤ) (h1 : -1000000 ≤ z) (h2 : z ≤ 1000000) : z.bmod (2 ^ 32) = z := by
  rw [Int.bmod_eq_of_le] <;> omega

/-- The window's mask, computed on words, says how far apart the query and the key are. -/
theorem mask_iff (a b i kk : ℕ) (ha : a ≤ 8192) (hb : b ≤ 8192) (hi : i ≤ 8192) (hk : kk ≤ 8192) :
    IntOp.cmpi .sle (IntOp.absi (IntOp.addi (IntOp.subi (BitVec.ofNat 32 kk) (BitVec.ofNat 32 i)) (Scalar.subi (BitVec.ofNat 32 b) (BitVec.ofNat 32 a)))) 64#32 = 1#1
      ↔ (b + kk ≤ a + i + 64 ∧ a + i ≤ b + kk + 64) := by
  have e : (IntOp.addi (IntOp.subi (BitVec.ofNat 32 kk) (BitVec.ofNat 32 i)) (Scalar.subi (BitVec.ofNat 32 b) (BitVec.ofNat 32 a)) : BitVec 32).toInt
      = (kk : ℤ) - i + ((b : ℤ) - a) := by
    show (((BitVec.ofNat 32 kk) - (BitVec.ofNat 32 i)) + ((BitVec.ofNat 32 b) - (BitVec.ofNat 32 a)) : BitVec 32).toInt = _
    rw [BitVec.toInt_add, BitVec.toInt_sub, BitVec.toInt_sub, toInt_small _ (by omega), toInt_small _ (by omega), toInt_small _ (by omega), toInt_small _ (by omega)]
    rw [bmod_small ((kk : ℤ) - i) (by omega) (by omega), bmod_small ((b : ℤ) - a) (by omega) (by omega), bmod_small _ (by omega) (by omega)]
  revert e
  generalize (IntOp.addi (IntOp.subi (BitVec.ofNat 32 kk) (BitVec.ofNat 32 i)) (Scalar.subi (BitVec.ofNat 32 b) (BitVec.ofNat 32 a)) : BitVec 32) = w
  intro e
  have h64 : (64#32 : BitVec 32).toInt = 64 := by decide
  have hneg : (-w).toInt = -w.toInt := by
    rw [BitVec.toInt_neg, bmod_small _ (by omega) (by omega)]
  have habs : (IntOp.absi w).toInt = |w.toInt| := by
    show (if w.msb then -w else w).toInt = _
    rw [BitVec.msb_eq_toInt]
    by_cases hw : w.toInt < 0
    · rw [decide_eq_true hw, if_pos rfl, hneg, abs_of_neg hw]
    · rw [decide_eq_false hw, if_neg (by simp), abs_of_nonneg (by omega)]
  have : IntOp.cmpi .sle (IntOp.absi w) 64#32 = BitVec.ofBool (decide ((IntOp.absi w).toInt ≤ (64#32 : BitVec 32).toInt)) := rfl
  rw [this, habs, h64]
  have hb : ∀ p : Bool, BitVec.ofBool p = 1#1 ↔ p = true := by decide
  rw [hb, decide_eq_true_iff, abs_le, e]
  omega

/-- Row `i` of a tile's masked scores: queries from `a`, keys from `b` (counted in the stride). -/
def tsc (a b : ℕ) (q : Vec Ideal S1x128x128 .f32) (kb : Vec Ideal S1x256x128 .f32) (i : Fin 128) (kk : Fin 256) : EReal :=
  if b + kk.val ≤ a + i.val + 64 ∧ a + i.val ≤ b + kk.val + 64 then ∑ e : Fin 128, q (ix3 0 i e) * kb (ix3 0 kk e) else ⊥

/-- The selected score is the masked one. -/
theorem select_mask (a b i kk : ℕ) (ha : a ≤ 8192) (hb : b ≤ 8192) (hi : i ≤ 8192) (hk : kk ≤ 8192) (x : EReal) :
    Scalar.select (IntOp.cmpi .sle (IntOp.absi (IntOp.addi (IntOp.subi (BitVec.ofNat 32 kk) (BitVec.ofNat 32 i)) (Scalar.subi (BitVec.ofNat 32 b) (BitVec.ofNat 32 a)))) 64#32)
      (x : Ideal .f32) (Named.named (F := Ideal) (φ := .f32) κ "mask" 4048155338#32 : Ideal .f32) = if b + kk ≤ a + i + 64 ∧ a + i ≤ b + kk + 64 then x else (⊥ : EReal) := by
  have hm : (Named.named (F := Ideal) (φ := .f32) κ "mask" 4048155338#32 : EReal) = ⊥ := rfl
  unfold Scalar.select
  by_cases h : b + kk ≤ a + i + 64 ∧ a + i ≤ b + kk + 64
  · rw [if_pos h]; exact if_pos ((mask_iff a b i kk ha hb hi hk).2 h)
  · rw [if_neg h]; exact (if_neg (fun h' => h ((mask_iff a b i kk ha hb hi hk).1 h'))).trans hm

section Tile

variable (a b : ℕ) (ha : a ≤ 8192) (hb : b ≤ 8192) (q : Vec Ideal S1x128x128 .f32) (kb v : Vec Ideal S1x256x128 .f32) (i : Fin 128)

include ha hb

theorem pay6_at (kk : Fin 256) : k0_pay6 (F := Ideal) k0_pay1 (BitVec.ofNat 32 a) (BitVec.ofNat 32 b) (k0_pay5 q) kb (ix2 i kk) = tsc a b q kb i kk := by
  unfold k0_pay6 k0_pay5 k0_pay1; pointwise
  exact select_mask a b i.val kk.val ha hb (by omega) (by omega) _

theorem pay13_at (kk : Fin 256) : k0_pay13 (F := Ideal) k0_pay1 (BitVec.ofNat 32 a) (BitVec.ofNat 32 b) (k0_pay12 q) kb (ix2 i kk) = tsc a b q kb i kk := by
  unfold k0_pay13 k0_pay12 k0_pay1; pointwise
  exact select_mask a b i.val kk.val ha hb (by omega) (by omega) _

theorem pay7_at (j : Fin 128) : k0_pay7 (F := Ideal) k0_pay1 (BitVec.ofNat 32 a) (BitVec.ofNat 32 b) (k0_pay5 q) kb (ix2 i j) = Attn.M (tsc a b q kb i) := by
  unfold k0_pay7; pointwise
  simp only [fold_max_eq, pay6_at a b ha hb q kb]

theorem pay9_at (j : Fin 128) : k0_pay9 (F := Ideal) k0_pay1 (BitVec.ofNat 32 a) (BitVec.ofNat 32 b) (k0_pay5 q) kb (ix2 i j) = Attn.M (tsc a b q kb i) := by
  unfold k0_pay9; pointwise
  exact pay7_at a b ha hb q kb i _

theorem pay10_at (j : Fin 128) : k0_pay10 (F := Ideal) k0_pay1 (BitVec.ofNat 32 a) (BitVec.ofNat 32 b) (k0_pay5 q) kb (ix2 i j)
    = Attn.L (tsc a b q kb i) (Attn.M (tsc a b q kb i)) := by
  unfold k0_pay10 k0_pay8; pointwise
  simp only [pay7_at a b ha hb q kb, pay6_at a b ha hb q kb]
  exact split256 (fun kk => Ideal.exp (tsc a b q kb i kk - Attn.M (tsc a b q kb i))) _ _

theorem pay11_at (j : Fin 128) : k0_pay11 (F := Ideal) k0_pay1 (BitVec.ofNat 32 a) (BitVec.ofNat 32 b) (k0_pay5 q) kb v (ix2 i j)
    = Attn.A (tsc a b q kb i) (fun kk => v (ix3 0 kk j)) (Attn.M (tsc a b q kb i)) := by
  unfold k0_pay11 k0_pay8; pointwise
  simp only [pay7_at a b ha hb q kb, pay6_at a b ha hb q kb]
  exact split256 (fun kk => Ideal.exp (tsc a b q kb i kk - Attn.M (tsc a b q kb i)) * v (ix3 0 kk j)) _ _

variable (m l acc : Vec Ideal S128x128 .f32) (μ : EReal) (hm : ∀ j : Fin 128, m (ix2 i j) = μ)

include hm

theorem pay14_at (j : Fin 128) : k0_pay14 (F := Ideal) k0_pay1 (BitVec.ofNat 32 a) (BitVec.ofNat 32 b) (k0_pay12 q) kb m (ix2 i j)
    = max μ (Attn.M (tsc a b q kb i)) := by
  unfold k0_pay14; pointwise
  simp only [fold_max_eq, pay13_at a b ha hb q kb, hm]

theorem pay19_at (j : Fin 128) : k0_pay19 (F := Ideal) k0_pay1 (BitVec.ofNat 32 a) (BitVec.ofNat 32 b) (k0_pay12 q) kb m (ix2 i j)
    = max μ (Attn.M (tsc a b q kb i)) := by
  unfold k0_pay19; pointwise
  exact pay14_at a b ha hb q kb i m μ hm _

theorem pay17_at (j : Fin 128) : k0_pay2 (k0_pay17 (F := Ideal) k0_pay1 (BitVec.ofNat 32 a) (BitVec.ofNat 32 b) (k0_pay12 q) kb m l) (ix2 i j)
    = Ideal.exp (μ - max μ (Attn.M (tsc a b q kb i))) * l (ix2 i j) + Attn.L (tsc a b q kb i) (max μ (Attn.M (tsc a b q kb i))) := by
  unfold k0_pay2 k0_pay17 k0_pay15 k0_pay16; pointwise
  simp only [pay14_at a b ha hb q kb i m μ hm, pay13_at a b ha hb q kb, hm]
  exact congrArg _ (split256 (fun kk => Ideal.exp (tsc a b q kb i kk - max μ (Attn.M (tsc a b q kb i)))) _ _)

theorem pay18_at (j : Fin 128) : k0_pay3 (k0_pay18 (F := Ideal) k0_pay1 (BitVec.ofNat 32 a) (BitVec.ofNat 32 b) (k0_pay12 q) kb v m acc) (ix2 i j)
    = Ideal.exp (μ - max μ (Attn.M (tsc a b q kb i))) * acc (ix2 i j) + Attn.A (tsc a b q kb i) (fun kk => v (ix3 0 kk j)) (max μ (Attn.M (tsc a b q kb i))) := by
  unfold k0_pay3 k0_pay18 k0_pay15 k0_pay16; pointwise
  simp only [pay14_at a b ha hb q kb i m μ hm, pay13_at a b ha hb q kb, hm]
  exact congrArg _ (split256 (fun kk => Ideal.exp (tsc a b q kb i kk - max μ (Attn.M (tsc a b q kb i))) * v (ix3 0 kk j)) _ _)

end Tile

/-- First query and first key of a tile of the third loop. -/
def a3 (k : ℕ) : ℕ := k * 128
@[inherit_doc a3] def b3 (k : ℕ) : ℕ := min 7936 (k * 128 - 64)

/-- The words the third loop computes them as. -/
def q3w (k : Fin k0_t3_loop.trips) : BitVec 32 :=
  Scalar.muli (Scalar.select (Scalar.andi (Scalar.xori (Scalar.cmpi .slt (Scalar.remsi (Scf.iv 0#32 1#32 k.val) (Scalar.select (Scalar.cmpi .eq 64#32 0#32) 1#32 64#32)) 0#32) (Scalar.cmpi .slt (Scalar.select (Scalar.cmpi .eq 64#32 0#32) 1#32 64#32) 0#32)) (Scalar.cmpi .ne (Scalar.remsi (Scf.iv 0#32 1#32 k.val) (Scalar.select (Scalar.cmpi .eq 64#32 0#32) 1#32 64#32)) 0#32)) (Scalar.addi (Scalar.remsi (Scf.iv 0#32 1#32 k.val) (Scalar.select (Scalar.cmpi .eq 64#32 0#32) 1#32 64#32)) (Scalar.select (Scalar.cmpi .eq 64#32 0#32) 1#32 64#32)) (Scalar.remsi (Scf.iv 0#32 1#32 k.val) (Scalar.select (Scalar.cmpi .eq 64#32 0#32) 1#32 64#32))) 128#32

theorem q3w_eq : ∀ k : Fin k0_t3_loop.trips, q3w k = BitVec.ofNat 32 (a3 k.val) := by decide +kernel

theorem k3w_eq : ∀ k : Fin k0_t3_loop.trips, Scalar.minsi (7936#32) (Scalar.maxsi (0#32) (Scalar.subi (q3w k) 64#32)) = BitVec.ofNat 32 (b3 k.val) := by decide +kernel

section Last

variable (k : Fin k0_t3_loop.trips) (q : Vec Ideal S1x128x128 .f32) (kb v : Vec Ideal S1x256x128 .f32) (i : Fin 128)

theorem pay21_at (kk : Fin 256) : k0_pay21 (F := Ideal) k0_pay1 0#32 1#32 k q kb (ix2 i kk) = tsc (a3 k.val) (b3 k.val) q kb i kk := by
  have hk : k.val < 64 := lt_of_lt_of_eq k.isLt (by decide +kernel)
  unfold k0_pay21 k0_pay1; dsimp only; pointwise
  have h := select_mask (a3 k.val) (b3 k.val) i.val kk.val (by unfold a3; omega) (by unfold b3; omega) (by omega) (by omega) (∑ e : Fin 128, q (ix3 0 i e) * kb (ix3 0 kk e))
  rw [← k3w_eq k, ← q3w_eq k] at h
  exact h

theorem pay22_at : k0_pay22 (F := Ideal) k0_pay1 0#32 1#32 k q kb (ix2 i 0) = Attn.M (tsc (a3 k.val) (b3 k.val) q kb i) := by
  unfold k0_pay22; pointwise
  simp only [fold_max_eq, pay21_at k q kb]

/-- A row divided by its root mean square and scaled. -/
def norm (o : Fin 128 → EReal) (g : Fin 128 → EReal) (j : Fin 128) : EReal :=
  o j * Ideal.rsqrt (Ideal.div (∑ e, o e * o e) (Ideal.ofBits FTy.f32 1124073472#32) + Ideal.ofBits FTy.f32 925353388#32) * g j

variable (m l acc : Vec Ideal S128x128 .f32) (g : Vec Ideal S1x1x128 .f32) (μ lam : EReal) (hm : ∀ j : Fin 128, m (ix2 i j) = μ) (hl : ∀ j : Fin 128, l (ix2 i j) = lam)

include hm hl in
theorem pay4_at (j : Fin 128) :
    k0_pay4 (F := Ideal) (k0_pay20 v) (k0_pay21 k0_pay1 0#32 1#32 k q kb) (k0_pay22 k0_pay1 0#32 1#32 k q kb) m l acc g (ix2 i j)
      = norm (fun e =>
          Ideal.div (Ideal.exp (μ - max μ (Attn.M (tsc (a3 k.val) (b3 k.val) q kb i))) * acc (ix2 i e)
              + Attn.A (tsc (a3 k.val) (b3 k.val) q kb i) (fun kk => v (ix3 0 kk e)) (max μ (Attn.M (tsc (a3 k.val) (b3 k.val) q kb i))))
            (Ideal.exp (μ - max μ (Attn.M (tsc (a3 k.val) (b3 k.val) q kb i))) * lam
              + Attn.L (tsc (a3 k.val) (b3 k.val) q kb i) (max μ (Attn.M (tsc (a3 k.val) (b3 k.val) q kb i)))))
        (fun e => g (ix3 0 0 e)) j := by
  have hv : ∀ (kk : Fin 256) (e : Fin 128), k0_pay20 (F := Ideal) v (ix2 kk e) = v (ix3 0 kk e) := by
    intro kk e; unfold k0_pay20; pointwise
  unfold k0_pay4; dsimp only; pointwise
  simp only [pay21_at k q kb, pay22_at k q kb, hm, hl, hv]
  have s1 := fun e : Fin 128 => split256 (fun kk => Ideal.exp (tsc (a3 k.val) (b3 k.val) q kb i kk - max μ (Attn.M (tsc (a3 k.val) (b3 k.val) q kb i))) * v (ix3 0 kk e)) (fun x => by omega) (fun x => by omega)
  have s2 := split256 (fun kk => Ideal.exp (tsc (a3 k.val) (b3 k.val) q kb i kk - max μ (Attn.M (tsc (a3 k.val) (b3 k.val) q kb i)))) (fun x => by omega) (fun x => by omega)
  simp only [s1, s2]
  rfl

end Last

end Cert.KernelIdeal.Hand

end
-- ==== Proof.Row.lean ====
/-
  The attention of one head: a query's masked scores against all 8192 keys at each of the three strides, and what a
  window of 256 keys of one stride says of them.
-/
module

public import proofs.«01_k».proof.Proof.KTile

@[expose] public section

noncomputable section

namespace Attn

open Idealize.ShloMosaic

/-- Key `x` is seen by query `p` at stride `d`: same residue, and at most 64 steps of `d` apart. -/
def ok (d : ℕ) (p x : Fin 8192) : Prop := x.val % d = p.val % d ∧ x.val / d ≤ p.val / d + 64 ∧ p.val / d ≤ x.val / d + 64

instance (d : ℕ) (p x : Fin 8192) : Decidable (ok d p x) := inferInstanceAs (Decidable (_ ∧ _ ∧ _))

/-- The score of query `p` against every key at stride `d`; `⊥` where the key is not seen. -/
def score (Q K : Fin 8192 → Fin 128 → EReal) (d : ℕ) (p x : Fin 8192) : EReal :=
  if ok d p x then ∑ e : Fin 128, Q p e * K x e else ⊥

/-- The three strides. -/
def strides : Fin 3 → ℕ := ![1, 4, 16]

/-- Entry `e` of query `p`'s attention over the three strides, the way the kernel folds them. -/
def row (Q K V : Fin 8192 → Fin 128 → EReal) (p : Fin 8192) (e : Fin 128) : EReal :=
  running (fun i => score Q K (strides i) p) (fun x => V x e)

end Attn

namespace Cert.KernelIdeal.Hand

open Cert.KernelIdeal Cert.KernelIdeal.Gen
open Idealize.ShloMosaic

/-- Two positions with the same residue and the same quotient are the same. -/
theorem fin_eq_of_div_mod {d : ℕ} {x y : Fin 8192} (h1 : x.val % d = y.val % d) (h2 : x.val / d = y.val / d) : x = y := by
  apply Fin.ext
  rw [← Nat.div_add_mod x.val d, ← Nat.div_add_mod y.val d, h1, h2]

/-- A tile of 128 queries from `a` at residue `r` of stride `d`, with the 256 keys from `b`: its row `i` has the
    maximum, the sum of weights and the weighted sums of the whole masked row. -/
theorem tile_all {d nd r a b : ℕ} (Q K V : Fin 8192 → Fin 128 → EReal) (p : Fin 8192) (i : Fin 128)
    (q : Vec Ideal S1x128x128 .f32) (kb v : Vec Ideal S1x256x128 .f32) (φ : Fin 256 → Fin 8192)
    (hp1 : p.val % d = r) (hp2 : p.val / d = a + i.val) (hφ1 : ∀ kk, (φ kk).val % d = r) (hφ2 : ∀ kk, (φ kk).val / d = b + kk.val)
    (hnd : ∀ x : Fin 8192, x.val / d < nd) (hb1 : b = 0 ∨ b + 64 ≤ a) (hb2 : b + 256 = nd ∨ a ≤ b + 64)
    (hq : ∀ e, q (ix3 0 i e) = Q p e) (hk : ∀ kk e, kb (ix3 0 kk e) = K (φ kk) e) :
    Attn.M (tsc a b q kb i) = Attn.M (Attn.score Q K d p)
    ∧ (∀ μ, Attn.L (tsc a b q kb i) μ = Attn.L (Attn.score Q K d p) μ)
    ∧ ∀ e (_ : ∀ kk, v (ix3 0 kk e) = V (φ kk) e) μ, Attn.A (tsc a b q kb i) (fun kk => v (ix3 0 kk e)) μ = Attn.A (Attn.score Q K d p) (fun x => V x e) μ := by
  have hW : Attn.Win φ (fun kk : Fin 256 => b + kk.val ≤ a + i.val + 64 ∧ a + i.val ≤ b + kk.val + 64) (Attn.ok d p) := by
    refine ⟨fun x y _ _ e => ?_, fun kk hkk => ?_, fun x hx => ?_⟩
    · have h1 := hφ2 x
      have h2 := hφ2 y
      rw [e, h2] at h1
      exact Fin.ext (by omega)
    · refine ⟨by rw [hφ1, hp1], ?_, ?_⟩
      · rw [hφ2, hp2]; exact hkk.1
      · rw [hφ2, hp2]; exact hkk.2
    · obtain ⟨h1, h2, h3⟩ := hx
      rw [hp2] at h2 h3
      have hx' := hnd x
      have hi := i.isLt
      generalize hy : x.val / d = y at h2 h3 hx'
      refine ⟨⟨y - b, by omega⟩, ⟨?_, ?_⟩, ?_⟩
      · show b + (y - b) ≤ _; omega
      · show _ ≤ b + (y - b) + 64; omega
      · refine fin_eq_of_div_mod (d := d) ?_ ?_
        · rw [hφ1, h1, hp1]
        · rw [hφ2, hy]; show b + (y - b) = _; omega
  obtain ⟨h1, h2, h3⟩ := hW.all (fun kk => ∑ e : Fin 128, q (ix3 0 i e) * kb (ix3 0 kk e)) (fun x => ∑ e : Fin 128, Q p e * K x e)
    (fun kk _ => Finset.sum_congr rfl fun e _ => by rw [hq, hk])
  exact ⟨h1, h2, fun e hv μ => h3 _ _ (fun kk _ => hv kk) μ⟩

end Cert.KernelIdeal.Hand

end
-- ==== Proof.KValue.lean ====
/-
  What the kernel's body leaves in the output block, at exact real arithmetic: every row is the attention of its query
  over the three strides, divided by its root mean square and scaled.  The three loops are followed trip by trip: after
  `k` trips the rows of the tiles before `k` are done and the others are as they were.
-/
module

public import proofs.«01_k».proof.Proof.KIRun
public import proofs.«01_k».proof.Proof.Row

@[expose] public section

noncomputable section

namespace Cert.KernelIdeal.Hand

open Cert.KernelIdeal Cert.KernelIdeal.Gen
open Idealize.ShloMosaic

/-- A strided load at an index reads the buffer at the index's place. -/
theorem readAt_of_coords {κ : Kind} {sp : Space} {s : Shape} {e : EltTy} (v : View sig κ sp s e) (r : LoadRect s) (f : v.ty.Contents (Elt Ideal))
    (x : r.shape.Idx) (y : s.Idx) (h : ∀ a, (y a).val = r.off a + r.stride a * (x a).val) :
    v.readAt (Elt Ideal) r f x = v.read (Elt Ideal) f y := by
  rw [View.readAt_apply]
  exact congrArg _ (funext fun a => Fin.ext (h a).symm)

section Offsets

theorem lt1 (k : Fin k0_t1_loop.trips) : k.val < 64 := lt_of_lt_of_eq k.isLt (by decide +kernel)
theorem lt2 (k : Fin k0_t2_loop.trips) : k.val < 64 := lt_of_lt_of_eq k.isLt (by decide +kernel)
theorem lt3 (k : Fin k0_t3_loop.trips) : k.val < 64 := lt_of_lt_of_eq k.isLt (by decide +kernel)

theorem off1 : ∀ k : Fin k0_t1_loop.trips, k0_off1 k 0 = 0 ∧ k0_off1 k 1 = k.val / 4 + 16 * (k.val % 4 * 128) ∧ k0_off1 k 2 = 0 := by decide +kernel
theorem off2 : ∀ k : Fin k0_t1_loop.trips, k0_off2 k 0 = 0 ∧ k0_off2 k 1 = k.val / 4 + 16 * (min 256 (k.val % 4 * 128 - 64)) ∧ k0_off2 k 2 = 0 := by decide +kernel
theorem off3 : ∀ k : Fin k0_t1_loop.trips, k0_off3 k 0 = k.val / 4 + 16 * (k.val % 4 * 128) ∧ k0_off3 k 1 = 0 := by decide +kernel
theorem off4 : ∀ k : Fin k0_t2_loop.trips, k0_off4 k 0 = 0 ∧ k0_off4 k 1 = k.val / 16 + 4 * (k.val % 16 * 128) ∧ k0_off4 k 2 = 0 := by decide +kernel
theorem off5 : ∀ k : Fin k0_t2_loop.trips, k0_off5 k 0 = 0 ∧ k0_off5 k 1 = k.val / 16 + 4 * (min 1792 (k.val % 16 * 128 - 64)) ∧ k0_off5 k 2 = 0 := by decide +kernel
theorem off6 : ∀ k : Fin k0_t2_loop.trips, k0_off6 k 0 = k.val / 16 + 4 * (k.val % 16 * 128) ∧ k0_off6 k 1 = 0 := by decide +kernel
theorem off7 : ∀ k : Fin k0_t3_loop.trips, k0_off7 k 0 = 0 ∧ k0_off7 k 1 = k.val * 128 ∧ k0_off7 k 2 = 0 := by decide +kernel
theorem off8 : ∀ k : Fin k0_t3_loop.trips, k0_off8 k 0 = 0 ∧ k0_off8 k 1 = min 7936 (k.val * 128 - 64) ∧ k0_off8 k 2 = 0 := by decide +kernel
theorem off9 : ∀ k : Fin k0_t3_loop.trips, k0_off9 k 0 = k.val * 128 ∧ k0_off9 k 1 = 0 := by decide +kernel

end Offsets

variable (arg2 arg3 arg4 : Memref sig .tc .vmem S1x8192x128 .f32) (arg5 : Memref sig .tc .vmem S1x1x128 .f32)
  (arg6 : Memref sig .tc .vmem S8192x128 .bf16) (arg7 arg8 arg9 : Memref sig .tc .vmem S8192x128 .f32)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty)

/-- A block of 8192 rows, as a function of row and lane. -/
def rowsOf (X : S1x8192x128.Idx → EReal) (p : Fin 8192) (e : Fin 128) : EReal := X (ix3 0 p e)

/-- Row `p` of the scratch: the weighted sums, the maximum and the sum of weights (the latter two in every lane). -/
structure RowAt (f : Scr (F := Ideal) arg7 arg8 arg9) (p : Fin 8192) (a : Fin 128 → EReal) (μ lam : EReal) : Prop where
  acc : ∀ j : Fin 128, arg7.view.read (Elt Ideal) f.1 (ix2 p j) = a j
  mx : ∀ j : Fin 128, arg8.view.read (Elt Ideal) f.2.1 (ix2 p j) = μ
  sum : ∀ j : Fin 128, arg9.view.read (Elt Ideal) f.2.2 (ix2 p j) = lam

/-- Reading one row back after a single tile of rows was written: a row of the tile. -/
theorem read_hit {e : EltTy} (M : Memref sig .tc .vmem S8192x128 e) (f : BufTy.Contents (Elt Ideal) M.view.ty) (r : Rect S8192x128)
    (w : r.shape.Idx → Elt Ideal e) (x : r.shape.Idx) (p : Fin 8192) (j : Fin 128)
    (h0 : p.val = r.off 0 + r.stride 0 * (x 0).val) (h1 : j.val = r.off 1 + r.stride 1 * (x 1).val) :
    M.view.read (Elt Ideal) (M.view.writes (Elt Ideal) f [⟨r, w⟩]) (ix2 p j) = w x := by
  refine View.read_writes_cons_hit_of_coords _ f r w [] x (ix2 p j) ?_
  intro a
  match a with
  | ⟨0, _⟩ => exact h0
  | ⟨1, _⟩ => exact h1

/-- … and a row that is not of the tile. -/
theorem read_miss {e : EltTy} (M : Memref sig .tc .vmem S8192x128 e) (f : BufTy.Contents (Elt Ideal) M.view.ty) (r : Rect S8192x128)
    (w : r.shape.Idx → Elt Ideal e) (p : Fin 8192) (j : Fin 128)
    (h : ∀ x < r.size 0, p.val ≠ r.off 0 + r.stride 0 * x) :
    M.view.read (Elt Ideal) (M.view.writes (Elt Ideal) f [⟨r, w⟩]) (ix2 p j) = M.view.read (Elt Ideal) f (ix2 p j) := by
  refine (View.read_writes_cons_miss _ f ⟨r, w⟩ [] (ix2 p j) ?_).trans rfl
  intro hm
  obtain ⟨x, hx, e⟩ := (LoadRect.mem_set _).1 hm 0
  exact h x hx e

/-! ### The first loop: stride 16 -/

/-- Its tile of a row. -/
def tix1 (p : Fin 8192) : ℕ := p.val % 16 * 4 + p.val / 16 / 128

/-- The score of query `p` against every key at stride `d`, from the two blocks read. -/
abbrev Sc (d : ℕ) (p x : Fin 8192) : EReal := Attn.score (rowsOf (arg2.view.read (Elt Ideal) X2)) (rowsOf (arg3.view.read (Elt Ideal) X3)) d p x

/-- Lane `e` of the values of every key. -/
abbrev Vc (e : Fin 128) (x : Fin 8192) : EReal := rowsOf (arg4.view.read (Elt Ideal) X4) x e

/-- What the first loop leaves of a row. -/
abbrev S1 (f : Scr (F := Ideal) arg7 arg8 arg9) (p : Fin 8192) : Prop :=
  RowAt arg7 arg8 arg9 f p
    (fun e => Attn.A (Sc arg2 arg3 X2 X3 16 p) (Vc arg4 X4 e) (Attn.M (Sc arg2 arg3 X2 X3 16 p)))
    (Attn.M (Sc arg2 arg3 X2 X3 16 p))
    (Attn.L (Sc arg2 arg3 X2 X3 16 p) (Attn.M (Sc arg2 arg3 X2 X3 16 p)))

/-- A tile's row, as the tile's payloads see it. -/
theorem tile1 (k : Fin k0_t1_loop.trips) (p : Fin 8192) (hp : tix1 p = k.val) (i : Fin 128) (hi : p.val / 16 % 128 = i.val) :
    Attn.M (tsc (k.val % 4 * 128) (min 256 (k.val % 4 * 128 - 64)) (arg2.view.readAt (Elt Ideal) (qrect1 k) X2) (arg3.view.readAt (Elt Ideal) (krect1 k) X3) i) = Attn.M (Sc arg2 arg3 X2 X3 16 p)
    ∧ (∀ μ, Attn.L (tsc (k.val % 4 * 128) (min 256 (k.val % 4 * 128 - 64)) (arg2.view.readAt (Elt Ideal) (qrect1 k) X2) (arg3.view.readAt (Elt Ideal) (krect1 k) X3) i) μ = Attn.L (Sc arg2 arg3 X2 X3 16 p) μ)
    ∧ ∀ e μ, Attn.A (tsc (k.val % 4 * 128) (min 256 (k.val % 4 * 128 - 64)) (arg2.view.readAt (Elt Ideal) (qrect1 k) X2) (arg3.view.readAt (Elt Ideal) (krect1 k) X3) i)
        (fun kk => arg4.view.readAt (Elt Ideal) (krect1 k) X4 (ix3 0 kk e)) μ = Attn.A (Sc arg2 arg3 X2 X3 16 p) (Vc arg4 X4 e) μ := by
  have hk := lt1 k
  obtain ⟨h0, h1, h2⟩ := off2 k
  have hx : ∀ (kk : Fin 256) (e : Fin 128), ∀ a, ((ix3 0 ⟨k.val / 4 + 16 * (min 256 (k.val % 4 * 128 - 64) + kk.val), by omega⟩ e : S1x8192x128.Idx) a).val
      = (krect1 k).off a + (krect1 k).stride a * ((ix3 0 kk e : S1x256x128.Idx) a).val := by
    intro kk e a
    match a with
    | ⟨0, _⟩ => show (0 : ℕ) = k0_off2 k 0 + 1 * 0; omega
    | ⟨1, _⟩ => show k.val / 4 + 16 * (min 256 (k.val % 4 * 128 - 64) + kk.val) = k0_off2 k 1 + 16 * kk.val; omega
    | ⟨2, _⟩ => show e.val = k0_off2 k 2 + 1 * e.val; omega
  obtain ⟨hM, hL, hA⟩ := tile_all (d := 16) (nd := 512) (r := k.val / 4) (a := k.val % 4 * 128) (b := min 256 (k.val % 4 * 128 - 64))
    (rowsOf (arg2.view.read (Elt Ideal) X2)) (rowsOf (arg3.view.read (Elt Ideal) X3)) (rowsOf (arg4.view.read (Elt Ideal) X4)) p i
    (arg2.view.readAt (Elt Ideal) (qrect1 k) X2) (arg3.view.readAt (Elt Ideal) (krect1 k) X3) (arg4.view.readAt (Elt Ideal) (krect1 k) X4)
    (fun kk => ⟨k.val / 4 + 16 * (min 256 (k.val % 4 * 128 - 64) + kk.val), by omega⟩)
    (by unfold tix1 at hp; omega) (by unfold tix1 at hp; omega) (fun kk => by dsimp only; omega) (fun kk => by dsimp only; omega)
    (fun x => by omega) (by omega) (by omega)
    (fun e => by
      obtain ⟨h0, h1, h2⟩ := off1 k
      refine readAt_of_coords _ _ _ _ (ix3 0 p e) fun a => ?_
      match a with
      | ⟨0, _⟩ => show (0 : ℕ) = k0_off1 k 0 + 1 * 0; omega
      | ⟨1, _⟩ => show p.val = k0_off1 k 1 + 16 * i.val; unfold tix1 at hp; omega
      | ⟨2, _⟩ => show e.val = k0_off1 k 2 + 1 * e.val; omega)
    (fun kk e => readAt_of_coords _ _ _ _ _ (hx kk e))
  exact ⟨hM, hL, fun e μ => hA e (fun kk => readAt_of_coords _ _ _ _ _ (hx kk e)) μ⟩

theorem trip1_hit (k : Fin k0_t1_loop.trips) (f : Scr (F := Ideal) arg7 arg8 arg9) (p : Fin 8192) (hp : tix1 p = k.val) :
    S1 arg2 arg3 arg4 arg7 arg8 arg9 X2 X3 X4 (trip1 arg2 arg3 arg4 arg7 arg8 arg9 X2 X3 X4 k f) p := by
  obtain ⟨hM, hL, hA⟩ := tile1 arg2 arg3 arg4 X2 X3 X4 k p hp ⟨p.val / 16 % 128, by omega⟩ rfl
  have hk := lt1 k
  obtain ⟨h0, h1⟩ := off3 k
  have c0 : p.val = k0_off3 k 0 + 16 * (p.val / 16 % 128) := by unfold tix1 at hp; omega
  have c1 : ∀ j : Fin 128, j.val = k0_off3 k 1 + 1 * j.val := fun j => by omega
  unfold trip1
  refine ⟨fun j => ?_, fun j => ?_, fun j => ?_⟩
  · refine (read_hit _ _ _ _ (ix2 ⟨p.val / 16 % 128, by omega⟩ j) p j c0 (c1 j)).trans ?_
    refine (pay11_at _ _ (by omega) (by omega) _ _ _ _ j).trans ?_
    rw [hM]; exact hA j _
  · refine (read_hit _ _ _ _ (ix2 ⟨p.val / 16 % 128, by omega⟩ j) p j c0 (c1 j)).trans ?_
    exact (pay9_at _ _ (by omega) (by omega) _ _ _ j).trans hM
  · refine (read_hit _ _ _ _ (ix2 ⟨p.val / 16 % 128, by omega⟩ j) p j c0 (c1 j)).trans ?_
    refine (pay10_at _ _ (by omega) (by omega) _ _ _ j).trans ?_
    rw [hM]; exact hL _

theorem trip1_miss (k : Fin k0_t1_loop.trips) (f : Scr (F := Ideal) arg7 arg8 arg9) (p : Fin 8192) (hp : tix1 p ≠ k.val)
    {a : Fin 128 → EReal} {μ lam : EReal} (h : RowAt arg7 arg8 arg9 f p a μ lam) :
    RowAt arg7 arg8 arg9 (trip1 arg2 arg3 arg4 arg7 arg8 arg9 X2 X3 X4 k f) p a μ lam := by
  have hk := lt1 k
  obtain ⟨h0, h1⟩ := off3 k
  have c : ∀ x < 128, p.val ≠ k0_off3 k 0 + 16 * x := fun x hx e => by
    have e' : p.val / 16 = k.val % 4 * 128 + x := by omega
    unfold tix1 at hp; omega
  unfold trip1
  exact ⟨fun j => (read_miss _ _ _ _ p j c).trans (h.acc j), fun j => (read_miss _ _ _ _ p j c).trans (h.mx j), fun j => (read_miss _ _ _ _ p j c).trans (h.sum j)⟩

/-- After the first loop every row holds the stride-16 branch. -/
theorem loop1_rows (f : Scr (F := Ideal) arg7 arg8 arg9) (p : Fin 8192) :
    S1 arg2 arg3 arg4 arg7 arg8 arg9 X2 X3 X4 (iter (trip1 arg2 arg3 arg4 arg7 arg8 arg9 X2 X3 X4) f 64) p := by
  have key : ∀ k : ℕ, k ≤ 64 → tix1 p < k → S1 arg2 arg3 arg4 arg7 arg8 arg9 X2 X3 X4 (iter (trip1 arg2 arg3 arg4 arg7 arg8 arg9 X2 X3 X4) f k) p := by
    intro k
    induction k with
    | zero => intro _ h; exact absurd h (Nat.not_lt_zero _)
    | succ k ih =>
      intro hk h
      have hk' : k < k0_t1_loop.trips := lt_of_lt_of_eq (by omega : k < 64) (by decide +kernel)
      have e := iter_succ (trip1 arg2 arg3 arg4 arg7 arg8 arg9 X2 X3 X4) f ⟨k, hk'⟩
      dsimp only at e; rw [e]
      by_cases hp : tix1 p = k
      · exact trip1_hit arg2 arg3 arg4 arg7 arg8 arg9 X2 X3 X4 ⟨k, hk'⟩ _ p hp
      · exact trip1_miss arg2 arg3 arg4 arg7 arg8 arg9 X2 X3 X4 ⟨k, hk'⟩ _ p hp (ih (by omega) (by omega))
  exact key 64 le_rfl (by unfold tix1; omega)

end Cert.KernelIdeal.Hand

end
-- ==== Proof.KValue2.lean ====
/-
  The second and third loops of the kernel's body, at exact real arithmetic, and the whole: the second folds the
  stride-4 branch into every row, the third the stride-1 branch, and writes the row divided by its root mean square.
-/
module

public import proofs.«01_k».proof.Proof.KValue

@[expose] public section

noncomputable section

namespace Cert.KernelIdeal.Hand

open Cert.KernelIdeal Cert.KernelIdeal.Gen
open Idealize.ShloMosaic

variable (arg2 arg3 arg4 : Memref sig .tc .vmem S1x8192x128 .f32) (arg5 : Memref sig .tc .vmem S1x1x128 .f32)
  (arg6 : Memref sig .tc .vmem S8192x128 .bf16) (arg7 arg8 arg9 : Memref sig .tc .vmem S8192x128 .f32)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty)

/-! ### The second loop: stride 4 -/

/-- Its tile of a row. -/
def tix2 (p : Fin 8192) : ℕ := p.val % 4 * 16 + p.val / 4 / 128

/-- The running maximum, sum of weights and weighted sums of a row after the second loop. -/
abbrev m2 (p : Fin 8192) : EReal := max (Attn.M (Sc arg2 arg3 X2 X3 16 p)) (Attn.M (Sc arg2 arg3 X2 X3 4 p))
@[inherit_doc m2] abbrev l2 (p : Fin 8192) : EReal :=
  Ideal.exp (Attn.M (Sc arg2 arg3 X2 X3 16 p) - m2 arg2 arg3 X2 X3 p) * Attn.L (Sc arg2 arg3 X2 X3 16 p) (Attn.M (Sc arg2 arg3 X2 X3 16 p))
    + Attn.L (Sc arg2 arg3 X2 X3 4 p) (m2 arg2 arg3 X2 X3 p)
@[inherit_doc m2] abbrev acc2 (p : Fin 8192) (e : Fin 128) : EReal :=
  Ideal.exp (Attn.M (Sc arg2 arg3 X2 X3 16 p) - m2 arg2 arg3 X2 X3 p) * Attn.A (Sc arg2 arg3 X2 X3 16 p) (Vc arg4 X4 e) (Attn.M (Sc arg2 arg3 X2 X3 16 p))
    + Attn.A (Sc arg2 arg3 X2 X3 4 p) (Vc arg4 X4 e) (m2 arg2 arg3 X2 X3 p)

/-- What the second loop leaves of a row. -/
abbrev S2 (f : Scr (F := Ideal) arg7 arg8 arg9) (p : Fin 8192) : Prop :=
  RowAt arg7 arg8 arg9 f p (acc2 arg2 arg3 arg4 X2 X3 X4 p) (m2 arg2 arg3 X2 X3 p) (l2 arg2 arg3 X2 X3 p)

/-- A tile's row, as the tile's payloads see it. -/
theorem tile2 (k : Fin k0_t2_loop.trips) (p : Fin 8192) (hp : tix2 p = k.val) (i : Fin 128) (hi : p.val / 4 % 128 = i.val) :
    Attn.M (tsc (k.val % 16 * 128) (min 1792 (k.val % 16 * 128 - 64)) (arg2.view.readAt (Elt Ideal) (qrect2 k) X2) (arg3.view.readAt (Elt Ideal) (krect2 k) X3) i) = Attn.M (Sc arg2 arg3 X2 X3 4 p)
    ∧ (∀ μ, Attn.L (tsc (k.val % 16 * 128) (min 1792 (k.val % 16 * 128 - 64)) (arg2.view.readAt (Elt Ideal) (qrect2 k) X2) (arg3.view.readAt (Elt Ideal) (krect2 k) X3) i) μ = Attn.L (Sc arg2 arg3 X2 X3 4 p) μ)
    ∧ ∀ e μ, Attn.A (tsc (k.val % 16 * 128) (min 1792 (k.val % 16 * 128 - 64)) (arg2.view.readAt (Elt Ideal) (qrect2 k) X2) (arg3.view.readAt (Elt Ideal) (krect2 k) X3) i)
        (fun kk => arg4.view.readAt (Elt Ideal) (krect2 k) X4 (ix3 0 kk e)) μ = Attn.A (Sc arg2 arg3 X2 X3 4 p) (Vc arg4 X4 e) μ := by
  have hk := lt2 k
  obtain ⟨h0, h1, h2⟩ := off5 k
  have hx : ∀ (kk : Fin 256) (e : Fin 128), ∀ a, ((ix3 0 ⟨k.val / 16 + 4 * (min 1792 (k.val % 16 * 128 - 64) + kk.val), by omega⟩ e : S1x8192x128.Idx) a).val
      = (krect2 k).off a + (krect2 k).stride a * ((ix3 0 kk e : S1x256x128.Idx) a).val := by
    intro kk e a
    match a with
    | ⟨0, _⟩ => show (0 : ℕ) = k0_off5 k 0 + 1 * 0; omega
    | ⟨1, _⟩ => show k.val / 16 + 4 * (min 1792 (k.val % 16 * 128 - 64) + kk.val) = k0_off5 k 1 + 4 * kk.val; omega
    | ⟨2, _⟩ => show e.val = k0_off5 k 2 + 1 * e.val; omega
  obtain ⟨hM, hL, hA⟩ := tile_all (d := 4) (nd := 2048) (r := k.val / 16) (a := k.val % 16 * 128) (b := min 1792 (k.val % 16 * 128 - 64))
    (rowsOf (arg2.view.read (Elt Ideal) X2)) (rowsOf (arg3.view.read (Elt Ideal) X3)) (rowsOf (arg4.view.read (Elt Ideal) X4)) p i
    (arg2.view.readAt (Elt Ideal) (qrect2 k) X2) (arg3.view.readAt (Elt Ideal) (krect2 k) X3) (arg4.view.readAt (Elt Ideal) (krect2 k) X4)
    (fun kk => ⟨k.val / 16 + 4 * (min 1792 (k.val % 16 * 128 - 64) + kk.val), by omega⟩)
    (by unfold tix2 at hp; omega) (by unfold tix2 at hp; omega) (fun kk => by dsimp only; omega) (fun kk => by dsimp only; omega)
    (fun x => by omega) (by omega) (by omega)
    (fun e => by
      obtain ⟨h0, h1, h2⟩ := off4 k
      refine readAt_of_coords _ _ _ _ (ix3 0 p e) fun a => ?_
      match a with
      | ⟨0, _⟩ => show (0 : ℕ) = k0_off4 k 0 + 1 * 0; omega
      | ⟨1, _⟩ => show p.val = k0_off4 k 1 + 4 * i.val; unfold tix2 at hp; omega
      | ⟨2, _⟩ => show e.val = k0_off4 k 2 + 1 * e.val; omega)
    (fun kk e => readAt_of_coords _ _ _ _ _ (hx kk e))
  exact ⟨hM, hL, fun e μ => hA e (fun kk => readAt_of_coords _ _ _ _ _ (hx kk e)) μ⟩

/-- The rows of a trip's tile, read from the scratch before it. -/
theorem rows2_read (k : Fin k0_t2_loop.trips) (M : Memref sig .tc .vmem S8192x128 .f32) (f : BufTy.Contents (Elt Ideal) M.view.ty) (p : Fin 8192) (hp : tix2 p = k.val) (j : Fin 128) :
    M.view.readAt (Elt Ideal) (rows2 k) f (ix2 ⟨p.val / 4 % 128, by omega⟩ j) = M.view.read (Elt Ideal) f (ix2 p j) := by
  have hk := lt2 k
  obtain ⟨h0, h1⟩ := off6 k
  refine readAt_of_coords _ _ _ _ (ix2 p j) fun a => ?_
  match a with
  | ⟨0, _⟩ => show p.val = k0_off6 k 0 + 4 * (p.val / 4 % 128); unfold tix2 at hp; omega
  | ⟨1, _⟩ => show j.val = k0_off6 k 1 + 1 * j.val; omega

theorem trip2_hit (k : Fin k0_t2_loop.trips) (f : Scr (F := Ideal) arg7 arg8 arg9) (p : Fin 8192) (hp : tix2 p = k.val)
    (hf : S1 arg2 arg3 arg4 arg7 arg8 arg9 X2 X3 X4 f p) :
    S2 arg2 arg3 arg4 arg7 arg8 arg9 X2 X3 X4 (trip2 arg2 arg3 arg4 arg7 arg8 arg9 X2 X3 X4 k f) p := by
  obtain ⟨hM, hL, hA⟩ := tile2 arg2 arg3 arg4 X2 X3 X4 k p hp ⟨p.val / 4 % 128, by omega⟩ rfl
  have hk := lt2 k
  obtain ⟨h0, h1⟩ := off6 k
  have c0 : p.val = k0_off6 k 0 + 4 * (p.val / 4 % 128) := by unfold tix2 at hp; omega
  have c1 : ∀ j : Fin 128, j.val = k0_off6 k 1 + 1 * j.val := fun j => by omega
  have hm := fun j => (rows2_read k arg8 f.2.1 p hp j).trans (hf.mx j)
  unfold trip2
  refine ⟨fun j => ?_, fun j => ?_, fun j => ?_⟩
  · refine (read_hit _ _ _ _ (ix2 ⟨p.val / 4 % 128, by omega⟩ j) p j c0 (c1 j)).trans ?_
    refine (pay18_at _ _ (by omega) (by omega) _ _ _ _ _ _ _ hm j).trans ?_
    rw [hM, rows2_read k arg7 f.1 p hp j, hf.acc j, hA j]
  · refine (read_hit _ _ _ _ (ix2 ⟨p.val / 4 % 128, by omega⟩ j) p j c0 (c1 j)).trans ?_
    refine (pay19_at _ _ (by omega) (by omega) _ _ _ _ _ hm j).trans ?_
    rw [hM]
  · refine (read_hit _ _ _ _ (ix2 ⟨p.val / 4 % 128, by omega⟩ j) p j c0 (c1 j)).trans ?_
    refine (pay17_at _ _ (by omega) (by omega) _ _ _ _ _ _ hm j).trans ?_
    rw [hM, rows2_read k arg9 f.2.2 p hp j, hf.sum j, hL]

theorem trip2_miss (k : Fin k0_t2_loop.trips) (f : Scr (F := Ideal) arg7 arg8 arg9) (p : Fin 8192) (hp : tix2 p ≠ k.val)
    {a : Fin 128 → EReal} {μ lam : EReal} (h : RowAt arg7 arg8 arg9 f p a μ lam) :
    RowAt arg7 arg8 arg9 (trip2 arg2 arg3 arg4 arg7 arg8 arg9 X2 X3 X4 k f) p a μ lam := by
  have hk := lt2 k
  obtain ⟨h0, h1⟩ := off6 k
  have c : ∀ x < 128, p.val ≠ k0_off6 k 0 + 4 * x := fun x hx e => by
    have e' : p.val / 4 = k.val % 16 * 128 + x := by omega
    unfold tix2 at hp; omega
  unfold trip2
  exact ⟨fun j => (read_miss _ _ _ _ p j c).trans (h.acc j), fun j => (read_miss _ _ _ _ p j c).trans (h.mx j), fun j => (read_miss _ _ _ _ p j c).trans (h.sum j)⟩

/-- After the second loop every row that held the stride-16 branch holds both. -/
theorem loop2_rows (f : Scr (F := Ideal) arg7 arg8 arg9) (p : Fin 8192) (hf : S1 arg2 arg3 arg4 arg7 arg8 arg9 X2 X3 X4 f p) :
    S2 arg2 arg3 arg4 arg7 arg8 arg9 X2 X3 X4 (iter (trip2 arg2 arg3 arg4 arg7 arg8 arg9 X2 X3 X4) f 64) p := by
  have key : ∀ k : ℕ, k ≤ 64 → (tix2 p < k → S2 arg2 arg3 arg4 arg7 arg8 arg9 X2 X3 X4 (iter (trip2 arg2 arg3 arg4 arg7 arg8 arg9 X2 X3 X4) f k) p)
      ∧ (k ≤ tix2 p → S1 arg2 arg3 arg4 arg7 arg8 arg9 X2 X3 X4 (iter (trip2 arg2 arg3 arg4 arg7 arg8 arg9 X2 X3 X4) f k) p) := by
    intro k
    induction k with
    | zero => exact fun _ => ⟨fun h => absurd h (Nat.not_lt_zero _), fun _ => hf⟩
    | succ k ih =>
      intro hk
      have hk' : k < k0_t2_loop.trips := lt_of_lt_of_eq (by omega : k < 64) (by decide +kernel)
      have e := iter_succ (trip2 arg2 arg3 arg4 arg7 arg8 arg9 X2 X3 X4) f ⟨k, hk'⟩
      dsimp only at e; rw [e]
      obtain ⟨ih1, ih2⟩ := ih (by omega)
      refine ⟨fun h => ?_, fun h => ?_⟩
      · by_cases hp : tix2 p = k
        · exact trip2_hit arg2 arg3 arg4 arg7 arg8 arg9 X2 X3 X4 ⟨k, hk'⟩ _ p hp (ih2 (by omega))
        · exact trip2_miss arg2 arg3 arg4 arg7 arg8 arg9 X2 X3 X4 ⟨k, hk'⟩ _ p hp (ih1 (by omega))
      · exact trip2_miss arg2 arg3 arg4 arg7 arg8 arg9 X2 X3 X4 ⟨k, hk'⟩ _ p (by dsimp only; omega) (ih2 (by omega))
  exact (key 64 le_rfl).1 (by unfold tix2; omega)

/-! ### The third loop: stride 1, and the output -/

/-- Its tile of a row. -/
def tix3 (p : Fin 8192) : ℕ := p.val / 128

/-- A tile's row, as the tile's payloads see it. -/
theorem tile3 (k : Fin k0_t3_loop.trips) (p : Fin 8192) (hp : tix3 p = k.val) (i : Fin 128) (hi : p.val % 128 = i.val) :
    Attn.M (tsc (a3 k.val) (b3 k.val) (arg2.view.readAt (Elt Ideal) (qrect3 k) X2) (arg3.view.readAt (Elt Ideal) (krect3 k) X3) i) = Attn.M (Sc arg2 arg3 X2 X3 1 p)
    ∧ (∀ μ, Attn.L (tsc (a3 k.val) (b3 k.val) (arg2.view.readAt (Elt Ideal) (qrect3 k) X2) (arg3.view.readAt (Elt Ideal) (krect3 k) X3) i) μ = Attn.L (Sc arg2 arg3 X2 X3 1 p) μ)
    ∧ ∀ e μ, Attn.A (tsc (a3 k.val) (b3 k.val) (arg2.view.readAt (Elt Ideal) (qrect3 k) X2) (arg3.view.readAt (Elt Ideal) (krect3 k) X3) i)
        (fun kk => arg4.view.readAt (Elt Ideal) (krect3 k) X4 (ix3 0 kk e)) μ = Attn.A (Sc arg2 arg3 X2 X3 1 p) (Vc arg4 X4 e) μ := by
  have hk := lt3 k
  obtain ⟨h0, h1, h2⟩ := off8 k
  have hx : ∀ (kk : Fin 256) (e : Fin 128), ∀ a, ((ix3 0 ⟨b3 k.val + kk.val, by (first | omega | (unfold b3; omega) | (unfold a3; omega) | (unfold a3 b3; omega))⟩ e : S1x8192x128.Idx) a).val
      = (krect3 k).off a + (krect3 k).stride a * ((ix3 0 kk e : S1x256x128.Idx) a).val := by
    intro kk e a
    match a with
    | ⟨0, _⟩ => show (0 : ℕ) = k0_off8 k 0 + 1 * 0; (first | omega | (unfold b3; omega) | (unfold a3; omega) | (unfold a3 b3; omega))
    | ⟨1, _⟩ => show b3 k.val + kk.val = k0_off8 k 1 + 1 * kk.val; (first | omega | (unfold b3; omega) | (unfold a3; omega) | (unfold a3 b3; omega))
    | ⟨2, _⟩ => show e.val = k0_off8 k 2 + 1 * e.val; (first | omega | (unfold b3; omega) | (unfold a3; omega) | (unfold a3 b3; omega))
  obtain ⟨hM, hL, hA⟩ := tile_all (d := 1) (nd := 8192) (r := 0) (a := a3 k.val) (b := b3 k.val)
    (rowsOf (arg2.view.read (Elt Ideal) X2)) (rowsOf (arg3.view.read (Elt Ideal) X3)) (rowsOf (arg4.view.read (Elt Ideal) X4)) p i
    (arg2.view.readAt (Elt Ideal) (qrect3 k) X2) (arg3.view.readAt (Elt Ideal) (krect3 k) X3) (arg4.view.readAt (Elt Ideal) (krect3 k) X4)
    (fun kk => ⟨b3 k.val + kk.val, by (first | omega | (unfold b3; omega) | (unfold a3; omega) | (unfold a3 b3; omega))⟩)
    (by unfold tix3 at hp; (first | omega | (unfold b3; omega) | (unfold a3; omega) | (unfold a3 b3; omega))) (by unfold tix3 at hp; (first | omega | (unfold b3; omega) | (unfold a3; omega) | (unfold a3 b3; omega))) (fun kk => by dsimp only; (first | omega | (unfold b3; omega) | (unfold a3; omega) | (unfold a3 b3; omega))) (fun kk => by dsimp only; (first | omega | (unfold b3; omega) | (unfold a3; omega) | (unfold a3 b3; omega)))
    (fun x => by (first | omega | (unfold b3; omega) | (unfold a3; omega) | (unfold a3 b3; omega))) (by (first | omega | (unfold b3; omega) | (unfold a3; omega) | (unfold a3 b3; omega))) (by (first | omega | (unfold b3; omega) | (unfold a3; omega) | (unfold a3 b3; omega)))
    (fun e => by
      obtain ⟨h0, h1, h2⟩ := off7 k
      refine readAt_of_coords _ _ _ _ (ix3 0 p e) fun a => ?_
      match a with
      | ⟨0, _⟩ => show (0 : ℕ) = k0_off7 k 0 + 1 * 0; (first | omega | (unfold b3; omega) | (unfold a3; omega) | (unfold a3 b3; omega))
      | ⟨1, _⟩ => show p.val = k0_off7 k 1 + 1 * i.val; unfold tix3 at hp; (first | omega | (unfold b3; omega) | (unfold a3; omega) | (unfold a3 b3; omega))
      | ⟨2, _⟩ => show e.val = k0_off7 k 2 + 1 * e.val; (first | omega | (unfold b3; omega) | (unfold a3; omega) | (unfold a3 b3; omega)))
    (fun kk e => readAt_of_coords _ _ _ _ _ (hx kk e))
  exact ⟨hM, hL, fun e μ => hA e (fun kk => readAt_of_coords _ _ _ _ _ (hx kk e)) μ⟩

/-- The rows of a trip's tile, read from the scratch. -/
theorem rows3_read (k : Fin k0_t3_loop.trips) (M : Memref sig .tc .vmem S8192x128 .f32) (f : BufTy.Contents (Elt Ideal) M.view.ty) (p : Fin 8192) (hp : tix3 p = k.val) (j : Fin 128) :
    M.view.readAt (Elt Ideal) (rows3 k).toLoadRect f (ix2 ⟨p.val % 128, by omega⟩ j) = M.view.read (Elt Ideal) f (ix2 p j) := by
  have hk := lt3 k
  obtain ⟨h0, h1⟩ := off9 k
  refine readAt_of_coords _ _ _ _ (ix2 p j) fun a => ?_
  match a with
  | ⟨0, _⟩ => show p.val = k0_off9 k 0 + 1 * (p.val % 128); unfold tix3 at hp; omega
  | ⟨1, _⟩ => show j.val = k0_off9 k 1 + 1 * j.val; omega

/-- What the body leaves in the output block: each row's attention over the three strides, normed and scaled. -/
def O (q k v : S1x8192x128.Idx → EReal) (g : S1x1x128.Idx → EReal) (y : S8192x128.Idx) : EReal :=
  norm (Attn.row (rowsOf q) (rowsOf k) (rowsOf v) (y 0)) (fun e => g (ix3 0 0 e)) (y 1)

theorem trip3_hit (k : Fin k0_t3_loop.trips) (f : Scr (F := Ideal) arg7 arg8 arg9) (o : BufTy.Contents (Elt Ideal) arg6.view.ty) (p : Fin 8192) (hp : tix3 p = k.val)
    (hf : S2 arg2 arg3 arg4 arg7 arg8 arg9 X2 X3 X4 f p) (j : Fin 128) :
    arg6.view.read (Elt Ideal) (trip3 arg2 arg3 arg4 arg5 arg6 arg7 arg8 arg9 X2 X3 X4 X5 f k o) (ix2 p j)
      = O (arg2.view.read (Elt Ideal) X2) (arg3.view.read (Elt Ideal) X3) (arg4.view.read (Elt Ideal) X4) (arg5.view.read (Elt Ideal) X5) (ix2 p j) := by
  obtain ⟨hM, hL, hA⟩ := tile3 arg2 arg3 arg4 X2 X3 X4 k p hp ⟨p.val % 128, by omega⟩ rfl
  have hk := lt3 k
  obtain ⟨h0, h1⟩ := off9 k
  have c0 : p.val = k0_off9 k 0 + 1 * (p.val % 128) := by unfold tix3 at hp; omega
  have c1 : j.val = k0_off9 k 1 + 1 * j.val := by omega
  unfold trip3
  refine (read_hit _ _ _ _ (ix2 ⟨p.val % 128, by omega⟩ j) p j c0 c1).trans ?_
  refine (pay4_at k _ _ _ _ _ _ _ _ _ _ (fun j => (rows3_read k arg8 f.2.1 p hp j).trans (hf.mx j)) (fun j => (rows3_read k arg9 f.2.2 p hp j).trans (hf.sum j)) j).trans ?_
  have hg : ∀ e : Fin 128, arg5.view.readAt (Elt Ideal) (Rect.unit (s := S1x1x128) ![0, 0, 0] S1x1x128.size inb_S1x1x128_S1x1x128_0_0_0).toLoadRect X5 (ix3 0 0 e)
      = arg5.view.read (Elt Ideal) X5 (ix3 0 0 e) := by
    intro e
    refine readAt_of_coords _ _ _ _ (ix3 0 0 e) fun a => ?_
    match a with
    | ⟨0, _⟩ => rfl
    | ⟨1, _⟩ => rfl
    | ⟨2, _⟩ => show e.val = 0 + 1 * e.val; omega
  have ha := fun e => (rows3_read k arg7 f.1 p hp e).trans (hf.acc e)
  simp only [hM, hL, hA, ha, hg]
  rfl

theorem trip3_miss (k : Fin k0_t3_loop.trips) (f : Scr (F := Ideal) arg7 arg8 arg9) (o : BufTy.Contents (Elt Ideal) arg6.view.ty) (p : Fin 8192) (hp : tix3 p ≠ k.val) (j : Fin 128) :
    arg6.view.read (Elt Ideal) (trip3 arg2 arg3 arg4 arg5 arg6 arg7 arg8 arg9 X2 X3 X4 X5 f k o) (ix2 p j) = arg6.view.read (Elt Ideal) o (ix2 p j) := by
  have hk := lt3 k
  obtain ⟨h0, h1⟩ := off9 k
  unfold trip3
  exact read_miss _ _ _ _ p j fun x (hx : x < 128) e => by
    have e : p.val = k0_off9 k 0 + 1 * x := e
    unfold tix3 at hp; omega

/-- The body leaves `O` of its four input blocks in the output block. -/
theorem leaves : Leaves (F := Ideal) O := by
  intro arg2 arg3 arg4 arg5 arg6 arg7 arg8 arg9 X2 X3 X4 X5 G6 G
  funext y
  obtain ⟨p, j, rfl⟩ : ∃ (p : Fin 8192) (j : Fin 128), y = ix2 p j := ⟨y 0, y 1, (eq_ix2 y)⟩
  have hf : S2 arg2 arg3 arg4 arg7 arg8 arg9 X2 X3 X4 (iter (trip2 arg2 arg3 arg4 arg7 arg8 arg9 X2 X3 X4) (iter (trip1 arg2 arg3 arg4 arg7 arg8 arg9 X2 X3 X4) G 64) 64) p :=
    loop2_rows arg2 arg3 arg4 arg7 arg8 arg9 X2 X3 X4 _ p (loop1_rows arg2 arg3 arg4 arg7 arg8 arg9 X2 X3 X4 G p)
  unfold outBuf
  generalize iter (trip2 arg2 arg3 arg4 arg7 arg8 arg9 X2 X3 X4) (iter (trip1 arg2 arg3 arg4 arg7 arg8 arg9 X2 X3 X4) G 64) 64 = f at hf
  have key : ∀ k : ℕ, k ≤ 64 → tix3 p < k → arg6.view.read (Elt Ideal) (iter (trip3 arg2 arg3 arg4 arg5 arg6 arg7 arg8 arg9 X2 X3 X4 X5 f) G6 k) (ix2 p j)
      = O (arg2.view.read (Elt Ideal) X2) (arg3.view.read (Elt Ideal) X3) (arg4.view.read (Elt Ideal) X4) (arg5.view.read (Elt Ideal) X5) (ix2 p j) := by
    intro k
    induction k with
    | zero => intro _ h; exact absurd h (Nat.not_lt_zero _)
    | succ k ih =>
      intro hk h
      have hk' : k < k0_t3_loop.trips := lt_of_lt_of_eq (by omega : k < 64) (by decide +kernel)
      have e := iter_succ (trip3 arg2 arg3 arg4 arg5 arg6 arg7 arg8 arg9 X2 X3 X4 X5 f) G6 ⟨k, hk'⟩
      dsimp only at e; rw [e]
      by_cases hp : tix3 p = k
      · exact trip3_hit arg2 arg3 arg4 arg5 arg6 arg7 arg8 arg9 X2 X3 X4 X5 ⟨k, hk'⟩ f _ p hp hf j
      · exact (trip3_miss arg2 arg3 arg4 arg5 arg6 arg7 arg8 arg9 X2 X3 X4 X5 ⟨k, hk'⟩ f _ p hp j).trans (ih (by omega) (by omega))
  exact key 64 le_rfl (by unfold tix3; omega)

end Cert.KernelIdeal.Hand

end
-- ==== Proof.KOut.lean ====
/-
  The kernel's output array at exact real arithmetic: every grid point writes one sequence's rows of one head, and the
  blocks tile the array.
-/
module

public import proofs.«01_k».proof.Proof.KValue2

@[expose] public section

noncomputable section

namespace Attn

open Idealize.ShloMosaic

/-- Head `h` of sequence `b` in the projection: its 8192 rows of 128 channels. -/
def seq (X : (⟨3, ![44, 16384, 128]⟩ : Shape).Idx → EReal) (h : Fin 44) (b : Fin 2) (p : Fin 8192) (e : Fin 128) : EReal :=
  X (ix3 h ⟨b.val * 8192 + p.val, by omega⟩ e)

/-- The attention of head `h` and sequence `b`, from the queries, keys and values in the projection, combined from the
    three strides by `R` and divided by its root mean square. -/
def out (R : (Fin 8192 → Fin 128 → EReal) → (Fin 8192 → Fin 128 → EReal) → (Fin 8192 → Fin 128 → EReal) → Fin 8192 → Fin 128 → EReal)
    (X : (⟨3, ![44, 16384, 128]⟩ : Shape).Idx → EReal) (G : (⟨2, ![16, 128]⟩ : Shape).Idx → EReal)
    (b : Fin 2) (h : Fin 12) (p : Fin 8192) (e : Fin 128) : EReal :=
  Cert.KernelIdeal.Hand.norm (R (seq X ⟨h.val, by omega⟩ b) (seq X ⟨12 + h.val, by omega⟩ b) (seq X ⟨24 + h.val, by omega⟩ b) p)
    (fun e => G (ix2 ⟨4 + h.val, by omega⟩ e)) e

theorem out_congr {R X G} {b b' : Fin 2} {h h' : Fin 12} {p p' : Fin 8192} {e e' : Fin 128} (hb : b.val = b'.val) (hh : h.val = h'.val)
    (hp : p.val = p'.val) (he : e.val = e'.val) : out R X G b h p e = out R X G b' h' p' e' := by
  rw [Fin.ext hb, Fin.ext hh, Fin.ext hp, Fin.ext he]

end Attn

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The output array: the combined and normalized attention, sequences down, heads and channels across. -/
def result (c : Dev nD) (y : S16384x1536.Idx) : EReal :=
  Attn.out Attn.row (m ((c : Thread nD τ).loc main_arg0)) (m ((c : Thread nD τ).loc main_arg1))
    ⟨(y 0).val / 8192, by have := (y 0).isLt; simp [S16384x1536] at this; omega⟩ ⟨(y 1).val / 128, by have := (y 1).isLt; simp [S16384x1536] at this; omega⟩
    ⟨(y 0).val % 8192, by omega⟩ ⟨(y 1).val % 128, by omega⟩

theorem result_at (c : Dev nD) (y : S16384x1536.Idx) (b : Fin 2) (h : Fin 12) (p : Fin 8192) (e : Fin 128)
    (h0 : (y 0).val = b.val * 8192 + p.val) (h1 : (y 1).val = h.val * 128 + e.val) :
    result m c y = Attn.out Attn.row (m ((c : Thread nD τ).loc main_arg0)) (m ((c : Thread nD τ).loc main_arg1)) b h p e :=
  Attn.out_congr (by dsimp only; omega) (by dsimp only; omega) (by dsimp only; omega) (by dsimp only; omega)

/-- Which blocks a grid point reads and writes. -/
theorem blocks : ∀ t : Fin 24,
    (win0_0.index t 0 = t.val % 12 ∧ win0_0.index t 1 = t.val / 12 ∧ win0_0.index t 2 = 0)
    ∧ (win0_1.index t 0 = 12 + t.val % 12 ∧ win0_1.index t 1 = t.val / 12 ∧ win0_1.index t 2 = 0)
    ∧ (win0_2.index t 0 = 24 + t.val % 12 ∧ win0_2.index t 1 = t.val / 12 ∧ win0_2.index t 2 = 0)
    ∧ (win0_3.index t 0 = 4 + t.val % 12 ∧ win0_3.index t 1 = 0 ∧ win0_3.index t 2 = 0)
    ∧ (win0_4.index t 0 = t.val / 12 ∧ win0_4.index t 1 = t.val % 12) := by decide +kernel

theorem V_main_v0 (c : Dev nD) : V m c main_v0 = shapeCast S16x1x128 (m ((c : Thread nD τ).loc main_arg1)) shapeCasts_S16x128_S16x1x128 := rfl

theorem iblk0 (c : Dev nD) (t : Fin 24) (p : Fin 8192) (e : Fin 128) :
    rowsOf (iblk m c 0 t) p e = Attn.seq (m ((c : Thread nD τ).loc main_arg0)) ⟨t.val % 12, by omega⟩ ⟨t.val / 12, by omega⟩ p e := by
  obtain ⟨⟨h0, h1, h2⟩, -⟩ := blocks t
  unfold rowsOf iblk
  rw [View.read_apply]
  show V m c main_arg0 _ = _
  rw [V_main_arg0]
  unfold Attn.seq
  congr 1
  funext a
  match a with
  | ⟨0, _⟩ => exact Fin.ext (show win0_0.index t 0 * 1 + 1 * 0 = t.val % 12 by omega)
  | ⟨1, _⟩ => exact Fin.ext (show win0_0.index t 1 * 8192 + 1 * p.val = t.val / 12 * 8192 + p.val by omega)
  | ⟨2, _⟩ => exact Fin.ext (show win0_0.index t 2 * 128 + 1 * e.val = e.val by omega)

theorem iblk1 (c : Dev nD) (t : Fin 24) (p : Fin 8192) (e : Fin 128) :
    rowsOf (iblk m c 1 t) p e = Attn.seq (m ((c : Thread nD τ).loc main_arg0)) ⟨12 + t.val % 12, by omega⟩ ⟨t.val / 12, by omega⟩ p e := by
  obtain ⟨-, ⟨h0, h1, h2⟩, -⟩ := blocks t
  unfold rowsOf iblk
  rw [View.read_apply]
  show V m c main_arg0 _ = _
  rw [V_main_arg0]
  unfold Attn.seq
  congr 1
  funext a
  match a with
  | ⟨0, _⟩ => exact Fin.ext (show win0_1.index t 0 * 1 + 1 * 0 = 12 + t.val % 12 by omega)
  | ⟨1, _⟩ => exact Fin.ext (show win0_1.index t 1 * 8192 + 1 * p.val = t.val / 12 * 8192 + p.val by omega)
  | ⟨2, _⟩ => exact Fin.ext (show win0_1.index t 2 * 128 + 1 * e.val = e.val by omega)

theorem iblk2 (c : Dev nD) (t : Fin 24) (p : Fin 8192) (e : Fin 128) :
    rowsOf (iblk m c 2 t) p e = Attn.seq (m ((c : Thread nD τ).loc main_arg0)) ⟨24 + t.val % 12, by omega⟩ ⟨t.val / 12, by omega⟩ p e := by
  obtain ⟨-, -, ⟨h0, h1, h2⟩, -⟩ := blocks t
  unfold rowsOf iblk
  rw [View.read_apply]
  show V m c main_arg0 _ = _
  rw [V_main_arg0]
  unfold Attn.seq
  congr 1
  funext a
  match a with
  | ⟨0, _⟩ => exact Fin.ext (show win0_2.index t 0 * 1 + 1 * 0 = 24 + t.val % 12 by omega)
  | ⟨1, _⟩ => exact Fin.ext (show win0_2.index t 1 * 8192 + 1 * p.val = t.val / 12 * 8192 + p.val by omega)
  | ⟨2, _⟩ => exact Fin.ext (show win0_2.index t 2 * 128 + 1 * e.val = e.val by omega)

/-- The weights' block: the head's row of the second argument. -/
theorem iblk3 (c : Dev nD) (t : Fin 24) (e : Fin 128) :
    (iblk m c 3 t : S1x1x128.Idx → EReal) (ix3 0 0 e) = m ((c : Thread nD τ).loc main_arg1) (ix2 ⟨4 + t.val % 12, by omega⟩ e) := by
  obtain ⟨-, -, -, ⟨h0, h1, h2⟩, -⟩ := blocks t
  unfold iblk
  rw [View.read_apply]
  show V m c main_v0 _ = _
  rw [V_main_v0]
  have hix : ((cfg0.win 3).blk t).view.emb (ix3 (0 : Fin 1) (0 : Fin 1) e) = (ix3 ⟨4 + t.val % 12, by omega⟩ 0 e : S16x1x128.Idx) := by
    funext a
    match a with
    | ⟨0, _⟩ => exact Fin.ext (show win0_3.index t 0 * 1 + 1 * 0 = 4 + t.val % 12 by omega)
    | ⟨1, _⟩ => exact Fin.ext (show win0_3.index t 1 * 1 + 1 * 0 = 0 by omega)
    | ⟨2, _⟩ => exact Fin.ext (show win0_3.index t 2 * 128 + 1 * e.val = e.val by omega)
  refine (congrArg (shapeCast S16x1x128 (m ((c : Thread nD τ).loc main_arg1)) shapeCasts_S16x128_S16x1x128) hix).trans ?_
  pointwise

/-- The body's value, from the blocks' contents. -/
theorem O_eq {q k v : S1x8192x128.Idx → EReal} {g : S1x1x128.Idx → EReal} (X G) (b : Fin 2) (h : Fin 12)
    (hq : ∀ p e, rowsOf q p e = Attn.seq X ⟨h.val, by omega⟩ b p e) (hk : ∀ p e, rowsOf k p e = Attn.seq X ⟨12 + h.val, by omega⟩ b p e)
    (hv : ∀ p e, rowsOf v p e = Attn.seq X ⟨24 + h.val, by omega⟩ b p e) (hg : ∀ e, g (ix3 0 0 e) = G (ix2 ⟨4 + h.val, by omega⟩ e))
    (y : S8192x128.Idx) : O q k v g y = Attn.out Attn.row X G b h (y 0) (y 1) := by
  unfold O Attn.out
  rw [funext fun p => funext (hq p), funext fun p => funext (hk p), funext fun p => funext (hv p), funext hg]

/-- Every write-back writes its block of `result`. -/
theorem flushed_eq (c : Dev nD) (t : Fin cfg0.N) (hf : (cfg0.win 4).flush t = true) :
    (dats m O 0 c).flushed 4 t = ((cfg0.win 4).blk t).view.read (Elt Ideal) (result m c) := by
  change Fin 24 at t
  obtain ⟨-, -, -, -, ⟨h0, h1⟩⟩ := blocks t
  show (cfg0.win 4).cut (grid0.coords t) (O (iblk m c 0 t) (iblk m c 1 t) (iblk m c 2 t) (iblk m c 3 t)) = _
  funext y
  change S8192x128.Idx at y
  rw [View.read_apply]
  show O (iblk m c 0 t) (iblk m c 1 t) (iblk m c 2 t) (iblk m c 3 t) y = result m c _
  have hy0 : (y 0).val < 8192 := (y 0).isLt
  have hy1 : (y 1).val < 128 := (y 1).isLt
  have e0 : (((cfg0.win 4).blk t).view.emb y 0).val = t.val / 12 * 8192 + (y 0).val :=
    show win0_4.index t 0 * 8192 + 1 * (y 0).val = _ by omega
  have e1 : (((cfg0.win 4).blk t).view.emb y 1).val = t.val % 12 * 128 + (y 1).val :=
    show win0_4.index t 1 * 128 + 1 * (y 1).val = _ by omega
  have := t.isLt
  exact (O_eq _ _ ⟨t.val / 12, by omega⟩ ⟨t.val % 12, by omega⟩ (iblk0 m c t) (iblk1 m c t) (iblk2 m c t) (iblk3 m c t) y).trans
    (result_at m c _ ⟨t.val / 12, by omega⟩ ⟨t.val % 12, by omega⟩ (y 0) (y 1) e0 e1).symm

/-- So the output array ends at `result`: the blocks cover it. -/
theorem final_o (c : Dev nD) : (dats m O 0 c).arrAt 4 cfg0.N = result m c :=
  (dats m O 0 c).arrAt_eq_of_cover 4 (result m c) (flushed_eq m c) fun i => by
    have h0 : (i 0 : Nat) < 16384 := (i 0).isLt
    have h1 : (i 1 : Nat) < 1536 := (i 1).isLt
    let t : Fin 24 := ⟨(i 0).val / 8192 * 12 + (i 1).val / 128, by omega⟩
    have ht : t.val = (i 0).val / 8192 * 12 + (i 1).val / 128 := rfl
    obtain ⟨-, -, -, -, ⟨e0, e1⟩⟩ := blocks t
    refine ⟨t, flush0_4 t, ?_⟩
    show i ∈ ((View.whole main_v1).slice (win0_4.rect t)).set
    rw [View.set_slice_whole, Rect.mem_set_unit]
    intro a
    match a with
    | ⟨0, _⟩ => show win0_4.index t 0 * 8192 ≤ (i 0 : Nat) ∧ (i 0 : Nat) < win0_4.index t 0 * 8192 + 8192
                omega
    | ⟨1, _⟩ => show win0_4.index t 1 * 128 ≤ (i 1 : Nat) ∧ (i 1 : Nat) < win0_4.index t 1 * 128 + 128
                omega

/-- The run, read: the output array at `result`, the arguments unchanged, the counters zero. -/
theorem run : θ_run defs (onTc (τ := τ) (main (F := Ideal))) ⟨m, fun _ => 0, ρ⟩ fun r => (∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ ⟨h, hs⟩ => ⟨fun c => ⟨((h c).1 4).trans (final_o m c),
      ((h c).1 2).trans (((dats m O 0 c).arrAt_in 2 rfl _).trans ((A_eq m c 2).trans (V_main_arg0 m c))),
      ((h c).2 main_arg1 (Pipeline.mem_restRefs_of main_arg1 (by decide) (by decide))).trans (V_main_arg1 m c)⟩, hs⟩)
    (run_main m ρ leaves)

end Cert.KernelIdeal.Hand

end
-- ==== Proof.RefBand.lean ====
/-
  A block of 64 queries of one residue against a band of 192 keys, the way the reference takes its windows: the mask
  computed on words, and the masked band as a window of all keys.
-/
module

public import proofs.«01_k».proof.Proof.KOut

@[expose] public section

noncomputable section

namespace Attn.Band

open Idealize.ShloMosaic Cert.KernelIdeal.Hand

/-- Entry `k` of the band is seen by query `q` of block `n`: it lies inside the `L` keys and at most 64 from the query. -/
def P (L n q k : ℕ) : Prop := 64 ≤ n * 64 + k ∧ n * 64 + k < L + 64 ∧ q ≤ k ∧ k ≤ q + 128

instance (L n q k : ℕ) : Decidable (P L n q k) := inferInstanceAs (Decidable (_ ∧ _ ∧ _ ∧ _))

/-- The key that entry `k` of block `n`'s band shows, at residue `r` of stride `d`. -/
def φ (d n r : ℕ) (k : Fin 192) : Fin 8192 := ⟨((n * 64 + k.val - 64) * d + r) % 8192, by omega⟩

/-- The mask's word: the distance of the places `a` and `b`, and `a` between 0 and `L`. -/
def word (a b L : BitVec 32) : BitVec 1 :=
  IntOp.andi (IntOp.andi (IntOp.cmpi .sle (IntOp.absi (IntOp.subi a b)) 64#32) (IntOp.cmpi .sge a 0#32)) (IntOp.cmpi .slt a L)

theorem ofBool_one : ∀ p : Bool, BitVec.ofBool p = 1#1 ↔ p = true := by decide

theorem andi_one (a b : BitVec 1) : IntOp.andi a b = 1#1 ↔ a = 1#1 ∧ b = 1#1 := by
  revert a b; decide

/-- A short distance, computed on words. -/
theorem abs_le_iff (w : BitVec 32) (h1 : -1000000 ≤ w.toInt) (h2 : w.toInt ≤ 1000000) :
    IntOp.cmpi .sle (IntOp.absi w) 64#32 = 1#1 ↔ |w.toInt| ≤ 64 := by
  have hneg : (-w).toInt = -w.toInt := by
    rw [BitVec.toInt_neg, bmod_small _ (by omega) (by omega)]
  have habs : (IntOp.absi w).toInt = |w.toInt| := by
    show (if w.msb then -w else w).toInt = _
    rw [BitVec.msb_eq_toInt]
    by_cases hw : w.toInt < 0
    · rw [decide_eq_true hw, if_pos rfl, hneg, abs_of_neg hw]
    · rw [decide_eq_false hw, if_neg (by simp), abs_of_nonneg (by omega)]
  show BitVec.ofBool (decide ((IntOp.absi w).toInt ≤ (64#32 : BitVec 32).toInt)) = 1#1 ↔ _
  rw [habs, ofBool_one, decide_eq_true_iff, show (64#32 : BitVec 32).toInt = 64 from by decide]

theorem word_iff (n q k L : ℕ) (hn : n ≤ 128) (hq : q < 64) (hk : k < 192) (hL : L ≤ 8192) :
    word (IntOp.addi (IntOp.subi (IntOp.muli (BitVec.ofNat 32 n) 64#32) 64#32) (BitVec.ofNat 32 k))
      (IntOp.addi (IntOp.muli (BitVec.ofNat 32 n) 64#32) (BitVec.ofNat 32 q)) (BitVec.ofNat 32 L) = 1#1 ↔ P L n q k := by
  have hm : IntOp.muli (BitVec.ofNat 32 n) 64#32 = BitVec.ofNat 32 (n * 64) := (BitVec.ofNat_mul n 64).symm
  have e1 : (IntOp.addi (IntOp.subi (IntOp.muli (BitVec.ofNat 32 n) 64#32) 64#32) (BitVec.ofNat 32 k) : BitVec 32).toInt = (n * 64 : ℤ) - 64 + k := by
    rw [hm]
    show ((BitVec.ofNat 32 (n * 64) - BitVec.ofNat 32 64) + BitVec.ofNat 32 k : BitVec 32).toInt = _
    rw [BitVec.toInt_add, BitVec.toInt_sub, toInt_small _ (by omega), toInt_small _ (by omega), toInt_small _ (by omega)]
    simp only [Nat.cast_mul, Nat.cast_ofNat]
    rw [bmod_small ((n * 64 : ℤ) - 64) (by omega) (by omega), bmod_small _ (by omega) (by omega)]
  have e2 : (IntOp.addi (IntOp.muli (BitVec.ofNat 32 n) 64#32) (BitVec.ofNat 32 q) : BitVec 32).toInt = (n * 64 : ℤ) + q := by
    rw [hm]
    show (BitVec.ofNat 32 (n * 64) + BitVec.ofNat 32 q : BitVec 32).toInt = _
    rw [BitVec.toInt_add, toInt_small _ (by omega), toInt_small _ (by omega)]
    simp only [Nat.cast_mul, Nat.cast_ofNat]
    rw [bmod_small _ (by omega) (by omega)]
  have eL := toInt_small L (by omega)
  revert e1 e2
  generalize (IntOp.addi (IntOp.subi (IntOp.muli (BitVec.ofNat 32 n) 64#32) 64#32) (BitVec.ofNat 32 k) : BitVec 32) = a
  generalize (IntOp.addi (IntOp.muli (BitVec.ofNat 32 n) 64#32) (BitVec.ofNat 32 q) : BitVec 32) = b
  intro e1 e2
  have e : (IntOp.subi a b).toInt = (k : ℤ) - 64 - q := by
    show (a - b).toInt = _
    rw [BitVec.toInt_sub, e1, e2, bmod_small _ (by omega) (by omega)]
    omega
  unfold word P
  rw [andi_one, andi_one, abs_le_iff _ (by omega) (by omega), e, abs_le]
  have hge : IntOp.cmpi .sge a 0#32 = 1#1 ↔ 0 ≤ a.toInt := by
    show BitVec.ofBool (decide ((0#32 : BitVec 32).toInt ≤ a.toInt)) = 1#1 ↔ _
    rw [ofBool_one, decide_eq_true_iff, show (0#32 : BitVec 32).toInt = 0 from by decide]
  have hlt : IntOp.cmpi .slt a (BitVec.ofNat 32 L) = 1#1 ↔ a.toInt < L := by
    show BitVec.ofBool (decide (a.toInt < (BitVec.ofNat 32 L).toInt)) = 1#1 ↔ _
    rw [ofBool_one, decide_eq_true_iff, eL]
  rw [hge, hlt, e1]
  omega

/-- The band as a window of all keys: one block of 64 queries of stride `d`, among `L` of one residue. -/
theorem win {d L n q r : ℕ} (hd : d = 1 ∧ L = 8192 ∨ d = 4 ∧ L = 2048 ∨ d = 16 ∧ L = 512) (hr : r < d) (hq : q < 64) (hn : n * 64 + 64 ≤ L)
    (p : Fin 8192) (hp : p.val = (n * 64 + q) * d + r) : Win (φ d n r) (fun k => P L n q k.val) (ok d p) := by
  unfold P ok φ
  refine ⟨fun x y hx hy e => Fin.ext ?_, fun k hk => ?_, fun x hx => ?_⟩
  · have e' := congrArg Fin.val e
    dsimp only at e' hx hy
    rcases hd with ⟨rfl, rfl⟩ | ⟨rfl, rfl⟩ | ⟨rfl, rfl⟩ <;> omega
  · dsimp only at hk ⊢
    rcases hd with ⟨rfl, rfl⟩ | ⟨rfl, rfl⟩ | ⟨rfl, rfl⟩ <;> omega
  · refine ⟨⟨x.val / d + 64 - n * 64, ?_⟩, ?_, Fin.ext ?_⟩ <;> (try dsimp only) <;>
      (rcases hd with ⟨rfl, rfl⟩ | ⟨rfl, rfl⟩ | ⟨rfl, rfl⟩ <;> omega)

/-- So a masked band has the maximum, the sum of weights and the weighted sums of the whole masked row. -/
theorem all {d L n q r : ℕ} (hd : d = 1 ∧ L = 8192 ∨ d = 4 ∧ L = 2048 ∨ d = 16 ∧ L = 512) (hr : r < d) (hq : q < 64) (hn : n * 64 + 64 ≤ L)
    (p : Fin 8192) (hp : p.val = (n * 64 + q) * d + r) (Q K V : Fin 8192 → Fin 128 → EReal) (f : Fin 192 → EReal)
    (hf : ∀ k, f k = if P L n q k.val then ∑ e, Q p e * K (φ d n r k) e else ⊥) :
    M f = M (score Q K d p) ∧ (∀ μ, Attn.L f μ = Attn.L (score Q K d p) μ)
    ∧ ∀ (v : Fin 192 → EReal) (e : Fin 128) (_ : ∀ k, P L n q k.val → v k = V (φ d n r k) e) μ, A f v μ = A (score Q K d p) (fun x => V x e) μ := by
  rw [show f = _ from funext hf]
  obtain ⟨h1, h2, h3⟩ := (win hd hr hq hn p hp).all (fun k => ∑ e, Q p e * K (φ d n r k) e) (fun x => ∑ e, Q p e * K x e) (fun _ _ => rfl)
  exact ⟨h1, h2, fun v e hv μ => h3 v _ hv μ⟩

end Attn.Band

end
-- ==== Proof.RefRead.lean ====
/-
  The reference's three branches, read at one query: the masked scores against the band of 192 keys, their maximum,
  sum of weights and weighted sums.
-/
module

public import proofs.«01_k».proof.Proof.RefBand
public import proofs.«01_k».proof.Proof.Gen.ReferenceIdeal.Run

@[expose] public section

noncomputable section

namespace Cert.ReferenceIdeal.Hand

open Cert.ReferenceIdeal Cert.ReferenceIdeal.Value
open Idealize.ShloMosaic Idealize.ShloMosaic.TcCoe Idealize.SL.Sem
open Attn.Band (P φ)

variable (V0 : Valuation τ sig (Elt Ideal))

/-- Query head `h`, and its key and value heads, of sequence `b`. -/
abbrev Qh (b : Fin 2) (h : Fin 12) := Attn.seq (V0 (Proc.devRef .tc main_arg0)) ⟨h.val, by omega⟩ b
@[inherit_doc Qh] abbrev Kh (b : Fin 2) (h : Fin 12) := Attn.seq (V0 (Proc.devRef .tc main_arg0)) ⟨12 + h.val, by omega⟩ b
@[inherit_doc Qh] abbrev Vh (b : Fin 2) (h : Fin 12) := Attn.seq (V0 (Proc.devRef .tc main_arg0)) ⟨24 + h.val, by omega⟩ b

theorem v2_at (b : Fin 2) (s : Fin 8192) (h : Fin 12) (e : Fin 128) : res_main_v2 V0 (ix4 b s h e) = Qh V0 b h s e := by
  unfold res_main_v2 res_main_v1 Qh Attn.seq
  pointwise

theorem v3_at (b : Fin 2) (s : Fin 8192) (h : Fin 12) (e : Fin 128) : res_main_v3 V0 (ix4 b s h e) = Kh V0 b h s e := by
  unfold res_main_v3 res_main_v1 Kh Attn.seq
  pointwise

theorem v4_at (b : Fin 2) (s : Fin 8192) (h : Fin 12) (e : Fin 128) : res_main_v4 V0 (ix4 b s h e) = Vh V0 b h s e := by
  unfold res_main_v4 res_main_v1 Vh Attn.seq
  pointwise

/-- A select whose word says whether the entry is seen. -/
theorem masked {L n q : ℕ} (hn : n ≤ 128) (hq : q < 64) (hL : L ≤ 8192) (k : Fin 192) {a c : BitVec 32} (hc : c = BitVec.ofNat 32 L)
    (ha : a = IntOp.addi (IntOp.subi (IntOp.muli (BitVec.ofNat 32 n) 64#32) 64#32) (BitVec.ofNat 32 k.val)) {x y z : EReal} (hz : z = ⊥)
    (h : P L n q k.val → x = y) :
    Scalar.select (Attn.Band.word a (IntOp.addi (IntOp.muli (BitVec.ofNat 32 n) 64#32) (BitVec.ofNat 32 q)) c) x z = if P L n q k.val then y else ⊥ := by
  subst hc ha hz
  have hw := Attn.Band.word_iff n q k.val L hn hq k.isLt hL
  by_cases hP : P L n q k.val
  · rw [if_pos hP, ← h hP]; exact if_pos (hw.2 hP)
  · rw [if_neg hP]; exact if_neg fun hh => hP (hw.1 hh)

/-! ### Reductions along one axis -/

/-- A host maximum along the last of six axes. -/
theorem max6 {n0 n1 n2 n3 n4 n5 : ℕ} (x : FVec Ideal ⟨6, ![n0, n1, n2, n3, n4, n5]⟩ .f32)
    (h' : (⟨6, ![n0, n1, n2, n3, n4, n5]⟩ : Shape).ReducesTo [5] ⟨5, ![n0, n1, n2, n3, n4]⟩)
    (h : (⟨6, ![n0, n1, n2, n3, n4, n5]⟩ : Shape).Reduces [5] ⟨5, ![n0, n1, n2, n3, n4]⟩) (hu : 0 < S_.numel)
    (a : Fin n0) (b : Fin n1) (c : Fin n2) (d : Fin n3) (e : Fin n4) :
    Host.reduce FloatOps.maximumf x (constant S_ .f32 0xFF800000#32) h' hu (ix5 a b c d e) = Attn.M fun k => x (ix6 a b c d e k) := by
  refine (Host.reduce_eq_fold_single (FloatOps.maximumf (F := Ideal)) x _ h' h hu _).trans ((Cert.KernelIdeal.Hand.fold_max_eq _).trans ?_)
  congr 1
  funext k
  refine congrArg x (funext fun g => ?_)
  match g with
  | ⟨0, _⟩ => rfl
  | ⟨1, _⟩ => rfl
  | ⟨2, _⟩ => rfl
  | ⟨3, _⟩ => rfl
  | ⟨4, _⟩ => rfl
  | ⟨5, _⟩ => rfl

/-- A host sum along the last of six axes. -/
theorem sum6 {n0 n1 n2 n3 n4 n5 : ℕ} (x : FVec Ideal ⟨6, ![n0, n1, n2, n3, n4, n5]⟩ .f32)
    (h' : (⟨6, ![n0, n1, n2, n3, n4, n5]⟩ : Shape).ReducesTo [5] ⟨5, ![n0, n1, n2, n3, n4]⟩)
    (h : (⟨6, ![n0, n1, n2, n3, n4, n5]⟩ : Shape).Reduces [5] ⟨5, ![n0, n1, n2, n3, n4]⟩) (hu : 0 < S_.numel)
    (a : Fin n0) (b : Fin n1) (c : Fin n2) (d : Fin n3) (e : Fin n4) :
    Host.reduceAdd x (constant S_ .f32 0x00000000#32) h' hu (ix5 a b c d e) = ∑ k, x (ix6 a b c d e k) := by
  refine (Ideal.hostReduceAdd_single h' h x _ _).trans ?_
  rw [show constant (F := Ideal) S_ .f32 0x00000000#32 (Shape.Idx.first hu) = (0 : EReal) from Ideal.ofBits_zero .f32, zero_add]
  refine Finset.sum_congr rfl fun k _ => congrArg x (funext fun g => ?_)
  match g with
  | ⟨0, _⟩ => rfl
  | ⟨1, _⟩ => rfl
  | ⟨2, _⟩ => rfl
  | ⟨3, _⟩ => rfl
  | ⟨4, _⟩ => rfl
  | ⟨5, _⟩ => rfl

/-- A host maximum along the first of four axes. -/
theorem max4 {n0 n1 n2 n3 : ℕ} (x : FVec Ideal ⟨4, ![n0, n1, n2, n3]⟩ .f32)
    (h' : (⟨4, ![n0, n1, n2, n3]⟩ : Shape).ReducesTo [0] ⟨3, ![n1, n2, n3]⟩)
    (h : (⟨4, ![n0, n1, n2, n3]⟩ : Shape).Reduces [0] ⟨3, ![n1, n2, n3]⟩) (hu : 0 < S_.numel)
    (a : Fin n1) (b : Fin n2) (c : Fin n3) :
    Host.reduce FloatOps.maximumf x (constant S_ .f32 0xFF800000#32) h' hu (ix3 a b c) = Attn.M fun k => x (ix4 k a b c) := by
  refine (Host.reduce_eq_fold_single (FloatOps.maximumf (F := Ideal)) x _ h' h hu _).trans ((Cert.KernelIdeal.Hand.fold_max_eq _).trans ?_)
  congr 1
  funext k
  refine congrArg x (funext fun g => ?_)
  match g with
  | ⟨0, _⟩ => rfl
  | ⟨1, _⟩ => rfl
  | ⟨2, _⟩ => rfl
  | ⟨3, _⟩ => rfl

/-- A band is three blocks of 64 side by side. -/
theorem three {N j : ℕ} (f : Fin N → EReal) (k : Fin 192) (h1 : j + k.val < N) (h2 : k.val < 64 → j + k.val < N)
    (h3 : k.val - 64 < 64 → 64 + (j + (k.val - 64)) < N) (h4 : ¬k.val < 64 → ¬k.val - 64 < 64 → 128 + (j + (k.val - 64 - 64)) < N) :
    (if h : k.val < 64 then f ⟨j + k.val, h2 h⟩
      else if h' : k.val - 64 < 64 then f ⟨64 + (j + (k.val - 64)), h3 h'⟩
      else f ⟨128 + (j + (k.val - 64 - 64)), h4 h h'⟩) = f ⟨j + k.val, h1⟩ := by
  split_ifs
  · rfl
  · exact congrArg f (Fin.ext (by dsimp only; omega))
  · exact congrArg f (Fin.ext (by dsimp only; omega))

/-- A branch read at one query: from its masked band, the logarithm of the sum of its weights and its output. -/
theorem branch {d L n q r : ℕ} (hd : d = 1 ∧ L = 8192 ∨ d = 4 ∧ L = 2048 ∨ d = 16 ∧ L = 512) (hr : r < d) (hq : q < 64) (hn : n * 64 + 64 ≤ L)
    (p : Fin 8192) (hp : p.val = (n * 64 + q) * d + r) (Q K V : Fin 8192 → Fin 128 → EReal) (f w : Fin 192 → EReal) (mx den : EReal)
    (hf : ∀ k, f k = if P L n q k.val then ∑ e, Q p e * K (φ d n r k) e else ⊥) (hm : mx = Attn.M f)
    (hw : ∀ k, w k = Ideal.exp (f k - mx)) (hden : den = ∑ k, w k) :
    mx + Ideal.log den = Attn.lse (Attn.score Q K d p)
    ∧ ∀ (v : Fin 192 → EReal) (e : Fin 128) (_ : ∀ k, P L n q k.val → v k = V (φ d n r k) e),
      Ideal.div (∑ k, w k * v k) den = Ideal.div (Attn.A (Attn.score Q K d p) (fun x => V x e) (Attn.M (Attn.score Q K d p)))
        (Attn.L (Attn.score Q K d p) (Attn.M (Attn.score Q K d p))) := by
  obtain ⟨h1, h2, h3⟩ := Attn.Band.all hd hr hq hn p hp Q K V f hf
  have hden' : den = Attn.L (Attn.score Q K d p) (Attn.M (Attn.score Q K d p)) := by
    rw [hden, ← h2, ← h1, ← hm]
    exact Finset.sum_congr rfl fun k _ => hw k
  refine ⟨?_, fun v e hv => ?_⟩
  · unfold Attn.lse
    rw [hden', hm, h1]
  · rw [hden', ← h3 v e hv, ← h1, ← hm]
    congr 1
    exact Finset.sum_congr rfl fun k _ => by rw [hw]

/-! ### The three branches combined -/

/-- Branch `i`'s logarithm of the sum of its weights, and its output. -/
abbrev ls (b : Fin 2) (s : Fin 8192) (h : Fin 12) (i : Fin 3) : EReal := res_main_v257 V0 (ix4 i b s h)
@[inherit_doc ls] abbrev os (b : Fin 2) (s : Fin 8192) (h : Fin 12) (e : Fin 128) (i : Fin 3) : EReal := res_main_v273 V0 (ix5 i b s h e)

theorem v264_at (i : Fin 3) (b : Fin 2) (s : Fin 8192) (h : Fin 12) :
    res_main_v264 V0 (ix4 i b s h) = Ideal.exp (ls V0 b s h i - Attn.M (ls V0 b s h)) := by
  unfold res_main_v264
  generalize hz : Host.reduce _ _ _ _ _ = z
  pointwise
  rw [← hz, max4 (n0 := 3) _ _ (by decide) _ b s h, Cert.KernelIdeal.Hand.ofBits_neg_inf, max_eq_right bot_le]

theorem v276_at (b : Fin 2) (s : Fin 8192) (h : Fin 12)  (e : Fin 128) :
    res_main_v276 V0 (ix4 b s h e) = ∑ i : Fin 3,
      Ideal.div (Ideal.exp (ls V0 b s h i - Attn.M (ls V0 b s h))) (∑ j : Fin 3, Ideal.exp (ls V0 b s h j - Attn.M (ls V0 b s h)))
        * os V0 b s h e i := by
  unfold res_main_v276
  pointwise
  simp only [v264_at]

/-- Three arrays side by side along the first of four axes. -/
theorem cat4 (x0 x1 x2 : FVec Ideal S1x2x8192x12 .f32) (h) (b : Fin 2) (s : Fin 8192) (g : Fin 12) :
    concatenate S3x2x8192x12 0 [⟨S1x2x8192x12, x0⟩, ⟨S1x2x8192x12, x1⟩, ⟨S1x2x8192x12, x2⟩] h (ix4 0 b s g) = x0 (ix4 0 b s g)
    ∧ concatenate S3x2x8192x12 0 [⟨S1x2x8192x12, x0⟩, ⟨S1x2x8192x12, x1⟩, ⟨S1x2x8192x12, x2⟩] h (ix4 1 b s g) = x1 (ix4 0 b s g)
    ∧ concatenate S3x2x8192x12 0 [⟨S1x2x8192x12, x0⟩, ⟨S1x2x8192x12, x1⟩, ⟨S1x2x8192x12, x2⟩] h (ix4 2 b s g) = x2 (ix4 0 b s g) :=
  ⟨by pointwise, by pointwise, by pointwise⟩

/-- Three arrays side by side along the first of five axes. -/
theorem cat5 (x0 x1 x2 : FVec Ideal S1x2x8192x12x128 .f32) (h) (b : Fin 2) (s : Fin 8192) (g : Fin 12) (e : Fin 128) :
    concatenate S3x2x8192x12x128 0 [⟨S1x2x8192x12x128, x0⟩, ⟨S1x2x8192x12x128, x1⟩, ⟨S1x2x8192x12x128, x2⟩] h (ix5 0 b s g e) = x0 (ix5 0 b s g e)
    ∧ concatenate S3x2x8192x12x128 0 [⟨S1x2x8192x12x128, x0⟩, ⟨S1x2x8192x12x128, x1⟩, ⟨S1x2x8192x12x128, x2⟩] h (ix5 1 b s g e) = x1 (ix5 0 b s g e)
    ∧ concatenate S3x2x8192x12x128 0 [⟨S1x2x8192x12x128, x0⟩, ⟨S1x2x8192x12x128, x1⟩, ⟨S1x2x8192x12x128, x2⟩] h (ix5 2 b s g e) = x2 (ix5 0 b s g e) :=
  ⟨by pointwise, by pointwise, by pointwise⟩

end Cert.ReferenceIdeal.Hand

end
-- ==== Proof.Ref1.lean ====
/-
  The reference's branch of stride 1, read at one query.
-/
module

public import proofs.«01_k».proof.Proof.RefRead

@[expose] public section

noncomputable section

namespace Cert.ReferenceIdeal.Hand.Stride1

open Cert.ReferenceIdeal Cert.ReferenceIdeal.Value
open Idealize.ShloMosaic Idealize.ShloMosaic.TcCoe Idealize.SL.Sem
open Attn.Band (P φ)

variable (V0 : Valuation τ sig (Elt Ideal))

theorem v49_at (n : Fin 128) (k : Fin 192) : res_main_v49 V0 (ix2 n k)
    = IntOp.addi (IntOp.subi (IntOp.muli (BitVec.ofNat 32 n.val) 64#32) 64#32) (BitVec.ofNat 32 k.val) := by
  unfold res_main_v49
  pointwise

theorem v10_at (b : Fin 2) (h : Fin 12) (j : Fin 8320) (e : Fin 128) (hj : 64 ≤ j.val ∧ j.val < 8256) :
    res_main_v10 V0 (ix5 b 0 h j e) = Kh V0 b h ⟨(j.val - 64), by omega⟩ e := by
  unfold res_main_v10
  pointwise
  rw [dif_pos (by omega), v3_at]

theorem v13_at (b : Fin 2) (h : Fin 12) (j : Fin 8320) (e : Fin 128) (hj : 64 ≤ j.val ∧ j.val < 8256) :
    res_main_v13 V0 (ix5 b 0 h j e) = Vh V0 b h ⟨(j.val - 64), by omega⟩ e := by
  unfold res_main_v13
  pointwise
  rw [dif_pos (by omega), v4_at]

theorem v68_at (b : Fin 2) (h : Fin 12) (n : Fin 128) (q : Fin 64) (k : Fin 192) :
    res_main_v68 V0 (ix6 b 0 h n q k) = (if P 8192 n.val q.val k.val then
      ∑ e, Qh V0 b h ⟨(n.val * 64 + q.val), by omega⟩ e * Kh V0 b h (φ 1 n.val 0 k) e else ⊥ : EReal) := by
  unfold res_main_v68
  pointwise
  refine masked (by omega) q.isLt (by omega) k rfl (v49_at V0 n k) rfl fun hP => ?_
  refine Finset.sum_congr rfl fun e _ => ?_
  unfold P at hP
  rw [three (fun j => res_main_v10 V0 (ix5 b 0 h j e)) k (by omega), v10_at V0 b h _ e (by dsimp only; omega), dif_pos (by omega), v2_at]
  congr 2
  apply Fin.ext
  simp only [φ]
  omega

/-- A query's masked band, its weights, their maximum and their sum. -/
abbrev sc (b : Fin 2) (h : Fin 12) (n : Fin 128) (q : Fin 64) (k : Fin 192) : EReal := res_main_v68 V0 (ix6 b 0 h n q k)
@[inherit_doc sc] abbrev wt (b : Fin 2) (h : Fin 12) (n : Fin 128) (q : Fin 64) (k : Fin 192) : EReal := res_main_v73 V0 (ix6 b 0 h n q k)
@[inherit_doc sc] abbrev mx (b : Fin 2) (h : Fin 12) (n : Fin 128) (q : Fin 64) : EReal := res_main_v70 V0 (ix6 b 0 h n q 0)
@[inherit_doc sc] abbrev dn (b : Fin 2) (h : Fin 12) (n : Fin 128) (q : Fin 64) : EReal := res_main_v74 V0 (ix5 b 0 h n q)

theorem v70_at (b : Fin 2) (h : Fin 12) (n : Fin 128) (q : Fin 64) :
    mx V0 b h n q = Attn.M (sc V0 b h n q) := by
  unfold mx
  unfold res_main_v70
  generalize hz : Host.reduce _ _ _ _ _ = z
  pointwise
  rw [← hz]
  exact max6 (n5 := 192) _ _ (by decide) _ b 0 h n q

theorem v73_at (b : Fin 2) (h : Fin 12) (n : Fin 128) (q : Fin 64) (k : Fin 192) :
    wt V0 b h n q k = Ideal.exp (sc V0 b h n q k - mx V0 b h n q) := by
  unfold wt
  unfold res_main_v73
  pointwise

theorem v74_at (b : Fin 2) (h : Fin 12) (n : Fin 128) (q : Fin 64) :
    dn V0 b h n q = ∑ k, wt V0 b h n q k := by
  unfold dn
  unfold res_main_v74
  exact sum6 (n5 := 192) _ _ (by decide) _ b 0 h n q

/-- Entry `k` of the band of values. -/
def vb (b : Fin 2) (h : Fin 12) (n : Fin 128) (e : Fin 128) (k : Fin 192) : EReal :=
  res_main_v13 V0 (ix5 b 0 h ⟨n.val * 64 + k.val, by omega⟩ e)

/-- The branch at query `s`. -/
theorem at_query (b : Fin 2) (s : Fin 8192) (h : Fin 12) (n : Fin 128) (q : Fin 64) (hs : s.val = (n.val * 64 + q.val)) :
    mx V0 b h n q + Ideal.log (dn V0 b h n q) = Attn.lse (Attn.score (Qh V0 b h) (Kh V0 b h) 1 s)
    ∧ ∀ e, Ideal.div (∑ k, wt V0 b h n q k * vb V0 b h n e k) (dn V0 b h n q)
      = Ideal.div (Attn.A (Attn.score (Qh V0 b h) (Kh V0 b h) 1 s) (fun x => Vh V0 b h x e) (Attn.M (Attn.score (Qh V0 b h) (Kh V0 b h) 1 s)))
        (Attn.L (Attn.score (Qh V0 b h) (Kh V0 b h) 1 s) (Attn.M (Attn.score (Qh V0 b h) (Kh V0 b h) 1 s))) := by
  obtain ⟨h1, h2⟩ := branch (d := 1) (L := 8192) (by omega) (n := n.val) (r := 0) (by omega) q.isLt (by omega) s (by omega) (Qh V0 b h) (Kh V0 b h) (Vh V0 b h) (sc V0 b h n q) (wt V0 b h n q)
    (mx V0 b h n q) (dn V0 b h n q) (fun k => (v68_at V0 b h n q k).trans (by simp only [← hs])) (v70_at V0 b h n q) (v73_at V0 b h n q) (v74_at V0 b h n q)
  refine ⟨h1, fun e => h2 _ e fun k hP => ?_⟩
  unfold P at hP
  unfold vb
  rw [v13_at V0 b h _ e (by dsimp only; omega)]
  refine congrArg (fun x => Vh V0 b h x e) (Fin.ext ?_)
  simp only [φ]
  omega

/-- Where the branch's logarithms stand among the three. -/
theorem place4 (z : FVec Ideal S2x1x12x128x64 .f32) (h1 h2 h3 h4) (b : Fin 2) (s : Fin 8192) (h : Fin 12) :
    broadcastInDim S1x2x8192x12 ![1, 2, 3] h1 (shapeCast S2x8192x12 (transpose S2x8192x1x12 [0, 3, 1, 2] (shapeCast S2x1x12x8192 z h2) h3) h4) (ix4 0 b s h)
      = z (ix5 b 0 h ⟨s.val / 64, by omega⟩ ⟨s.val % 64, by omega⟩) := by
  pointwise

/-- Where the branch's outputs stand among the three. -/
theorem place5 (z : FVec Ideal S2x1x12x128x64x128 .f32) (h1 h2 h3 h4) (b : Fin 2) (s : Fin 8192) (h : Fin 12) (e : Fin 128) :
    broadcastInDim S1x2x8192x12x128 ![1, 2, 3, 4] h1 (shapeCast S2x8192x12x128 (transpose S2x8192x1x12x128 [0, 3, 1, 2, 4] (shapeCast S2x1x12x8192x128 z h2) h3) h4) (ix5 0 b s h e)
      = z (ix6 b 0 h ⟨s.val / 64, by omega⟩ ⟨s.val % 64, by omega⟩ e) := by
  pointwise

theorem drop1 (z : FVec Ideal S2x1x12x128x64x1 .f32) (h1) (b : Fin 2) (h : Fin 12) (n : Fin 128) (q : Fin 64) :
    shapeCast S2x1x12x128x64 z h1 (ix5 b 0 h n q) = z (ix6 b 0 h n q 0) := by
  pointwise

theorem v257_at (b : Fin 2) (s : Fin 8192) (h : Fin 12) : ls V0 b s h 0 = Attn.lse (Attn.score (Qh V0 b h) (Kh V0 b h) 1 s) := by
  rw [← (at_query V0 b s h ⟨s.val / 64, by omega⟩ ⟨s.val % 64, by omega⟩ (by dsimp only; omega)).1]
  unfold ls res_main_v257
  rw [(cat4 _ _ _ _ b s h).1, place4 _ _ _ _ _ b s h, addf_apply, drop1]
  rfl

theorem v273_at (b : Fin 2) (s : Fin 8192) (h : Fin 12) (e : Fin 128) : os V0 b s h e 0
    = Ideal.div (Attn.A (Attn.score (Qh V0 b h) (Kh V0 b h) 1 s) (fun x => Vh V0 b h x e) (Attn.M (Attn.score (Qh V0 b h) (Kh V0 b h) 1 s)))
        (Attn.L (Attn.score (Qh V0 b h) (Kh V0 b h) 1 s) (Attn.M (Attn.score (Qh V0 b h) (Kh V0 b h) 1 s))) := by
  rw [← (at_query V0 b s h ⟨s.val / 64, by omega⟩ ⟨s.val % 64, by omega⟩ (by dsimp only; omega)).2]
  unfold os res_main_v273
  rw [(cat5 _ _ _ _ b s h e).1, place5 _ _ _ _ _ b s h e]
  pointwise
  refine congrArg (fun x => Ideal.div x _) (Finset.sum_congr rfl fun k _ => ?_)
  rw [three (fun j => res_main_v13 V0 (ix5 b 0 h j e)) k (by omega)]
  rfl

end Cert.ReferenceIdeal.Hand.Stride1

end
-- ==== Proof.Ref4.lean ====
/-
  The reference's branch of stride 4, read at one query.
-/
module

public import proofs.«01_k».proof.Proof.RefRead

@[expose] public section

noncomputable section

namespace Cert.ReferenceIdeal.Hand.Stride4

open Cert.ReferenceIdeal Cert.ReferenceIdeal.Value
open Idealize.ShloMosaic Idealize.ShloMosaic.TcCoe Idealize.SL.Sem
open Attn.Band (P φ)

variable (V0 : Valuation τ sig (Elt Ideal))

theorem v132_at (n : Fin 32) (k : Fin 192) : res_main_v132 V0 (ix2 n k)
    = IntOp.addi (IntOp.subi (IntOp.muli (BitVec.ofNat 32 n.val) 64#32) 64#32) (BitVec.ofNat 32 k.val) := by
  unfold res_main_v132
  pointwise

theorem v93_at (b : Fin 2) (r : Fin 4) (h : Fin 12) (j : Fin 2176) (e : Fin 128) (hj : 64 ≤ j.val ∧ j.val < 2112) :
    res_main_v93 V0 (ix5 b r h j e) = Kh V0 b h ⟨(j.val - 64) * 4 + r.val, by omega⟩ e := by
  unfold res_main_v93
  pointwise
  rw [dif_pos (by omega), v3_at]

theorem v96_at (b : Fin 2) (r : Fin 4) (h : Fin 12) (j : Fin 2176) (e : Fin 128) (hj : 64 ≤ j.val ∧ j.val < 2112) :
    res_main_v96 V0 (ix5 b r h j e) = Vh V0 b h ⟨(j.val - 64) * 4 + r.val, by omega⟩ e := by
  unfold res_main_v96
  pointwise
  rw [dif_pos (by omega), v4_at]

theorem v151_at (b : Fin 2) (r : Fin 4) (h : Fin 12) (n : Fin 32) (q : Fin 64) (k : Fin 192) :
    res_main_v151 V0 (ix6 b r h n q k) = (if P 2048 n.val q.val k.val then
      ∑ e, Qh V0 b h ⟨(n.val * 64 + q.val) * 4 + r.val, by omega⟩ e * Kh V0 b h (φ 4 n.val r.val k) e else ⊥ : EReal) := by
  unfold res_main_v151
  pointwise
  refine masked (by omega) q.isLt (by omega) k rfl (v132_at V0 n k) rfl fun hP => ?_
  refine Finset.sum_congr rfl fun e _ => ?_
  unfold P at hP
  rw [three (fun j => res_main_v93 V0 (ix5 b r h j e)) k (by omega), v93_at V0 b r h _ e (by dsimp only; omega), dif_pos (by omega), v2_at]
  congr 2
  apply Fin.ext
  simp only [φ]
  omega

/-- A query's masked band, its weights, their maximum and their sum. -/
abbrev sc (b : Fin 2) (r : Fin 4) (h : Fin 12) (n : Fin 32) (q : Fin 64) (k : Fin 192) : EReal := res_main_v151 V0 (ix6 b r h n q k)
@[inherit_doc sc] abbrev wt (b : Fin 2) (r : Fin 4) (h : Fin 12) (n : Fin 32) (q : Fin 64) (k : Fin 192) : EReal := res_main_v156 V0 (ix6 b r h n q k)
@[inherit_doc sc] abbrev mx (b : Fin 2) (r : Fin 4) (h : Fin 12) (n : Fin 32) (q : Fin 64) : EReal := res_main_v153 V0 (ix6 b r h n q 0)
@[inherit_doc sc] abbrev dn (b : Fin 2) (r : Fin 4) (h : Fin 12) (n : Fin 32) (q : Fin 64) : EReal := res_main_v157 V0 (ix5 b r h n q)

theorem v153_at (b : Fin 2) (r : Fin 4) (h : Fin 12) (n : Fin 32) (q : Fin 64) :
    mx V0 b r h n q = Attn.M (sc V0 b r h n q) := by
  unfold mx
  unfold res_main_v153
  generalize hz : Host.reduce _ _ _ _ _ = z
  pointwise
  rw [← hz]
  exact max6 (n5 := 192) _ _ (by decide) _ b r h n q

theorem v156_at (b : Fin 2) (r : Fin 4) (h : Fin 12) (n : Fin 32) (q : Fin 64) (k : Fin 192) :
    wt V0 b r h n q k = Ideal.exp (sc V0 b r h n q k - mx V0 b r h n q) := by
  unfold wt
  unfold res_main_v156
  pointwise

theorem v157_at (b : Fin 2) (r : Fin 4) (h : Fin 12) (n : Fin 32) (q : Fin 64) :
    dn V0 b r h n q = ∑ k, wt V0 b r h n q k := by
  unfold dn
  unfold res_main_v157
  exact sum6 (n5 := 192) _ _ (by decide) _ b r h n q

/-- Entry `k` of the band of values. -/
def vb (b : Fin 2) (r : Fin 4) (h : Fin 12) (n : Fin 32) (e : Fin 128) (k : Fin 192) : EReal :=
  res_main_v96 V0 (ix5 b r h ⟨n.val * 64 + k.val, by omega⟩ e)

/-- The branch at query `s`. -/
theorem at_query (b : Fin 2) (s : Fin 8192) (h : Fin 12) (r : Fin 4) (n : Fin 32) (q : Fin 64) (hs : s.val = (n.val * 64 + q.val) * 4 + r.val) :
    mx V0 b r h n q + Ideal.log (dn V0 b r h n q) = Attn.lse (Attn.score (Qh V0 b h) (Kh V0 b h) 4 s)
    ∧ ∀ e, Ideal.div (∑ k, wt V0 b r h n q k * vb V0 b r h n e k) (dn V0 b r h n q)
      = Ideal.div (Attn.A (Attn.score (Qh V0 b h) (Kh V0 b h) 4 s) (fun x => Vh V0 b h x e) (Attn.M (Attn.score (Qh V0 b h) (Kh V0 b h) 4 s)))
        (Attn.L (Attn.score (Qh V0 b h) (Kh V0 b h) 4 s) (Attn.M (Attn.score (Qh V0 b h) (Kh V0 b h) 4 s))) := by
  obtain ⟨h1, h2⟩ := branch (d := 4) (L := 2048) (by omega) r.isLt q.isLt (by omega) s hs (Qh V0 b h) (Kh V0 b h) (Vh V0 b h) (sc V0 b r h n q) (wt V0 b r h n q)
    (mx V0 b r h n q) (dn V0 b r h n q) (fun k => (v151_at V0 b r h n q k).trans (by simp only [← hs])) (v153_at V0 b r h n q) (v156_at V0 b r h n q) (v157_at V0 b r h n q)
  refine ⟨h1, fun e => h2 _ e fun k hP => ?_⟩
  unfold P at hP
  unfold vb
  rw [v96_at V0 b r h _ e (by dsimp only; omega)]
  refine congrArg (fun x => Vh V0 b h x e) (Fin.ext ?_)
  simp only [φ]
  omega

/-- Where the branch's logarithms stand among the three. -/
theorem place4 (z : FVec Ideal S2x4x12x32x64 .f32) (h1 h2 h3 h4) (b : Fin 2) (s : Fin 8192) (h : Fin 12) :
    broadcastInDim S1x2x8192x12 ![1, 2, 3] h1 (shapeCast S2x8192x12 (transpose S2x2048x4x12 [0, 3, 1, 2] (shapeCast S2x4x12x2048 z h2) h3) h4) (ix4 0 b s h)
      = z (ix5 b ⟨s.val % 4, by omega⟩ h ⟨s.val / 4 / 64, by omega⟩ ⟨s.val / 4 % 64, by omega⟩) := by
  pointwise

/-- Where the branch's outputs stand among the three. -/
theorem place5 (z : FVec Ideal S2x4x12x32x64x128 .f32) (h1 h2 h3 h4) (b : Fin 2) (s : Fin 8192) (h : Fin 12) (e : Fin 128) :
    broadcastInDim S1x2x8192x12x128 ![1, 2, 3, 4] h1 (shapeCast S2x8192x12x128 (transpose S2x2048x4x12x128 [0, 3, 1, 2, 4] (shapeCast S2x4x12x2048x128 z h2) h3) h4) (ix5 0 b s h e)
      = z (ix6 b ⟨s.val % 4, by omega⟩ h ⟨s.val / 4 / 64, by omega⟩ ⟨s.val / 4 % 64, by omega⟩ e) := by
  pointwise

theorem drop1 (z : FVec Ideal S2x4x12x32x64x1 .f32) (h1) (b : Fin 2) (r : Fin 4) (h : Fin 12) (n : Fin 32) (q : Fin 64) :
    shapeCast S2x4x12x32x64 z h1 (ix5 b r h n q) = z (ix6 b r h n q 0) := by
  pointwise

theorem v257_at (b : Fin 2) (s : Fin 8192) (h : Fin 12) : ls V0 b s h 1 = Attn.lse (Attn.score (Qh V0 b h) (Kh V0 b h) 4 s) := by
  rw [← (at_query V0 b s h ⟨s.val % 4, by omega⟩ ⟨s.val / 4 / 64, by omega⟩ ⟨s.val / 4 % 64, by omega⟩ (by dsimp only; omega)).1]
  unfold ls res_main_v257
  rw [(cat4 _ _ _ _ b s h).2.1, place4 _ _ _ _ _ b s h, addf_apply, drop1]
  rfl

theorem v273_at (b : Fin 2) (s : Fin 8192) (h : Fin 12) (e : Fin 128) : os V0 b s h e 1
    = Ideal.div (Attn.A (Attn.score (Qh V0 b h) (Kh V0 b h) 4 s) (fun x => Vh V0 b h x e) (Attn.M (Attn.score (Qh V0 b h) (Kh V0 b h) 4 s)))
        (Attn.L (Attn.score (Qh V0 b h) (Kh V0 b h) 4 s) (Attn.M (Attn.score (Qh V0 b h) (Kh V0 b h) 4 s))) := by
  rw [← (at_query V0 b s h ⟨s.val % 4, by omega⟩ ⟨s.val / 4 / 64, by omega⟩ ⟨s.val / 4 % 64, by omega⟩ (by dsimp only; omega)).2]
  unfold os res_main_v273
  rw [(cat5 _ _ _ _ b s h e).2.1, place5 _ _ _ _ _ b s h e]
  pointwise
  refine congrArg (fun x => Ideal.div x _) (Finset.sum_congr rfl fun k _ => ?_)
  rw [three (fun j => res_main_v96 V0 (ix5 b ⟨s.val % 4, by omega⟩ h j e)) k (by omega)]
  rfl

end Cert.ReferenceIdeal.Hand.Stride4

end
-- ==== Proof.Ref16.lean ====
/-
  The reference's branch of stride 16, read at one query.
-/
module

public import proofs.«01_k».proof.Proof.RefRead

@[expose] public section

noncomputable section

namespace Cert.ReferenceIdeal.Hand.Stride16

open Cert.ReferenceIdeal Cert.ReferenceIdeal.Value
open Idealize.ShloMosaic Idealize.ShloMosaic.TcCoe Idealize.SL.Sem
open Attn.Band (P φ)

variable (V0 : Valuation τ sig (Elt Ideal))

theorem v215_at (n : Fin 8) (k : Fin 192) : res_main_v215 V0 (ix2 n k)
    = IntOp.addi (IntOp.subi (IntOp.muli (BitVec.ofNat 32 n.val) 64#32) 64#32) (BitVec.ofNat 32 k.val) := by
  unfold res_main_v215
  pointwise

theorem v176_at (b : Fin 2) (r : Fin 16) (h : Fin 12) (j : Fin 640) (e : Fin 128) (hj : 64 ≤ j.val ∧ j.val < 576) :
    res_main_v176 V0 (ix5 b r h j e) = Kh V0 b h ⟨(j.val - 64) * 16 + r.val, by omega⟩ e := by
  unfold res_main_v176
  pointwise
  rw [dif_pos (by omega), v3_at]

theorem v179_at (b : Fin 2) (r : Fin 16) (h : Fin 12) (j : Fin 640) (e : Fin 128) (hj : 64 ≤ j.val ∧ j.val < 576) :
    res_main_v179 V0 (ix5 b r h j e) = Vh V0 b h ⟨(j.val - 64) * 16 + r.val, by omega⟩ e := by
  unfold res_main_v179
  pointwise
  rw [dif_pos (by omega), v4_at]

theorem v234_at (b : Fin 2) (r : Fin 16) (h : Fin 12) (n : Fin 8) (q : Fin 64) (k : Fin 192) :
    res_main_v234 V0 (ix6 b r h n q k) = (if P 512 n.val q.val k.val then
      ∑ e, Qh V0 b h ⟨(n.val * 64 + q.val) * 16 + r.val, by omega⟩ e * Kh V0 b h (φ 16 n.val r.val k) e else ⊥ : EReal) := by
  unfold res_main_v234
  pointwise
  refine masked (by omega) q.isLt (by omega) k rfl (v215_at V0 n k) rfl fun hP => ?_
  refine Finset.sum_congr rfl fun e _ => ?_
  unfold P at hP
  rw [three (fun j => res_main_v176 V0 (ix5 b r h j e)) k (by omega), v176_at V0 b r h _ e (by dsimp only; omega), dif_pos (by omega), v2_at]
  congr 2
  apply Fin.ext
  simp only [φ]
  omega

/-- A query's masked band, its weights, their maximum and their sum. -/
abbrev sc (b : Fin 2) (r : Fin 16) (h : Fin 12) (n : Fin 8) (q : Fin 64) (k : Fin 192) : EReal := res_main_v234 V0 (ix6 b r h n q k)
@[inherit_doc sc] abbrev wt (b : Fin 2) (r : Fin 16) (h : Fin 12) (n : Fin 8) (q : Fin 64) (k : Fin 192) : EReal := res_main_v239 V0 (ix6 b r h n q k)
@[inherit_doc sc] abbrev mx (b : Fin 2) (r : Fin 16) (h : Fin 12) (n : Fin 8) (q : Fin 64) : EReal := res_main_v236 V0 (ix6 b r h n q 0)
@[inherit_doc sc] abbrev dn (b : Fin 2) (r : Fin 16) (h : Fin 12) (n : Fin 8) (q : Fin 64) : EReal := res_main_v240 V0 (ix5 b r h n q)

theorem v236_at (b : Fin 2) (r : Fin 16) (h : Fin 12) (n : Fin 8) (q : Fin 64) :
    mx V0 b r h n q = Attn.M (sc V0 b r h n q) := by
  unfold mx
  unfold res_main_v236
  generalize hz : Host.reduce _ _ _ _ _ = z
  pointwise
  rw [← hz]
  exact max6 (n5 := 192) _ _ (by decide) _ b r h n q

theorem v239_at (b : Fin 2) (r : Fin 16) (h : Fin 12) (n : Fin 8) (q : Fin 64) (k : Fin 192) :
    wt V0 b r h n q k = Ideal.exp (sc V0 b r h n q k - mx V0 b r h n q) := by
  unfold wt
  unfold res_main_v239
  pointwise

theorem v240_at (b : Fin 2) (r : Fin 16) (h : Fin 12) (n : Fin 8) (q : Fin 64) :
    dn V0 b r h n q = ∑ k, wt V0 b r h n q k := by
  unfold dn
  unfold res_main_v240
  exact sum6 (n5 := 192) _ _ (by decide) _ b r h n q

/-- Entry `k` of the band of values. -/
def vb (b : Fin 2) (r : Fin 16) (h : Fin 12) (n : Fin 8) (e : Fin 128) (k : Fin 192) : EReal :=
  res_main_v179 V0 (ix5 b r h ⟨n.val * 64 + k.val, by omega⟩ e)

/-- The branch at query `s`. -/
theorem at_query (b : Fin 2) (s : Fin 8192) (h : Fin 12) (r : Fin 16) (n : Fin 8) (q : Fin 64) (hs : s.val = (n.val * 64 + q.val) * 16 + r.val) :
    mx V0 b r h n q + Ideal.log (dn V0 b r h n q) = Attn.lse (Attn.score (Qh V0 b h) (Kh V0 b h) 16 s)
    ∧ ∀ e, Ideal.div (∑ k, wt V0 b r h n q k * vb V0 b r h n e k) (dn V0 b r h n q)
      = Ideal.div (Attn.A (Attn.score (Qh V0 b h) (Kh V0 b h) 16 s) (fun x => Vh V0 b h x e) (Attn.M (Attn.score (Qh V0 b h) (Kh V0 b h) 16 s)))
        (Attn.L (Attn.score (Qh V0 b h) (Kh V0 b h) 16 s) (Attn.M (Attn.score (Qh V0 b h) (Kh V0 b h) 16 s))) := by
  obtain ⟨h1, h2⟩ := branch (d := 16) (L := 512) (by omega) r.isLt q.isLt (by omega) s hs (Qh V0 b h) (Kh V0 b h) (Vh V0 b h) (sc V0 b r h n q) (wt V0 b r h n q)
    (mx V0 b r h n q) (dn V0 b r h n q) (fun k => (v234_at V0 b r h n q k).trans (by simp only [← hs])) (v236_at V0 b r h n q) (v239_at V0 b r h n q) (v240_at V0 b r h n q)
  refine ⟨h1, fun e => h2 _ e fun k hP => ?_⟩
  unfold P at hP
  unfold vb
  rw [v179_at V0 b r h _ e (by dsimp only; omega)]
  refine congrArg (fun x => Vh V0 b h x e) (Fin.ext ?_)
  simp only [φ]
  omega

/-- Where the branch's logarithms stand among the three. -/
theorem place4 (z : FVec Ideal S2x16x12x8x64 .f32) (h1 h2 h3 h4) (b : Fin 2) (s : Fin 8192) (h : Fin 12) :
    broadcastInDim S1x2x8192x12 ![1, 2, 3] h1 (shapeCast S2x8192x12 (transpose S2x512x16x12 [0, 3, 1, 2] (shapeCast S2x16x12x512 z h2) h3) h4) (ix4 0 b s h)
      = z (ix5 b ⟨s.val % 16, by omega⟩ h ⟨s.val / 16 / 64, by omega⟩ ⟨s.val / 16 % 64, by omega⟩) := by
  pointwise

/-- Where the branch's outputs stand among the three. -/
theorem place5 (z : FVec Ideal S2x16x12x8x64x128 .f32) (h1 h2 h3 h4) (b : Fin 2) (s : Fin 8192) (h : Fin 12) (e : Fin 128) :
    broadcastInDim S1x2x8192x12x128 ![1, 2, 3, 4] h1 (shapeCast S2x8192x12x128 (transpose S2x512x16x12x128 [0, 3, 1, 2, 4] (shapeCast S2x16x12x512x128 z h2) h3) h4) (ix5 0 b s h e)
      = z (ix6 b ⟨s.val % 16, by omega⟩ h ⟨s.val / 16 / 64, by omega⟩ ⟨s.val / 16 % 64, by omega⟩ e) := by
  pointwise

theorem drop1 (z : FVec Ideal S2x16x12x8x64x1 .f32) (h1) (b : Fin 2) (r : Fin 16) (h : Fin 12) (n : Fin 8) (q : Fin 64) :
    shapeCast S2x16x12x8x64 z h1 (ix5 b r h n q) = z (ix6 b r h n q 0) := by
  pointwise

theorem v257_at (b : Fin 2) (s : Fin 8192) (h : Fin 12) : ls V0 b s h 2 = Attn.lse (Attn.score (Qh V0 b h) (Kh V0 b h) 16 s) := by
  rw [← (at_query V0 b s h ⟨s.val % 16, by omega⟩ ⟨s.val / 16 / 64, by omega⟩ ⟨s.val / 16 % 64, by omega⟩ (by dsimp only; omega)).1]
  unfold ls res_main_v257
  rw [(cat4 _ _ _ _ b s h).2.2, place4 _ _ _ _ _ b s h, addf_apply, drop1]
  rfl

theorem v273_at (b : Fin 2) (s : Fin 8192) (h : Fin 12) (e : Fin 128) : os V0 b s h e 2
    = Ideal.div (Attn.A (Attn.score (Qh V0 b h) (Kh V0 b h) 16 s) (fun x => Vh V0 b h x e) (Attn.M (Attn.score (Qh V0 b h) (Kh V0 b h) 16 s)))
        (Attn.L (Attn.score (Qh V0 b h) (Kh V0 b h) 16 s) (Attn.M (Attn.score (Qh V0 b h) (Kh V0 b h) 16 s))) := by
  rw [← (at_query V0 b s h ⟨s.val % 16, by omega⟩ ⟨s.val / 16 / 64, by omega⟩ ⟨s.val / 16 % 64, by omega⟩ (by dsimp only; omega)).2]
  unfold os res_main_v273
  rw [(cat5 _ _ _ _ b s h e).2.2, place5 _ _ _ _ _ b s h e]
  pointwise
  refine congrArg (fun x => Ideal.div x _) (Finset.sum_congr rfl fun k _ => ?_)
  rw [three (fun j => res_main_v179 V0 (ix5 b ⟨s.val % 16, by omega⟩ h j e)) k (by omega)]
  rfl

end Cert.ReferenceIdeal.Hand.Stride16

end
-- ==== Proof.RefOut.lean ====
/-
  The reference's result at exact real arithmetic: at every entry the three branches combined, divided by their root
  mean square.
-/
module

public import proofs.«01_k».proof.Proof.Ref1
public import proofs.«01_k».proof.Proof.Ref4
public import proofs.«01_k».proof.Proof.Ref16

@[expose] public section

noncomputable section

namespace Attn

/-- Entry `e` of query `p`'s attention over the three strides, the way the reference combines them. -/
def rowRef (Q K V : Fin 8192 → Fin 128 → EReal) (p : Fin 8192) (e : Fin 128) : EReal :=
  combined (fun i => score Q K (strides i) p) (fun x => V x e)

end Attn

namespace Cert.ReferenceIdeal.Hand

open Cert.ReferenceIdeal Cert.ReferenceIdeal.Value
open Idealize.ShloMosaic Idealize.ShloMosaic.TcCoe Idealize.SL.Sem Idealize.ShloMosaic.StableHlo

variable (V0 : Valuation τ sig (Elt Ideal))

/-- The three branches combined. -/
theorem combined_at (b : Fin 2) (s : Fin 8192) (h : Fin 12) (e : Fin 128) :
    res_main_v276 V0 (ix4 b s h e) = Attn.rowRef (Qh V0 b h) (Kh V0 b h) (Vh V0 b h) s e := by
  have hl : ls V0 b s h = fun i => Attn.lse (Attn.score (Qh V0 b h) (Kh V0 b h) (Attn.strides i) s) := by
    funext i
    match i with
    | 0 => exact Stride1.v257_at V0 b s h
    | 1 => exact Stride4.v257_at V0 b s h
    | 2 => exact Stride16.v257_at V0 b s h
  have ho : os V0 b s h e = fun i => Ideal.div (Attn.A (Attn.score (Qh V0 b h) (Kh V0 b h) (Attn.strides i) s) (fun x => Vh V0 b h x e) (Attn.M (Attn.score (Qh V0 b h) (Kh V0 b h) (Attn.strides i) s)))
        (Attn.L (Attn.score (Qh V0 b h) (Kh V0 b h) (Attn.strides i) s) (Attn.M (Attn.score (Qh V0 b h) (Kh V0 b h) (Attn.strides i) s))) := by
    funext i
    match i with
    | 0 => exact Stride1.v273_at V0 b s h e
    | 1 => exact Stride4.v273_at V0 b s h e
    | 2 => exact Stride16.v273_at V0 b s h e
  rw [v276_at, hl, ho]
  rfl

/-- The reference's run, read: the result array entry by entry, and the arguments unchanged. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (i : Fin 16384) (j : Fin 1536), (r.2.mem ((c.tc : Thread nD τ).loc main_v292) (ix2 i j) : EReal)
        = Attn.out Attn.rowRef (m ((c.tc : Thread nD τ).loc main_arg0)) (m ((c.tc : Thread nD τ).loc main_arg1))
          ⟨i.val / 8192, by omega⟩ ⟨j.val / 128, by omega⟩ ⟨i.val % 8192, by omega⟩ ⟨j.val % 128, by omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨fun i j => ?_, (h c).2⟩) (run m ρ)
  rw [(h c).1]
  have hz := combined_at (launchContents m c)
  generalize res_main_v276 (launchContents m c) = z at hz ⊢
  pointwise
  simp only [hz]
  rfl

end Cert.ReferenceIdeal.Hand

end
-- ==== Proof.Agree.lean ====
/-
  Where the queries and keys are real, the kernel's fold over the three strides and the reference's average of them are
  the same number.
-/
module

public import proofs.«01_k».proof.Proof.KOut
public import proofs.«01_k».proof.Proof.RefOut
public import proofs.«01_k».proof.Proof.Gen.Pre_finite

@[expose] public section

noncomputable section

namespace Attn

open Idealize.ShloMosaic

/-- A finite sum of real terms is real. -/
theorem sum_real {ι : Type} (t : Finset ι) (f : ι → EReal) (hf : ∀ i, ∃ r : ℝ, f i = r) : ∃ r : ℝ, ∑ i ∈ t, f i = r := by
  classical
  induction t using Finset.induction_on with
  | empty => exact ⟨0, by simp⟩
  | insert a t ha ih =>
    obtain ⟨x, hx⟩ := hf a
    obtain ⟨y, hy⟩ := ih
    exact ⟨x + y, by rw [Finset.sum_insert ha, hx, hy, EReal.coe_add]⟩

/-- A query's score at any stride is real at the keys it sees, and it sees its own. -/
theorem score_real {Q K : Fin 8192 → Fin 128 → EReal} (hQ : ∀ p e, ∃ r : ℝ, Q p e = r) (hK : ∀ p e, ∃ r : ℝ, K p e = r)
    (d : ℕ) (p : Fin 8192) : Score (score Q K d p) := by
  have hr : ∀ x, ∃ r : ℝ, ∑ e : Fin 128, Q p e * K x e = r := fun x => sum_real _ _ fun e => by
    obtain ⟨a, ha⟩ := hQ p e
    obtain ⟨b, hb⟩ := hK x e
    exact ⟨a * b, by rw [ha, hb, EReal.coe_mul]⟩
  refine ⟨fun x => ?_, p, ?_⟩
  · unfold score
    split
    · exact Or.inr (hr x)
    · exact Or.inl rfl
  · unfold score
    rw [if_pos ⟨rfl, by omega, by omega⟩]
    exact hr p

/-- The two ways to combine the strides agree on real queries and keys, whatever the values. -/
theorem row_eq {Q K : Fin 8192 → Fin 128 → EReal} (V : Fin 8192 → Fin 128 → EReal) (hQ : ∀ p e, ∃ r : ℝ, Q p e = r)
    (hK : ∀ p e, ∃ r : ℝ, K p e = r) (p : Fin 8192) : row Q K V p = rowRef Q K V p := by
  funext e
  exact running_eq_combined _ _ fun i => score_real hQ hK _ p

/-- The normalized attention, both ways, from a projection whose queries and keys are real. -/
theorem out_eq {X : (⟨3, ![44, 16384, 128]⟩ : Shape).Idx → EReal} (G : (⟨2, ![16, 128]⟩ : Shape).Idx → EReal)
    (hX : ∀ (h : Fin 44) (i : Fin 16384) (e : Fin 128), h.val < 24 → ∃ r : ℝ, X (ix3 h i e) = r)
    (b : Fin 2) (h : Fin 12) (p : Fin 8192) (e : Fin 128) : out row X G b h p e = out rowRef X G b h p e := by
  have hQ : ∀ p e, ∃ r : ℝ, seq X ⟨h.val, by omega⟩ b p e = r := fun p e => hX _ _ _ (by dsimp only; omega)
  have hK : ∀ p e, ∃ r : ℝ, seq X ⟨12 + h.val, by omega⟩ b p e = r := fun p e => hX _ _ _ (by dsimp only; omega)
  unfold out
  rw [row_eq _ hQ hK p]

/-- A number whose absolute value is below infinity is real. -/
theorem real_of_abs_lt {x : EReal} (h : max x (-x) < ⊤) : ∃ r : ℝ, x = r := by
  cases x with
  | bot => simp at h
  | top => simp at h
  | coe r => exact ⟨r, rfl⟩

/-- What the precondition says: the query and key planes of the projection are real. -/
theorem pre_real (X : Vec Ideal Cert.Pre_finite.S44x16384x128 .f32) (G : Vec Ideal Cert.Pre_finite.S16x128 .f32)
    (h : Cert.Pre_finite.fn (F := Ideal) X G = fun _ => 1#1) (k : Fin 44) (i : Fin 16384) (e : Fin 128) (hk : k.val < 24) :
    ∃ r : ℝ, (X (ix3 k i e) : EReal) = r := by
  have h0 := congrFun h (ix3 (⟨k.val, hk⟩ : Fin 24) i e)
  have h1 : Cert.Pre_finite.fn (F := Ideal) X G (ix3 (⟨k.val, hk⟩ : Fin 24) i e)
      = BitVec.ofBool (decide (max (X (ix3 k i e) : EReal) (-(X (ix3 k i e) : EReal)) < Ideal.ofBits .f32 0x7F800000#32)) := by
    unfold Cert.Pre_finite.fn
    pointwise
    rfl
  rw [h0] at h1
  refine real_of_abs_lt ?_
  by_contra hn
  rw [show Ideal.ofBits .f32 0x7F800000#32 = ⊤ from rfl, decide_eq_false hn] at h1
  exact absurd h1 (by decide)

end Attn

end
-- ==== Proof.UpRun.lean ====
/-
  The grouped up projection, one grid point at a time: what its body leaves in the scratch and in the output block, from
  the word of the second table at the point's tile.
-/
module

public import proofs.«01_k».proof.Proof.Gen.UpIdeal.Launch
public import proofs.«01_k».proof.Proof.Gen.UpIdeal.Skeleton
public import Idealize.ShloMosaic.Lib.Pipeline.FrameBody
public import Idealize.ShloMosaic.Lib.Pipeline.Frame
public import Idealize.ShloMosaic.Lib.Pipeline.DatRel
public import Idealize.ShloMosaic.Lib.Pipeline.ArrRel
public import Idealize.ShloMosaic.Lib.Tactic
public import Idealize.ShloMosaic.Lib.WordCmp
public import Idealize.ShloMosaic.Lib.VecWindow

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables as the body is handed them. -/
abbrev tb0 : Memref sig .tc .smem S40 .i32 := Memref.whole main_arg3
abbrev tb1 : Memref sig .tc .smem S40 .i32 := Memref.whole main_arg4

/-- A table's contents on core `c`, and the half share of it that the body reads through. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- Whether a grid point is its tile's first, as the body computes it. -/
abbrev first (i : grid0.Coords) : Prop := (Scalar.cmpi .ne (Scalar.extui (Scalar.cmpi .eq (BitVec.ofNat 32 (i 1).val) 0#32)) 0#32) = 1#1

/-- The word of the second table that the body reads at a grid point: whether the point's tile is active. -/
abbrev act (c : Dev nD) (xt1 : TbBuf (F := F) c tb1) (i : grid0.Coords) : BitVec 32 :=
  View.readAt (Elt F) tb1.view (Rect.unit (s := S40) (k0_off1 i) S1.size (k0_off1_inb i)).toLoadRect xt1 (Shape.Idx.first (lt_of_lt_of_eq Nat.one_pos numel1_S1.symm))

theorem cond_active {w : BitVec 32} (h : w = 1#32) : k0_cond1 w = 1#1 ∧ ¬k0_cond3 w = 1#1 := by subst h; decide
theorem cond_idle {w : BitVec 32} (h : w = 0#32) : k0_cond3 w = 1#1 := by subst h; decide
/-- What the body leaves in the output block: for an active tile its payload of the scratch and the two weight blocks, for
    an idle one zeros. -/
abbrev Left (w : BitVec 32) (s : Vec F S1024x2048 .bf16) (x1 x2 : Vec F S1x1x2048x512 .f32) (X : Vec F S1024x512 .bf16) : Prop :=
  (w = 1#32 → X = k0_pay2 s x1 x2) ∧ (w = 0#32 → X = k0_pay3)

set_option maxHeartbeats 1000000 in
/-- The body at a tile's first point: an active tile's rows are stored into the scratch, rounded, before they are used. -/
theorem run_first (c : Dev nD) (i : grid0.Coords) (arg4 : Memref sig .tc .vmem S1024x2048 .f32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1024x512 .bf16) (harg7 : arg7.IsWhole) (arg8 : Memref sig .tc .vmem S1024x2048 .bf16) (harg8 : arg8.IsWhole) (hf : first i)
    (x0 : Vec F S1024x2048 .f32) (x1 : Vec F S1x1x2048x512 .f32) (x2 : Vec F S1x1x2048x512 .f32) (xt0 : TbBuf (F := F) c tb0) (xt1 : TbBuf (F := F) c tb1) (K : PUnit → sProp 𝕄) :
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ tbPt c tb0 xt0 ∗ tbPt c tb1 xt1
            ∗ (iprop(owns (c : Thread nD τ) arg4 fullShare x0 ∗ owns (c : Thread nD τ) arg5 fullShare x1 ∗ owns (c : Thread nD τ) arg6 fullShare x2
              ∗ (∃ d, ⌜Left (act c xt1 i) (k0_pay1 x0) x1 x2 d⌝ ∗ owns (c : Thread nD τ) arg7 fullShare d)
              ∗ (∃ d, ⌜act c xt1 i = 1#32 → d = k0_pay1 x0⌝ ∗ owns (c : Thread nD τ) arg8 fullShare d) ∗ tbPt c tb0 xt0 ∗ tbPt c tb1 xt1) -∗ K ⟨⟩))
          ⊢ wp frame (wpE (defs₀ (F := F)) Variants.none c none) Set.univ (cc0_moe_up i tb0 (Memref.isWhole_whole _) tb1 (Memref.isWhole_whole _) arg4 harg4 arg5 harg5 arg6 harg6 arg7 harg7 arg8 harg8) K := by
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, ⟨%ds0, %fs0, -, HS0⟩, HT0, HT1, Hk⟩
    obtain rfl := harg4.eq_unread hf0; obtain rfl := harg5.eq_unread hf1; obtain rfl := harg6.eq_unread hf2
    sl_exec (disch := first | sl_exact hf)
    sl_step
    have e1 : run_first.sl.r c i xt1 = act c xt1 i := rfl
    have e3 : run_first.sl.r_1 c i xt1 = act c xt1 i := rfl
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap
      · iexists _; isplitr; swap; · iexact H3
        ipureintro; rfl
      ipureintro
      rw [e1, e3]
      refine ⟨fun h => ?_, fun h => ?_⟩
      · rw [dif_neg (cond_active h).2, dif_pos (cond_active h).1, View.read_writes_full]
        unfold run_first.sl.v13 run_first.sl.HS0_1
        rw [View.readCov_full, View.readAt_full, View.readAt_full, View.readAt_full, hf0, hf1, hf2]
      · rw [dif_pos (cond_idle h), View.read_writes_full]
    isplitl [HS0]
    · iexists _; isplitr; swap
      · iexists _; isplitr; swap; · iexact HS0
        ipureintro; rfl
      ipureintro
      intro h
      rw [e1, dif_pos (cond_active h).1]
      unfold run_first.sl.HS0_1
      rw [View.read_writes_full, View.readAt_full, hf0]
    isplitl [HT0]; · iexact HT0
    iexact HT1

set_option maxHeartbeats 1000000 in
/-- The body at a later point of a tile: an active tile's scratch is used as it is. -/
theorem run_later (c : Dev nD) (i : grid0.Coords) (arg4 : Memref sig .tc .vmem S1024x2048 .f32) (harg4 : arg4.IsWhole) (arg5 : Memref sig .tc .vmem S1x1x2048x512 .f32) (harg5 : arg5.IsWhole) (arg6 : Memref sig .tc .vmem S1x1x2048x512 .f32) (harg6 : arg6.IsWhole) (arg7 : Memref sig .tc .vmem S1024x512 .bf16) (harg7 : arg7.IsWhole) (arg8 : Memref sig .tc .vmem S1024x2048 .bf16) (harg8 : arg8.IsWhole) (hf : ¬first i)
    (x0 : Vec F S1024x2048 .f32) (x1 : Vec F S1x1x2048x512 .f32) (x2 : Vec F S1x1x2048x512 .f32) (s : Vec F S1024x2048 .bf16) (xt0 : TbBuf (F := F) c tb0) (xt1 : TbBuf (F := F) c tb1) (K : PUnit → sProp 𝕄) :
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare s ∗ tbPt c tb0 xt0 ∗ tbPt c tb1 xt1
            ∗ (iprop(owns (c : Thread nD τ) arg4 fullShare x0 ∗ owns (c : Thread nD τ) arg5 fullShare x1 ∗ owns (c : Thread nD τ) arg6 fullShare x2
              ∗ (∃ d, ⌜Left (act c xt1 i) s x1 x2 d⌝ ∗ owns (c : Thread nD τ) arg7 fullShare d)
              ∗ owns (c : Thread nD τ) arg8 fullShare s ∗ tbPt c tb0 xt0 ∗ tbPt c tb1 xt1) -∗ K ⟨⟩))
          ⊢ wp frame (wpE (defs₀ (F := F)) Variants.none c none) Set.univ (cc0_moe_up i tb0 (Memref.isWhole_whole _) tb1 (Memref.isWhole_whole _) arg4 harg4 arg5 harg5 arg6 harg6 arg7 harg7 arg8 harg8) K := by
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, ⟨%fs0, %hs0, HS0⟩, HT0, HT1, Hk⟩
    obtain rfl := harg4.eq_unread hf0; obtain rfl := harg5.eq_unread hf1; obtain rfl := harg6.eq_unread hf2
    obtain rfl := harg8.eq_unread hs0
    sl_exec (disch := first | sl_exact hf)
    sl_step
    have e1 : run_later.sl.r c i xt1 = act c xt1 i := rfl
    have e3 : run_later.sl.r_1 c i xt1 = act c xt1 i := rfl
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap
      · iexists _; isplitr; swap; · iexact H3
        ipureintro; rfl
      ipureintro
      rw [e1, e3]
      refine ⟨fun h => ?_, fun h => ?_⟩
      · rw [dif_neg (cond_active h).2, dif_pos (cond_active h).1, View.read_writes_full]
        rw [View.readAt_full, View.readAt_full, View.readAt_full, hs0, hf1, hf2]
      · rw [dif_pos (cond_idle h), View.read_writes_full]
    isplitl [HS0]
    · iexists _; isplitr; swap; · iexact HS0
      ipureintro; first | exact hs0 | (split <;> exact hs0)
    isplitl [HT0]; · iexact HT0
    iexact HT1

end Cert.UpIdeal.Hand

end
-- ==== Proof.UpLaunch.lean ====
/-
  The grouped up projection, launched: the blocks its grid points read, what its scratch carries from point to point, the
  relation every write-back meets, and the run of the whole program.
-/
module

public import proofs.«01_k».proof.Proof.UpRun
public import Idealize.ShloMosaic.Lib.Claim
public import Idealize.ShloMosaic.Lib.Pointwise

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- The buffers when the region is entered: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents, read off the launch memory. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- Every block that a table's word picks lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves that the body is lent. -/
theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The scratch, whole, and the region's invariant over it. -/
abbrev scr : Memref sig .tc .vmem S1024x2048 .bf16 := Memref.whole cc0_scratch0
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [owns_whole]; try rfl

/-! ## The blocks -/

/-- The block of window `w` at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_in (hO : Ok m) {c : Dev nD} (dat : Dat τ (Elt F) Unit ℕ (UR sig nD τ) ℕ (cfgM m hO) c) (hA : ∀ w, dat.A w = V m c (Pipeline.arrRef spec0 w))
    (ha0 : ∀ t, dat.after 0 t = iblk m hO c 0 t) (ha1 : ∀ t, dat.after 1 t = iblk m hO c 1 t) (ha2 : ∀ t, dat.after 2 t = iblk m hO c 2 t)
    (t : Fin (cfgM m hO).N) : (∀ d, dat.before 0 t d = iblk m hO c 0 t) ∧ (∀ d, dat.before 1 t d = iblk m hO c 1 t) ∧ (∀ d, dat.before 2 t d = iblk m hO c 2 t) :=
  ⟨fun d => (dat.before_in_eq_fetched 0 rfl (fun _ => rfl) (fun _ _ _ => rfl) (fun t => by rw [ha0]; unfold Dat.blockOf iblk; rw [hA]) t d).trans
      (by unfold Dat.fetched Dat.blockOf iblk; rw [hA]; try rfl),
   fun d => (dat.before_in_eq_fetched 1 rfl (fun _ => rfl) (fun _ _ _ => rfl) (fun t => by rw [ha1]; unfold Dat.blockOf iblk; rw [hA]) t d).trans
      (by unfold Dat.fetched Dat.blockOf iblk; rw [hA]; try rfl),
   fun d => (dat.before_in_eq_fetched 2 rfl (fun _ => rfl) (fun _ _ _ => rfl) (fun t => by rw [ha2]; unfold Dat.blockOf iblk; rw [hA]) t d).trans
      (by unfold Dat.fetched Dat.blockOf iblk; rw [hA]; try rfl)⟩

/-- A point's tile and column block. -/
theorem coord0 (t : Fin grid0.N) : (grid0.coords t 0).val = t.val / 14 := by
  have ht : t.val < 560 := Nat.lt_of_lt_of_eq t.isLt N_0
  have e : (grid0.coords t 0).val = t.val / 14 % 40 := Pipeline.Grid.coords_val t 0 (by decide) rfl
  omega
theorem coord1 (t : Fin grid0.N) : (grid0.coords t 1).val = t.val % 14 := by
  have e : (grid0.coords t 1).val = t.val / 1 % 14 := Pipeline.Grid.coords_val t 1 (by decide) rfl
  omega

theorem first_iff (t : Fin grid0.N) : first (grid0.coords t) ↔ t.val % 14 = 0 := by
  have ht : t.val < 560 := Nat.lt_of_lt_of_eq t.isLt N_0
  have e1 := coord1 t
  simp only [first, e1]
  word_cmp

/-- The rows of tile `n` of the first argument. -/
def xrow (c : Dev nD) (n : Fin 40) : Vec F S1024x2048 .f32 := fun y =>
  m ((c : Thread nD τ).loc main_arg0) (ix2 (n0 := 40960) (n1 := 2048) ⟨n.val * 1024 + (y 0).val, by have h : (y 0).val < 1024 := (y 0).isLt; omega⟩ ⟨(y 1).val, (y 1).isLt⟩)

theorem toNat_ofNat {n : ℕ} (h : n < 560) : (BitVec.ofNat 32 n).toNat = n := by
  rw [BitVec.toNat_ofNat]; omega

theorem tr0 (i : grid0.Coords) : cc0_transform_0 i = ![(i 0).val, 0] := by
  have h0 : (i 0).val < 40 := (i 0).isLt
  funext a
  match a with
  | ⟨0, _⟩ => exact toNat_ofNat (by omega)
  | ⟨1, _⟩ => rfl

theorem iblk0 (hO : Ok m) (c : Dev nD) (t : Fin (cfgM m hO).N) (n : Fin 40) (hn : t.val / 14 = n.val) :
    iblk m hO c 0 t = xrow m c n := by
  funext y
  change S1024x2048.Idx at y
  unfold iblk
  refine (View.read_apply _ _).trans ?_
  show V m c main_arg0 _ = _
  unfold xrow
  congr 1
  have h0 := coord0 t
  funext a
  match a with
  | ⟨0, _⟩ => exact Fin.ext (show cc0_transform_0 (grid0.coords t) 0 * 1024 + 1 * (y 0).val = n.val * 1024 + (y 0).val by
      rw [tr0, Matrix.cons_val_zero, h0, hn]; omega)
  | ⟨1, _⟩ => exact Fin.ext (show cc0_transform_0 (grid0.coords t) 1 * 2048 + 1 * (y 1).val = (y 1).val by
      rw [tr0]; show 0 * 2048 + 1 * (y 1).val = _; omega)

/-- Whether tile `n` is active, and the expert it belongs to. -/
def word (n : Fin 40) : BitVec 32 := m (((0 : Dev nD) : Thread nD τ).loc main_arg4) (ix1 (n0 := 40) n)
@[inherit_doc word] def expert (n : Fin 40) : BitVec 32 := m (((0 : Dev nD) : Thread nD τ).loc main_arg3) (ix1 (n0 := 40) n)

/-- The index at which a table is read at a point: the point's tile. -/
theorem at_tile (i : grid0.Coords) (n : Fin 40) (hn : (i 0).val = n.val) (h : (Rect.unit (s := S40) (k0_off1 i) S1.size (k0_off1_inb i)).shape.numel > 0) :
    (Rect.unit (s := S40) (k0_off1 i) S1.size (k0_off1_inb i)).emb (Shape.Idx.first h) = ix1 (n0 := 40) n := by
  funext a
  obtain rfl : a = 0 := Subsingleton.elim _ _
  refine Fin.ext ?_
  have hz : ((Shape.Idx.first h : (Rect.unit (s := S40) (k0_off1 i) S1.size (k0_off1_inb i)).shape.Idx) 0).val < 1 := (Shape.Idx.first h 0).isLt
  show k0_off1 i 0 + 1 * ((Shape.Idx.first h : (Rect.unit (s := S40) (k0_off1 i) S1.size (k0_off1_inb i)).shape.Idx) 0).val = n.val
  have hk : k0_off1 i 0 = (i 0).val := congrFun (k0_off1_eq i) 0
  omega

theorem act_eq (c : Dev nD) (t : Fin grid0.N) (n : Fin 40) (hn : t.val / 14 = n.val) : act (F := F) c (tbl m 1) (grid0.coords t) = word m n :=
  congrArg (m (((0 : Dev nD) : Thread nD τ).loc main_arg4)) (at_tile (grid0.coords t) n ((coord0 t).trans hn) _)

theorem expert_eq (i : grid0.Coords) : (tbl m).at 0 (Rect.unit (s := S40) (k0_off1 i) S1.size (k0_off1_inb i)) numel1_S1 = expert m (i 0) :=
  congrArg (m (((0 : Dev nD) : Thread nD τ).loc main_arg3)) (at_tile i (i 0) rfl _)

theorem tr1 (i : grid0.Coords) : cc0_transform_1 k0_off1_inb numel1_S1 (tbl m) i = ![0, (expert m (i 0)).toNat, 0, (i 1).val] := by
  have h1 : (i 1).val < 14 := (i 1).isLt
  funext a
  match a with
  | ⟨0, _⟩ => rfl
  | ⟨1, _⟩ => exact congrArg BitVec.toNat (expert_eq m i)
  | ⟨2, _⟩ => rfl
  | ⟨3, _⟩ => exact toNat_ofNat (by omega)
theorem tr2 (i : grid0.Coords) : cc0_transform_2 k0_off1_inb numel1_S1 (tbl m) i = ![0, (expert m (i 0)).toNat, 0, (i 1).val] := tr1 m i

theorem tr3 (i : grid0.Coords) : cc0_transform_3 i = ![(i 0).val, (i 1).val] := by
  have h0 : (i 0).val < 40 := (i 0).isLt
  have h1 : (i 1).val < 14 := (i 1).isLt
  funext a
  match a with
  | ⟨0, _⟩ => exact toNat_ofNat (by omega)
  | ⟨1, _⟩ => exact toNat_ofNat (by omega)

/-- Experts below eight keep every weight block inside its array. -/
theorem ok_of_lt (h : ∀ n, (expert m n).toNat < 8) : Ok m := by
  have key : ∀ (i : grid0.Coords) a, ((![0, (expert m (i 0)).toNat, 0, (i 1).val] : Fin 4 → ℕ) a + 1) * S1x1x2048x512.size a ≤ S2x8x2048x7168.size a := by
    intro i a
    have h1 : (i 1).val < 14 := (i 1).isLt
    have he := h (i 0)
    match a with
    | ⟨0, _⟩ => show (0 + 1) * 1 ≤ 2; omega
    | ⟨1, _⟩ => show ((expert m (i 0)).toNat + 1) * 1 ≤ 8; omega
    | ⟨2, _⟩ => show (0 + 1) * 2048 ≤ 2048; omega
    | ⟨3, _⟩ => show ((i 1).val + 1) * 512 ≤ 7168; omega
  exact ⟨fun i => ⟨by rw [tr1]; exact key i, .inl rfl⟩, fun i => ⟨by rw [tr2]; exact key i, .inl rfl⟩⟩

/-! ## The proof data -/

/-- The only window whose contents are held to a relation is the output's. -/
def marked : Fin 4 → Bool := fun w => w.val == 3

/-- What the body may leave in a window: in the output's, what its tile's word says. -/
def Rl (hO : Ok m) (c : Dev nD) : (w : Fin (cfgM m hO).W) → Fin (cfgM m hO).N → (((cfgM m hO).win w).block.Idx → Elt F ((cfgM m hO).win w).elt) → Prop
  | ⟨3, _⟩, t, X => ∀ n : Fin 40, t.val / 14 = n.val → Left (word m n) (k0_pay1 (xrow m c n)) (iblk m hO c 1 t) (iblk m hO c 2 t) X
  | _, _, _ => True

/-- What the scratch holds before point `t`: within an active tile, that tile's rows, rounded. -/
def Carried (c : Dev nD) (t : ℕ) (d : Vec F S1024x2048 .bf16) : Prop :=
  t % 14 ≠ 0 → ∀ n : Fin 40, t / 14 = n.val → word m n = 1#32 → d = k0_pay1 (xrow m c n)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ t := iprop((∃ d, ⌜Carried m c t.val d⌝ ∗ owns (c : Thread nD τ) scr fullShare d) ∗ (∃ r, prngReg c r) ∗ tbPt c tb0 (tbl m 0) ∗ tbPt c tb1 (tbl m 1))
  q _ := fullShare
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem before (hO : Ok m) (c : Dev nD) (t : Fin (cfgM m hO).N) :
    (∀ d, (dats m hO 0 c).before 0 t d = iblk m hO c 0 t) ∧ (∀ d, (dats m hO 0 c).before 1 t d = iblk m hO c 1 t) ∧ (∀ d, (dats m hO 0 c).before 2 t d = iblk m hO c 2 t) :=
  before_in m hO (dats m hO 0 c) (A_eq m hO c) (after0 m hO c) (after1 m hO c) (after2 m hO c) t

/-! ## The body, point by point -/

abbrev ms0 (hO : Ok m) (t : Fin (cfgM m hO).N) : Memref sig .tc .vmem S1024x2048 .f32 := spec0_0.stage ((cfgM m hO).slots t 0)
abbrev ms1 (hO : Ok m) (t : Fin (cfgM m hO).N) : Memref sig .tc .vmem S1x1x2048x512 .f32 := spec0_1.stage ((cfgM m hO).slots t 1)
abbrev ms2 (hO : Ok m) (t : Fin (cfgM m hO).N) : Memref sig .tc .vmem S1x1x2048x512 .f32 := spec0_2.stage ((cfgM m hO).slots t 2)
abbrev ms3 (hO : Ok m) (t : Fin (cfgM m hO).N) : Memref sig .tc .vmem S1024x512 .bf16 := spec0_3.stage ((cfgM m hO).slots t 3)

/-- The body as the pipeline calls it at a point. -/
abbrev bodyAt (hO : Ok m) (t : Fin (cfgM m hO).N) : Prog (TpuEff nD τ sig (Elt F) Λ₀ .tc) PUnit :=
  cc0_moe_up (grid0.coords t) tb0 (Memref.isWhole_whole _) tb1 (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3)) scr (Memref.isWhole_whole _)

/-- What the body is called with at a point, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ Y, ⌜((dats m hO 0 c).toRRel marked (Rl m hO c)).Finds 3 t Y⌝ ∗ owns (c : Thread nD τ) (ms3 m hO t) fullShare Y))
@[inherit_doc bodyPre] def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ (∃ X, ⌜Rl m hO c 3 t X⌝ ∗ owns (c : Thread nD τ) (ms3 m hO t) fullShare X))

set_option maxHeartbeats 800000 in
/-- The body at a point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  obtain ⟨b0, b1, b2⟩ := before m hO c t
  simp only [b0, b1, b2]
  rw [show (dats m hO 0 c).owesAt () t.succ = (dats m hO 0 c).owesAt () t.castSucc from rfl, after0, after1, after2]
  rw [show (dats m hO 0 c).Φ t.castSucc = iprop((∃ d, ⌜Carried m c t.val d⌝ ∗ owns (c : Thread nD τ) scr fullShare d) ∗ (∃ r, prngReg c r) ∗ tbPt c tb0 (tbl m 0) ∗ tbPt c tb1 (tbl m 1)) from rfl,
    show (dats m hO 0 c).Φ t.succ = iprop((∃ d, ⌜Carried m c (t.val + 1) d⌝ ∗ owns (c : Thread nD τ) scr fullShare d) ∗ (∃ r, prngReg c r) ∗ tbPt c tb0 (tbl m 0) ∗ tbPt c tb1 (tbl m 1)) from rfl]
  have hN : t.val < 560 := lt_of_lt_of_eq t.isLt (show (cfgM m hO).N = 560 from N_0)
  have hb : ∃ n : Fin 40, t.val / 14 = n.val := ⟨⟨t.val / 14, by omega⟩, rfl⟩
  obtain ⟨n, hn⟩ := hb
  have ha := act_eq m c t n hn
  have hx := iblk0 m hO c t n hn
  by_cases h0 : t.val % 14 = 0
  · iintro ⟨⟨⟨%ds, -, HS⟩, Hg, HT0, HT1⟩, Ho, ⟨%d0, H0⟩, ⟨%d1, H1⟩, ⟨%d2, H2⟩, ⟨%d3, -, H3⟩⟩
    iapply ((run_first c (grid0.coords t) _ _ _ _ _ _ _ _ _ _ ((first_iff t).mpr h0) (iblk m hO c 0 t) (iblk m hO c 1 t) (iblk m hO c 2 t) (tbl m 0) (tbl m 1)) _)
    isplitl [H0]; · iexact H0
    isplitl [H1]; · iexact H1
    isplitl [H2]; · iexact H2
    isplitl [H3]; · iexists _; iexact H3
    isplitl [HS]; · iexists _; iexact HS
    isplitl [HT0]; · iexact HT0
    isplitl [HT1]; · iexact HT1
    iintro ⟨H0, H1, H2, ⟨%X, %hX, H3⟩, ⟨%ds', %hS, HS⟩, HT0, HT1⟩
    isplitl [HS Hg HT0 HT1]
    · isplitl [HS]
      · iexists _; isplitr; swap; · iexact HS
        ipureintro
        intro _ n' hn' hw
        obtain rfl : n' = n := Fin.ext (by omega)
        rw [ha, hx] at hS; exact hS hw
      isplitl [Hg]; · iexact Hg
      isplitl [HT0]; · iexact HT0
      iexact HT1
    isplitl [Ho]; · iexact Ho
    isplitl [H0]; · iexact H0
    isplitl [H1]; · iexact H1
    isplitl [H2]; · iexact H2
    iexists _; isplitr; swap; · iexact H3
    ipureintro
    intro n' hn'
    obtain rfl : n' = n := Fin.ext (by omega)
    rw [ha, hx] at hX; exact hX
  · iintro ⟨⟨⟨%ds, %hS, HS⟩, Hg, HT0, HT1⟩, Ho, ⟨%d0, H0⟩, ⟨%d1, H1⟩, ⟨%d2, H2⟩, ⟨%d3, -, H3⟩⟩
    iapply ((run_later c (grid0.coords t) _ _ _ _ _ _ _ _ _ _ (fun h => h0 ((first_iff t).mp h)) (iblk m hO c 0 t) (iblk m hO c 1 t) (iblk m hO c 2 t) ds (tbl m 0) (tbl m 1)) _)
    isplitl [H0]; · iexact H0
    isplitl [H1]; · iexact H1
    isplitl [H2]; · iexact H2
    isplitl [H3]; · iexists _; iexact H3
    isplitl [HS]; · iexact HS
    isplitl [HT0]; · iexact HT0
    isplitl [HT1]; · iexact HT1
    iintro ⟨H0, H1, H2, ⟨%X, %hX, H3⟩, HS, HT0, HT1⟩
    isplitl [HS Hg HT0 HT1]
    · isplitl [HS]
      · iexists _; isplitr; swap; · iexact HS
        ipureintro
        intro _ n' hn' hw
        obtain rfl : n' = n := Fin.ext (by omega)
        exact hS h0 _ hn hw
      isplitl [Hg]; · iexact Hg
      isplitl [HT0]; · iexact HT0
      iexact HT1
    isplitl [Ho]; · iexact Ho
    isplitl [H0]; · iexact H0
    isplitl [H1]; · iexact H1
    isplitl [H2]; · iexact H2
    iexists _; isplitr; swap; · iexact H3
    ipureintro
    intro n' hn'
    obtain rfl : n' = n := Fin.ext (by omega)
    rw [ha] at hX
    exact ⟨fun hw => by rw [hX.1 hw, hS h0 _ hn hw], hX.2⟩

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body obligation of the library. -/
theorem body_obligation (hO : Ok m) (c : Dev nD) :
    BodyObligationRel (dats (F := F) m hO 0 c) (defs₀ (F := F)) Variants.none () Set.univ marked (Rl m hO c) := fun t => by
  rw [bigSep_W0, bigSep_W0, defs₀_row m hO]
  exact triple_restated (sound_body m hO c t) rfl .rfl fun _ => .rfl

/-- The proof data, read with the output's window held to its relation. -/
abbrev rdat (hO : Ok m) (c : Dev nD) := (dats m hO 0 c).toRRel marked (Rl m hO c)

set_option backward.isDefEq.respectTransparency.types false in
/-- The whole program runs; afterwards the counters are zero and every array is what the write-backs made of it. -/
theorem run_main (hO : Ok m) : θ_run defs (onTc (τ := τ) (main (F := F))) (s₀ m ρ)
    (fun r => (Pipeline.RDat.FramePost ((Pipeline.pin pcfgs fun _ => adm m hO) 0) (rdat m hO) (V m)) r ∧ r.2.sem = fun _ => 0) :=
  Pipeline.RDat.θ_run_frameP_track (Q' := _) pcfgs (fun _ => adm m hO) (0 : Fin 1) launch0 defs₀ Variants.none (rdat m hO) m ρ main
    (hbody := fun c => (body_obligation m hO c).toRRel) (hshare := fun c => (dats m hO 0 c).share_full fun _ => rfl)
    (howed := fun _ _ => rfl) (V := V m) (hmain := hmain m Variants.none) (hA := A_eq m hO) (hpf := V_pre m)
    (hin := fun c => by
      show iprop(Pipeline.ΦA spec0 c ∗ Pipeline.ΦT pre0 (tbl m) c) ⊢ (dats m hO 0 c).Φ 0
      rw [PhiA_eq, PhiT_eq]
      show _ ⊢ iprop((∃ d, ⌜Carried m c 0 d⌝ ∗ owns (c : Thread nD τ) scr fullShare d) ∗ (∃ r, prngReg c r) ∗ tbPt c tb0 (tbl m 0) ∗ tbPt c tb1 (tbl m 1))
      iintro ⟨⟨⟨%d, HS⟩, Hg⟩, HT0, HT1⟩
      isplitl [HS]
      · iexists _; isplitr; swap; · iexact HS
        ipureintro
        intro h; exact absurd rfl h
      isplitl [Hg]; · iexact Hg
      isplitl [HT0]; · iexact HT0
      iexact HT1)
    (hout := fun c => by
      show (dats m hO 0 c).Φ (Fin.last _) ⊢ Pipeline.ΦA spec0 c
      rw [PhiA_eq]
      show iprop((∃ d, ⌜Carried m c _ d⌝ ∗ owns (c : Thread nD τ) scr fullShare d) ∗ (∃ r, prngReg c r) ∗ tbPt c tb0 (tbl m 0) ∗ tbPt c tb1 (tbl m 1)) ⊢ _
      iintro ⟨⟨%d, -, HS⟩, Hg, -, -⟩
      isplitl [HS]; · iexists _; iexact HS
      iexact Hg)

/-- The arguments are unchanged and the counters are zero. -/
theorem quiet (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hs⟩ => ⟨fun c => ⟨(Pipeline.RDat.FramePost.arr_in h c 0 rfl).trans (A_eq m hO c 0),
      (Pipeline.RDat.FramePost.arr_in h c 1 rfl).trans (A_eq m hO c 1),
      (Pipeline.RDat.FramePost.arr_in h c 2 rfl).trans (A_eq m hO c 2),
      (h c).2 main_arg3 (by decide : main_arg3 ∈ Pipeline.restRefs sig spec0),
      (h c).2 main_arg4 (by decide : main_arg4 ∈ Pipeline.restRefs sig spec0)⟩, hs⟩) (run_main m ρ hO)

end Cert.UpIdeal.Hand

end
-- ==== Proof.DownRun.lean ====
/-
  The grouped down projection, one grid point at a time: what its body leaves in the output block, from the word of the
  second table at the point's tile and from what the block held.
-/
module

public import proofs.«01_k».proof.Proof.Gen.DownIdeal.Launch
public import proofs.«01_k».proof.Proof.Gen.DownIdeal.Skeleton
public import Idealize.ShloMosaic.Lib.Pipeline.FrameBody
public import Idealize.ShloMosaic.Lib.Pipeline.Frame
public import Idealize.ShloMosaic.Lib.Pipeline.DatRel
public import Idealize.ShloMosaic.Lib.Pipeline.ArrRel
public import Idealize.ShloMosaic.Lib.Tactic
public import Idealize.ShloMosaic.Lib.WordCmp
public import Idealize.ShloMosaic.Lib.VecWindow

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables as the body is handed them. -/
abbrev tb0 : Memref sig .tc .smem S40 .i32 := Memref.whole main_arg2
abbrev tb1 : Memref sig .tc .smem S40 .i32 := Memref.whole main_arg3

/-- A table's contents on core `c`, and the half share of it that the body reads through. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of the second table that the body reads at a grid point: whether the point's tile is active. -/
abbrev act (c : Dev nD) (xt1 : TbBuf (F := F) c tb1) (i : grid0.Coords) : BitVec 32 :=
  View.readAt (Elt F) tb1.view (Rect.unit (s := S40) (k0_off1 i) S1.size (k0_off1_inb i)).toLoadRect xt1 (Shape.Idx.first (lt_of_lt_of_eq Nat.one_pos numel1_S1.symm))

theorem cond_active {w : BitVec 32} (h : w = 1#32) : k0_cond1 w = 1#1 := by subst h; decide
theorem cond_idle {w : BitVec 32} (h : w = 0#32) : ¬k0_cond1 w = 1#1 := by subst h; decide
theorem zero_active (i : grid0.Coords) {w : BitVec 32} (h : w = 1#32) : ¬k0_cond4 i w = 1#1 := by
  subst h
  have : ∀ b : BitVec 1, ¬Scalar.cmpi .ne (Scalar.extui (Scalar.andi (Scalar.cmpi .eq 1#32 0#32) b) : BitVec 32) 0#32 = 1#1 := by decide
  exact this _
theorem zero_idle (i : grid0.Coords) (h2 : k0_cond2 i = 1#1) {w : BitVec 32} (h : w = 0#32) : k0_cond4 i w = 1#1 := by
  subst h
  have : ∀ b : BitVec 1, Scalar.cmpi .ne (Scalar.extui b : BitVec 32) 0#32 = 1#1 → Scalar.cmpi .ne (Scalar.extui (Scalar.andi (Scalar.cmpi .eq 0#32 0#32) b) : BitVec 32) 0#32 = 1#1 := by decide
  exact this _ h2
theorem zero_later (i : grid0.Coords) (h2 : ¬k0_cond2 i = 1#1) (w : BitVec 32) : ¬k0_cond4 i w = 1#1 := by
  have : ∀ a b : BitVec 1, ¬Scalar.cmpi .ne (Scalar.extui b : BitVec 32) 0#32 = 1#1 → ¬Scalar.cmpi .ne (Scalar.extui (Scalar.andi a b) : BitVec 32) 0#32 = 1#1 := by decide
  exact this _ _ h2

set_option maxHeartbeats 1000000 in
/-- The body at a tile's first point: an active tile's block starts at the first product, an idle one's at zeros. -/
theorem run_first (c : Dev nD) (i : grid0.Coords) (arg4 : Memref sig .tc .vmem S1024x512 .bf16) (harg4 : arg4.IsWhole) (arg5 : Memref sig .tc .vmem S1x1x512x2048 .f32) (harg5 : arg5.IsWhole) (arg6 : Memref sig .tc .vmem S1024x2048 .f32) (harg6 : arg6.IsWhole)
    (h2 : k0_cond2 i = 1#1) (h3 : ¬k0_cond3 i = 1#1)
    (x0 : Vec F S1024x512 .bf16) (x1 : Vec F S1x1x512x2048 .f32) (xt0 : TbBuf (F := F) c tb0) (xt1 : TbBuf (F := F) c tb1) (K : PUnit → sProp 𝕄) :
        iprop(owns (c : Thread nD τ) arg4 fullShare x0 ∗ owns (c : Thread nD τ) arg5 fullShare x1 ∗ (∃ d, owns (c : Thread nD τ) arg6 fullShare d) ∗ tbPt c tb0 xt0 ∗ tbPt c tb1 xt1
            ∗ (iprop(owns (c : Thread nD τ) arg4 fullShare x0 ∗ owns (c : Thread nD τ) arg5 fullShare x1
              ∗ (∃ d, ⌜(act c xt1 i = 1#32 → d = k0_pay1 x0 x1) ∧ (act c xt1 i = 0#32 → d = k0_pay3)⌝ ∗ owns (c : Thread nD τ) arg6 fullShare d)
              ∗ tbPt c tb0 xt0 ∗ tbPt c tb1 xt1) -∗ K ⟨⟩))
          ⊢ wp frame (wpE (defs₀ (F := F)) Variants.none c none) Set.univ (cc0_moe_down i tb0 (Memref.isWhole_whole _) tb1 (Memref.isWhole_whole _) arg4 harg4 arg5 harg5 arg6 harg6) K := by
    simp only [cc0_moe_down_eq_skeleton]; unfold cc0_moe_down_skel
    unfold owns
    iintro ⟨⟨%f0, %hf0, H0⟩, ⟨%f1, %hf1, H1⟩, ⟨%d2, %f2, -, H2⟩, HT0, HT1, Hk⟩
    obtain rfl := harg4.eq_unread hf0; obtain rfl := harg5.eq_unread hf1
    sl_exec (disch := first | sl_exact h2 | sl_exact h3)
    sl_step
    have e1 : run_first.sl.r c i xt1 = act c xt1 i := rfl
    have e3 : run_first.sl.r_1 c i xt1 = act c xt1 i := rfl
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; swap
      · iexists _; isplitr; swap; · iexact H2
        ipureintro; rfl
      ipureintro
      rw [e1, e3]
      refine ⟨fun h => ?_, fun h => ?_⟩
      · rw [dif_neg (zero_active i h), dif_pos (cond_active h), View.read_writes_full]
        rw [View.readAt_full, View.readAt_full, hf0, hf1]
      · rw [dif_pos (zero_idle i h2 h), View.read_writes_full]
    isplitl [HT0]; · iexact HT0
    iexact HT1

set_option maxHeartbeats 1000000 in
/-- The body at a later point of a tile: an active tile's block grows by the point's product, an idle one's stays. -/
theorem run_later (c : Dev nD) (i : grid0.Coords) (arg4 : Memref sig .tc .vmem S1024x512 .bf16) (harg4 : arg4.IsWhole) (arg5 : Memref sig .tc .vmem S1x1x512x2048 .f32) (harg5 : arg5.IsWhole) (arg6 : Memref sig .tc .vmem S1024x2048 .f32) (harg6 : arg6.IsWhole)
    (h2 : ¬k0_cond2 i = 1#1) (h3 : k0_cond3 i = 1#1)
    (x0 : Vec F S1024x512 .bf16) (x1 : Vec F S1x1x512x2048 .f32) (Y : Vec F S1024x2048 .f32) (xt0 : TbBuf (F := F) c tb0) (xt1 : TbBuf (F := F) c tb1) (K : PUnit → sProp 𝕄) :
        iprop(owns (c : Thread nD τ) arg4 fullShare x0 ∗ owns (c : Thread nD τ) arg5 fullShare x1 ∗ owns (c : Thread nD τ) arg6 fullShare Y ∗ tbPt c tb0 xt0 ∗ tbPt c tb1 xt1
            ∗ (iprop(owns (c : Thread nD τ) arg4 fullShare x0 ∗ owns (c : Thread nD τ) arg5 fullShare x1
              ∗ (∃ d, ⌜(act c xt1 i = 1#32 → d = k0_pay2 x0 x1 Y) ∧ (act c xt1 i = 0#32 → d = Y)⌝ ∗ owns (c : Thread nD τ) arg6 fullShare d)
              ∗ tbPt c tb0 xt0 ∗ tbPt c tb1 xt1) -∗ K ⟨⟩))
          ⊢ wp frame (wpE (defs₀ (F := F)) Variants.none c none) Set.univ (cc0_moe_down i tb0 (Memref.isWhole_whole _) tb1 (Memref.isWhole_whole _) arg4 harg4 arg5 harg5 arg6 harg6) K := by
    simp only [cc0_moe_down_eq_skeleton]; unfold cc0_moe_down_skel
    unfold owns
    iintro ⟨⟨%f0, %hf0, H0⟩, ⟨%f1, %hf1, H1⟩, ⟨%f2, %hf2, H2⟩, HT0, HT1, Hk⟩
    obtain rfl := harg4.eq_unread hf0; obtain rfl := harg5.eq_unread hf1; obtain rfl := harg6.eq_unread hf2
    sl_exec (disch := first | sl_exact h2 | sl_exact h3)
    sl_step
    have e1 : run_later.sl.r c i xt1 = act c xt1 i := rfl
    have e3 : run_later.sl.r_1 c i xt1 = act c xt1 i := rfl
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; swap
      · iexists _; isplitr; swap; · iexact H2
        ipureintro; rfl
      ipureintro
      rw [e1, e3, dif_neg (zero_later i h2 _)]
      refine ⟨fun h => ?_, fun h => ?_⟩
      · rw [dif_pos (cond_active h), View.read_writes_full]
        rw [View.readAt_full, View.readAt_full, View.readAt_full, hf0, hf1, hf2]
      · rw [dif_neg (cond_idle h), hf2]
    isplitl [HT0]; · iexact HT0
    iexact HT1

end Cert.DownIdeal.Hand

end
-- ==== Proof.DownLaunch.lean ====
/-
  The grouped down projection, launched: the blocks its grid points read, the sum its output block carries from point to
  point, and the run of the whole program.
-/
module

public import proofs.«01_k».proof.Proof.DownRun
public import Idealize.ShloMosaic.Lib.Claim
public import Idealize.ShloMosaic.Lib.Pointwise

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- The buffers when the region is entered: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents, read off the launch memory. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- Every block that a table's word picks lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' halves that the body is lent. -/
theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The region's invariant: the call has no scratch. -/
theorem PhiA_eq (c : Dev nD) : (Pipeline.ΦA spec0 c : sProp 𝕄) = iprop(BI.emp ∗ (∃ r, prngReg c r)) := by
  unfold Pipeline.ΦA; rw [scopedRest0_eq]

/-! ## The blocks -/

/-- The block of window `w` at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_in (hO : Ok m) {c : Dev nD} (dat : Dat τ (Elt F) Unit ℕ (UR sig nD τ) ℕ (cfgM m hO) c) (hA : ∀ w, dat.A w = V m c (Pipeline.arrRef spec0 w))
    (ha0 : ∀ t, dat.after 0 t = iblk m hO c 0 t) (ha1 : ∀ t, dat.after 1 t = iblk m hO c 1 t)
    (t : Fin (cfgM m hO).N) : (∀ d, dat.before 0 t d = iblk m hO c 0 t) ∧ (∀ d, dat.before 1 t d = iblk m hO c 1 t) :=
  ⟨fun d => (dat.before_in_eq_fetched 0 rfl (fun _ => rfl) (fun _ _ _ => rfl) (fun t => by rw [ha0]; unfold Dat.blockOf iblk; rw [hA]) t d).trans
      (by unfold Dat.fetched Dat.blockOf iblk; rw [hA]; try rfl),
   fun d => (dat.before_in_eq_fetched 1 rfl (fun _ => rfl) (fun _ _ _ => rfl) (fun t => by rw [ha1]; unfold Dat.blockOf iblk; rw [hA]) t d).trans
      (by unfold Dat.fetched Dat.blockOf iblk; rw [hA]; try rfl)⟩

/-- A point's tile and column block. -/
theorem coord0 (t : Fin grid0.N) : (grid0.coords t 0).val = t.val / 14 := by
  have ht : t.val < 560 := Nat.lt_of_lt_of_eq t.isLt N_0
  have e : (grid0.coords t 0).val = t.val / 14 % 40 := Pipeline.Grid.coords_val t 0 (by decide) rfl
  omega
theorem coord1 (t : Fin grid0.N) : (grid0.coords t 1).val = t.val % 14 := by
  have e : (grid0.coords t 1).val = t.val / 1 % 14 := Pipeline.Grid.coords_val t 1 (by decide) rfl
  omega

theorem first_iff (t : Fin grid0.N) : k0_cond2 (grid0.coords t) = 1#1 ↔ t.val % 14 = 0 := by
  have ht : t.val < 560 := Nat.lt_of_lt_of_eq t.isLt N_0
  have e1 := coord1 t
  unfold k0_cond2
  simp only [e1]
  word_cmp
theorem later_iff (t : Fin grid0.N) : k0_cond3 (grid0.coords t) = 1#1 ↔ ¬t.val % 14 = 0 := by
  have ht : t.val < 560 := Nat.lt_of_lt_of_eq t.isLt N_0
  have e1 := coord1 t
  unfold k0_cond3
  simp only [e1]
  word_cmp

theorem toNat_ofNat {n : ℕ} (h : n < 560) : (BitVec.ofNat 32 n).toNat = n := by
  rw [BitVec.toNat_ofNat]; omega

theorem tr0 (i : grid0.Coords) : cc0_transform_0 i = ![(i 0).val, (i 1).val] := by
  have h0 : (i 0).val < 40 := (i 0).isLt
  have h1 : (i 1).val < 14 := (i 1).isLt
  funext a
  match a with
  | ⟨0, _⟩ => exact toNat_ofNat (by omega)
  | ⟨1, _⟩ => exact toNat_ofNat (by omega)

/-- Whether tile `n` is active, and the expert it belongs to. -/
def word (n : Fin 40) : BitVec 32 := m (((0 : Dev nD) : Thread nD τ).loc main_arg3) (ix1 (n0 := 40) n)
@[inherit_doc word] def expert (n : Fin 40) : BitVec 32 := m (((0 : Dev nD) : Thread nD τ).loc main_arg2) (ix1 (n0 := 40) n)

/-- The index at which a table is read at a point: the point's tile. -/
theorem at_tile (i : grid0.Coords) (n : Fin 40) (hn : (i 0).val = n.val) (h : (Rect.unit (s := S40) (k0_off1 i) S1.size (k0_off1_inb i)).shape.numel > 0) :
    (Rect.unit (s := S40) (k0_off1 i) S1.size (k0_off1_inb i)).emb (Shape.Idx.first h) = ix1 (n0 := 40) n := by
  funext a
  obtain rfl : a = 0 := Subsingleton.elim _ _
  refine Fin.ext ?_
  have hz : ((Shape.Idx.first h : (Rect.unit (s := S40) (k0_off1 i) S1.size (k0_off1_inb i)).shape.Idx) 0).val < 1 := (Shape.Idx.first h 0).isLt
  show k0_off1 i 0 + 1 * ((Shape.Idx.first h : (Rect.unit (s := S40) (k0_off1 i) S1.size (k0_off1_inb i)).shape.Idx) 0).val = n.val
  have hk : k0_off1 i 0 = (i 0).val := congrFun (k0_off1_eq i) 0
  omega

theorem act_eq (c : Dev nD) (t : Fin grid0.N) (n : Fin 40) (hn : t.val / 14 = n.val) : act (F := F) c (tbl m 1) (grid0.coords t) = word m n :=
  congrArg (m (((0 : Dev nD) : Thread nD τ).loc main_arg3)) (at_tile (grid0.coords t) n ((coord0 t).trans hn) _)

theorem expert_eq (i : grid0.Coords) : (tbl m).at 0 (Rect.unit (s := S40) (k0_off1 i) S1.size (k0_off1_inb i)) numel1_S1 = expert m (i 0) :=
  congrArg (m (((0 : Dev nD) : Thread nD τ).loc main_arg2)) (at_tile i (i 0) rfl _)

theorem tr1 (i : grid0.Coords) : cc0_transform_1 k0_off1_inb numel1_S1 (tbl m) i = ![0, (expert m (i 0)).toNat, (i 1).val, 0] := by
  have h1 : (i 1).val < 14 := (i 1).isLt
  funext a
  match a with
  | ⟨0, _⟩ => rfl
  | ⟨1, _⟩ => exact congrArg BitVec.toNat (expert_eq m i)
  | ⟨2, _⟩ => exact toNat_ofNat (by omega)
  | ⟨3, _⟩ => rfl

theorem tr2 (i : grid0.Coords) : cc0_transform_2 i = ![(i 0).val, 0] := by
  have h0 : (i 0).val < 40 := (i 0).isLt
  funext a
  match a with
  | ⟨0, _⟩ => exact toNat_ofNat (by omega)
  | ⟨1, _⟩ => rfl

/-- Experts below eight keep every weight block inside its array. -/
theorem ok_of_lt (h : ∀ n, (expert m n).toNat < 8) : Ok m := by
  have key : ∀ (i : grid0.Coords) a, ((![0, (expert m (i 0)).toNat, (i 1).val, 0] : Fin 4 → ℕ) a + 1) * S1x1x512x2048.size a ≤ S2x8x7168x2048.size a := by
    intro i a
    have h1 : (i 1).val < 14 := (i 1).isLt
    have he := h (i 0)
    match a with
    | ⟨0, _⟩ => show (0 + 1) * 1 ≤ 2; omega
    | ⟨1, _⟩ => show ((expert m (i 0)).toNat + 1) * 1 ≤ 8; omega
    | ⟨2, _⟩ => show ((i 1).val + 1) * 512 ≤ 7168; omega
    | ⟨3, _⟩ => show (0 + 1) * 2048 ≤ 2048; omega
  exact fun i => ⟨by rw [tr1]; exact key i, .inl rfl⟩

/-- The output's block is written back at a tile's last point, and never read in. -/
theorem flush2 (hO : Ok m) (t : Fin (cfgM m hO).N) : ((cfgM m hO).win 2).flush t = true ↔ t.val % 14 = 13 :=
  Pipeline.Window.flushOf_reads cc0_transform_2 reads0_2 hreads0_2 0 (by decide) (by decide)
    (Pipeline.Window.sep_of_coord cc0_transform_2 0 0 (fun _ => rfl) (by decide)) (P := 14) (m := 13) (by decide) rfl t
theorem fetch2 (hO : Ok m) (t : Fin (cfgM m hO).N) : ((cfgM m hO).win 2).fetch t = false := rfl

/-! ## The proof data -/

/-- The only window whose contents are held to a relation is the output's. -/
def marked : Fin 3 → Bool := fun w => w.val == 2

/-- The grid point of number `n`. -/
def pt (hO : Ok m) (n : ℕ) : Fin (cfgM m hO).N := ⟨n % 560, lt_of_lt_of_eq (Nat.mod_lt _ (by decide)) (show (cfgM m hO).N = 560 from N_0).symm⟩
theorem pt_val (hO : Ok m) (t : Fin (cfgM m hO).N) : pt m hO t.val = t :=
  Fin.ext (Nat.mod_eq_of_lt (lt_of_lt_of_eq t.isLt (show (cfgM m hO).N = 560 from N_0)))

/-- The products of an active tile, added up from the tile's first point to point `n`. -/
def acc (hO : Ok m) (c : Dev nD) : ℕ → Vec F S1024x2048 .f32
  | 0 => k0_pay1 (iblk m hO c 0 (pt m hO 0)) (iblk m hO c 1 (pt m hO 0))
  | n + 1 => if (n + 1) % 14 = 0 then k0_pay1 (iblk m hO c 0 (pt m hO (n + 1))) (iblk m hO c 1 (pt m hO (n + 1)))
      else k0_pay2 (iblk m hO c 0 (pt m hO (n + 1))) (iblk m hO c 1 (pt m hO (n + 1))) (acc hO c n)

theorem acc_first (hO : Ok m) (c : Dev nD) (t : Fin (cfgM m hO).N) (h : t.val % 14 = 0) : acc m hO c t.val = k0_pay1 (iblk m hO c 0 t) (iblk m hO c 1 t) := by
  have e := pt_val m hO t
  obtain h0 | ⟨n, h0⟩ : t.val = 0 ∨ ∃ n, t.val = n + 1 := by
    rcases Nat.eq_zero_or_pos t.val with h0 | h0
    · exact .inl h0
    · exact .inr ⟨t.val - 1, by omega⟩
  · rw [h0] at e ⊢; rw [acc, e]
  · rw [h0] at e h ⊢; rw [acc, if_pos h, e]
theorem acc_later (hO : Ok m) (c : Dev nD) (t : Fin (cfgM m hO).N) (h : ¬t.val % 14 = 0) :
    acc m hO c t.val = k0_pay2 (iblk m hO c 0 t) (iblk m hO c 1 t) (acc m hO c (t.val - 1)) := by
  have e := pt_val m hO t
  obtain ⟨n, h0⟩ : ∃ n, t.val = n + 1 := ⟨t.val - 1, by omega⟩
  rw [h0] at e h ⊢; rw [acc, if_neg h, e, Nat.add_sub_cancel]

/-- What the body may leave in a window: in the output's, the sum so far if its tile is active, zeros if it is idle. -/
def Rl (hO : Ok m) (c : Dev nD) : (w : Fin (cfgM m hO).W) → Fin (cfgM m hO).N → (((cfgM m hO).win w).block.Idx → Elt F ((cfgM m hO).win w).elt) → Prop
  | ⟨2, _⟩, t, X => ∀ n : Fin 40, t.val / 14 = n.val → (word m n = 1#32 → X = acc m hO c t.val) ∧ (word m n = 0#32 → X = k0_pay3)
  | _, _, _ => True

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, h⟩ => Pipeline.Dat.unnamed (cfg := (cfgM m hO)) ⟨2, h⟩ t
  Φ t := iprop((∃ r, prngReg c r) ∗ tbPt c tb0 (tbl m 0) ∗ tbPt c tb1 (tbl m 1))
  q _ := fullShare
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem before (hO : Ok m) (c : Dev nD) (t : Fin (cfgM m hO).N) :
    (∀ d, (dats m hO 0 c).before 0 t d = iblk m hO c 0 t) ∧ (∀ d, (dats m hO 0 c).before 1 t d = iblk m hO c 1 t) :=
  before_in m hO (dats m hO 0 c) (A_eq m hO c) (after0 m hO c) (after1 m hO c) t

/-- The proof data, read with the output's window held to its relation. -/
abbrev rdat (hO : Ok m) (c : Dev nD) := (dats m hO 0 c).toRRel marked (Rl m hO c)

/-- Within a tile the output's buffer still holds what the point before left. -/
theorem found (hO : Ok m) (c : Dev nD) (t : Fin (cfgM m hO).N) (h : ¬t.val % 14 = 0) {Y : ((cfgM m hO).win 2).block.Idx → Elt F ((cfgM m hO).win 2).elt}
    (hY : (rdat m hO c).Finds 2 t Y) (n : Fin 40) (hn : t.val / 14 = n.val) :
    (word m n = 1#32 → Y = acc m hO c (t.val - 1)) ∧ (word m n = 0#32 → Y = k0_pay3) := by
  rcases ((rdat m hO c).finds_of_pos (fetch2 m hO t) (by omega) Y).mp hY with hf | hL
  · have hf' := (flush2 m hO _).mp hf
    simp only at hf'
    omega
  · exact ((dats m hO 0 c).toRRel_leaves (Rl := Rl m hO c) (fgt := marked) rfl hL : Rl m hO c 2 _ Y) n (by simp only; omega)

/-! ## The body, point by point -/

abbrev ms0 (hO : Ok m) (t : Fin (cfgM m hO).N) : Memref sig .tc .vmem S1024x512 .bf16 := spec0_0.stage ((cfgM m hO).slots t 0)
abbrev ms1 (hO : Ok m) (t : Fin (cfgM m hO).N) : Memref sig .tc .vmem S1x1x512x2048 .f32 := spec0_1.stage ((cfgM m hO).slots t 1)
abbrev ms2 (hO : Ok m) (t : Fin (cfgM m hO).N) : Memref sig .tc .vmem S1024x2048 .f32 := spec0_2.stage ((cfgM m hO).slots t 2)

/-- The body as the pipeline calls it at a point. -/
abbrev bodyAt (hO : Ok m) (t : Fin (cfgM m hO).N) : Prog (TpuEff nD τ sig (Elt F) Λ₀ .tc) PUnit :=
  cc0_moe_down (grid0.coords t) tb0 (Memref.isWhole_whole _) tb1 (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2))

/-- What the body is called with at a point, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ Y, ⌜((dats m hO 0 c).toRRel marked (Rl m hO c)).Finds 2 t Y⌝ ∗ owns (c : Thread nD τ) (ms2 m hO t) fullShare Y))
@[inherit_doc bodyPre] def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ (∃ X, ⌜Rl m hO c 2 t X⌝ ∗ owns (c : Thread nD τ) (ms2 m hO t) fullShare X))

set_option maxHeartbeats 800000 in
/-- The body at a point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  obtain ⟨b0, b1⟩ := before m hO c t
  simp only [b0, b1]
  rw [show (dats m hO 0 c).owesAt () t.succ = (dats m hO 0 c).owesAt () t.castSucc from rfl, after0, after1]
  rw [show (dats m hO 0 c).Φ t.castSucc = iprop((∃ r, prngReg c r) ∗ tbPt c tb0 (tbl m 0) ∗ tbPt c tb1 (tbl m 1)) from rfl,
    show (dats m hO 0 c).Φ t.succ = iprop((∃ r, prngReg c r) ∗ tbPt c tb0 (tbl m 0) ∗ tbPt c tb1 (tbl m 1)) from rfl]
  have hN : t.val < 560 := lt_of_lt_of_eq t.isLt (show (cfgM m hO).N = 560 from N_0)
  have hb : ∃ n : Fin 40, t.val / 14 = n.val := ⟨⟨t.val / 14, by omega⟩, rfl⟩
  obtain ⟨n, hn⟩ := hb
  have ha := act_eq m c t n hn
  by_cases h0 : t.val % 14 = 0
  · iintro ⟨⟨Hg, HT0, HT1⟩, Ho, ⟨%d0, H0⟩, ⟨%d1, H1⟩, ⟨%d2, -, H2⟩⟩
    iapply ((run_first c (grid0.coords t) _ _ _ _ _ _ ((first_iff t).mpr h0) (fun h => (later_iff t).mp h h0) (iblk m hO c 0 t) (iblk m hO c 1 t) (tbl m 0) (tbl m 1)) _)
    isplitl [H0]; · iexact H0
    isplitl [H1]; · iexact H1
    isplitl [H2]; · iexists _; iexact H2
    isplitl [HT0]; · iexact HT0
    isplitl [HT1]; · iexact HT1
    iintro ⟨H0, H1, ⟨%X, %hX, H2⟩, HT0, HT1⟩
    isplitl [Hg HT0 HT1]
    · isplitl [Hg]; · iexact Hg
      isplitl [HT0]; · iexact HT0
      iexact HT1
    isplitl [Ho]; · iexact Ho
    isplitl [H0]; · iexact H0
    isplitl [H1]; · iexact H1
    iexists _; isplitr; swap; · iexact H2
    ipureintro
    intro n' hn'
    obtain rfl : n' = n := Fin.ext (by omega)
    rw [ha, ← acc_first m hO c t h0] at hX; exact hX
  · iintro ⟨⟨Hg, HT0, HT1⟩, Ho, ⟨%d0, H0⟩, ⟨%d1, H1⟩, ⟨%Y, %hY, H2⟩⟩
    have hf := found m hO c t h0 hY n hn
    iapply ((run_later c (grid0.coords t) _ _ _ _ _ _ (fun h => h0 ((first_iff t).mp h)) ((later_iff t).mpr h0) (iblk m hO c 0 t) (iblk m hO c 1 t) Y (tbl m 0) (tbl m 1)) _)
    isplitl [H0]; · iexact H0
    isplitl [H1]; · iexact H1
    isplitl [H2]; · iexact H2
    isplitl [HT0]; · iexact HT0
    isplitl [HT1]; · iexact HT1
    iintro ⟨H0, H1, ⟨%X, %hX, H2⟩, HT0, HT1⟩
    isplitl [Hg HT0 HT1]
    · isplitl [Hg]; · iexact Hg
      isplitl [HT0]; · iexact HT0
      iexact HT1
    isplitl [Ho]; · iexact Ho
    isplitl [H0]; · iexact H0
    isplitl [H1]; · iexact H1
    iexists _; isplitr; swap; · iexact H2
    ipureintro
    intro n' hn'
    obtain rfl : n' = n := Fin.ext (by omega)
    rw [ha] at hX
    exact ⟨fun hw => by rw [hX.1 hw, acc_later m hO c t h0, hf.1 hw], fun hw => (hX.2 hw).trans (hf.2 hw)⟩

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body obligation of the library. -/
theorem body_obligation (hO : Ok m) (c : Dev nD) :
    BodyObligationRel (dats (F := F) m hO 0 c) (defs₀ (F := F)) Variants.none () Set.univ marked (Rl m hO c) := fun t => by
  rw [bigSep_W0, bigSep_W0, defs₀_row m hO]
  exact triple_restated (sound_body m hO c t) rfl .rfl fun _ => .rfl

set_option backward.isDefEq.respectTransparency.types false in
/-- The whole program runs; afterwards the counters are zero and every array is what the write-backs made of it. -/
theorem run_main (hO : Ok m) : θ_run defs (onTc (τ := τ) (main (F := F))) (s₀ m ρ)
    (fun r => (Pipeline.RDat.FramePost ((Pipeline.pin pcfgs fun _ => adm m hO) 0) (rdat m hO) (V m)) r ∧ r.2.sem = fun _ => 0) :=
  Pipeline.RDat.θ_run_frameP_track (Q' := _) pcfgs (fun _ => adm m hO) (0 : Fin 1) launch0 defs₀ Variants.none (rdat m hO) m ρ main
    (hbody := fun c => (body_obligation m hO c).toRRel) (hshare := fun c => (dats m hO 0 c).share_full fun _ => rfl)
    (howed := fun _ _ => rfl) (V := V m) (hmain := hmain m Variants.none) (hA := A_eq m hO) (hpf := V_pre m)
    (hin := fun c => by
      show iprop(Pipeline.ΦA spec0 c ∗ Pipeline.ΦT pre0 (tbl m) c) ⊢ (dats m hO 0 c).Φ 0
      rw [PhiA_eq, PhiT_eq]
      show _ ⊢ iprop((∃ r, prngReg c r) ∗ tbPt c tb0 (tbl m 0) ∗ tbPt c tb1 (tbl m 1))
      iintro ⟨⟨-, Hg⟩, HT0, HT1⟩
      isplitl [Hg]; · iexact Hg
      isplitl [HT0]; · iexact HT0
      iexact HT1)
    (hout := fun c => by
      show (dats m hO 0 c).Φ (Fin.last _) ⊢ Pipeline.ΦA spec0 c
      rw [PhiA_eq]
      show iprop((∃ r, prngReg c r) ∗ tbPt c tb0 (tbl m 0) ∗ tbPt c tb1 (tbl m 1)) ⊢ _
      iintro ⟨Hg, -, -⟩
      isplitr; · iempintro
      iexact Hg)

/-- The arguments are unchanged and the counters are zero. -/
theorem quiet (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hs⟩ => ⟨fun c => ⟨(Pipeline.RDat.FramePost.arr_in h c 0 rfl).trans (A_eq m hO c 0),
      (Pipeline.RDat.FramePost.arr_in h c 1 rfl).trans (A_eq m hO c 1),
      (h c).2 main_arg2 (by decide : main_arg2 ∈ Pipeline.restRefs sig spec0),
      (h c).2 main_arg3 (by decide : main_arg3 ∈ Pipeline.restRefs sig spec0)⟩, hs⟩) (run_main m ρ hO)

end Cert.DownIdeal.Hand

end
-- ==== Proof.Bits.lean ====
/-
  The grouped calls before and after idealization are one program: no operation of theirs was replaced. What is proved of
  the one at any scalars is thereby proved of the other.
-/
module

public import proofs.«01_k».proof.Proof.Gen.Up
public import proofs.«01_k».proof.Proof.Gen.Down
public import proofs.«01_k».proof.Proof.UpLaunch
public import proofs.«01_k».proof.Proof.DownLaunch

@[expose] public section

set_option maxRecDepth 16384

noncomputable section

open Idealize.ShloMosaic Idealize.ShloMosaic.TcCoe Idealize.SL.Sem

namespace Cert.Up.Hand

variable {F : FTy → Type} [FloatOps F]

attribute [local instance] Cert.Up.Gen.facts

/-- The two tables of bodies are the same. -/
theorem bodies : Cert.Up.defs₀ (F := F) = Cert.UpIdeal.defs₀ (F := F) := by
  funext p
  match p with
  | .tc =>
    funext ℓ a
    obtain rfl : ℓ = (0 : Fin 1) := Subsingleton.elim _ _
    obtain ⟨t, s⟩ := a
    rfl
  | .scScalar _ => rfl
  | .scVector _ _ => rfl

/-- So are the tables with the pipelines'. -/
theorem tables : Cert.Up.defs (F := F) = Cert.UpIdeal.defs (F := F) :=
  congrArg (Pipeline.defs (Cert.UpIdeal.pcfgs (F := F))) bodies

/-- The arguments are unchanged and the counters are zero, of the program as captured. -/
theorem quiet (m : (ℓ : Loc Cert.Up.nD Cert.Up.τ Cert.Up.sig) → Buf (Elt F) ℓ) (ρ : Dev Cert.Up.nD → PrngReg) (hO : Cert.UpIdeal.Hand.Ok m) :
    θ_run (Cert.Up.defs (F := F)) (onTc (τ := Cert.Up.τ) (Cert.Up.main (F := F))) ⟨m, fun _ => 0, ρ⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0) := by
  rw [tables]
  exact Cert.UpIdeal.Hand.quiet m ρ hO

end Cert.Up.Hand

namespace Cert.Down.Hand

variable {F : FTy → Type} [FloatOps F]

attribute [local instance] Cert.Down.Gen.facts

/-- The two tables of bodies are the same. -/
theorem bodies : Cert.Down.defs₀ (F := F) = Cert.DownIdeal.defs₀ (F := F) := by
  funext p
  match p with
  | .tc =>
    funext ℓ a
    obtain rfl : ℓ = (0 : Fin 1) := Subsingleton.elim _ _
    obtain ⟨t, s⟩ := a
    rfl
  | .scScalar _ => rfl
  | .scVector _ _ => rfl

/-- So are the tables with the pipelines'. -/
theorem tables : Cert.Down.defs (F := F) = Cert.DownIdeal.defs (F := F) :=
  congrArg (Pipeline.defs (Cert.DownIdeal.pcfgs (F := F))) bodies

/-- The arguments are unchanged and the counters are zero, of the program as captured. -/
theorem quiet (m : (ℓ : Loc Cert.Down.nD Cert.Down.τ Cert.Down.sig) → Buf (Elt F) ℓ) (ρ : Dev Cert.Down.nD → PrngReg) (hO : Cert.DownIdeal.Hand.Ok m) :
    θ_run (Cert.Down.defs (F := F)) (onTc (τ := Cert.Down.τ) (Cert.Down.main (F := F))) ⟨m, fun _ => 0, ρ⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0) := by
  rw [tables]
  exact Cert.DownIdeal.Hand.quiet m ρ hO

end Cert.Down.Hand

end
-- ==== Proof.Tiles.lean ====
/-
  What the preconditions of the grouped calls say: every tile has an expert's number below eight, and, for the values,
  is either in use (one) or not (zero).
-/
module

public import proofs.«01_k».proof.Proof.Gen.Pre_up_experts
public import proofs.«01_k».proof.Proof.Gen.Pre_up_tiles
public import proofs.«01_k».proof.Proof.Gen.Pre_down_experts
public import proofs.«01_k».proof.Proof.Gen.Pre_down_tiles
public import Idealize.ShloMosaic.Lib.Pointwise

@[expose] public section

noncomputable section

namespace Moe

open Idealize.ShloMosaic

theorem and_one {a b : BitVec 1} (h : IntOp.andi a b = 1#1) : a = 1#1 ∧ b = 1#1 := by
  revert a b; decide
theorem or_one {a b : BitVec 1} (h : IntOp.ori a b = 1#1) : a = 1#1 ∨ b = 1#1 := by
  revert a b; decide
theorem ofBool_one {a : Bool} (h : BitVec.ofBool a = 1#1) : a = true := by
  revert a; decide

/-- A word from zero up to, not including, eight as a signed number is below eight. -/
theorem below_eight {te : BitVec 32} (h : IntOp.andi (IntOp.cmpi .sge te 0#32) (IntOp.cmpi .slt te 8#32) = 1#1) : te.toNat < 8 := by
  obtain ⟨h0, h1⟩ := and_one h
  have g0 : (0#32 : BitVec 32).sle te = true := ofBool_one h0
  have g1 : te.slt 8#32 = true := ofBool_one h1
  rw [BitVec.sle_eq_decide, decide_eq_true_eq] at g0
  rw [BitVec.slt_eq_decide, decide_eq_true_eq] at g1
  rw [show (0#32 : BitVec 32).toInt = 0 from rfl] at g0
  rw [show (8#32 : BitVec 32).toInt = 8 from rfl] at g1
  rw [BitVec.toInt_eq_toNat_cond] at g0 g1
  have hlt := te.isLt
  split at g0 <;> omega

/-- A word that equals zero or one. -/
theorem zero_or_one {ac : BitVec 32} (h : IntOp.ori (IntOp.cmpi .eq ac 0#32) (IntOp.cmpi .eq ac 1#32) = 1#1) : ac = 0#32 ∨ ac = 1#32 :=
  (or_one h).imp (fun h => by have := ofBool_one h; simpa using this) (fun h => by have := ofBool_one h; simpa using this)

variable {F : FTy → Type} [FloatOps F]

theorem up_experts {X : Vec F Cert.Pre_up_experts.S40960x2048 .f32} {A B : Vec F Cert.Pre_up_experts.S2x8x2048x7168 .f32} {te ac : IVec Cert.Pre_up_experts.S40 32}
    (h : Cert.Pre_up_experts.fn (F := F) X A B te ac = fun _ => 1#1) (n : Fin 40) : (te (ix1 n)).toNat < 8 := by
  refine below_eight ((Eq.trans ?_ (congrFun h (ix1 n))))
  unfold Cert.Pre_up_experts.fn
  rfl

theorem up_tiles {X : Vec F Cert.Pre_up_tiles.S40960x2048 .f32} {A B : Vec F Cert.Pre_up_tiles.S2x8x2048x7168 .f32} {te ac : IVec Cert.Pre_up_tiles.S40 32}
    (h : Cert.Pre_up_tiles.fn (F := F) X A B te ac = fun _ => 1#1) (n : Fin 40) : (te (ix1 n)).toNat < 8 ∧ (ac (ix1 n) = 0#32 ∨ ac (ix1 n) = 1#32) := by
  have h1 : IntOp.andi (IntOp.andi (IntOp.cmpi .sge (te (ix1 n)) 0#32) (IntOp.cmpi .slt (te (ix1 n)) 8#32))
      (IntOp.ori (IntOp.cmpi .eq (ac (ix1 n)) 0#32) (IntOp.cmpi .eq (ac (ix1 n)) 1#32)) = 1#1 := by
    refine Eq.trans ?_ (congrFun h (ix1 n))
    unfold Cert.Pre_up_tiles.fn
    rfl
  exact ⟨below_eight (and_one h1).1, zero_or_one (and_one h1).2⟩

theorem down_experts {X : Vec F Cert.Pre_down_experts.S40960x7168 .bf16} {A : Vec F Cert.Pre_down_experts.S2x8x7168x2048 .f32} {te ac : IVec Cert.Pre_down_experts.S40 32}
    (h : Cert.Pre_down_experts.fn (F := F) X A te ac = fun _ => 1#1) (n : Fin 40) : (te (ix1 n)).toNat < 8 := by
  refine below_eight ((Eq.trans ?_ (congrFun h (ix1 n))))
  unfold Cert.Pre_down_experts.fn
  rfl

theorem down_tiles {X : Vec F Cert.Pre_down_tiles.S40960x7168 .bf16} {A : Vec F Cert.Pre_down_tiles.S2x8x7168x2048 .f32} {te ac : IVec Cert.Pre_down_tiles.S40 32}
    (h : Cert.Pre_down_tiles.fn (F := F) X A te ac = fun _ => 1#1) (n : Fin 40) : (te (ix1 n)).toNat < 8 ∧ (ac (ix1 n) = 0#32 ∨ ac (ix1 n) = 1#32) := by
  have h1 : IntOp.andi (IntOp.andi (IntOp.cmpi .sge (te (ix1 n)) 0#32) (IntOp.cmpi .slt (te (ix1 n)) 8#32))
      (IntOp.ori (IntOp.cmpi .eq (ac (ix1 n)) 0#32) (IntOp.cmpi .eq (ac (ix1 n)) 1#32)) = 1#1 := by
    refine Eq.trans ?_ (congrFun h (ix1 n))
    unfold Cert.Pre_down_tiles.fn
    rfl
  exact ⟨below_eight (and_one h1).1, zero_or_one (and_one h1).2⟩

end Moe

end
-- ==== Proof.Grouped.lean ====
/-
  The arithmetic of the grouped products, in extended reals: the gated product as the kernel and as the reference spell
  it, and the sum over the experts, in which only the row's own expert has a weight other than zero.
-/
module

public import Idealize.ShloMosaic.PureOps.Ideal
public import Idealize.ShloMosaic.Lib.Pointwise

@[expose] public section

noncomputable section

namespace Moe

open Idealize.ShloMosaic

theorem exp_nonneg (x : EReal) : 0 ≤ Ideal.exp x := by
  induction x with
  | bot => exact le_refl _
  | top => exact le_top
  | coe r => exact EReal.coe_nonneg.mpr (Real.exp_pos r).le

theorem denominator_ne (x : EReal) : (1 : EReal) + Ideal.exp x ≠ 0 :=
  (lt_of_lt_of_le zero_lt_one (le_add_of_nonneg_right (exp_nonneg x))).ne'

/-- The gated product of `g` and `u`: `g / (1 + e^(-g))`, times `u`. -/
def glu (g u : EReal) : EReal := Ideal.div g (1 + Ideal.exp (0 - g)) * u

/-- The reference spells the quotient as a product with a reciprocal. -/
theorem glu_eq (g u : EReal) : g * Ideal.div 1 (1 + Ideal.exp (-g)) * u = glu g u := by
  unfold glu Ideal.div
  rw [zero_sub, if_neg (denominator_ne _), if_neg (denominator_ne _), one_mul]

/-- An expert's gated product in row `p` and column `q`. -/
def gated (X : (⟨2, ![40960, 2048]⟩ : Shape).Idx → EReal) (W1 W3 : (⟨4, ![2, 8, 2048, 7168]⟩ : Shape).Idx → EReal) (p : Fin 40960) (q : Fin 7168) (e : Fin 8) : EReal :=
  glu (∑ x : Fin 2048, X (ix2 p x) * W1 (ix4 0 e x q)) (∑ x : Fin 2048, X (ix2 p x) * W3 (ix4 0 e x q))

/-- An expert's product in row `p` and column `q`. -/
def product (A : (⟨2, ![40960, 7168]⟩ : Shape).Idx → EReal) (W : (⟨4, ![2, 8, 7168, 2048]⟩ : Shape).Idx → EReal) (p : Fin 40960) (q : Fin 2048) (e : Fin 8) : EReal :=
  ∑ x : Fin 7168, A (ix2 p x) * W (ix4 0 e x q)

/-- The weight of expert `e` in a row of a tile of expert `te`, the tile in use (`ac` one) or not (`ac` zero). -/
def weight (te ac : BitVec 32) (e : Fin 8) : EReal :=
  FloatOps.uitofp (F := Ideal) .f32 (IntOp.cmpi .eq te (BitVec.ofNat 32 e.val)) * FloatOps.sitofp (F := Ideal) .f32 ac

/-- The value of the row's own expert if the tile is in use, else zero. -/
def own (te ac : BitVec 32) (f : Fin 8 → EReal) : EReal := if ac = 1#32 then f ⟨te.toNat % 8, Nat.mod_lt _ (by decide)⟩ else 0

theorem weight_idle (te : BitVec 32) (e : Fin 8) : weight te 0#32 e = 0 := by
  unfold weight
  rw [show FloatOps.sitofp (F := Ideal) .f32 (0#32) = (((0#32 : BitVec 32).toInt : ℝ) : EReal) from rfl]
  simp

theorem same_word : ∀ k e : Fin 8, IntOp.cmpi .eq (BitVec.ofNat 32 k.val) (BitVec.ofNat 32 e.val) = if e = k then 1#1 else 0#1 := by decide

theorem weight_active (k e : Fin 8) : weight (BitVec.ofNat 32 k.val) 1#32 e = if e = k then 1 else 0 := by
  unfold weight
  rw [same_word, show FloatOps.sitofp (F := Ideal) .f32 (1#32) = (((1#32 : BitVec 32).toInt : ℝ) : EReal) from rfl]
  split
  · rw [show FloatOps.uitofp (F := Ideal) .f32 (1#1) = (((1#1 : BitVec 1).toNat : ℝ) : EReal) from rfl]; simp
  · rw [show FloatOps.uitofp (F := Ideal) .f32 (0#1) = (((0#1 : BitVec 1).toNat : ℝ) : EReal) from rfl]; simp

/-- The reference's sum over the experts is the own expert's value. -/
theorem sum_eq (te ac : BitVec 32) (ht : te.toNat < 8) (ha : ac = 0#32 ∨ ac = 1#32) (f : Fin 8 → EReal) :
    0 + weight te ac 0 * f 0 + weight te ac 1 * f 1 + weight te ac 2 * f 2 + weight te ac 3 * f 3
      + weight te ac 4 * f 4 + weight te ac 5 * f 5 + weight te ac 6 * f 6 + weight te ac 7 * f 7 = own te ac f := by
  obtain rfl | rfl := ha
  · simp only [weight_idle, zero_mul, add_zero]
    exact (if_neg (by decide)).symm
  · obtain ⟨k, rfl⟩ : ∃ k : Fin 8, te = BitVec.ofNat 32 k.val :=
      ⟨⟨te.toNat, ht⟩, BitVec.eq_of_toNat_eq (by rw [BitVec.toNat_ofNat]; exact (Nat.mod_eq_of_lt te.isLt).symm)⟩
    have hk : own (BitVec.ofNat 32 k.val) 1#32 f = f k := by
      unfold own
      rw [if_pos rfl]
      congr 1
      revert k; decide
    rw [hk]
    simp only [weight_active]
    fin_cases k <;> simp

end Moe

end
-- ==== Proof.UpPay.lean ====
/-
  The grouped up projection's payloads at exact real arithmetic, read at one row and column.
-/
module

public import proofs.«01_k».proof.Proof.UpLaunch
public import proofs.«01_k».proof.Proof.Grouped

@[expose] public section

noncomputable section

namespace Cert.UpIdeal.Hand

open Cert.UpIdeal Cert.UpIdeal.Gen
open Idealize.ShloMosaic Idealize.ShloMosaic.TcCoe

theorem pay2_at (s : S1024x2048.Idx → EReal) (a b : S1x1x2048x512.Idx → EReal) (r : Fin 1024) (q : Fin 512) :
    (k0_pay2 (F := Ideal) (k0_pay1 (F := Ideal) s) a b : S1024x512.Idx → EReal) (ix2 r q)
      = Moe.glu (∑ x, s (ix2 r x) * a (ix4 0 0 x q)) (∑ x, s (ix2 r x) * b (ix4 0 0 x q)) := by
  unfold k0_pay2 k0_pay1
  pointwise
  rfl

theorem pay3_at (r : Fin 1024) (q : Fin 512) : (k0_pay3 (F := Ideal) : S1024x512.Idx → EReal) (ix2 r q) = 0 := by
  unfold k0_pay3
  pointwise

end Cert.UpIdeal.Hand

end
-- ==== Proof.UpOut.lean ====
/-
  The grouped up projection's output array at exact real arithmetic: every grid point writes one tile's rows of one block of
  columns, and the blocks tile the array.
-/
module

public import proofs.«01_k».proof.Proof.UpPay
public import Idealize.ShloMosaic.Lib.Pipeline.ArrRel

@[expose] public section

set_option maxRecDepth 16384

noncomputable section

namespace Cert.UpIdeal.Hand

open Cert.UpIdeal Cert.UpIdeal.Gen
open Idealize.ShloMosaic Idealize.ShloMosaic.TcCoe Idealize.SL.Sem

variable (m : (ℓ : Loc nD τ sig) → Buf (Elt Ideal) ℓ) (ρ : Dev nD → PrngReg)

/-- The output array: in a tile in use, the gated products of the tile's expert; in any other, zero. -/
def result (c : Dev nD) (y : S40960x7168.Idx) : EReal :=
  Moe.own (expert m ⟨(y 0).val / 1024, by have h : (y 0).val < 40960 := (y 0).isLt; omega⟩) (word m ⟨(y 0).val / 1024, by have h : (y 0).val < 40960 := (y 0).isLt; omega⟩)
    (Moe.gated (m ((c : Thread nD τ).loc main_arg0)) (m ((c : Thread nD τ).loc main_arg1)) (m ((c : Thread nD τ).loc main_arg2))
      ⟨(y 0).val, (y 0).isLt⟩ ⟨(y 1).val, (y 1).isLt⟩)

theorem result_at (c : Dev nD) (y : S40960x7168.Idx) (n : Fin 40) (p : Fin 40960) (q : Fin 7168)
    (hn : (y 0).val / 1024 = n.val) (hp : (y 0).val = p.val) (hq : (y 1).val = q.val) :
    result m c y = Moe.own (expert m n) (word m n)
      (Moe.gated (m ((c : Thread nD τ).loc main_arg0)) (m ((c : Thread nD τ).loc main_arg1)) (m ((c : Thread nD τ).loc main_arg2)) p q) := by
  have hb : (y 0).val / 1024 < 40 := by have h : (y 0).val < 40960 := (y 0).isLt; omega
  have en : (⟨(y 0).val / 1024, hb⟩ : Fin 40) = n := Fin.ext hn
  have ep : (⟨(y 0).val, (y 0).isLt⟩ : Fin 40960) = p := Fin.ext hp
  have eq : (⟨(y 1).val, (y 1).isLt⟩ : Fin 7168) = q := Fin.ext hq
  rw [← en, ← ep, ← eq]
  rfl

/-- A point's block of the first weights: its tile's expert's, in the point's columns. -/
theorem iblk1_at (hO : Ok m) (c : Dev nD) (t : Fin (cfgM m hO).N) (n : Fin 40) (hn : t.val / 14 = n.val) (he : (expert m n).toNat < 8) (x : Fin 2048) (q : Fin 512) :
    (iblk m hO c 1 t : S1x1x2048x512.Idx → EReal) (ix4 0 0 x q)
      = m ((c : Thread nD τ).loc main_arg1) (ix4 (n0 := 2) (n1 := 8) (n2 := 2048) (n3 := 7168) 0 ⟨(expert m n).toNat % 8, Nat.mod_lt _ (by decide)⟩ x ⟨t.val % 14 * 512 + q.val, by omega⟩) := by
  unfold iblk
  refine (View.read_apply _ _).trans ?_
  show V m c main_arg1 _ = _
  congr 1
  have h0 : grid0.coords t 0 = n := Fin.ext ((coord0 t).trans hn)
  have h1 := coord1 t
  have hi := tr1 m (grid0.coords t)
  rw [h0, h1] at hi
  funext a
  match a with
  | ⟨0, _⟩ => exact Fin.ext (show cc0_transform_1 k0_off1_inb numel1_S1 (tbl m) (grid0.coords t) 0 * 1 + 1 * 0 = 0 by rw [hi]; rfl)
  | ⟨1, _⟩ => exact Fin.ext (show cc0_transform_1 k0_off1_inb numel1_S1 (tbl m) (grid0.coords t) 1 * 1 + 1 * 0 = (expert m n).toNat % 8 by
      rw [hi]; show (expert m n).toNat * 1 + 1 * 0 = _; omega)
  | ⟨2, _⟩ => exact Fin.ext (show cc0_transform_1 k0_off1_inb numel1_S1 (tbl m) (grid0.coords t) 2 * 2048 + 1 * x.val = x.val by
      rw [hi]; show 0 * 2048 + 1 * x.val = _; omega)
  | ⟨3, _⟩ => exact Fin.ext (show cc0_transform_1 k0_off1_inb numel1_S1 (tbl m) (grid0.coords t) 3 * 512 + 1 * q.val = t.val % 14 * 512 + q.val by
      rw [hi]; show t.val % 14 * 512 + 1 * q.val = _; omega)

/-- A point's block of the second weights: its tile's expert's, in the point's columns. -/
theorem iblk2_at (hO : Ok m) (c : Dev nD) (t : Fin (cfgM m hO).N) (n : Fin 40) (hn : t.val / 14 = n.val) (he : (expert m n).toNat < 8) (x : Fin 2048) (q : Fin 512) :
    (iblk m hO c 2 t : S1x1x2048x512.Idx → EReal) (ix4 0 0 x q)
      = m ((c : Thread nD τ).loc main_arg2) (ix4 (n0 := 2) (n1 := 8) (n2 := 2048) (n3 := 7168) 0 ⟨(expert m n).toNat % 8, Nat.mod_lt _ (by decide)⟩ x ⟨t.val % 14 * 512 + q.val, by omega⟩) := by
  unfold iblk
  refine (View.read_apply _ _).trans ?_
  show V m c main_arg2 _ = _
  congr 1
  have h0 : grid0.coords t 0 = n := Fin.ext ((coord0 t).trans hn)
  have h1 := coord1 t
  have hi := tr2 m (grid0.coords t)
  rw [h0, h1] at hi
  funext a
  match a with
  | ⟨0, _⟩ => exact Fin.ext (show cc0_transform_2 k0_off1_inb numel1_S1 (tbl m) (grid0.coords t) 0 * 1 + 1 * 0 = 0 by rw [hi]; rfl)
  | ⟨1, _⟩ => exact Fin.ext (show cc0_transform_2 k0_off1_inb numel1_S1 (tbl m) (grid0.coords t) 1 * 1 + 1 * 0 = (expert m n).toNat % 8 by
      rw [hi]; show (expert m n).toNat * 1 + 1 * 0 = _; omega)
  | ⟨2, _⟩ => exact Fin.ext (show cc0_transform_2 k0_off1_inb numel1_S1 (tbl m) (grid0.coords t) 2 * 2048 + 1 * x.val = x.val by
      rw [hi]; show 0 * 2048 + 1 * x.val = _; omega)
  | ⟨3, _⟩ => exact Fin.ext (show cc0_transform_2 k0_off1_inb numel1_S1 (tbl m) (grid0.coords t) 3 * 512 + 1 * q.val = t.val % 14 * 512 + q.val by
      rw [hi]; show t.val % 14 * 512 + 1 * q.val = _; omega)

/-- What a point leaves in the output's window, read at one row and column. -/
theorem left_at (hO : Ok m) (c : Dev nD) (t : Fin (cfgM m hO).N) (n : Fin 40) (hn : t.val / 14 = n.val) (he : (expert m n).toNat < 8)
    (hw : word m n = 0#32 ∨ word m n = 1#32) {X : S1024x512.Idx → EReal}
    (hX : Left (F := Ideal) (word m n) (k0_pay1 (xrow m c n)) (iblk m hO c 1 t) (iblk m hO c 2 t) X) (r : Fin 1024) (q : Fin 512) :
    X (ix2 r q) = Moe.own (expert m n) (word m n)
      (Moe.gated (m ((c : Thread nD τ).loc main_arg0)) (m ((c : Thread nD τ).loc main_arg1)) (m ((c : Thread nD τ).loc main_arg2))
        ⟨n.val * 1024 + r.val, by omega⟩ ⟨t.val % 14 * 512 + q.val, by omega⟩) := by
  obtain h | h := hw
  · rw [hX.2 h, pay3_at, h]; exact (if_neg (by decide)).symm
  · rw [hX.1 h, h]
    refine (pay2_at _ _ _ r q).trans ?_
    unfold Moe.own Moe.gated
    rw [if_pos rfl]
    congr 1 <;> refine Finset.sum_congr rfl fun x _ => ?_
    · exact congrArg (xrow m c n (ix2 r x) * ·) (iblk1_at m hO c t n hn he x q)
    · exact congrArg (xrow m c n (ix2 r x) * ·) (iblk2_at m hO c t n hn he x q)

/-- Contents known row by row are the point's block of `result`. -/
theorem place (hO : Ok m) (c : Dev nD) (t : Fin (cfgM m hO).N) (n : Fin 40) (hn : t.val / 14 = n.val) {X : S1024x512.Idx → EReal}
    (hX : ∀ (r : Fin 1024) (q : Fin 512), X (ix2 r q) = Moe.own (expert m n) (word m n)
      (Moe.gated (m ((c : Thread nD τ).loc main_arg0)) (m ((c : Thread nD τ).loc main_arg1)) (m ((c : Thread nD τ).loc main_arg2))
        ⟨n.val * 1024 + r.val, by omega⟩ ⟨t.val % 14 * 512 + q.val, by omega⟩))
    (y : S1024x512.Idx) : X y = result m c ((((cfgM m hO).win 3).blk t).view.emb y) := by
  have h0 := coord0 t
  have h1 := coord1 t
  let z : S40960x7168.Idx := (((cfgM m hO).win 3).blk t).view.emb y
  have hy0 : (y 0).val < 1024 := (y 0).isLt
  have hy1 : (y 1).val < 512 := (y 1).isLt
  have e0 : (z 0).val = n.val * 1024 + (y 0).val :=
    show cc0_transform_3 (grid0.coords t) 0 * 1024 + 1 * (y 0).val = _ by rw [tr3, Matrix.cons_val_zero, h0, hn]; omega
  have e1 : (z 1).val = t.val % 14 * 512 + (y 1).val :=
    show cc0_transform_3 (grid0.coords t) 1 * 512 + 1 * (y 1).val = _ by rw [tr3, Matrix.cons_val_one, h1]; simp
  have hy : y = ix2 (n0 := 1024) (n1 := 512) ⟨(y 0).val, hy0⟩ ⟨(y 1).val, hy1⟩ := by
    funext a
    match a with
    | ⟨0, _⟩ => rfl
    | ⟨1, _⟩ => rfl
  show X y = result m c z
  rw [result_at m c z n ⟨n.val * 1024 + (y 0).val, by omega⟩ ⟨t.val % 14 * 512 + (y 1).val, by omega⟩ (by rw [e0]; omega) e0 e1]
  exact (congrArg X hy).trans (hX ⟨(y 0).val, hy0⟩ ⟨(y 1).val, hy1⟩)

/-- Every point writes its block back. -/
theorem flush3 (hO : Ok m) (t : Fin (cfgM m hO).N) : ((cfgM m hO).win 3).flush t = true :=
  (Pipeline.Window.flushOf_reads cc0_transform_3 reads0_3 hreads0_3 1 (by decide) (by decide)
    (Pipeline.Window.sep_of_coord cc0_transform_3 1 1 (fun _ => rfl) (by decide)) (P := 1) (m := 0) (by decide) rfl t).mpr (Nat.mod_one _)

/-- The array that the write-backs leave. -/
theorem final_o (hO : Ok m) (hE : ∀ n, (expert m n).toNat < 8) (hW : ∀ n, word m n = 0#32 ∨ word m n = 1#32) (c : Dev nD)
    (after : (w : Fin (cfgM m hO).W) → Fin (cfgM m hO).N → ((cfgM m hO).win w).block.Idx → Elt Ideal ((cfgM m hO).win w).elt)
    (hL : ∀ t, (rdat m hO c).Leaves 3 t (after 3 t)) : ((rdat m hO c).withAfter after).arrAt 3 (cfgM m hO).N = result m c := by
  refine ((rdat m hO c).withAfter after).arrAt_eq_of_cover 3 (result m c) (fun t _ => ?_) fun i => ?_
  · have hN : t.val < 560 := lt_of_lt_of_eq t.isLt (show (cfgM m hO).N = 560 from N_0)
    obtain ⟨n, hn⟩ : ∃ n : Fin 40, t.val / 14 = n.val := ⟨⟨t.val / 14, by omega⟩, rfl⟩
    have hR : Rl m hO c 3 t (after 3 t) := (dats m hO 0 c).toRRel_leaves (Rl := Rl m hO c) rfl (hL t)
    funext y
    change S1024x512.Idx at y
    refine Eq.trans ?_ (View.read_apply _ _).symm
    exact place m hO c t n hn (left_at m hO c t n hn (hE n) (hW n) (hR n hn)) y
  · change S40960x7168.Idx at i
    have h0 : (i 0 : Nat) < 40960 := (i 0).isLt
    have h1 : (i 1 : Nat) < 7168 := (i 1).isLt
    let t : Fin (cfgM m hO).N := ⟨(i 0).val / 1024 * 14 + (i 1).val / 512, lt_of_lt_of_eq (by omega : _ < 560) (show (cfgM m hO).N = 560 from N_0).symm⟩
    have ht : t.val = (i 0).val / 1024 * 14 + (i 1).val / 512 := rfl
    have c0 := coord0 t
    have c1 := coord1 t
    refine ⟨t, flush3 m hO t, ?_⟩
    refine (Finset.ext_iff.mp (View.set_slice_whole main_v0 (((cfgM m hO).win 3).rect t)) i).mpr (Rect.mem_set_unit.mpr ?_)
    intro a
    match a with
    | ⟨0, _⟩ => show cc0_transform_3 (grid0.coords t) 0 * 1024 ≤ (i 0 : Nat) ∧ (i 0 : Nat) < cc0_transform_3 (grid0.coords t) 0 * 1024 + 1024
                rw [tr3, Matrix.cons_val_zero, c0]; omega
    | ⟨1, _⟩ => show cc0_transform_3 (grid0.coords t) 1 * 512 ≤ (i 1 : Nat) ∧ (i 1 : Nat) < cc0_transform_3 (grid0.coords t) 1 * 512 + 512
                rw [show cc0_transform_3 (grid0.coords t) 1 = t.val % 14 from (congrFun (tr3 _) 1).trans c1]; omega

/-- The run, read: the output array at `result`, the arguments unchanged. -/
theorem run (hE : ∀ n, (expert m n).toNat < 8) (hW : ∀ n, word m n = 0#32 ∨ word m n = 1#32) :
    θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  have hO := ok_of_lt m hE
  (θ_run defs _ _).mono (fun r ⟨h, _⟩ c => by
    obtain ⟨after, hL, hA⟩ := Pipeline.RDat.FramePost.exists_exact h c
    exact ⟨(hA 3).trans (final_o m hO hE hW c after fun t => hL 3 t (flush3 m hO t)),
      (Pipeline.RDat.FramePost.arr_in h c 0 rfl).trans (A_eq m hO c 0),
      (Pipeline.RDat.FramePost.arr_in h c 1 rfl).trans (A_eq m hO c 1),
      (Pipeline.RDat.FramePost.arr_in h c 2 rfl).trans (A_eq m hO c 2),
      (h c).2 main_arg3 (by decide : main_arg3 ∈ Pipeline.restRefs sig spec0),
      (h c).2 main_arg4 (by decide : main_arg4 ∈ Pipeline.restRefs sig spec0)⟩) (run_main m ρ hO)

end Cert.UpIdeal.Hand

end
-- ==== Proof.UpRef.lean ====
/-
  The reference of the grouped up projection, read at one row and column: every expert's product, masked by the row's expert.
-/
module

public import proofs.«01_k».proof.Proof.Gen.UpReferenceIdeal.Run
public import Idealize.ShloMosaic.Lib.Pointwise
public import proofs.«01_k».proof.Proof.Grouped

@[expose] public section

set_option maxRecDepth 16384

noncomputable section

namespace Cert.UpReferenceIdeal.Hand

open Cert.UpReferenceIdeal Cert.UpReferenceIdeal.Gen Cert.UpReferenceIdeal.Value
open Idealize.ShloMosaic Idealize.ShloMosaic.TcCoe

variable {F : FTy → Type} [FloatOps F]

/-- The rows' weights, one column per expert. -/
def cw (te ac : S40.Idx → BitVec 32) : FVec F S40960x8 .f32 :=
  shapeCast _ (broadcastInDim S40x1024x8 ![0, 2] bcast_S40x8_S40x1024x8_0_2 (mulf (uitofp .f32 (cmpi .eq (broadcastInDim S40x8 ![0, 1] bcast_S40x1_S40x8_0_1 (broadcastInDim S40x1 ![0] bcast_S40_S40x1_0 te)) (broadcastInDim S40x8 ![0, 1] bcast_S1x8_S40x8_0_1 (iotaInDim S1x8 32 1)))) (broadcastInDim S40x8 ![0, 1] bcast_S40x1_S40x8_0_1 (broadcastInDim S40x1 ![0] bcast_S40_S40x1_0 (sitofp .f32 ac))))) shapeCasts_S40x1024x8_S40960x8

theorem cw_at (te ac : S40.Idx → BitVec 32) (n : Fin 40) (r : Fin 1024) (e : Fin 8) :
    (cw (F := Ideal) te ac : S40960x8.Idx → EReal) (ix2 ⟨n.val * 1024 + r.val, by omega⟩ e) = Moe.weight (te (ix1 n)) (ac (ix1 n)) e := by
  unfold cw
  pointwise
  rfl

/-- Expert `k`'s weights out of all experts'. -/
def wt (W : FVec F S2x8x2048x7168 .f32) (k : ℕ) (hs : S2x8x2048x7168.Slices ![0, k, 0, 0] S1x1x2048x7168) : FVec F S2048x7168 .f32 :=
  shapeCast _ (extractStridedSlice S1x1x2048x7168 ![0, k, 0, 0] W hs) shapeCasts_S1x1x2048x7168_S2048x7168

theorem wt_at (W : FVec Ideal S2x8x2048x7168 .f32) (k : ℕ) (hs : S2x8x2048x7168.Slices ![0, k, 0, 0] S1x1x2048x7168) (hk : k < 8) (d : Fin 2048) (q : Fin 7168) :
    (wt W k hs : S2048x7168.Idx → EReal) (ix2 d q) = W (ix4 0 ⟨k, hk⟩ d q) := by
  unfold wt
  pointwise

/-- One expert's summand. -/
def term (X : FVec F S40960x2048 .f32) (C : FVec F S40960x8 .f32) (A B : FVec F S2048x7168 .f32) (k : ℕ) (hc : S40960x8.Slices ![0, k] S40960x1) : FVec F S40960x7168 .f32 :=
  mulf (broadcastInDim S40960x7168 ![0, 1] bcast_S40960x1_S40960x7168_0_1 (extractStridedSlice S40960x1 ![0, k] C hc)) (mulf (mulf (Host.dotGeneral dot_S40960x2048_S2048x7168_S40960x7168_1_0_0_1_n_n none X A) (Host.divf (broadcastInDim S40960x7168 ![] bcast_S_S40960x7168 (constant S_ .f32 0x3F800000#32)) (addf (broadcastInDim S40960x7168 ![] bcast_S_S40960x7168 (constant S_ .f32 0x3F800000#32)) (Host.exp (Host.negf (Host.dotGeneral dot_S40960x2048_S2048x7168_S40960x7168_1_0_0_1_n_n none X A)))))) (Host.dotGeneral dot_S40960x2048_S2048x7168_S40960x7168_1_0_0_1_n_n none X B))

theorem term_at (X : FVec Ideal S40960x2048 .f32) (C : FVec Ideal S40960x8 .f32) (A B : FVec Ideal S2048x7168 .f32) (k : ℕ) (hc : S40960x8.Slices ![0, k] S40960x1) (hk : k < 8) (r : Fin 40960) (q : Fin 7168) :
    (term X C A B k hc : S40960x7168.Idx → EReal) (ix2 r q)
      = C (ix2 r ⟨k, hk⟩) * Moe.glu (∑ x, X (ix2 r x) * A (ix2 x q)) (∑ x, X (ix2 r x) * B (ix2 x q)) := by
  unfold term
  pointwise
  exact congrArg (C (ix2 r ⟨k, hk⟩) * ·) (Moe.glu_eq _ _)

/-- All eight summands. -/
def total (X : FVec F S40960x2048 .f32) (W1 W3 : FVec F S2x8x2048x7168 .f32) (C : FVec F S40960x8 .f32) : FVec F S40960x7168 .bf16 :=
  let t := fun k hc hs => term X C (wt W1 k hs) (wt W3 k hs) k hc
  truncf .bf16 (addf (addf (addf (addf (addf (addf (addf (addf (broadcastInDim S40960x7168 ![] bcast_S_S40960x7168 (constant S_ .f32 0x00000000#32))
       (t 0 slices_S40960x8_S40960x1_0_0 slices_S2x8x2048x7168_S1x1x2048x7168_0_0_0_0))
       (t 1 slices_S40960x8_S40960x1_0_1 slices_S2x8x2048x7168_S1x1x2048x7168_0_1_0_0))
       (t 2 slices_S40960x8_S40960x1_0_2 slices_S2x8x2048x7168_S1x1x2048x7168_0_2_0_0))
       (t 3 slices_S40960x8_S40960x1_0_3 slices_S2x8x2048x7168_S1x1x2048x7168_0_3_0_0))
       (t 4 slices_S40960x8_S40960x1_0_4 slices_S2x8x2048x7168_S1x1x2048x7168_0_4_0_0))
       (t 5 slices_S40960x8_S40960x1_0_5 slices_S2x8x2048x7168_S1x1x2048x7168_0_5_0_0))
       (t 6 slices_S40960x8_S40960x1_0_6 slices_S2x8x2048x7168_S1x1x2048x7168_0_6_0_0))
       (t 7 slices_S40960x8_S40960x1_0_7 slices_S2x8x2048x7168_S1x1x2048x7168_0_7_0_0)) bitsLt_bf16_f32

theorem summand_at (X : FVec Ideal S40960x2048 .f32) (W1 W3 : FVec Ideal S2x8x2048x7168 .f32) (te ac : S40.Idx → BitVec 32) (k : ℕ)
    (hc : S40960x8.Slices ![0, k] S40960x1) (hs : S2x8x2048x7168.Slices ![0, k, 0, 0] S1x1x2048x7168) (hk : k < 8) (n : Fin 40) (r : Fin 1024) (q : Fin 7168) :
    (term X (cw te ac) (wt W1 k hs) (wt W3 k hs) k hc : S40960x7168.Idx → EReal) (ix2 ⟨n.val * 1024 + r.val, by omega⟩ q)
      = Moe.weight (te (ix1 n)) (ac (ix1 n)) ⟨k, hk⟩ * Moe.gated X W1 W3 ⟨n.val * 1024 + r.val, by omega⟩ q ⟨k, hk⟩ := by
  rw [term_at X _ _ _ k hc hk, cw_at]
  simp only [wt_at _ k hs hk]
  rfl

/-- The sum in row `r` of tile `n`: the gated product of the tile's expert. -/
theorem total_at (X : FVec Ideal S40960x2048 .f32) (W1 W3 : FVec Ideal S2x8x2048x7168 .f32) (te ac : S40.Idx → BitVec 32) (n : Fin 40) (r : Fin 1024) (q : Fin 7168)
    (ht : (te (ix1 n)).toNat < 8) (ha : ac (ix1 n) = 0#32 ∨ ac (ix1 n) = 1#32) :
    (total X W1 W3 (cw te ac) : S40960x7168.Idx → EReal) (ix2 ⟨n.val * 1024 + r.val, by omega⟩ q)
      = Moe.own (te (ix1 n)) (ac (ix1 n)) (Moe.gated X W1 W3 ⟨n.val * 1024 + r.val, by omega⟩ q) := by
  rw [← Moe.sum_eq _ _ ht ha]
  unfold total
  pointwise
  simp only [summand_at X W1 W3 te ac _ _ _ (by decide : (0 : ℕ) < 8), summand_at X W1 W3 te ac _ _ _ (by decide : (1 : ℕ) < 8),
    summand_at X W1 W3 te ac _ _ _ (by decide : (2 : ℕ) < 8), summand_at X W1 W3 te ac _ _ _ (by decide : (3 : ℕ) < 8),
    summand_at X W1 W3 te ac _ _ _ (by decide : (4 : ℕ) < 8), summand_at X W1 W3 te ac _ _ _ (by decide : (5 : ℕ) < 8),
    summand_at X W1 W3 te ac _ _ _ (by decide : (6 : ℕ) < 8), summand_at X W1 W3 te ac _ _ _ (by decide : (7 : ℕ) < 8)]
  rfl

theorem result_eq (m : (ℓ : Loc nD τ sig) → Buf (Elt Ideal) ℓ) (c : Dev nD) : res_main_v104 (F := Ideal) m c =
    total (F := Ideal) (m ((c.tc : Thread nD τ).loc main_arg0)) (m ((c.tc : Thread nD τ).loc main_arg1)) (m ((c.tc : Thread nD τ).loc main_arg2))
      (cw (m ((c.tc : Thread nD τ).loc main_arg3)) (m ((c.tc : Thread nD τ).loc main_arg4))) := rfl

/-- The reference's result in row `r` of tile `n`: the gated product of the tile's expert. -/
theorem result_at (m : (ℓ : Loc nD τ sig) → Buf (Elt Ideal) ℓ) (c : Dev nD) (n : Fin 40) (r : Fin 1024) (q : Fin 7168)
    (ht : (m ((c.tc : Thread nD τ).loc main_arg3) (ix1 n) : BitVec 32).toNat < 8)
    (ha : m ((c.tc : Thread nD τ).loc main_arg4) (ix1 n) = 0#32 ∨ m ((c.tc : Thread nD τ).loc main_arg4) (ix1 n) = 1#32) :
    (res_main_v104 (F := Ideal) m c : S40960x7168.Idx → EReal) (ix2 ⟨n.val * 1024 + r.val, by omega⟩ q)
      = Moe.own (m ((c.tc : Thread nD τ).loc main_arg3) (ix1 n)) (m ((c.tc : Thread nD τ).loc main_arg4) (ix1 n))
          (Moe.gated (m ((c.tc : Thread nD τ).loc main_arg0)) (m ((c.tc : Thread nD τ).loc main_arg1)) (m ((c.tc : Thread nD τ).loc main_arg2)) ⟨n.val * 1024 + r.val, by omega⟩ q) :=
  (congrFun (result_eq m c) _).trans (total_at _ _ _ _ _ n r q ht ha)

end Cert.UpReferenceIdeal.Hand

end
-- ==== Proof.DownPay.lean ====
/-
  The grouped down projection's payloads at exact real arithmetic, read at one row and column, and the sum over the hidden
  columns, taken a block of 512 at a time.
-/
module

public import proofs.«01_k».proof.Proof.DownLaunch
public import proofs.«01_k».proof.Proof.Grouped

@[expose] public section

noncomputable section

namespace Moe

open Idealize.ShloMosaic

/-- The summand of a product at hidden column `k`; past the last column, zero. -/
def part (A : (⟨2, ![40960, 7168]⟩ : Shape).Idx → EReal) (W : (⟨4, ![2, 8, 7168, 2048]⟩ : Shape).Idx → EReal) (p : Fin 40960) (q : Fin 2048) (e : Fin 8) (k : ℕ) : EReal :=
  if h : k < 7168 then A (ix2 p ⟨k, h⟩) * W (ix4 0 e ⟨k, h⟩ q) else 0

theorem part_of_lt (A : (⟨2, ![40960, 7168]⟩ : Shape).Idx → EReal) (W : (⟨4, ![2, 8, 7168, 2048]⟩ : Shape).Idx → EReal) (p : Fin 40960) (q : Fin 2048) (e : Fin 8) {k : ℕ}
    (h : k < 7168) : part A W p q e k = A (ix2 p ⟨k, h⟩) * W (ix4 0 e ⟨k, h⟩ q) := dif_pos h

/-- All the summands together are the product. -/
theorem sum_part (A : (⟨2, ![40960, 7168]⟩ : Shape).Idx → EReal) (W : (⟨4, ![2, 8, 7168, 2048]⟩ : Shape).Idx → EReal) (p : Fin 40960) (q : Fin 2048) (e : Fin 8) :
    ∑ k ∈ Finset.range 7168, part A W p q e k = product A W p q e := by
  rw [Finset.sum_range]
  exact Finset.sum_congr rfl fun x _ => dif_pos x.isLt

/-- One more block of 512 summands. -/
theorem sum_block (f : ℕ → EReal) (b : ℕ) :
    ∑ k ∈ Finset.range (b * 512), f k + ∑ x : Fin 512, f (b * 512 + x.val) = ∑ k ∈ Finset.range ((b + 1) * 512), f k := by
  rw [show (b + 1) * 512 = b * 512 + 512 by omega, Finset.sum_range_add, Finset.sum_range (n := 512)]

end Moe

namespace Cert.DownIdeal.Hand

open Cert.DownIdeal Cert.DownIdeal.Gen
open Idealize.ShloMosaic Idealize.ShloMosaic.TcCoe

theorem pay1_at (a : S1024x512.Idx → EReal) (b : S1x1x512x2048.Idx → EReal) (r : Fin 1024) (q : Fin 2048) :
    (k0_pay1 (F := Ideal) a b : S1024x2048.Idx → EReal) (ix2 r q) = ∑ x, a (ix2 r x) * b (ix4 0 0 x q) := by
  unfold k0_pay1
  pointwise

theorem pay2_at (a : S1024x512.Idx → EReal) (b : S1x1x512x2048.Idx → EReal) (Y : S1024x2048.Idx → EReal) (r : Fin 1024) (q : Fin 2048) :
    (k0_pay2 (F := Ideal) a b Y : S1024x2048.Idx → EReal) (ix2 r q) = Y (ix2 r q) + ∑ x, a (ix2 r x) * b (ix4 0 0 x q) := by
  rw [← pay1_at]
  unfold k0_pay2
  pointwise

theorem pay3_at (r : Fin 1024) (q : Fin 2048) : (k0_pay3 (F := Ideal) : S1024x2048.Idx → EReal) (ix2 r q) = 0 := by
  unfold k0_pay3
  pointwise

end Cert.DownIdeal.Hand

end
-- ==== Proof.DownOut.lean ====
/-
  The grouped down projection's output array at exact real arithmetic: a tile's last grid point writes its rows' full sums,
  and the tiles' blocks make up the array.
-/
module

public import proofs.«01_k».proof.Proof.DownPay
public import Idealize.ShloMosaic.Lib.Pipeline.ArrRel

@[expose] public section

set_option maxRecDepth 16384

noncomputable section

namespace Cert.DownIdeal.Hand

open Cert.DownIdeal Cert.DownIdeal.Gen
open Idealize.ShloMosaic Idealize.ShloMosaic.TcCoe Idealize.SL.Sem

variable (m : (ℓ : Loc nD τ sig) → Buf (Elt Ideal) ℓ) (ρ : Dev nD → PrngReg)

/-- The output array: in a tile in use, the products of the tile's expert; in any other, zero. -/
def result (c : Dev nD) (y : S40960x2048.Idx) : EReal :=
  Moe.own (expert m ⟨(y 0).val / 1024, by have h : (y 0).val < 40960 := (y 0).isLt; omega⟩) (word m ⟨(y 0).val / 1024, by have h : (y 0).val < 40960 := (y 0).isLt; omega⟩)
    (Moe.product (m ((c : Thread nD τ).loc main_arg0)) (m ((c : Thread nD τ).loc main_arg1))
      ⟨(y 0).val, (y 0).isLt⟩ ⟨(y 1).val, (y 1).isLt⟩)

theorem result_at (c : Dev nD) (y : S40960x2048.Idx) (n : Fin 40) (p : Fin 40960) (q : Fin 2048)
    (hn : (y 0).val / 1024 = n.val) (hp : (y 0).val = p.val) (hq : (y 1).val = q.val) :
    result m c y = Moe.own (expert m n) (word m n)
      (Moe.product (m ((c : Thread nD τ).loc main_arg0)) (m ((c : Thread nD τ).loc main_arg1)) p q) := by
  have hb : (y 0).val / 1024 < 40 := by have h : (y 0).val < 40960 := (y 0).isLt; omega
  have en : (⟨(y 0).val / 1024, hb⟩ : Fin 40) = n := Fin.ext hn
  have ep : (⟨(y 0).val, (y 0).isLt⟩ : Fin 40960) = p := Fin.ext hp
  have eq : (⟨(y 1).val, (y 1).isLt⟩ : Fin 2048) = q := Fin.ext hq
  rw [← en, ← ep, ← eq]
  rfl

/-- A point's block of the activations: its tile's rows, in the point's hidden columns. -/
theorem iblk0_at (hO : Ok m) (c : Dev nD) (t : Fin (cfgM m hO).N) (n : Fin 40) (hn : t.val / 14 = n.val) (r : Fin 1024) (x : Fin 512) :
    (iblk m hO c 0 t : S1024x512.Idx → EReal) (ix2 r x)
      = m ((c : Thread nD τ).loc main_arg0) (ix2 (n0 := 40960) (n1 := 7168) ⟨n.val * 1024 + r.val, by omega⟩ ⟨t.val % 14 * 512 + x.val, by omega⟩) := by
  unfold iblk
  refine (View.read_apply _ _).trans ?_
  show V m c main_arg0 _ = _
  congr 1
  have hi := tr0 (grid0.coords t)
  rw [coord0 t, coord1 t, hn] at hi
  funext a
  match a with
  | ⟨0, _⟩ => exact Fin.ext (show cc0_transform_0 (grid0.coords t) 0 * 1024 + 1 * r.val = n.val * 1024 + r.val by
      rw [hi]; show n.val * 1024 + 1 * r.val = _; omega)
  | ⟨1, _⟩ => exact Fin.ext (show cc0_transform_0 (grid0.coords t) 1 * 512 + 1 * x.val = t.val % 14 * 512 + x.val by
      rw [hi]; show t.val % 14 * 512 + 1 * x.val = _; omega)

/-- A point's block of the weights: its tile's expert's, in the point's hidden columns. -/
theorem iblk1_at (hO : Ok m) (c : Dev nD) (t : Fin (cfgM m hO).N) (n : Fin 40) (hn : t.val / 14 = n.val) (he : (expert m n).toNat < 8) (x : Fin 512) (q : Fin 2048) :
    (iblk m hO c 1 t : S1x1x512x2048.Idx → EReal) (ix4 0 0 x q)
      = m ((c : Thread nD τ).loc main_arg1) (ix4 (n0 := 2) (n1 := 8) (n2 := 7168) (n3 := 2048) 0 ⟨(expert m n).toNat % 8, Nat.mod_lt _ (by decide)⟩ ⟨t.val % 14 * 512 + x.val, by omega⟩ q) := by
  unfold iblk
  refine (View.read_apply _ _).trans ?_
  show V m c main_arg1 _ = _
  congr 1
  have h0 : grid0.coords t 0 = n := Fin.ext ((coord0 t).trans hn)
  have hi := tr1 m (grid0.coords t)
  rw [h0, coord1 t] at hi
  funext a
  match a with
  | ⟨0, _⟩ => exact Fin.ext (show cc0_transform_1 k0_off1_inb numel1_S1 (tbl m) (grid0.coords t) 0 * 1 + 1 * 0 = 0 by rw [hi]; rfl)
  | ⟨1, _⟩ => exact Fin.ext (show cc0_transform_1 k0_off1_inb numel1_S1 (tbl m) (grid0.coords t) 1 * 1 + 1 * 0 = (expert m n).toNat % 8 by
      rw [hi]; show (expert m n).toNat * 1 + 1 * 0 = _; omega)
  | ⟨2, _⟩ => exact Fin.ext (show cc0_transform_1 k0_off1_inb numel1_S1 (tbl m) (grid0.coords t) 2 * 512 + 1 * x.val = t.val % 14 * 512 + x.val by
      rw [hi]; show t.val % 14 * 512 + 1 * x.val = _; omega)
  | ⟨3, _⟩ => exact Fin.ext (show cc0_transform_1 k0_off1_inb numel1_S1 (tbl m) (grid0.coords t) 3 * 2048 + 1 * q.val = q.val by
      rw [hi]; show 0 * 2048 + 1 * q.val = _; omega)

/-- The two blocks, as arrays of extended reals. -/
abbrev rows (hO : Ok m) (c : Dev nD) (t : Fin (cfgM m hO).N) : S1024x512.Idx → EReal := iblk m hO c 0 t
@[inherit_doc rows] abbrev weights (hO : Ok m) (c : Dev nD) (t : Fin (cfgM m hO).N) : S1x1x512x2048.Idx → EReal := iblk m hO c 1 t

/-- A point's own summands: the product's, in the point's hidden columns. -/
theorem part_at (hO : Ok m) (c : Dev nD) (t : Fin (cfgM m hO).N) (n : Fin 40) (hn : t.val / 14 = n.val) (he : (expert m n).toNat < 8) (r : Fin 1024) (q : Fin 2048) :
    ∑ x : Fin 512, rows m hO c t (ix2 r x) * weights m hO c t (ix4 0 0 x q)
      = ∑ x : Fin 512, Moe.part (m ((c : Thread nD τ).loc main_arg0)) (m ((c : Thread nD τ).loc main_arg1)) ⟨n.val * 1024 + r.val, by omega⟩ q
          ⟨(expert m n).toNat % 8, Nat.mod_lt _ (by decide)⟩ (t.val % 14 * 512 + x.val) := by
  refine Finset.sum_congr rfl fun x _ => ?_
  rw [show rows m hO c t (ix2 r x) = _ from iblk0_at m hO c t n hn r x, show weights m hO c t (ix4 0 0 x q) = _ from iblk1_at m hO c t n hn he x q]
  have hx : t.val % 14 * 512 + x.val < 7168 := by omega
  exact (Moe.part_of_lt _ _ _ _ _ hx).symm

/-- The sum after a point: the product's summands in all the hidden columns up to the point's last. -/
theorem acc_at (hO : Ok m) (c : Dev nD) (n : Fin 40) (he : (expert m n).toNat < 8) (r : Fin 1024) (q : Fin 2048) (b : ℕ) :
    ∀ t : Fin (cfgM m hO).N, t.val / 14 = n.val → t.val % 14 = b → (acc m hO c t.val : S1024x2048.Idx → EReal) (ix2 r q)
      = ∑ k ∈ Finset.range ((b + 1) * 512), Moe.part (m ((c : Thread nD τ).loc main_arg0)) (m ((c : Thread nD τ).loc main_arg1)) ⟨n.val * 1024 + r.val, by omega⟩ q
          ⟨(expert m n).toNat % 8, Nat.mod_lt _ (by decide)⟩ k := by
  induction b with
  | zero =>
    intro t hn hb
    rw [acc_first m hO c t hb]
    refine (pay1_at _ _ r q).trans ((part_at m hO c t n hn he r q).trans ?_)
    rw [hb, ← Moe.sum_block _ 0, Nat.zero_mul, Finset.range_zero, Finset.sum_empty, zero_add]
  | succ b ih =>
    intro t hn hb
    have hN : (cfgM m hO).N = 560 := N_0
    have ht := t.isLt
    rw [acc_later m hO c t (by omega)]
    refine (pay2_at _ _ _ r q).trans ((congrArg ((acc m hO c (t.val - 1) : S1024x2048.Idx → EReal) (ix2 r q) + ·) (part_at m hO c t n hn he r q)).trans ?_)
    rw [hb, ← Moe.sum_block _ (b + 1)]
    congr 1
    exact ih ⟨t.val - 1, by omega⟩ (by simp only; omega) (by simp only; omega)

/-- What a tile's last point leaves in the output's window, read at one row and column. -/
theorem left_at (hO : Ok m) (c : Dev nD) (t : Fin (cfgM m hO).N) (n : Fin 40) (hn : t.val / 14 = n.val) (hl : t.val % 14 = 13) (he : (expert m n).toNat < 8)
    (hw : word m n = 0#32 ∨ word m n = 1#32) {X : S1024x2048.Idx → EReal}
    (hX : (word m n = 1#32 → X = acc m hO c t.val) ∧ (word m n = 0#32 → X = k0_pay3 (F := Ideal))) (r : Fin 1024) (q : Fin 2048) :
    X (ix2 r q) = Moe.own (expert m n) (word m n)
      (Moe.product (m ((c : Thread nD τ).loc main_arg0)) (m ((c : Thread nD τ).loc main_arg1)) ⟨n.val * 1024 + r.val, by omega⟩ q) := by
  obtain h | h := hw
  · rw [hX.2 h, pay3_at, h]; exact (if_neg (by decide)).symm
  · rw [hX.1 h, h]
    refine (acc_at m hO c n he r q 13 t hn hl).trans ?_
    unfold Moe.own
    rw [if_pos rfl]
    exact Moe.sum_part _ _ _ _ _

/-- Contents known row by row are the point's block of `result`. -/
theorem place (hO : Ok m) (c : Dev nD) (t : Fin (cfgM m hO).N) (n : Fin 40) (hn : t.val / 14 = n.val) {X : S1024x2048.Idx → EReal}
    (hX : ∀ (r : Fin 1024) (q : Fin 2048), X (ix2 r q) = Moe.own (expert m n) (word m n)
      (Moe.product (m ((c : Thread nD τ).loc main_arg0)) (m ((c : Thread nD τ).loc main_arg1)) ⟨n.val * 1024 + r.val, by omega⟩ q))
    (y : S1024x2048.Idx) : X y = result m c ((((cfgM m hO).win 2).blk t).view.emb y) := by
  have h0 := coord0 t
  let z : S40960x2048.Idx := (((cfgM m hO).win 2).blk t).view.emb y
  have hy0 : (y 0).val < 1024 := (y 0).isLt
  have hy1 : (y 1).val < 2048 := (y 1).isLt
  have e0 : (z 0).val = n.val * 1024 + (y 0).val :=
    show cc0_transform_2 (grid0.coords t) 0 * 1024 + 1 * (y 0).val = _ by rw [tr2, Matrix.cons_val_zero, h0, hn]; omega
  have e1 : (z 1).val = (y 1).val :=
    show cc0_transform_2 (grid0.coords t) 1 * 2048 + 1 * (y 1).val = _ by
      rw [show cc0_transform_2 (grid0.coords t) 1 = 0 from congrFun (tr2 _) 1]; omega
  have hy : y = ix2 (n0 := 1024) (n1 := 2048) ⟨(y 0).val, hy0⟩ ⟨(y 1).val, hy1⟩ := by
    funext a
    match a with
    | ⟨0, _⟩ => rfl
    | ⟨1, _⟩ => rfl
  show X y = result m c z
  rw [result_at m c z n ⟨n.val * 1024 + (y 0).val, by omega⟩ ⟨(y 1).val, hy1⟩ (by rw [e0]; omega) e0 e1]
  exact (congrArg X hy).trans (hX ⟨(y 0).val, hy0⟩ ⟨(y 1).val, hy1⟩)

/-- The array that the write-backs leave. -/
theorem final_o (hO : Ok m) (hE : ∀ n, (expert m n).toNat < 8) (hW : ∀ n, word m n = 0#32 ∨ word m n = 1#32) (c : Dev nD)
    (after : (w : Fin (cfgM m hO).W) → Fin (cfgM m hO).N → ((cfgM m hO).win w).block.Idx → Elt Ideal ((cfgM m hO).win w).elt)
    (hL : ∀ t, ((cfgM m hO).win 2).flush t = true → (rdat m hO c).Leaves 2 t (after 2 t)) : ((rdat m hO c).withAfter after).arrAt 2 (cfgM m hO).N = result m c := by
  refine ((rdat m hO c).withAfter after).arrAt_eq_of_cover 2 (result m c) (fun t hf => ?_) fun i => ?_
  · have hN : t.val < 560 := lt_of_lt_of_eq t.isLt (show (cfgM m hO).N = 560 from N_0)
    obtain ⟨n, hn⟩ : ∃ n : Fin 40, t.val / 14 = n.val := ⟨⟨t.val / 14, by omega⟩, rfl⟩
    have hR : Rl m hO c 2 t (after 2 t) := (dats m hO 0 c).toRRel_leaves (Rl := Rl m hO c) rfl (hL t hf)
    funext y
    change S1024x2048.Idx at y
    refine Eq.trans ?_ (View.read_apply _ _).symm
    exact place m hO c t n hn (left_at m hO c t n hn ((flush2 m hO t).mp hf) (hE n) (hW n) (hR n hn)) y
  · change S40960x2048.Idx at i
    have h0 : (i 0 : Nat) < 40960 := (i 0).isLt
    have h1 : (i 1 : Nat) < 2048 := (i 1).isLt
    let t : Fin (cfgM m hO).N := ⟨(i 0).val / 1024 * 14 + 13, lt_of_lt_of_eq (by omega : _ < 560) (show (cfgM m hO).N = 560 from N_0).symm⟩
    have ht : t.val = (i 0).val / 1024 * 14 + 13 := rfl
    have c0 := coord0 t
    refine ⟨t, (flush2 m hO t).mpr (by omega), ?_⟩
    refine (Finset.ext_iff.mp (View.set_slice_whole main_v0 (((cfgM m hO).win 2).rect t)) i).mpr (Rect.mem_set_unit.mpr ?_)
    intro a
    match a with
    | ⟨0, _⟩ => show cc0_transform_2 (grid0.coords t) 0 * 1024 ≤ (i 0 : Nat) ∧ (i 0 : Nat) < cc0_transform_2 (grid0.coords t) 0 * 1024 + 1024
                rw [tr2, Matrix.cons_val_zero, c0]; omega
    | ⟨1, _⟩ => show cc0_transform_2 (grid0.coords t) 1 * 2048 ≤ (i 1 : Nat) ∧ (i 1 : Nat) < cc0_transform_2 (grid0.coords t) 1 * 2048 + 2048
                rw [show cc0_transform_2 (grid0.coords t) 1 = 0 from congrFun (tr2 _) 1]; omega

/-- The run, read: the output array at `result`, the arguments unchanged. -/
theorem run (hE : ∀ n, (expert m n).toNat < 8) (hW : ∀ n, word m n = 0#32 ∨ word m n = 1#32) :
    θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  have hO := ok_of_lt m hE
  (θ_run defs _ _).mono (fun r ⟨h, _⟩ c => by
    obtain ⟨after, hL, hA⟩ := Pipeline.RDat.FramePost.exists_exact h c
    exact ⟨(hA 2).trans (final_o m hO hE hW c after fun t hf => hL 2 t hf),
      (Pipeline.RDat.FramePost.arr_in h c 0 rfl).trans (A_eq m hO c 0),
      (Pipeline.RDat.FramePost.arr_in h c 1 rfl).trans (A_eq m hO c 1),
      (h c).2 main_arg2 (by decide : main_arg2 ∈ Pipeline.restRefs sig spec0),
      (h c).2 main_arg3 (by decide : main_arg3 ∈ Pipeline.restRefs sig spec0)⟩) (run_main m ρ hO)

end Cert.DownIdeal.Hand

end
-- ==== Proof.DownRef.lean ====
/-
  The reference of the grouped down projection, read at one row and column: every expert's product, masked by the row's expert.
-/
module

public import proofs.«01_k».proof.Proof.Gen.DownReferenceIdeal.Run
public import Idealize.ShloMosaic.Lib.Pointwise
public import proofs.«01_k».proof.Proof.Grouped

@[expose] public section

set_option maxRecDepth 16384

noncomputable section

namespace Cert.DownReferenceIdeal.Hand

open Cert.DownReferenceIdeal Cert.DownReferenceIdeal.Gen Cert.DownReferenceIdeal.Value
open Idealize.ShloMosaic Idealize.ShloMosaic.TcCoe

variable {F : FTy → Type} [FloatOps F]

/-- The rows' weights, one column per expert. -/
def cw (te ac : S40.Idx → BitVec 32) : FVec F S40960x8 .f32 :=
  shapeCast _ (broadcastInDim S40x1024x8 ![0, 2] bcast_S40x8_S40x1024x8_0_2 (mulf (uitofp .f32 (cmpi .eq (broadcastInDim S40x8 ![0, 1] bcast_S40x1_S40x8_0_1 (broadcastInDim S40x1 ![0] bcast_S40_S40x1_0 te)) (broadcastInDim S40x8 ![0, 1] bcast_S1x8_S40x8_0_1 (iotaInDim S1x8 32 1)))) (broadcastInDim S40x8 ![0, 1] bcast_S40x1_S40x8_0_1 (broadcastInDim S40x1 ![0] bcast_S40_S40x1_0 (sitofp .f32 ac))))) shapeCasts_S40x1024x8_S40960x8

theorem cw_at (te ac : S40.Idx → BitVec 32) (n : Fin 40) (r : Fin 1024) (e : Fin 8) :
    (cw (F := Ideal) te ac : S40960x8.Idx → EReal) (ix2 ⟨n.val * 1024 + r.val, by omega⟩ e) = Moe.weight (te (ix1 n)) (ac (ix1 n)) e := by
  unfold cw
  pointwise
  rfl

/-- Expert `k`'s weights out of all experts'. -/
def wt (W : FVec F S2x8x7168x2048 .f32) (k : ℕ) (hs : S2x8x7168x2048.Slices ![0, k, 0, 0] S1x1x7168x2048) : FVec F S7168x2048 .f32 :=
  shapeCast _ (extractStridedSlice S1x1x7168x2048 ![0, k, 0, 0] W hs) shapeCasts_S1x1x7168x2048_S7168x2048

theorem wt_at (W : FVec Ideal S2x8x7168x2048 .f32) (k : ℕ) (hs : S2x8x7168x2048.Slices ![0, k, 0, 0] S1x1x7168x2048) (hk : k < 8) (d : Fin 7168) (q : Fin 2048) :
    (wt W k hs : S7168x2048.Idx → EReal) (ix2 d q) = W (ix4 0 ⟨k, hk⟩ d q) := by
  unfold wt
  pointwise

/-- One expert's summand. -/
def term (A : FVec F S40960x7168 .bf16) (C : FVec F S40960x8 .f32) (W : FVec F S7168x2048 .f32) (k : ℕ) (hc : S40960x8.Slices ![0, k] S40960x1) : FVec F S40960x2048 .f32 :=
  mulf (broadcastInDim S40960x2048 ![0, 1] bcast_S40960x1_S40960x2048_0_1 (extractStridedSlice S40960x1 ![0, k] C hc)) (Host.dotGeneral dot_S40960x7168_S7168x2048_S40960x2048_1_0_0_1_n_n none (extf .f32 A bitsLt_bf16_f32) W)

theorem term_at (A : FVec Ideal S40960x7168 .bf16) (C : FVec Ideal S40960x8 .f32) (W : FVec Ideal S7168x2048 .f32) (k : ℕ) (hc : S40960x8.Slices ![0, k] S40960x1) (hk : k < 8) (r : Fin 40960) (q : Fin 2048) :
    (term A C W k hc : S40960x2048.Idx → EReal) (ix2 r q) = C (ix2 r ⟨k, hk⟩) * ∑ x, A (ix2 r x) * W (ix2 x q) := by
  unfold term
  pointwise

/-- All eight summands. -/
def total (A : FVec F S40960x7168 .bf16) (W : FVec F S2x8x7168x2048 .f32) (C : FVec F S40960x8 .f32) : FVec F S40960x2048 .f32 :=
  let t := fun k hc hs => term A C (wt W k hs) k hc
  addf (addf (addf (addf (addf (addf (addf (addf (broadcastInDim S40960x2048 ![] bcast_S_S40960x2048 (constant S_ .f32 0x00000000#32))
    (t 0 slices_S40960x8_S40960x1_0_0 slices_S2x8x7168x2048_S1x1x7168x2048_0_0_0_0))
    (t 1 slices_S40960x8_S40960x1_0_1 slices_S2x8x7168x2048_S1x1x7168x2048_0_1_0_0))
    (t 2 slices_S40960x8_S40960x1_0_2 slices_S2x8x7168x2048_S1x1x7168x2048_0_2_0_0))
    (t 3 slices_S40960x8_S40960x1_0_3 slices_S2x8x7168x2048_S1x1x7168x2048_0_3_0_0))
    (t 4 slices_S40960x8_S40960x1_0_4 slices_S2x8x7168x2048_S1x1x7168x2048_0_4_0_0))
    (t 5 slices_S40960x8_S40960x1_0_5 slices_S2x8x7168x2048_S1x1x7168x2048_0_5_0_0))
    (t 6 slices_S40960x8_S40960x1_0_6 slices_S2x8x7168x2048_S1x1x7168x2048_0_6_0_0))
    (t 7 slices_S40960x8_S40960x1_0_7 slices_S2x8x7168x2048_S1x1x7168x2048_0_7_0_0)

theorem summand_at (A : FVec Ideal S40960x7168 .bf16) (W : FVec Ideal S2x8x7168x2048 .f32) (te ac : S40.Idx → BitVec 32) (k : ℕ)
    (hc : S40960x8.Slices ![0, k] S40960x1) (hs : S2x8x7168x2048.Slices ![0, k, 0, 0] S1x1x7168x2048) (hk : k < 8) (n : Fin 40) (r : Fin 1024) (q : Fin 2048) :
    (term A (cw te ac) (wt W k hs) k hc : S40960x2048.Idx → EReal) (ix2 ⟨n.val * 1024 + r.val, by omega⟩ q)
      = Moe.weight (te (ix1 n)) (ac (ix1 n)) ⟨k, hk⟩ * Moe.product A W ⟨n.val * 1024 + r.val, by omega⟩ q ⟨k, hk⟩ := by
  rw [term_at A _ _ k hc hk, cw_at]
  simp only [wt_at _ k hs hk]
  rfl

/-- The sum in row `r` of tile `n`: the product of the tile's expert. -/
theorem total_at (A : FVec Ideal S40960x7168 .bf16) (W : FVec Ideal S2x8x7168x2048 .f32) (te ac : S40.Idx → BitVec 32) (n : Fin 40) (r : Fin 1024) (q : Fin 2048)
    (ht : (te (ix1 n)).toNat < 8) (ha : ac (ix1 n) = 0#32 ∨ ac (ix1 n) = 1#32) :
    (total A W (cw te ac) : S40960x2048.Idx → EReal) (ix2 ⟨n.val * 1024 + r.val, by omega⟩ q)
      = Moe.own (te (ix1 n)) (ac (ix1 n)) (Moe.product A W ⟨n.val * 1024 + r.val, by omega⟩ q) := by
  rw [← Moe.sum_eq _ _ ht ha]
  unfold total
  pointwise
  simp only [summand_at A W te ac _ _ _ (by decide : (0 : ℕ) < 8), summand_at A W te ac _ _ _ (by decide : (1 : ℕ) < 8),
    summand_at A W te ac _ _ _ (by decide : (2 : ℕ) < 8), summand_at A W te ac _ _ _ (by decide : (3 : ℕ) < 8),
    summand_at A W te ac _ _ _ (by decide : (4 : ℕ) < 8), summand_at A W te ac _ _ _ (by decide : (5 : ℕ) < 8),
    summand_at A W te ac _ _ _ (by decide : (6 : ℕ) < 8), summand_at A W te ac _ _ _ (by decide : (7 : ℕ) < 8)]
  rfl

theorem result_eq (m : (ℓ : Loc nD τ sig) → Buf (Elt Ideal) ℓ) (c : Dev nD) : res_main_v64 (F := Ideal) m c =
    total (F := Ideal) (m ((c.tc : Thread nD τ).loc main_arg0)) (m ((c.tc : Thread nD τ).loc main_arg1))
      (cw (m ((c.tc : Thread nD τ).loc main_arg2)) (m ((c.tc : Thread nD τ).loc main_arg3))) := rfl

/-- The reference's result in row `r` of tile `n`: the product of the tile's expert. -/
theorem result_at (m : (ℓ : Loc nD τ sig) → Buf (Elt Ideal) ℓ) (c : Dev nD) (n : Fin 40) (r : Fin 1024) (q : Fin 2048)
    (ht : (m ((c.tc : Thread nD τ).loc main_arg2) (ix1 n) : BitVec 32).toNat < 8)
    (ha : m ((c.tc : Thread nD τ).loc main_arg3) (ix1 n) = 0#32 ∨ m ((c.tc : Thread nD τ).loc main_arg3) (ix1 n) = 1#32) :
    (res_main_v64 (F := Ideal) m c : S40960x2048.Idx → EReal) (ix2 ⟨n.val * 1024 + r.val, by omega⟩ q)
      = Moe.own (m ((c.tc : Thread nD τ).loc main_arg2) (ix1 n)) (m ((c.tc : Thread nD τ).loc main_arg3) (ix1 n))
          (Moe.product (m ((c.tc : Thread nD τ).loc main_arg0)) (m ((c.tc : Thread nD τ).loc main_arg1)) ⟨n.val * 1024 + r.val, by omega⟩ q) :=
  (congrFun (result_eq m c) _).trans (total_at _ _ _ _ n r q ht ha)

end Cert.DownReferenceIdeal.Hand

end
-- ==== Proof.Experts.lean ====
/-
  The claims about the two grouped calls: they run and leave their arguments, and where every tile has an expert and is in
  use or not they end with the reference's array.
-/
module

public import proofs.«01_k».proof.Defs
public import proofs.«01_k».proof.Proof.Gen.UpReferenceIdeal
public import proofs.«01_k».proof.Proof.Gen.DownReferenceIdeal
public import proofs.«01_k».proof.Proof.Bits
public import proofs.«01_k».proof.Proof.Tiles
public import proofs.«01_k».proof.Proof.UpOut
public import proofs.«01_k».proof.Proof.UpRef
public import proofs.«01_k».proof.Proof.DownOut
public import proofs.«01_k».proof.Proof.DownRef

@[expose] public section

noncomputable section

namespace Cert.Proof

open Idealize.ShloMosaic Idealize.ShloMosaic.TcCoe Idealize.SL.Sem

attribute [local instance] Cert.Up.Gen.facts Cert.UpIdeal.Gen.facts Cert.UpReferenceIdeal.Gen.facts Cert.Down.Gen.facts Cert.DownIdeal.Gen.facts
  Cert.DownReferenceIdeal.Gen.facts Cert.Pre_up_experts.Gen.facts Cert.Pre_up_tiles.Gen.facts Cert.Pre_down_experts.Gen.facts Cert.Pre_down_tiles.Gen.facts

/-! ## The up projection -/

/-- As captured, it runs, its arguments end unchanged and every counter ends at zero. -/
theorem quiet_up : Cert.quiescent_Up := fun m g h =>
  Cert.Up.Hand.quiet m g (Cert.UpIdeal.Hand.ok_of_lt m fun n => Moe.up_experts (h 0) n)

/-- So it does idealized; -/
theorem quiet_up_ideal : Cert.quiescent_UpIdeal := fun m g h =>
  Cert.UpIdeal.Hand.quiet m g (Cert.UpIdeal.Hand.ok_of_lt m fun n => Moe.up_experts (h 0) n)

theorem quiet_up_ideal_tiles : Cert.quiescent_UpIdeal_pre_up_tiles := fun m g h =>
  Cert.UpIdeal.Hand.quiet m g (Cert.UpIdeal.Hand.ok_of_lt m fun n => (Moe.up_tiles (h 0) n).1)

/-- and the reference. -/
theorem quiet_up_reference : Cert.quiescent_UpReferenceIdeal := fun m g _ =>
  (θ_run _ _ _).mono (fun r h => ⟨fun c => (h c).2, sem_eq_zero_of_no_sems (by decide) r.2⟩) (Cert.UpReferenceIdeal.Value.run (F := Ideal) m g)

/-- The kernel's array is the reference's. -/
theorem up_eq (m : (ℓ : Loc Cert.UpIdeal.nD Cert.UpIdeal.τ Cert.UpIdeal.sig) → Buf (Elt Ideal) ℓ)
    (m' : (ℓ : Loc Cert.UpReferenceIdeal.nD Cert.UpReferenceIdeal.τ Cert.UpReferenceIdeal.sig) → Buf (Elt Ideal) ℓ) (c : Dev 1)
    (hT : ∀ n, (Cert.UpIdeal.Hand.expert m n).toNat < 8 ∧ (Cert.UpIdeal.Hand.word m n = 0#32 ∨ Cert.UpIdeal.Hand.word m n = 1#32))
    (h0 : m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0))
    (h1 : m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1))
    (h2 : m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2))
    (h3 : m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3))
    (h4 : m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) :
    Cert.UpReferenceIdeal.Value.res_main_v104 (F := Ideal) m' c = Cert.UpIdeal.Hand.result m c := by
  obtain rfl : c = 0 := Subsingleton.elim _ _
  funext y
  change Cert.UpIdeal.S40960x7168.Idx at y
  have hy0 : (y 0).val < 40960 := (y 0).isLt
  obtain ⟨n, hn⟩ : ∃ n : Fin 40, n.val = (y 0).val / 1024 := ⟨⟨(y 0).val / 1024, by omega⟩, rfl⟩
  obtain ⟨r, hr⟩ : ∃ r : Fin 1024, r.val = (y 0).val % 1024 := ⟨⟨(y 0).val % 1024, by omega⟩, rfl⟩
  have hp : n.val * 1024 + r.val < 40960 := by omega
  have hy : y = ix2 (n0 := 40960) (n1 := 7168) ⟨n.val * 1024 + r.val, hp⟩ (y 1) := by
    funext a
    match a with
    | ⟨0, _⟩ => exact Fin.ext (show (y 0).val = n.val * 1024 + r.val by omega)
    | ⟨1, _⟩ => rfl
  rw [Cert.UpIdeal.Hand.result_at m 0 y n ⟨n.val * 1024 + r.val, hp⟩ (y 1) hn.symm (show (y 0).val = n.val * 1024 + r.val by omega) rfl, ← h0, ← h1, ← h2]
  have e3 : m' (((0 : Dev 1).tc : Thread Cert.UpReferenceIdeal.nD Cert.UpReferenceIdeal.τ).loc Cert.UpReferenceIdeal.main_arg3) (ix1 (n0 := 40) n) = Cert.UpIdeal.Hand.expert m n := congrFun h3 _
  have e4 : m' (((0 : Dev 1).tc : Thread Cert.UpReferenceIdeal.nD Cert.UpReferenceIdeal.τ).loc Cert.UpReferenceIdeal.main_arg4) (ix1 (n0 := 40) n) = Cert.UpIdeal.Hand.word m n := congrFun h4 _
  rw [← e3, ← e4]
  exact (congrArg (Cert.UpReferenceIdeal.Value.res_main_v104 (F := Ideal) m' 0) hy).trans
    (Cert.UpReferenceIdeal.Hand.result_at m' 0 n r (y 1) (by rw [e3]; exact (hT n).1) (by rw [e4]; exact (hT n).2))

/-- Where every tile has an expert and is in use or not, the idealized kernel and the reference end with the same array. -/
theorem up_same : Cert.algebraic_UpIdeal_UpReferenceIdeal_pre_up_tiles := by
  intro m g m' g' hpre hm
  have hT := fun n => Moe.up_tiles (hpre 0) n
  refine ⟨fun c => Cert.UpIdeal.Hand.result m c, Cert.UpIdeal.Hand.run m g (fun n => (hT n).1) (fun n => (hT n).2), ?_⟩
  refine (θ_run _ _ _).mono (fun r h c => ⟨(h c).1.trans ?_, (h c).2⟩) (Cert.UpReferenceIdeal.Value.run (F := Ideal) m' g')
  obtain ⟨h0, h1, h2, h3, h4⟩ := hm c
  exact up_eq m m' c hT h0 h1 h2 h3 h4

/-! ## The down projection -/

/-- As captured, it runs, its arguments end unchanged and every counter ends at zero. -/
theorem quiet_down : Cert.quiescent_Down := fun m g h =>
  Cert.Down.Hand.quiet m g (Cert.DownIdeal.Hand.ok_of_lt m fun n => Moe.down_experts (h 0) n)

/-- So it does idealized; -/
theorem quiet_down_ideal : Cert.quiescent_DownIdeal := fun m g h =>
  Cert.DownIdeal.Hand.quiet m g (Cert.DownIdeal.Hand.ok_of_lt m fun n => Moe.down_experts (h 0) n)

theorem quiet_down_ideal_tiles : Cert.quiescent_DownIdeal_pre_down_tiles := fun m g h =>
  Cert.DownIdeal.Hand.quiet m g (Cert.DownIdeal.Hand.ok_of_lt m fun n => (Moe.down_tiles (h 0) n).1)

/-- and the reference. -/
theorem quiet_down_reference : Cert.quiescent_DownReferenceIdeal := fun m g _ =>
  (θ_run _ _ _).mono (fun r h => ⟨fun c => (h c).2, sem_eq_zero_of_no_sems (by decide) r.2⟩) (Cert.DownReferenceIdeal.Value.run (F := Ideal) m g)

/-- The kernel's array is the reference's. -/
theorem down_eq (m : (ℓ : Loc Cert.DownIdeal.nD Cert.DownIdeal.τ Cert.DownIdeal.sig) → Buf (Elt Ideal) ℓ)
    (m' : (ℓ : Loc Cert.DownReferenceIdeal.nD Cert.DownReferenceIdeal.τ Cert.DownReferenceIdeal.sig) → Buf (Elt Ideal) ℓ) (c : Dev 1)
    (hT : ∀ n, (Cert.DownIdeal.Hand.expert m n).toNat < 8 ∧ (Cert.DownIdeal.Hand.word m n = 0#32 ∨ Cert.DownIdeal.Hand.word m n = 1#32))
    (h0 : m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0))
    (h1 : m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1))
    (h2 : m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2))
    (h3 : m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) :
    Cert.DownReferenceIdeal.Value.res_main_v64 (F := Ideal) m' c = Cert.DownIdeal.Hand.result m c := by
  obtain rfl : c = 0 := Subsingleton.elim _ _
  funext y
  change Cert.DownIdeal.S40960x2048.Idx at y
  have hy0 : (y 0).val < 40960 := (y 0).isLt
  obtain ⟨n, hn⟩ : ∃ n : Fin 40, n.val = (y 0).val / 1024 := ⟨⟨(y 0).val / 1024, by omega⟩, rfl⟩
  obtain ⟨r, hr⟩ : ∃ r : Fin 1024, r.val = (y 0).val % 1024 := ⟨⟨(y 0).val % 1024, by omega⟩, rfl⟩
  have hp : n.val * 1024 + r.val < 40960 := by omega
  have hy : y = ix2 (n0 := 40960) (n1 := 2048) ⟨n.val * 1024 + r.val, hp⟩ (y 1) := by
    funext a
    match a with
    | ⟨0, _⟩ => exact Fin.ext (show (y 0).val = n.val * 1024 + r.val by omega)
    | ⟨1, _⟩ => rfl
  rw [Cert.DownIdeal.Hand.result_at m 0 y n ⟨n.val * 1024 + r.val, hp⟩ (y 1) hn.symm (show (y 0).val = n.val * 1024 + r.val by omega) rfl, ← h0, ← h1]
  have e2 : m' (((0 : Dev 1).tc : Thread Cert.DownReferenceIdeal.nD Cert.DownReferenceIdeal.τ).loc Cert.DownReferenceIdeal.main_arg2) (ix1 (n0 := 40) n) = Cert.DownIdeal.Hand.expert m n := congrFun h2 _
  have e3 : m' (((0 : Dev 1).tc : Thread Cert.DownReferenceIdeal.nD Cert.DownReferenceIdeal.τ).loc Cert.DownReferenceIdeal.main_arg3) (ix1 (n0 := 40) n) = Cert.DownIdeal.Hand.word m n := congrFun h3 _
  rw [← e2, ← e3]
  exact (congrArg (Cert.DownReferenceIdeal.Value.res_main_v64 (F := Ideal) m' 0) hy).trans
    (Cert.DownReferenceIdeal.Hand.result_at m' 0 n r (y 1) (by rw [e2]; exact (hT n).1) (by rw [e3]; exact (hT n).2))

/-- Where every tile has an expert and is in use or not, the idealized kernel and the reference end with the same array. -/
theorem down_same : Cert.algebraic_DownIdeal_DownReferenceIdeal_pre_down_tiles := by
  intro m g m' g' hpre hm
  have hT := fun n => Moe.down_tiles (hpre 0) n
  refine ⟨fun c => Cert.DownIdeal.Hand.result m c, Cert.DownIdeal.Hand.run m g (fun n => (hT n).1) (fun n => (hT n).2), ?_⟩
  refine (θ_run _ _ _).mono (fun r h c => ⟨(h c).1.trans ?_, (h c).2⟩) (Cert.DownReferenceIdeal.Value.run (F := Ideal) m' g')
  obtain ⟨h0, h1, h2, h3⟩ := hm c
  exact down_eq m m' c hT h0 h1 h2 h3

end Cert.Proof

end
-- ==== Proof.Dense.lean ====
/-
  The dense feed-forward's results in extended reals, row by row: the gated product, the residual sum and its normalization.
-/
module

public import proofs.«01_k».proof.Proof.Grouped

@[expose] public section

noncomputable section

namespace Dense

open Idealize.ShloMosaic

/-- The gated product in row `p` and column `q`, of the first layer's weights. -/
def gated (X : (⟨2, ![16384, 2048]⟩ : Shape).Idx → EReal) (W1 W3 : (⟨3, ![2, 2048, 5632]⟩ : Shape).Idx → EReal) (p : Fin 16384) (q : Fin 5632) : EReal :=
  Moe.glu (∑ x : Fin 2048, X (ix2 p x) * W1 (ix3 0 x q)) (∑ x : Fin 2048, X (ix2 p x) * W3 (ix3 0 x q))

/-- The residual sum in row `p` and column `q`. -/
def residual (A : (⟨2, ![16384, 5632]⟩ : Shape).Idx → EReal) (W : (⟨3, ![2, 5632, 2048]⟩ : Shape).Idx → EReal) (X : (⟨2, ![16384, 2048]⟩ : Shape).Idx → EReal)
    (p : Fin 16384) (q : Fin 2048) : EReal :=
  X (ix2 p q) + ∑ x : Fin 5632, A (ix2 p x) * W (ix3 0 x q)

/-- A row `y` divided by its root mean square, in column `q`, scaled by `g`. -/
def normed (y : Fin 2048 → EReal) (g : EReal) (q : Fin 2048) : EReal :=
  y q * Ideal.rsqrt (Ideal.div (∑ x : Fin 2048, y x * y x) (Ideal.ofBits .f32 0x45000000#32) + Ideal.ofBits .f32 0x3727C5AC#32) * g

/-- The summand of a product at hidden column `k`; past the last column, zero. -/
def part (A : (⟨2, ![16384, 5632]⟩ : Shape).Idx → EReal) (W : (⟨3, ![2, 5632, 2048]⟩ : Shape).Idx → EReal) (p : Fin 16384) (q : Fin 2048) (k : ℕ) : EReal :=
  if h : k < 5632 then A (ix2 p ⟨k, h⟩) * W (ix3 0 ⟨k, h⟩ q) else 0

theorem part_of_lt (A : (⟨2, ![16384, 5632]⟩ : Shape).Idx → EReal) (W : (⟨3, ![2, 5632, 2048]⟩ : Shape).Idx → EReal) (p : Fin 16384) (q : Fin 2048) {k : ℕ}
    (h : k < 5632) : part A W p q k = A (ix2 p ⟨k, h⟩) * W (ix3 0 ⟨k, h⟩ q) := dif_pos h

/-- All the summands together are the product. -/
theorem sum_part (A : (⟨2, ![16384, 5632]⟩ : Shape).Idx → EReal) (W : (⟨3, ![2, 5632, 2048]⟩ : Shape).Idx → EReal) (p : Fin 16384) (q : Fin 2048) :
    ∑ k ∈ Finset.range 5632, part A W p q k = ∑ x : Fin 5632, A (ix2 p x) * W (ix3 0 x q) := by
  rw [Finset.sum_range]
  exact Finset.sum_congr rfl fun x _ => dif_pos x.isLt

end Dense

end
-- ==== Proof.DenseUpOut.lean ====
/-
  The dense up projection's output array at exact real arithmetic: every grid point writes one block of rows and columns, and
  the blocks tile the array.
-/
module

public import proofs.«01_k».proof.Proof.Gen.DenseUpIdeal.Value
public import Idealize.ShloMosaic.Lib.Pipeline.ValueKit
public import proofs.«01_k».proof.Proof.Dense

@[expose] public section

set_option maxRecDepth 16384

noncomputable section

namespace Cert.DenseUpIdeal.Hand

open Cert.DenseUpIdeal Cert.DenseUpIdeal.Gen
open Idealize.ShloMosaic Idealize.ShloMosaic.TcCoe Idealize.SL.Sem

variable (m : (ℓ : Loc nD τ sig) → Buf (Elt Ideal) ℓ) (ρ : Dev nD → PrngReg)

theorem pay1_at (s : S1024x2048.Idx → EReal) (a b : S1x2048x512.Idx → EReal) (r : Fin 1024) (q : Fin 512) :
    (k0_pay1 (F := Ideal) s a b : S1024x512.Idx → EReal) (ix2 r q)
      = Moe.glu (∑ x, s (ix2 r x) * a (ix3 0 x q)) (∑ x, s (ix2 r x) * b (ix3 0 x q)) := by
  unfold k0_pay1
  pointwise
  rfl

/-! ## The blocks -/

theorem coord0 (t : Fin grid0.N) : (grid0.coords t 0).val = t.val / 11 := by
  have ht : t.val < 176 := Nat.lt_of_lt_of_eq t.isLt N_0
  have e : (grid0.coords t 0).val = t.val / 11 % 16 := Pipeline.Grid.coords_val t 0 (by decide) rfl
  omega
theorem coord1 (t : Fin grid0.N) : (grid0.coords t 1).val = t.val % 11 := by
  have e : (grid0.coords t 1).val = t.val / 1 % 11 := Pipeline.Grid.coords_val t 1 (by decide) rfl
  omega

theorem toNat_small {n : ℕ} (h : n < 16) : (BitVec.ofNat 32 n).toNat = n := by
  rw [BitVec.toNat_ofNat]; exact Nat.mod_eq_of_lt (by omega)

theorem tr0 (t : Fin grid0.N) : cc0_transform_0 (grid0.coords t) = ![t.val / 11, 0] := by
  have ht : t.val < 176 := Nat.lt_of_lt_of_eq t.isLt N_0
  rw [← coord0 t]
  exact congrArg (![·, 0]) (toNat_small (by rw [coord0]; omega))
theorem tr1 (t : Fin grid0.N) : cc0_transform_1 (grid0.coords t) = ![0, 0, t.val % 11] := by
  rw [← coord1 t]
  exact congrArg (![0, 0, ·]) (toNat_small (by rw [coord1]; omega))
theorem tr3 (t : Fin grid0.N) : cc0_transform_3 (grid0.coords t) = ![t.val / 11, t.val % 11] := by
  have ht : t.val < 176 := Nat.lt_of_lt_of_eq t.isLt N_0
  rw [← coord0 t, ← coord1 t]
  exact congrArg₂ (![·, ·]) (toNat_small (by rw [coord0]; omega)) (toNat_small (by rw [coord1]; omega))

/-- A point's block of the activations: its rows. -/
theorem iblk0_at (c : Dev nD) (t : Fin cfg0.N) (n : Fin 16) (hn : t.val / 11 = n.val) (r : Fin 1024) (x : Fin 2048) :
    (iblk m c 0 t : S1024x2048.Idx → EReal) (ix2 r x)
      = m ((c : Thread nD τ).loc main_arg0) (ix2 (n0 := 16384) (n1 := 2048) ⟨n.val * 1024 + r.val, by omega⟩ x) := by
  unfold iblk
  refine (View.read_apply _ _).trans ?_
  show m ((c : Thread nD τ).loc main_arg0) _ = _
  congr 1
  funext a
  match a with
  | ⟨0, _⟩ => exact Fin.ext (show cc0_transform_0 (grid0.coords t) 0 * 1024 + 1 * r.val = n.val * 1024 + r.val by
      rw [tr0, ← hn]; show t.val / 11 * 1024 + 1 * r.val = _; omega)
  | ⟨1, _⟩ => exact Fin.ext (show cc0_transform_0 (grid0.coords t) 1 * 2048 + 1 * x.val = x.val by
      rw [tr0]; show 0 * 2048 + 1 * x.val = _; omega)

/-- A point's block of the first weights: its columns of the first layer's. -/
theorem iblk1_at (c : Dev nD) (t : Fin cfg0.N) (b : Fin 11) (hb : t.val % 11 = b.val) (x : Fin 2048) (q : Fin 512) :
    (iblk m c 1 t : S1x2048x512.Idx → EReal) (ix3 0 x q)
      = m ((c : Thread nD τ).loc main_arg1) (ix3 (n0 := 2) (n1 := 2048) (n2 := 5632) 0 x ⟨b.val * 512 + q.val, by omega⟩) := by
  unfold iblk
  refine (View.read_apply _ _).trans ?_
  show m ((c : Thread nD τ).loc main_arg1) _ = _
  congr 1
  funext a
  match a with
  | ⟨0, _⟩ => exact Fin.ext (show cc0_transform_1 (grid0.coords t) 0 * 1 + 1 * 0 = 0 by rw [tr1]; rfl)
  | ⟨1, _⟩ => exact Fin.ext (show cc0_transform_1 (grid0.coords t) 1 * 2048 + 1 * x.val = x.val by
      rw [tr1]; show 0 * 2048 + 1 * x.val = _; omega)
  | ⟨2, _⟩ => exact Fin.ext (show cc0_transform_1 (grid0.coords t) 2 * 512 + 1 * q.val = b.val * 512 + q.val by
      rw [tr1, ← hb]; show t.val % 11 * 512 + 1 * q.val = _; omega)

/-- The same of the second weights. -/
theorem iblk2_at (c : Dev nD) (t : Fin cfg0.N) (b : Fin 11) (hb : t.val % 11 = b.val) (x : Fin 2048) (q : Fin 512) :
    (iblk m c 2 t : S1x2048x512.Idx → EReal) (ix3 0 x q)
      = m ((c : Thread nD τ).loc main_arg2) (ix3 (n0 := 2) (n1 := 2048) (n2 := 5632) 0 x ⟨b.val * 512 + q.val, by omega⟩) := by
  unfold iblk
  refine (View.read_apply _ _).trans ?_
  show m ((c : Thread nD τ).loc main_arg2) _ = _
  congr 1
  funext a
  match a with
  | ⟨0, _⟩ => exact Fin.ext (show cc0_transform_1 (grid0.coords t) 0 * 1 + 1 * 0 = 0 by rw [tr1]; rfl)
  | ⟨1, _⟩ => exact Fin.ext (show cc0_transform_1 (grid0.coords t) 1 * 2048 + 1 * x.val = x.val by
      rw [tr1]; show 0 * 2048 + 1 * x.val = _; omega)
  | ⟨2, _⟩ => exact Fin.ext (show cc0_transform_1 (grid0.coords t) 2 * 512 + 1 * q.val = b.val * 512 + q.val by
      rw [tr1, ← hb]; show t.val % 11 * 512 + 1 * q.val = _; omega)

/-- What a point leaves in the output's window. -/
theorem left_eq (c : Dev nD) (t : Fin cfg0.N) :
    out0_3 (F := Ideal) (iblk m c 0 t) (iblk m c 1 t) (iblk m c 2 t) = k0_pay1 (iblk m c 0 t) (iblk m c 1 t) (iblk m c 2 t) := by
  frame_out

/-- It, read at one row and column. -/
theorem left_at (c : Dev nD) (t : Fin cfg0.N) (n : Fin 16) (hn : t.val / 11 = n.val) (b : Fin 11) (hb : t.val % 11 = b.val) (r : Fin 1024) (q : Fin 512) :
    (k0_pay1 (F := Ideal) (iblk m c 0 t) (iblk m c 1 t) (iblk m c 2 t) : S1024x512.Idx → EReal) (ix2 r q)
      = Dense.gated (m ((c : Thread nD τ).loc main_arg0)) (m ((c : Thread nD τ).loc main_arg1)) (m ((c : Thread nD τ).loc main_arg2))
          ⟨n.val * 1024 + r.val, by omega⟩ ⟨b.val * 512 + q.val, by omega⟩ := by
  refine (pay1_at _ _ _ r q).trans ?_
  unfold Dense.gated
  congr 1 <;> refine Finset.sum_congr rfl fun x _ => ?_
  · exact congrArg₂ (fun a b : EReal => a * b) (iblk0_at m c t n hn r x) (iblk1_at m c t b hb x q)
  · exact congrArg₂ (fun a b : EReal => a * b) (iblk0_at m c t n hn r x) (iblk2_at m c t b hb x q)

/-! ## The array -/

/-- The output array: the gated products. -/
def result (c : Dev nD) (y : S16384x5632.Idx) : EReal :=
  Dense.gated (m ((c : Thread nD τ).loc main_arg0)) (m ((c : Thread nD τ).loc main_arg1)) (m ((c : Thread nD τ).loc main_arg2)) (y 0) (y 1)

/-- Contents known row by row are the point's block of `result`. -/
theorem place (c : Dev nD) (t : Fin cfg0.N) (n : Fin 16) (hn : t.val / 11 = n.val) (b : Fin 11) (hb : t.val % 11 = b.val) {X : S1024x512.Idx → EReal}
    (hX : ∀ (r : Fin 1024) (q : Fin 512), X (ix2 r q)
      = Dense.gated (m ((c : Thread nD τ).loc main_arg0)) (m ((c : Thread nD τ).loc main_arg1)) (m ((c : Thread nD τ).loc main_arg2))
          ⟨n.val * 1024 + r.val, by omega⟩ ⟨b.val * 512 + q.val, by omega⟩)
    (y : S1024x512.Idx) : X y = result m c (((cfg0.win 3).blk t).view.emb y) := by
  let z : S16384x5632.Idx := ((cfg0.win 3).blk t).view.emb y
  have hy0 : (y 0).val < 1024 := (y 0).isLt
  have hy1 : (y 1).val < 512 := (y 1).isLt
  have e0 : (z 0).val = n.val * 1024 + (y 0).val :=
    show cc0_transform_3 (grid0.coords t) 0 * 1024 + 1 * (y 0).val = _ by rw [tr3, Matrix.cons_val_zero, hn]; omega
  have e1 : (z 1).val = b.val * 512 + (y 1).val :=
    show cc0_transform_3 (grid0.coords t) 1 * 512 + 1 * (y 1).val = _ by
      rw [show cc0_transform_3 (grid0.coords t) 1 = t.val % 11 from congrFun (tr3 t) 1, hb]; omega
  have hy : y = ix2 (n0 := 1024) (n1 := 512) ⟨(y 0).val, hy0⟩ ⟨(y 1).val, hy1⟩ := eq_ix2 y
  refine (congrArg X hy).trans ((hX ⟨(y 0).val, hy0⟩ ⟨(y 1).val, hy1⟩).trans ?_)
  exact congrArg₂ (Dense.gated _ _ _) (Fin.ext e0.symm) (Fin.ext e1.symm)

/-- The array that the write-backs leave. -/
theorem final_o (c : Dev nD) : (dats m 0 c).arrAt 3 cfg0.N = result m c := by
  refine (dats m 0 c).arrAt_eq_of_cover 3 (result m c) (fun t _ => ?_) fun i => ?_
  · have hN : t.val < 176 := lt_of_lt_of_eq t.isLt (show cfg0.N = 176 from N_0)
    funext y
    change S1024x512.Idx at y
    rw [Value.flushed3, left_eq]
    refine Eq.trans ?_ (View.read_apply _ _).symm
    exact place m c t ⟨t.val / 11, by omega⟩ rfl ⟨t.val % 11, by omega⟩ rfl (left_at m c t _ rfl _ rfl) y
  · change S16384x5632.Idx at i
    have h0 : (i 0 : Nat) < 16384 := (i 0).isLt
    have h1 : (i 1 : Nat) < 5632 := (i 1).isLt
    let t : Fin cfg0.N := ⟨(i 0).val / 1024 * 11 + (i 1).val / 512, lt_of_lt_of_eq (by omega : _ < 176) (show cfg0.N = 176 from N_0).symm⟩
    have ht : t.val = (i 0).val / 1024 * 11 + (i 1).val / 512 := rfl
    refine ⟨t, flush0_3 t, ?_⟩
    refine (Finset.ext_iff.mp (View.set_slice_whole main_v0 ((cfg0.win 3).rect t)) i).mpr (Rect.mem_set_unit.mpr ?_)
    intro a
    match a with
    | ⟨0, _⟩ => show cc0_transform_3 (grid0.coords t) 0 * 1024 ≤ (i 0 : Nat) ∧ (i 0 : Nat) < cc0_transform_3 (grid0.coords t) 0 * 1024 + 1024
                rw [tr3, Matrix.cons_val_zero]; omega
    | ⟨1, _⟩ => show cc0_transform_3 (grid0.coords t) 1 * 512 ≤ (i 1 : Nat) ∧ (i 1 : Nat) < cc0_transform_3 (grid0.coords t) 1 * 512 + 512
                rw [show cc0_transform_3 (grid0.coords t) 1 = t.val % 11 from congrFun (tr3 t) 1]; omega

/-- The run, read: the output array at `result`, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_o m c), (h c).2⟩) (Value.run_blocks m ρ)

end Cert.DenseUpIdeal.Hand

end
-- ==== Proof.DenseDownOut.lean ====
/-
  The dense down projection's two output arrays at exact real arithmetic: the products are summed over the hidden columns, a
  block of 512 at each grid point, and the last point of a block of rows adds the residual and normalizes the rows.
-/
module

public import proofs.«01_k».proof.Proof.Gen.DenseDownIdeal.Value
public import Idealize.ShloMosaic.Lib.Pipeline.ValueKit
public import proofs.«01_k».proof.Proof.Dense
public import proofs.«01_k».proof.Proof.DownPay

@[expose] public section

set_option maxRecDepth 16384

noncomputable section

namespace Cert.DenseDownIdeal.Hand

open Cert.DenseDownIdeal Cert.DenseDownIdeal.Gen
open Idealize.ShloMosaic Idealize.ShloMosaic.TcCoe Idealize.SL.Sem

variable (m : (ℓ : Loc nD τ sig) → Buf (Elt Ideal) ℓ) (ρ : Dev nD → PrngReg)

/-! ## The payloads -/

theorem pay1_at (a : S512x512.Idx → EReal) (b : S1x512x2048.Idx → EReal) (r : Fin 512) (q : Fin 2048) :
    (k0_pay1 (F := Ideal) a b : S512x2048.Idx → EReal) (ix2 r q) = ∑ x, a (ix2 r x) * b (ix3 0 x q) := by
  unfold k0_pay1
  pointwise

theorem pay2_at (a : S512x512.Idx → EReal) (b : S1x512x2048.Idx → EReal) (r : Fin 512) (q : Fin 2048) :
    (k0_pay2 (F := Ideal) a b : S512x2048.Idx → EReal) (ix2 r q) = ∑ x, a (ix2 r x) * b (ix3 0 x q) := by
  rw [← pay1_at]
  unfold k0_pay2
  pointwise

theorem pay3_at (a : S512x512.Idx → EReal) (b : S1x512x2048.Idx → EReal) (s : S512x2048.Idx → EReal) (r : Fin 512) (q : Fin 2048) :
    (k0_pay3 (F := Ideal) a b s : S512x2048.Idx → EReal) (ix2 r q) = s (ix2 r q) + ∑ x, a (ix2 r x) * b (ix3 0 x q) := by
  rw [← pay1_at]
  unfold k0_pay3
  pointwise

theorem pay4_at (x s : S512x2048.Idx → EReal) (r : Fin 512) (q : Fin 2048) :
    (k0_pay4 (F := Ideal) x s : S512x2048.Idx → EReal) (ix2 r q) = x (ix2 r q) + s (ix2 r q) := by
  unfold k0_pay4
  pointwise

theorem pay5_at (x s : S512x2048.Idx → EReal) (g : S1x2048.Idx → EReal) (r : Fin 512) (q : Fin 2048) :
    (k0_pay5 (F := Ideal) x s g : S512x2048.Idx → EReal) (ix2 r q) = Dense.normed (fun k => x (ix2 r k) + s (ix2 r k)) (g (ix2 0 q)) q := by
  unfold k0_pay5 k0_pay4
  pointwise
  rfl

/-! ## What the points leave -/

/-- The sum carried between points, after point `n`. -/
def acc (c : Dev nD) (n : ℕ) (h : n < cfg0.N) : S512x2048.Idx → EReal := (outsAt0 (F := Ideal) m c n h).2.2

/-- The carried scratch written whole and read back. -/
theorem reread (s : Vec Ideal S512x2048 .f32) :
    View.read (Elt Ideal) (View.whole cc0_scratch0) ((Memref.isWhole_whole cc0_scratch0).unread s) = s :=
  (Memref.isWhole_whole cc0_scratch0).read_unread s

/-- A block of rows' first point starts the sum; -/
theorem acc_first (c : Dev nD) (t : Fin cfg0.N) (h : t.val % 11 = 0) :
    acc m c t.val t.isLt = k0_pay2 (F := Ideal) (iblk m c 0 t) (iblk m c 1 t) := by
  unfold acc
  rw [outsAt0_A m c t h (by omega) (by omega)]
  frame_out

/-- every later one adds its products. -/
theorem acc_later (c : Dev nD) (t : Fin cfg0.N) (h : ¬t.val % 11 = 0) :
    acc m c t.val t.isLt = k0_pay3 (F := Ideal) (iblk m c 0 t) (iblk m c 1 t) (acc m c (t.val - 1) (Nat.lt_of_le_of_lt (Nat.sub_le _ _) t.isLt)) := by
  unfold acc
  by_cases hl : t.val % 11 = 10
  · rw [outsAt0_C m c t h (by omega) hl]
    frame_out
    rw [reread]
  · rw [outsAt0_B m c t h (by omega) hl]
    frame_out
    rw [reread]

/-- The last point leaves the residual sum -/
theorem out_residual (c : Dev nD) (t : Fin cfg0.N) (h : t.val % 11 = 10) :
    (outsAt0 (F := Ideal) m c t.val t.isLt).1 = k0_pay4 (F := Ideal) (iblk m c 2 t) (acc m c t.val t.isLt) := by
  rw [acc_later m c t (by omega)]
  unfold acc
  rw [outsAt0_C m c t (by omega) (by omega) h]
  frame_out
  rw [reread]

/-- and its normalization. -/
theorem out_normed (c : Dev nD) (t : Fin cfg0.N) (h : t.val % 11 = 10) :
    (outsAt0 (F := Ideal) m c t.val t.isLt).2.1 = k0_pay5 (F := Ideal) (iblk m c 2 t) (acc m c t.val t.isLt) (iblk m c 3 t) := by
  rw [acc_later m c t (by omega)]
  unfold acc
  rw [outsAt0_C m c t (by omega) (by omega) h]
  frame_out
  rw [reread]

/-! ## The blocks -/

theorem coord0 (t : Fin grid0.N) : (grid0.coords t 0).val = t.val / 11 := by
  have ht : t.val < 352 := Nat.lt_of_lt_of_eq t.isLt N_0
  have e : (grid0.coords t 0).val = t.val / 11 % 32 := Pipeline.Grid.coords_val t 0 (by decide) rfl
  omega
theorem coord1 (t : Fin grid0.N) : (grid0.coords t 1).val = t.val % 11 := by
  have e : (grid0.coords t 1).val = t.val / 1 % 11 := Pipeline.Grid.coords_val t 1 (by decide) rfl
  omega

theorem toNat_small {n : ℕ} (h : n < 32) : (BitVec.ofNat 32 n).toNat = n := by
  rw [BitVec.toNat_ofNat]; exact Nat.mod_eq_of_lt (by omega)

theorem tr0 (t : Fin grid0.N) : cc0_transform_0 (grid0.coords t) = ![t.val / 11, t.val % 11] := by
  have ht : t.val < 352 := Nat.lt_of_lt_of_eq t.isLt N_0
  rw [← coord0 t, ← coord1 t]
  exact congrArg₂ (![·, ·]) (toNat_small (by rw [coord0]; omega)) (toNat_small (by rw [coord1]; omega))
theorem tr1 (t : Fin grid0.N) : cc0_transform_1 (grid0.coords t) = ![0, t.val % 11, 0] := by
  rw [← coord1 t]
  exact congrArg (![0, ·, 0]) (toNat_small (by rw [coord1]; omega))
theorem tr2 (t : Fin grid0.N) : cc0_transform_2 (grid0.coords t) = ![t.val / 11, 0] := by
  have ht : t.val < 352 := Nat.lt_of_lt_of_eq t.isLt N_0
  rw [← coord0 t]
  exact congrArg (![·, 0]) (toNat_small (by rw [coord0]; omega))

/-- A point's block of the activations: its rows, in its hidden columns. -/
theorem iblk0_at (c : Dev nD) (t : Fin cfg0.N) (n : Fin 32) (hn : t.val / 11 = n.val) (r : Fin 512) (x : Fin 512) :
    (iblk m c 0 t : S512x512.Idx → EReal) (ix2 r x)
      = m ((c : Thread nD τ).loc main_arg0) (ix2 (n0 := 16384) (n1 := 5632) ⟨n.val * 512 + r.val, by omega⟩ ⟨t.val % 11 * 512 + x.val, by omega⟩) := by
  unfold iblk
  refine (View.read_apply _ _).trans ((congrFun (V_main_arg0 m c) _).trans ?_)
  congr 1
  funext a
  match a with
  | ⟨0, _⟩ => exact Fin.ext (show cc0_transform_0 (grid0.coords t) 0 * 512 + 1 * r.val = n.val * 512 + r.val by
      rw [tr0, ← hn]; show t.val / 11 * 512 + 1 * r.val = _; omega)
  | ⟨1, _⟩ => exact Fin.ext (show cc0_transform_0 (grid0.coords t) 1 * 512 + 1 * x.val = t.val % 11 * 512 + x.val by
      rw [tr0]; show t.val % 11 * 512 + 1 * x.val = _; omega)

/-- A point's block of the weights: the first layer's, in its hidden columns. -/
theorem iblk1_at (c : Dev nD) (t : Fin cfg0.N) (x : Fin 512) (q : Fin 2048) :
    (iblk m c 1 t : S1x512x2048.Idx → EReal) (ix3 0 x q)
      = m ((c : Thread nD τ).loc main_arg1) (ix3 (n0 := 2) (n1 := 5632) (n2 := 2048) 0 ⟨t.val % 11 * 512 + x.val, by omega⟩ q) := by
  unfold iblk
  refine (View.read_apply _ _).trans ((congrFun (V_main_arg1 m c) _).trans ?_)
  congr 1
  funext a
  match a with
  | ⟨0, _⟩ => exact Fin.ext (show cc0_transform_1 (grid0.coords t) 0 * 1 + 1 * 0 = 0 by rw [tr1]; rfl)
  | ⟨1, _⟩ => exact Fin.ext (show cc0_transform_1 (grid0.coords t) 1 * 512 + 1 * x.val = t.val % 11 * 512 + x.val by
      rw [tr1]; show t.val % 11 * 512 + 1 * x.val = _; omega)
  | ⟨2, _⟩ => exact Fin.ext (show cc0_transform_1 (grid0.coords t) 2 * 2048 + 1 * q.val = q.val by
      rw [tr1]; show 0 * 2048 + 1 * q.val = _; omega)

/-- A point's block of the residual: its rows. -/
theorem iblk2_at (c : Dev nD) (t : Fin cfg0.N) (n : Fin 32) (hn : t.val / 11 = n.val) (r : Fin 512) (q : Fin 2048) :
    (iblk m c 2 t : S512x2048.Idx → EReal) (ix2 r q)
      = m ((c : Thread nD τ).loc main_arg2) (ix2 (n0 := 16384) (n1 := 2048) ⟨n.val * 512 + r.val, by omega⟩ q) := by
  unfold iblk
  refine (View.read_apply _ _).trans ((congrFun (V_main_arg2 m c) _).trans ?_)
  congr 1
  funext a
  match a with
  | ⟨0, _⟩ => exact Fin.ext (show cc0_transform_2 (grid0.coords t) 0 * 512 + 1 * r.val = n.val * 512 + r.val by
      rw [tr2, ← hn]; show t.val / 11 * 512 + 1 * r.val = _; omega)
  | ⟨1, _⟩ => exact Fin.ext (show cc0_transform_2 (grid0.coords t) 1 * 2048 + 1 * q.val = q.val by
      rw [tr2]; show 0 * 2048 + 1 * q.val = _; omega)

/-- The scales, as the region finds them: one row of the argument. -/
theorem V_scale (c : Dev nD) (q : Fin 2048) :
    (V m c main_v0 : S1x2048.Idx → EReal) (ix2 0 q) = m ((c : Thread nD τ).loc main_arg3) (ix1 (n0 := 2048) q) := by
  have e : V m c main_v0 = shapeCast S1x2048 (m ((c : Thread nD τ).loc main_arg3)) shapeCasts_S2048_S1x2048 := by
    unfold V
    after_results <;> rfl
  rw [e]
  pointwise

/-- A point's block of the scales: all of them. -/
theorem iblk3_at (c : Dev nD) (t : Fin cfg0.N) (q : Fin 2048) :
    (iblk m c 3 t : S1x2048.Idx → EReal) (ix2 0 q) = m ((c : Thread nD τ).loc main_arg3) (ix1 (n0 := 2048) q) := by
  unfold iblk
  refine (View.read_apply _ _).trans (Eq.trans ?_ (V_scale m c q))
  show (V m c main_v0 : S1x2048.Idx → EReal) _ = _
  congr 1
  funext a
  match a with
  | ⟨0, _⟩ => exact Fin.ext (show cc0_transform_3 (grid0.coords t) 0 * 1 + 1 * 0 = 0 from rfl)
  | ⟨1, _⟩ => exact Fin.ext (show cc0_transform_3 (grid0.coords t) 1 * 2048 + 1 * q.val = q.val by
      show 0 * 2048 + 1 * q.val = _; omega)

/-! ## The sum -/

/-- The two blocks, as arrays of extended reals. -/
abbrev rows (c : Dev nD) (t : Fin cfg0.N) : S512x512.Idx → EReal := iblk m c 0 t
@[inherit_doc rows] abbrev weights (c : Dev nD) (t : Fin cfg0.N) : S1x512x2048.Idx → EReal := iblk m c 1 t

/-- A point's own summands. -/
theorem part_at (c : Dev nD) (t : Fin cfg0.N) (n : Fin 32) (hn : t.val / 11 = n.val) (r : Fin 512) (q : Fin 2048) :
    ∑ x : Fin 512, rows m c t (ix2 r x) * weights m c t (ix3 0 x q)
      = ∑ x : Fin 512, Dense.part (m ((c : Thread nD τ).loc main_arg0)) (m ((c : Thread nD τ).loc main_arg1)) ⟨n.val * 512 + r.val, by omega⟩ q (t.val % 11 * 512 + x.val) := by
  refine Finset.sum_congr rfl fun x _ => ?_
  rw [show rows m c t (ix2 r x) = _ from iblk0_at m c t n hn r x, show weights m c t (ix3 0 x q) = _ from iblk1_at m c t x q]
  have hx : t.val % 11 * 512 + x.val < 5632 := by omega
  exact (Dense.part_of_lt _ _ _ _ hx).symm

/-- The sum after a point: the summands in all the hidden columns up to the point's last. -/
theorem acc_at (c : Dev nD) (n : Fin 32) (r : Fin 512) (q : Fin 2048) (b : ℕ) :
    ∀ t : Fin cfg0.N, t.val / 11 = n.val → t.val % 11 = b → acc m c t.val t.isLt (ix2 r q)
      = ∑ k ∈ Finset.range ((b + 1) * 512), Dense.part (m ((c : Thread nD τ).loc main_arg0)) (m ((c : Thread nD τ).loc main_arg1)) ⟨n.val * 512 + r.val, by omega⟩ q k := by
  induction b with
  | zero =>
    intro t hn hb
    rw [acc_first m c t hb]
    refine (pay2_at _ _ r q).trans ((part_at m c t n hn r q).trans ?_)
    rw [hb, ← Moe.sum_block _ 0, Nat.zero_mul, Finset.range_zero, Finset.sum_empty, zero_add]
  | succ b ih =>
    intro t hn hb
    have hN : cfg0.N = 352 := N_0
    have ht := t.isLt
    rw [acc_later m c t (by omega)]
    refine (pay3_at _ _ _ r q).trans ((congrArg (acc m c (t.val - 1) (Nat.lt_of_le_of_lt (Nat.sub_le _ _) t.isLt) (ix2 r q) + ·) (part_at m c t n hn r q)).trans ?_)
    rw [hb, ← Moe.sum_block _ (b + 1)]
    congr 1
    exact ih ⟨t.val - 1, by omega⟩ (by simp only; omega) (by simp only; omega)

/-! ## The arrays -/

/-- The residual sum in row `p` and column `q`. -/
abbrev row (c : Dev nD) (p : Fin 16384) (q : Fin 2048) : EReal :=
  Dense.residual (m ((c : Thread nD τ).loc main_arg0)) (m ((c : Thread nD τ).loc main_arg1)) (m ((c : Thread nD τ).loc main_arg2)) p q

/-- The first output array: the residual sums; -/
def residual (c : Dev nD) (y : S16384x2048.Idx) : EReal := row m c (y 0) (y 1)

/-- the second: the rows normalized. -/
def normed (c : Dev nD) (y : S16384x2048.Idx) : EReal :=
  Dense.normed (row m c (y 0)) ((m ((c : Thread nD τ).loc main_arg3) : S2048.Idx → EReal) (ix1 (y 1))) (y 1)

/-- The residual's block, as an array of extended reals. -/
abbrev old (c : Dev nD) (t : Fin cfg0.N) : S512x2048.Idx → EReal := iblk m c 2 t

/-- The summed row that the last point of a block of rows forms. -/
theorem sum_at (c : Dev nD) (t : Fin cfg0.N) (n : Fin 32) (hn : t.val / 11 = n.val) (hl : t.val % 11 = 10) (r : Fin 512) (q : Fin 2048) :
    old m c t (ix2 r q) + acc m c t.val t.isLt (ix2 r q) = row m c ⟨n.val * 512 + r.val, by omega⟩ q :=
  congrArg₂ (fun a b : EReal => a + b) (iblk2_at m c t n hn r q) ((acc_at m c n r q 10 t hn hl).trans (Dense.sum_part _ _ _ _))

/-- What the last point leaves in the two windows, read at one row and column. -/
theorem left_residual (c : Dev nD) (t : Fin cfg0.N) (n : Fin 32) (hn : t.val / 11 = n.val) (hl : t.val % 11 = 10) (r : Fin 512) (q : Fin 2048) :
    ((outsAt0 (F := Ideal) m c t.val t.isLt).1 : S512x2048.Idx → EReal) (ix2 r q) = row m c ⟨n.val * 512 + r.val, by omega⟩ q := by
  rw [out_residual m c t hl]
  exact (pay4_at _ _ r q).trans (sum_at m c t n hn hl r q)

@[inherit_doc left_residual]
theorem left_normed (c : Dev nD) (t : Fin cfg0.N) (n : Fin 32) (hn : t.val / 11 = n.val) (hl : t.val % 11 = 10) (r : Fin 512) (q : Fin 2048) :
    ((outsAt0 (F := Ideal) m c t.val t.isLt).2.1 : S512x2048.Idx → EReal) (ix2 r q)
      = Dense.normed (row m c ⟨n.val * 512 + r.val, by omega⟩) ((m ((c : Thread nD τ).loc main_arg3) : S2048.Idx → EReal) (ix1 q)) q := by
  rw [out_normed m c t hl]
  exact (pay5_at _ _ _ r q).trans (congrArg₂ (fun y g => Dense.normed y g q) (funext fun k => sum_at m c t n hn hl r k) (iblk3_at m c t q))

/-- A place of an output array: its row's block, and its row in the block. -/
theorem split (y : S16384x2048.Idx) : ∃ (n : Fin 32) (r : Fin 512), 11 * n.val + 10 < cfg0.N ∧ (y 0).val = n.val * 512 + r.val
    ∧ Value.pt4Of y = 11 * n.val + 10 ∧ Value.loc4Of y = ix2 r (y 1) := by
  have h0 : (y 0).val < 16384 := (y 0).isLt
  have h1 : (y 1).val < 2048 := (y 1).isLt
  have hN : cfg0.N = 352 := N_0
  refine ⟨⟨(y 0).val / 512, by omega⟩, ⟨(y 0).val % 512, by omega⟩, by rw [hN]; simp only; omega, by simp only; omega, ?_, ?_⟩
  · show 11 * (1 * ((y 0).val / 512 - 0) + 1 * ((y 1).val / 2048 - 0)) + 10 = 11 * ((y 0).val / 512) + 10
    omega
  · funext a
    match a with
    | ⟨0, _⟩ => rfl
    | ⟨1, _⟩ => exact Fin.ext (Nat.mod_eq_of_lt h1)

/-- The arrays that the write-backs leave. -/
theorem final_residual (c : Dev nD) : Value.G4 (F := Ideal) m c = residual m c := by
  funext y
  change S16384x2048.Idx at y
  obtain ⟨n, r, h, hp, ht, hy⟩ := split y
  unfold Value.G4
  simp only [ht, hy]
  rw [dif_pos h, ← Value.outsAt0_sweep m c _ h]
  refine (left_residual m c ⟨11 * n.val + 10, h⟩ n (by simp only; omega) (by simp only; omega) r (y 1)).trans ?_
  rw [show (⟨n.val * 512 + r.val, by omega⟩ : Fin 16384) = y 0 from Fin.ext hp.symm]
  rfl

@[inherit_doc final_residual]
theorem final_normed (c : Dev nD) : Value.G5 (F := Ideal) m c = normed m c := by
  funext y
  change S16384x2048.Idx at y
  obtain ⟨n, r, h, hp, ht, hy⟩ := split y
  unfold Value.G5
  simp only [show Value.pt5Of y = _ from ht, show Value.loc5Of y = _ from hy]
  rw [dif_pos h, ← Value.outsAt0_sweep m c _ h]
  refine (left_normed m c ⟨11 * n.val + 10, h⟩ n (by simp only; omega) (by simp only; omega) r (y 1)).trans ?_
  rw [show (⟨n.val * 512 + r.val, by omega⟩ : Fin 16384) = y 0 from Fin.ext hp.symm]
  rfl

/-- The run, read: the output arrays at `residual` and `normed`, the arguments unchanged. -/
theorem run : θ_run defs (onTc (τ := τ) (main (F := Ideal))) ⟨m, fun _ => 0, ρ⟩ fun r => ∀ c : Dev nD,
      r.2.mem ((c.tc : Thread nD τ).loc main_v1_0) = residual m c
      ∧ r.2.mem ((c.tc : Thread nD τ).loc main_v1_1) = normed m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_residual m c), (h c).2.1.trans (final_normed m c), (h c).2.2⟩) (Value.run m ρ)

end Cert.DenseDownIdeal.Hand

end
-- ==== Proof.DenseRef.lean ====
/-
  The references of the two dense feed-forward calls, read at one row and column.
-/
module

public import proofs.«01_k».proof.Proof.Gen.DenseUpReferenceIdeal.Run
public import proofs.«01_k».proof.Proof.Gen.DenseDownReferenceIdeal.Run
public import Idealize.ShloMosaic.Lib.Pointwise
public import proofs.«01_k».proof.Proof.Dense

@[expose] public section

set_option maxRecDepth 16384

noncomputable section

open Idealize.ShloMosaic Idealize.ShloMosaic.TcCoe Idealize.SL.Sem

namespace Cert.DenseUpReferenceIdeal.Hand

open Cert.DenseUpReferenceIdeal Cert.DenseUpReferenceIdeal.Gen

variable {F : FTy → Type} [FloatOps F]

/-- A product of the rows with the first layer's weights. -/
def prod (X : FVec F S16384x2048 .bf16) (W : FVec F S2x2048x5632 .f32) : FVec F S16384x5632 .f32 :=
  Host.dotGeneral dot_S16384x2048_S2048x5632_S16384x5632_1_0_0_1_n_n none (extf .f32 X bitsLt_bf16_f32)
    (shapeCast _ (extractStridedSlice S1x2048x5632 ![0, 0, 0] W slices_S2x2048x5632_S1x2048x5632_0_0_0) shapeCasts_S1x2048x5632_S2048x5632)

theorem prod_at (X : FVec Ideal S16384x2048 .bf16) (W : FVec Ideal S2x2048x5632 .f32) (p : Fin 16384) (q : Fin 5632) :
    (prod X W : S16384x5632.Idx → EReal) (ix2 p q) = ∑ x : Fin 2048, (X : S16384x2048.Idx → EReal) (ix2 p x) * (W : S2x2048x5632.Idx → EReal) (ix3 0 x q) := by
  unfold prod
  pointwise

/-- The gated product of two arrays. -/
def gate (g u : FVec F S16384x5632 .f32) : FVec F S16384x5632 .bf16 :=
  truncf .bf16 (mulf (mulf g (Host.divf (broadcastInDim S16384x5632 ![] bcast_S_S16384x5632 (constant S_ .f32 0x3F800000#32))
    (addf (broadcastInDim S16384x5632 ![] bcast_S_S16384x5632 (constant S_ .f32 0x3F800000#32)) (Host.exp (Host.negf g))))) u) bitsLt_bf16_f32

theorem gate_at (g u : FVec Ideal S16384x5632 .f32) (p : Fin 16384) (q : Fin 5632) :
    (gate g u : S16384x5632.Idx → EReal) (ix2 p q) = Moe.glu (g (ix2 p q)) (u (ix2 p q)) := by
  rw [← Moe.glu_eq]
  unfold gate
  pointwise

theorem result_at (X : FVec Ideal S16384x2048 .bf16) (W1 W3 : FVec Ideal S2x2048x5632 .f32) (p : Fin 16384) (q : Fin 5632) :
    (gate (prod X W1) (prod X W3) : S16384x5632.Idx → EReal) (ix2 p q) = Dense.gated X W1 W3 p q := by
  rw [gate_at]
  exact congrArg₂ Moe.glu (prod_at X W1 p q) (prod_at X W3 p q)

end Cert.DenseUpReferenceIdeal.Hand

namespace Cert.DenseDownReferenceIdeal.Hand

open Cert.DenseDownReferenceIdeal Cert.DenseDownReferenceIdeal.Gen

variable {F : FTy → Type} [FloatOps F]

/-- The residual sum. -/
def sum (A : FVec F S16384x5632 .bf16) (W : FVec F S2x5632x2048 .f32) (X : FVec F S16384x2048 .f32) : FVec F S16384x2048 .f32 :=
  addf X (Host.dotGeneral dot_S16384x5632_S5632x2048_S16384x2048_1_0_0_1_n_n none (extf .f32 A bitsLt_bf16_f32)
    (shapeCast _ (extractStridedSlice S1x5632x2048 ![0, 0, 0] W slices_S2x5632x2048_S1x5632x2048_0_0_0) shapeCasts_S1x5632x2048_S5632x2048))

theorem sum_at (A : FVec Ideal S16384x5632 .bf16) (W : FVec Ideal S2x5632x2048 .f32) (X : FVec Ideal S16384x2048 .f32) (p : Fin 16384) (q : Fin 2048) :
    (sum A W X : S16384x2048.Idx → EReal) (ix2 p q) = Dense.residual A W X p q := by
  unfold sum Dense.residual
  pointwise

/-- The rows normalized. -/
def norm (y : FVec F S16384x2048 .f32) (g : FVec F S2048 .f32) : FVec F S16384x2048 .bf16 :=
  truncf .bf16 (mulf (mulf y (broadcastInDim S16384x2048 ![0, 1] bcast_S16384x1_S16384x2048_0_1 (Host.rsqrt (addf (Host.divf
    (broadcastInDim S16384x1 ![0] bcast_S16384_S16384x1_0 (Host.reduceAdd (mulf y y) (constant S_ .f32 0x00000000#32) reducesTo_S16384x2048_S16384_d1 h_S_))
    (broadcastInDim S16384x1 ![] bcast_S_S16384x1 (constant S_ .f32 0x45000000#32))) (broadcastInDim S16384x1 ![] bcast_S_S16384x1 (constant S_ .f32 0x3727C5AC#32))))))
    (broadcastInDim S16384x2048 ![0, 1] bcast_S1x2048_S16384x2048_0_1 (broadcastInDim S1x2048 ![1] bcast_S2048_S1x2048_1 g))) bitsLt_bf16_f32

theorem norm_at (y : FVec Ideal S16384x2048 .f32) (g : FVec Ideal S2048 .f32) (p : Fin 16384) (q : Fin 2048) :
    (norm y g : S16384x2048.Idx → EReal) (ix2 p q) = Dense.normed (fun x => (y : S16384x2048.Idx → EReal) (ix2 p x)) (g (ix1 q)) q := by
  unfold norm
  pointwise
  rfl

theorem result_at (A : FVec Ideal S16384x5632 .bf16) (W : FVec Ideal S2x5632x2048 .f32) (X : FVec Ideal S16384x2048 .f32) (g : FVec Ideal S2048 .f32)
    (p : Fin 16384) (q : Fin 2048) :
    (norm (sum A W X) g : S16384x2048.Idx → EReal) (ix2 p q) = Dense.normed (Dense.residual A W X p) (g (ix1 q)) q := by
  rw [norm_at]
  exact congrArg (Dense.normed · (g (ix1 q)) q) (funext fun x => sum_at A W X p x)

end Cert.DenseDownReferenceIdeal.Hand

end
-- ==== Proof.DenseClaims.lean ====
/-
  The claims about the two dense feed-forward calls: they run and leave their arguments, and end with the reference's arrays.
-/
module

public import proofs.«01_k».proof.Defs
public import proofs.«01_k».proof.Proof.Gen.DenseUp.Frame
public import proofs.«01_k».proof.Proof.Gen.DenseDown.Frame
public import proofs.«01_k».proof.Proof.DenseUpOut
public import proofs.«01_k».proof.Proof.DenseDownOut
public import proofs.«01_k».proof.Proof.DenseRef

@[expose] public section

noncomputable section

namespace Cert.Proof

open Idealize.ShloMosaic Idealize.ShloMosaic.TcCoe Idealize.SL.Sem

attribute [local instance] Cert.DenseUp.Gen.facts Cert.DenseUpIdeal.Gen.facts Cert.DenseUpReferenceIdeal.Gen.facts
  Cert.DenseDown.Gen.facts Cert.DenseDownIdeal.Gen.facts Cert.DenseDownReferenceIdeal.Gen.facts

/-! ## The up projection -/

/-- As captured, it runs, its arguments end unchanged and every counter ends at zero; -/
theorem quiet_dense_up : Cert.quiescent_DenseUp := fun m g _ => Cert.DenseUp.Gen.frame m g

/-- so it does idealized, -/
theorem quiet_dense_up_ideal : Cert.quiescent_DenseUpIdeal := fun m g _ => Cert.DenseUpIdeal.Gen.frame m g

/-- and the reference. -/
theorem quiet_dense_up_reference : Cert.quiescent_DenseUpReferenceIdeal := fun m g _ =>
  (θ_run _ _ _).mono (fun r h => ⟨fun c => (h c).2, sem_eq_zero_of_no_sems (by decide) r.2⟩) (Cert.DenseUpReferenceIdeal.Value.run (F := Ideal) m g)

/-- The idealized kernel and the reference end with the same array. -/
theorem dense_up_same : Cert.algebraic_DenseUpIdeal_DenseUpReferenceIdeal := by
  intro m g m' g' _ hm
  refine ⟨fun c => Cert.DenseUpIdeal.Hand.result m c, Cert.DenseUpIdeal.Hand.run m g, ?_⟩
  refine (θ_run _ _ _).mono (fun r h c => ⟨(h c).1.trans ?_, (h c).2⟩) (Cert.DenseUpReferenceIdeal.Value.run (F := Ideal) m' g')
  rw [(hm c).1, (hm c).2.1, (hm c).2.2]
  funext y
  obtain ⟨p, q, rfl⟩ : ∃ p q, y = ix2 p q := ⟨y 0, y 1, eq_ix2 y⟩
  exact Cert.DenseUpReferenceIdeal.Hand.result_at _ _ _ p q

/-! ## The down projection -/

/-- As captured, it runs, its arguments end unchanged and every counter ends at zero; -/
theorem quiet_dense_down : Cert.quiescent_DenseDown := fun m g _ => Cert.DenseDown.Gen.frame m g

/-- so it does idealized, -/
theorem quiet_dense_down_ideal : Cert.quiescent_DenseDownIdeal := fun m g _ => Cert.DenseDownIdeal.Gen.frame m g

/-- and the reference. -/
theorem quiet_dense_down_reference : Cert.quiescent_DenseDownReferenceIdeal := fun m g _ =>
  (θ_run _ _ _).mono (fun r h => ⟨fun c => (h c).2.2, sem_eq_zero_of_no_sems (by decide) r.2⟩) (Cert.DenseDownReferenceIdeal.Value.run (F := Ideal) m g)

/-- The idealized kernel and the reference end with the same two arrays. -/
theorem dense_down_same : Cert.algebraic_DenseDownIdeal_DenseDownReferenceIdeal := by
  intro m g m' g' _ hm
  refine ⟨fun c => Cert.DenseDownIdeal.Hand.residual m c, fun c => Cert.DenseDownIdeal.Hand.normed m c, Cert.DenseDownIdeal.Hand.run m g, ?_⟩
  refine (θ_run _ _ _).mono (fun r h c => ⟨(h c).1.trans ?_, (h c).2.1.trans ?_, (h c).2.2⟩) (Cert.DenseDownReferenceIdeal.Value.run (F := Ideal) m' g')
  · rw [(hm c).1, (hm c).2.1, (hm c).2.2.1]
    funext y
    obtain ⟨p, q, rfl⟩ : ∃ p q, y = ix2 p q := ⟨y 0, y 1, eq_ix2 y⟩
    exact Cert.DenseDownReferenceIdeal.Hand.sum_at _ _ _ p q
  · rw [(hm c).1, (hm c).2.1, (hm c).2.2.1, (hm c).2.2.2]
    funext y
    obtain ⟨p, q, rfl⟩ : ∃ p q, y = ix2 p q := ⟨y 0, y 1, eq_ix2 y⟩
    exact Cert.DenseDownReferenceIdeal.Hand.result_at _ _ _ _ p q

end Cert.Proof

end
-- ==== Proof.Rotary.lean ====
/-
  The input projection's result in extended reals, head by head: the product, the rotation of a head's first columns, and the
  agreement of a rotation written with three tables and one written with cosines and sines.
-/
module

public import proofs.«01_k».proof.Proof.Grouped

@[expose] public section

noncomputable section

namespace Rotary

open Idealize.ShloMosaic

/-- A row of a table over a head's columns. -/
def row (T : (⟨2, ![16384, 128]⟩ : Shape).Idx → EReal) (p : Fin 16384) (e : Fin 128) : EReal := T (ix2 p e)

/-- Head `k` of the projection's row `p`, by the first layer's weights. -/
def head (X : (⟨2, ![16384, 2048]⟩ : Shape).Idx → EReal) (W : (⟨3, ![4, 2048, 5632]⟩ : Shape).Idx → EReal) (p : Fin 16384) (k : Fin 44) (e : Fin 128) : EReal :=
  ∑ x : Fin 2048, X (ix2 p x) * W (ix3 0 x ⟨k.val * 128 + e.val, by omega⟩)

/-- A head turned by three tables: itself, and itself shifted either way by sixteen columns. -/
def turned (u a b d : Fin 128 → EReal) (e : Fin 128) : EReal :=
  u e * a e + u ⟨(e.val + 128 - 112) % 128, by omega⟩ * b e + u ⟨(e.val + 128 - 16) % 128, by omega⟩ * d e

/-- A head with its first thirty-two columns rotated by the angles' cosines and sines. -/
def rotated (u : Fin 128 → EReal) (cos sin : Fin 16 → EReal) (e : Fin 128) : EReal :=
  if h : e.val < 32 then
    if h' : e.val < 16 then u e * cos ⟨e.val, h'⟩ - u ⟨16 + e.val, by omega⟩ * sin ⟨e.val, h'⟩
    else u ⟨16 + (e.val - 16), by omega⟩ * cos ⟨e.val - 16, by omega⟩ + u ⟨e.val - 16, by omega⟩ * sin ⟨e.val - 16, by omega⟩
  else u ⟨32 + (e.val - 32), by omega⟩

/-- The factor of head `k`: the queries' is the scores'. -/
def factor (k : Fin 44) : EReal := if k.val < 12 then Ideal.ofBits .f32 0x3DB504F3#32 else 1

/-- The array, from the tables. -/
def made (X : (⟨2, ![16384, 2048]⟩ : Shape).Idx → EReal) (W : (⟨3, ![4, 2048, 5632]⟩ : Shape).Idx → EReal)
    (A B D : (⟨2, ![16384, 128]⟩ : Shape).Idx → EReal) (k : Fin 44) (p : Fin 16384) (e : Fin 128) : EReal :=
  if k.val < 24 then turned (head X W p k) (row A p) (row B p) (row D p) e * factor k else head X W p k e

/-- The array, from the cosines and sines. -/
def meant (X : (⟨2, ![16384, 2048]⟩ : Shape).Idx → EReal) (W : (⟨3, ![4, 2048, 5632]⟩ : Shape).Idx → EReal)
    (A D : (⟨2, ![16384, 128]⟩ : Shape).Idx → EReal) (k : Fin 44) (p : Fin 16384) (e : Fin 128) : EReal :=
  if k.val < 24 then
    rotated (head X W p k) (fun i => A (ix2 p ⟨i.val, by omega⟩)) (fun i => D (ix2 p ⟨16 + i.val, by omega⟩)) e * factor k
  else head X W p k e

/-- Three rows are a rotation's: the cosines twice and ones, the sines negated and zeros, zeros and the sines and zeros. -/
structure Tables (a b d : Fin 128 → EReal) : Prop where
  cos : ∀ e : Fin 128, a e = if h : e.val < 16 then a e else if h' : e.val - 16 < 16 then a ⟨e.val - 16, by omega⟩ else 1
  neg : ∀ e : Fin 128, b e = if h : e.val < 16 then -d ⟨16 + e.val, by omega⟩ else 0
  pos : ∀ e : Fin 128, d e = if h : 16 ≤ e.val ∧ e.val < 32 then d e else 0

/-- A rotation by such rows is the rotation by the angles. -/
theorem turned_eq {a b d : Fin 128 → EReal} (h : Tables a b d) (u : Fin 128 → EReal) (e : Fin 128) :
    turned u a b d e = rotated u (fun i => a ⟨i.val, by omega⟩) (fun i => d ⟨16 + i.val, by omega⟩) e := by
  unfold turned rotated
  have hc := h.cos e
  have hn := h.neg e
  have hp := h.pos e
  by_cases h16 : e.val < 16
  · rw [dif_neg (by omega)] at hp
    rw [dif_pos h16] at hn
    rw [dif_pos (by omega), dif_pos h16, hn, hp, mul_zero, add_zero, mul_neg, ← sub_eq_add_neg]
    congr 3
    exact Fin.ext (by show (e.val + 128 - 112) % 128 = 16 + e.val; omega)
  · rw [dif_neg h16] at hn hc
    by_cases h32 : e.val < 32
    · rw [dif_pos (by omega)] at hc
      rw [dif_pos h32, dif_neg h16, hn, mul_zero, add_zero, hc]
      have e1 : e = ⟨16 + (e.val - 16), by omega⟩ := Fin.ext (by show e.val = 16 + (e.val - 16); omega)
      have e2 : (⟨(e.val + 128 - 16) % 128, by omega⟩ : Fin 128) = ⟨e.val - 16, by omega⟩ :=
        Fin.ext (by show (e.val + 128 - 16) % 128 = e.val - 16; omega)
      exact congrArg₂ (fun s t : EReal => s + t) (congrArg (fun i => u i * a ⟨e.val - 16, by omega⟩) e1)
        (congrArg₂ (fun s t : EReal => s * t) (congrArg u e2) (congrArg d e1))
    · rw [dif_neg (by omega)] at hc hp
      rw [dif_neg h32, hn, hp, hc, mul_zero, mul_zero, add_zero, add_zero, mul_one]
      exact congrArg u (Fin.ext (by show e.val = 32 + (e.val - 32); omega))

/-- So the two arrays agree. -/
theorem made_eq {X : (⟨2, ![16384, 2048]⟩ : Shape).Idx → EReal} {W : (⟨3, ![4, 2048, 5632]⟩ : Shape).Idx → EReal}
    {A B D : (⟨2, ![16384, 128]⟩ : Shape).Idx → EReal} (h : ∀ p, Tables (row A p) (row B p) (row D p)) (k : Fin 44) (p : Fin 16384) (e : Fin 128) :
    made X W A B D k p e = meant X W A D k p e := by
  unfold made meant
  rw [turned_eq (h p)]
  rfl

end Rotary

end
-- ==== Proof.InProjOut.lean ====
/-
  The input projection's output array at exact real arithmetic: every grid point writes four heads of one block of rows, turned
  and scaled or as they are, and the blocks tile the array.
-/
module

public import proofs.«01_k».proof.Proof.Gen.InProjIdeal.Value
public import Idealize.ShloMosaic.Lib.Pipeline.ValueKit
public import proofs.«01_k».proof.Proof.Rotary

@[expose] public section

set_option maxRecDepth 16384

noncomputable section

namespace Cert.InProjIdeal.Hand

open Cert.InProjIdeal Cert.InProjIdeal.Gen
open Idealize.ShloMosaic Idealize.ShloMosaic.TcCoe Idealize.SL.Sem

variable (m : (ℓ : Loc nD τ sig) → Buf (Elt Ideal) ℓ) (ρ : Dev nD → PrngReg)

/-! ## The payloads -/

/-- The product of two blocks. -/
theorem pay1_at (s : S1024x2048.Idx → EReal) (w : S1x2048x512.Idx → EReal) (r : Fin 1024) (q : Fin 512) :
    (k0_pay1 (F := Ideal) s w : S1024x512.Idx → EReal) (ix2 r q) = ∑ x, s (ix2 r x) * w (ix3 0 x q) := by
  unfold k0_pay1
  pointwise

/-- The columns of a block's row from column `o` on: one head's. -/
def cols (v : S1024x512.Idx → EReal) (r : Fin 1024) (o : Fin 385) (e : Fin 128) : EReal := v (ix2 r ⟨o.val + e.val, by omega⟩)

/-- A row of a table's block. -/
def row (a : S1024x128.Idx → EReal) (r : Fin 1024) (e : Fin 128) : EReal := a (ix2 r e)

theorem pay4_at (s : S1024x2048.Idx → EReal) (w : S1x2048x512.Idx → EReal) (r : Fin 1024) (e : Fin 128) :
    (k0_pay4 (F := Ideal) s w : S1x1024x128.Idx → EReal) (ix3 0 r e) = cols (k0_pay1 (F := Ideal) s w) r 0 e := by
  unfold k0_pay4 cols
  pointwise
theorem pay5_at (s : S1024x2048.Idx → EReal) (w : S1x2048x512.Idx → EReal) (r : Fin 1024) (e : Fin 128) :
    (k0_pay5 (F := Ideal) s w : S1x1024x128.Idx → EReal) (ix3 0 r e) = cols (k0_pay1 (F := Ideal) s w) r 128 e := by
  unfold k0_pay5
  pointwise
  rfl
theorem pay6_at (s : S1024x2048.Idx → EReal) (w : S1x2048x512.Idx → EReal) (r : Fin 1024) (e : Fin 128) :
    (k0_pay6 (F := Ideal) s w : S1x1024x128.Idx → EReal) (ix3 0 r e) = cols (k0_pay1 (F := Ideal) s w) r 256 e := by
  unfold k0_pay6
  pointwise
  rfl
theorem pay7_at (s : S1024x2048.Idx → EReal) (w : S1x2048x512.Idx → EReal) (r : Fin 1024) (e : Fin 128) :
    (k0_pay7 (F := Ideal) s w : S1x1024x128.Idx → EReal) (ix3 0 r e) = cols (k0_pay1 (F := Ideal) s w) r 384 e := by
  unfold k0_pay7
  pointwise
  rfl

theorem pay9_at (i : BitVec 32) (v : S1024x512.Idx → EReal) (a b d : S1024x128.Idx → EReal) (r : Fin 1024) (e : Fin 128) :
    (k0_pay9 (F := Ideal) i v a b d : S1x1024x128.Idx → EReal) (ix3 0 r e)
      = Rotary.turned (cols v r 0) (row a r) (row b r) (row d r) e * (k0_pay8 (F := Ideal) i : EReal) := by
  have hz (q : Fin 128) : cols v r 0 q = v (ix2 r ⟨q.val, by omega⟩) := congrArg (fun i => v (ix2 r i)) (Fin.ext (Nat.zero_add _))
  unfold k0_pay9 Rotary.turned
  simp only [hz]
  pointwise
  rfl
theorem pay10_at (i : BitVec 32) (v : S1024x512.Idx → EReal) (a b d : S1024x128.Idx → EReal) (r : Fin 1024) (e : Fin 128) :
    (k0_pay10 (F := Ideal) i v a b d : S1x1024x128.Idx → EReal) (ix3 0 r e)
      = Rotary.turned (cols v r 128) (row a r) (row b r) (row d r) e * (k0_pay8 (F := Ideal) i : EReal) := by
  unfold k0_pay10
  pointwise
  rfl
theorem pay2_at (f : EReal) (v : S1024x512.Idx → EReal) (a b d : S1024x128.Idx → EReal) (r : Fin 1024) (e : Fin 128) :
    (k0_pay2 (F := Ideal) d f (k0_pay12 (F := Ideal) v) (k0_pay13 (F := Ideal) v a b) : S1x1024x128.Idx → EReal) (ix3 0 r e)
      = Rotary.turned (cols v r 256) (row a r) (row b r) (row d r) e * f := by
  unfold k0_pay2 k0_pay12 k0_pay13 k0_pay11
  pointwise
  rfl
theorem pay3_at (f : EReal) (s : S1024x2048.Idx → EReal) (w : S1x2048x512.Idx → EReal) (a b d : S1024x128.Idx → EReal) (r : Fin 1024) (e : Fin 128) :
    (k0_pay3 (F := Ideal) s w a b d f : S1x1024x128.Idx → EReal) (ix3 0 r e)
      = Rotary.turned (cols (k0_pay1 (F := Ideal) s w) r 384) (row a r) (row b r) (row d r) e * f := by
  unfold k0_pay3
  pointwise
  rfl

/-- The factor of the first three column blocks is the scores', of the later ones one. -/
theorem pay8_eq (j : Fin 11) : (k0_pay8 (F := Ideal) (BitVec.ofNat 32 j.val) : EReal) = if j.val < 3 then Ideal.ofBits .f32 0x3DB504F3#32 else 1 := by
  have key : ∀ j : Fin 11, Scalar.cmpi .slt (BitVec.ofNat 32 j.val) 3#32 = if j.val < 3 then 1#1 else 0#1 := by decide
  show Scalar.select (Scalar.cmpi .slt (BitVec.ofNat 32 j.val) 3#32) (Ideal.ofBits .f32 0x3DB504F3#32) (Ideal.ofBits .f32 0x3F800000#32) = _
  rw [key, Ideal.ofBits_one_f32]
  by_cases h : j.val < 3
  · rw [if_pos h, if_pos h]; rfl
  · rw [if_neg h, if_neg h]; rfl

/-! ## The blocks -/

theorem coord0 (t : Fin grid0.N) : (grid0.coords t 0).val = t.val / 11 := by
  have ht : t.val < 176 := Nat.lt_of_lt_of_eq t.isLt N_0
  have e : (grid0.coords t 0).val = t.val / 11 % 16 := Pipeline.Grid.coords_val t 0 (by decide) rfl
  omega
theorem coord1 (t : Fin grid0.N) : (grid0.coords t 1).val = t.val % 11 := by
  have e : (grid0.coords t 1).val = t.val / 1 % 11 := Pipeline.Grid.coords_val t 1 (by decide) rfl
  omega

theorem toNat_small {n : ℕ} (h : n < 16) : (BitVec.ofNat 32 n).toNat = n := by
  rw [BitVec.toNat_ofNat]; exact Nat.mod_eq_of_lt (by omega)

theorem tr0 (t : Fin grid0.N) : cc0_transform_0 (grid0.coords t) = ![t.val / 11, 0] := by
  have ht : t.val < 176 := Nat.lt_of_lt_of_eq t.isLt N_0
  rw [← coord0 t]
  exact congrArg (![·, 0]) (toNat_small (by rw [coord0]; omega))
theorem tr1 (t : Fin grid0.N) : cc0_transform_1 (grid0.coords t) = ![0, 0, t.val % 11] := by
  rw [← coord1 t]
  exact congrArg (![0, 0, ·]) (toNat_small (by rw [coord1]; omega))
theorem tr5 (t : Fin grid0.N) : cc0_transform_5 (grid0.coords t) = ![t.val % 11, t.val / 11, 0] := by
  have ht : t.val < 176 := Nat.lt_of_lt_of_eq t.isLt N_0
  rw [← coord0 t, ← coord1 t]
  exact congrArg₂ (![·, ·, 0]) (toNat_small (by rw [coord1]; omega)) (toNat_small (by rw [coord0]; omega))

/-- A point's block of the activations: its rows. -/
theorem iblk0_at (c : Dev nD) (t : Fin cfg0.N) (n : Fin 16) (hn : t.val / 11 = n.val) (r : Fin 1024) (x : Fin 2048) :
    (iblk m c 0 t : S1024x2048.Idx → EReal) (ix2 r x)
      = m ((c : Thread nD τ).loc main_arg0) (ix2 (n0 := 16384) (n1 := 2048) ⟨n.val * 1024 + r.val, by omega⟩ x) := by
  unfold iblk
  refine (View.read_apply _ _).trans ?_
  show m ((c : Thread nD τ).loc main_arg0) _ = _
  congr 1
  funext a
  match a with
  | ⟨0, _⟩ => exact Fin.ext (show cc0_transform_0 (grid0.coords t) 0 * 1024 + 1 * r.val = n.val * 1024 + r.val by
      rw [tr0, ← hn]; show t.val / 11 * 1024 + 1 * r.val = _; omega)
  | ⟨1, _⟩ => exact Fin.ext (show cc0_transform_0 (grid0.coords t) 1 * 2048 + 1 * x.val = x.val by
      rw [tr0]; show 0 * 2048 + 1 * x.val = _; omega)

/-- A point's block of the weights: its columns of the first layer's. -/
theorem iblk1_at (c : Dev nD) (t : Fin cfg0.N) (b : Fin 11) (hb : t.val % 11 = b.val) (x : Fin 2048) (q : Fin 512) :
    (iblk m c 1 t : S1x2048x512.Idx → EReal) (ix3 0 x q)
      = m ((c : Thread nD τ).loc main_arg1) (ix3 (n0 := 4) (n1 := 2048) (n2 := 5632) 0 x ⟨b.val * 512 + q.val, by omega⟩) := by
  unfold iblk
  refine (View.read_apply _ _).trans ?_
  show m ((c : Thread nD τ).loc main_arg1) _ = _
  congr 1
  funext a
  match a with
  | ⟨0, _⟩ => exact Fin.ext (show cc0_transform_1 (grid0.coords t) 0 * 1 + 1 * 0 = 0 by rw [tr1]; rfl)
  | ⟨1, _⟩ => exact Fin.ext (show cc0_transform_1 (grid0.coords t) 1 * 2048 + 1 * x.val = x.val by
      rw [tr1]; show 0 * 2048 + 1 * x.val = _; omega)
  | ⟨2, _⟩ => exact Fin.ext (show cc0_transform_1 (grid0.coords t) 2 * 512 + 1 * q.val = b.val * 512 + q.val by
      rw [tr1, ← hb]; show t.val % 11 * 512 + 1 * q.val = _; omega)

/-- Where a point's block of a table has row `r` and column `e`. -/
theorem table_emb (t : Fin cfg0.N) (n : Fin 16) (hn : t.val / 11 = n.val) (r : Fin 1024) (e : Fin 128) :
    (show S16384x128.Idx from ((cfg0.win 2).blk t).view.emb (ix2 (n0 := 1024) (n1 := 128) r e)) = ix2 (n0 := 16384) (n1 := 128) ⟨n.val * 1024 + r.val, by omega⟩ e := by
  funext a
  match a with
  | ⟨0, _⟩ => exact Fin.ext (show cc0_transform_0 (grid0.coords t) 0 * 1024 + 1 * r.val = n.val * 1024 + r.val by
      rw [tr0, ← hn]; show t.val / 11 * 1024 + 1 * r.val = _; omega)
  | ⟨1, _⟩ => exact Fin.ext (show cc0_transform_0 (grid0.coords t) 1 * 128 + 1 * e.val = e.val by
      rw [tr0]; show 0 * 128 + 1 * e.val = _; omega)

/-- A point's blocks of the three tables: its rows. -/
theorem iblk2_at (c : Dev nD) (t : Fin cfg0.N) (n : Fin 16) (hn : t.val / 11 = n.val) (r : Fin 1024) :
    row (iblk m c 2 t) r = Rotary.row (m ((c : Thread nD τ).loc main_arg2)) ⟨n.val * 1024 + r.val, by omega⟩ := by
  funext e
  unfold row iblk
  exact (View.read_apply _ _).trans (congrArg (m ((c : Thread nD τ).loc main_arg2)) (table_emb t n hn r e))
theorem iblk3_at (c : Dev nD) (t : Fin cfg0.N) (n : Fin 16) (hn : t.val / 11 = n.val) (r : Fin 1024) :
    row (iblk m c 3 t) r = Rotary.row (m ((c : Thread nD τ).loc main_arg3)) ⟨n.val * 1024 + r.val, by omega⟩ := by
  funext e
  unfold row iblk
  exact (View.read_apply _ _).trans (congrArg (m ((c : Thread nD τ).loc main_arg3)) (table_emb t n hn r e))
theorem iblk4_at (c : Dev nD) (t : Fin cfg0.N) (n : Fin 16) (hn : t.val / 11 = n.val) (r : Fin 1024) :
    row (iblk m c 4 t) r = Rotary.row (m ((c : Thread nD τ).loc main_arg4)) ⟨n.val * 1024 + r.val, by omega⟩ := by
  funext e
  unfold row iblk
  exact (View.read_apply _ _).trans (congrArg (m ((c : Thread nD τ).loc main_arg4)) (table_emb t n hn r e))

/-- A point's product, read from column `z * 128` on, is head `4 * b + z` of the projection's row. -/
theorem cols_eq (c : Dev nD) (t : Fin cfg0.N) (n : Fin 16) (hn : t.val / 11 = n.val) (b : Fin 11) (hb : t.val % 11 = b.val) (r : Fin 1024)
    (z : Fin 4) (o : Fin 385) (ho : o.val = z.val * 128) :
    cols (k0_pay1 (F := Ideal) (iblk m c 0 t) (iblk m c 1 t)) r o
      = Rotary.head (m ((c : Thread nD τ).loc main_arg0)) (m ((c : Thread nD τ).loc main_arg1)) ⟨n.val * 1024 + r.val, by omega⟩ ⟨4 * b.val + z.val, by omega⟩ := by
  funext e
  unfold cols
  refine (pay1_at _ _ r _).trans (Finset.sum_congr rfl fun x _ => ?_)
  refine congrArg₂ (fun a b : EReal => a * b) (iblk0_at m c t n hn r x) ((iblk1_at m c t b hb x _).trans ?_)
  refine congrArg (fun i => m ((c : Thread nD τ).loc main_arg1) (ix3 (n0 := 4) (n1 := 2048) (n2 := 5632) 0 x i)) (Fin.ext ?_)
  show b.val * 512 + (o.val + e.val) = (4 * b.val + z.val) * 128 + e.val
  omega

/-! ## What a point leaves -/

/-- The output array. -/
def result (c : Dev nD) (y : S44x16384x128.Idx) : EReal :=
  Rotary.made (m ((c : Thread nD τ).loc main_arg0)) (m ((c : Thread nD τ).loc main_arg1)) (m ((c : Thread nD τ).loc main_arg2))
    (m ((c : Thread nD τ).loc main_arg3)) (m ((c : Thread nD τ).loc main_arg4)) (y 0) (y 1) (y 2)

/-- Its block of heads `b` and rows `n`. -/
def block (c : Dev nD) (n : Fin 16) (b : Fin 11) (z : Fin 4) (r : Fin 1024) (e : Fin 128) : EReal :=
  Rotary.made (m ((c : Thread nD τ).loc main_arg0)) (m ((c : Thread nD τ).loc main_arg1)) (m ((c : Thread nD τ).loc main_arg2))
    (m ((c : Thread nD τ).loc main_arg3)) (m ((c : Thread nD τ).loc main_arg4)) ⟨4 * b.val + z.val, by omega⟩ ⟨n.val * 1024 + r.val, by omega⟩ e

/-- A head past the keys' is the product's; -/
theorem plain_eq (c : Dev nD) (t : Fin cfg0.N) (n : Fin 16) (hn : t.val / 11 = n.val) (b : Fin 11) (hb : t.val % 11 = b.val) (h : 6 ≤ b.val) (r : Fin 1024)
    (z : Fin 4) (o : Fin 385) (ho : o.val = z.val * 128) (e : Fin 128) :
    cols (k0_pay1 (F := Ideal) (iblk m c 0 t) (iblk m c 1 t)) r o e = block m c n b z r e := by
  rw [cols_eq m c t n hn b hb r z o ho]
  exact (if_neg (by show ¬4 * b.val + z.val < 24; omega)).symm

/-- an earlier one is turned and scaled. -/
theorem turned_eq (c : Dev nD) (t : Fin cfg0.N) (n : Fin 16) (hn : t.val / 11 = n.val) (b : Fin 11) (hb : t.val % 11 = b.val) (h : b.val ≤ 5) (r : Fin 1024)
    (z : Fin 4) (o : Fin 385) (ho : o.val = z.val * 128) (e : Fin 128) :
    Rotary.turned (cols (k0_pay1 (F := Ideal) (iblk m c 0 t) (iblk m c 1 t)) r o) (row (iblk m c 2 t) r) (row (iblk m c 3 t) r) (row (iblk m c 4 t) r) e
        * (k0_pay8 (F := Ideal) (BitVec.ofNat 32 (grid0.coords t 1).val) : EReal) = block m c n b z r e := by
  rw [cols_eq m c t n hn b hb r z o ho, iblk2_at m c t n hn, iblk3_at m c t n hn, iblk4_at m c t n hn, coord1 t, hb, pay8_eq]
  refine Eq.trans ?_ (if_pos (by show 4 * b.val + z.val < 24; omega)).symm
  refine congrArg (Rotary.turned _ _ _ _ e * ·) ?_
  unfold Rotary.factor
  exact if_congr (by show b.val < 3 ↔ 4 * b.val + z.val < 12; omega) rfl rfl

/-- One head's store, placed. -/
theorem piece (c : Dev nD) (n : Fin 16) (b : Fin 11) (z : Fin 4) {P : S1x1024x128.Idx → EReal}
    (hP : ∀ (r : Fin 1024) (e : Fin 128), P (ix3 0 r e) = block m c n b z r e) (y : S4x1024x128.Idx) (x : S1x1024x128.Idx)
    (h0 : (y 0).val = z.val) (h1 : (y 1).val = (x 1).val) (h2 : (y 2).val = (x 2).val) : P x = block m c n b (y 0) (y 1) (y 2) := by
  have hx0 : (x 0).val < 1 := (x 0).isLt
  have hx : x = ix3 (n0 := 1) (n1 := 1024) (n2 := 128) 0 (x 1) (x 2) :=
    (eq_ix3 x).trans (congrArg (fun i => ix3 (n0 := 1) (n1 := 1024) (n2 := 128) i (x 1) (x 2)) (Fin.ext (by show (x 0).val = 0; omega)))
  have e0 : (y 0 : Fin 4) = z := Fin.ext h0
  have e1 : (y 1 : Fin 1024) = x 1 := Fin.ext h1
  have e2 : (y 2 : Fin 128) = x 2 := Fin.ext h2
  rw [e0, e1, e2]
  exact (congrArg P hx).trans (hP (x 1) (x 2))

/-- What a point past the keys' heads leaves: its block. -/
theorem left_B (c : Dev nD) (t : Fin cfg0.N) (g0 : ¬t.val % 11 ≤ 5) (g1 : 6 ≤ t.val % 11)
    (n : Fin 16) (hn : t.val / 11 = n.val) (b : Fin 11) (hb : t.val % 11 = b.val) (y : S4x1024x128.Idx) :
    (out0_B_5 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (fun h => g0 ((hcond0_0 t).mp h)) ((hcond0_1 t).mpr g1) (iblk m c 0 t) (iblk m c 1 t) (iblk m c 2 t) (iblk m c 3 t)
      (iblk m c 4 t) : S4x1024x128.Idx → EReal) y = block m c n b (y 0) (y 1) (y 2) := by
  have gb : 6 ≤ b.val := hb ▸ g1
  frame_out
  canon_tiles x h
  · exact piece m c n b 3 (fun r e => (pay7_at _ _ r e).trans (plain_eq m c t n hn b hb gb r 3 384 rfl e)) y x (by show (y 0).val = 3; omega) h1 h2
  · exact piece m c n b 2 (fun r e => (pay6_at _ _ r e).trans (plain_eq m c t n hn b hb gb r 2 256 rfl e)) y x (by show (y 0).val = 2; omega) h1 h2
  · exact piece m c n b 1 (fun r e => (pay5_at _ _ r e).trans (plain_eq m c t n hn b hb gb r 1 128 rfl e)) y x (by show (y 0).val = 1; omega) h1 h2
  · exact piece m c n b 0 (fun r e => (pay4_at _ _ r e).trans (plain_eq m c t n hn b hb gb r 0 0 rfl e)) y x (by show (y 0).val = 0; omega) h1 h2

/-- What a point of the queries' or keys' heads leaves: its block. -/
theorem left_A (c : Dev nD) (t : Fin cfg0.N) (g0 : t.val % 11 ≤ 5) (g1 : ¬6 ≤ t.val % 11)
    (n : Fin 16) (hn : t.val / 11 = n.val) (b : Fin 11) (hb : t.val % 11 = b.val) (y : S4x1024x128.Idx) :
    (out0_A_5 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) ((hcond0_0 t).mpr g0) (fun h => g1 ((hcond0_1 t).mp h)) (iblk m c 0 t) (iblk m c 1 t) (iblk m c 2 t) (iblk m c 3 t)
      (iblk m c 4 t) : S4x1024x128.Idx → EReal) y = block m c n b (y 0) (y 1) (y 2) := by
  have gb : b.val ≤ 5 := hb ▸ g0
  frame_out
  canon_tiles x h
  · exact piece m c n b 3 (fun r e => (pay3_at _ _ _ _ _ _ r e).trans (turned_eq m c t n hn b hb gb r 3 384 rfl e)) y x (by show (y 0).val = 3; omega) h1 h2
  · exact piece m c n b 2 (fun r e => (pay2_at _ _ _ _ _ r e).trans (turned_eq m c t n hn b hb gb r 2 256 rfl e)) y x (by show (y 0).val = 2; omega) h1 h2
  · exact piece m c n b 1 (fun r e => (pay10_at _ _ _ _ _ r e).trans (turned_eq m c t n hn b hb gb r 1 128 rfl e)) y x (by show (y 0).val = 1; omega) h1 h2
  · exact piece m c n b 0 (fun r e => (pay9_at _ _ _ _ _ r e).trans (turned_eq m c t n hn b hb gb r 0 0 rfl e)) y x (by show (y 0).val = 0; omega) h1 h2

/-! ## The array -/

/-- Contents known head by head and row by row are the point's block of `result`. -/
theorem place (c : Dev nD) (t : Fin cfg0.N) (n : Fin 16) (hn : t.val / 11 = n.val) (b : Fin 11) (hb : t.val % 11 = b.val) {X : S4x1024x128.Idx → EReal}
    (hX : ∀ y : S4x1024x128.Idx, X y = block m c n b (y 0) (y 1) (y 2)) (y : S4x1024x128.Idx) : X y = result m c (((cfg0.win 5).blk t).view.emb y) := by
  let z : S44x16384x128.Idx := ((cfg0.win 5).blk t).view.emb y
  have e0 : (z 0).val = 4 * b.val + (y 0).val :=
    show cc0_transform_5 (grid0.coords t) 0 * 4 + 1 * (y 0).val = _ by rw [tr5, Matrix.cons_val_zero, hb]; omega
  have e1 : (z 1).val = n.val * 1024 + (y 1).val :=
    show cc0_transform_5 (grid0.coords t) 1 * 1024 + 1 * (y 1).val = _ by
      rw [show cc0_transform_5 (grid0.coords t) 1 = t.val / 11 from congrFun (tr5 t) 1, hn]; omega
  have e2 : (z 2).val = (y 2).val :=
    show cc0_transform_5 (grid0.coords t) 2 * 128 + 1 * (y 2).val = _ by
      rw [show cc0_transform_5 (grid0.coords t) 2 = 0 from congrFun (tr5 t) 2]; omega
  have f2 : (y 2 : Fin 128) = z 2 := Fin.ext e2.symm
  refine (hX y).trans ?_
  show Rotary.made _ _ _ _ _ _ _ _ = Rotary.made _ _ _ _ _ (z 0) (z 1) (z 2)
  rw [f2]
  exact congrArg₂ (Rotary.made _ _ _ _ _ · · (z 2)) (Fin.ext e0.symm) (Fin.ext e1.symm)

/-- The array that the write-backs leave. -/
theorem final_o (c : Dev nD) : (dats m 0 c).arrAt 5 cfg0.N = result m c := by
  refine (dats m 0 c).arrAt_eq_of_cover 5 (result m c) (fun t _ => ?_) fun i => ?_
  · have hN : t.val < 176 := lt_of_lt_of_eq t.isLt (show cfg0.N = 176 from N_0)
    funext y
    change S4x1024x128.Idx at y
    refine Eq.trans ?_ (View.read_apply _ _).symm
    by_cases g : t.val % 11 ≤ 5
    · rw [Value.flushed5_A m c t g (by omega)]
      exact place m c t ⟨t.val / 11, by omega⟩ rfl ⟨t.val % 11, by omega⟩ rfl (left_A m c t g (by omega) _ rfl _ rfl) y
    · rw [Value.flushed5_B m c t g (by omega)]
      exact place m c t ⟨t.val / 11, by omega⟩ rfl ⟨t.val % 11, by omega⟩ rfl (left_B m c t g (by omega) _ rfl _ rfl) y
  · change S44x16384x128.Idx at i
    have h0 : (i 0 : Nat) < 44 := (i 0).isLt
    have h1 : (i 1 : Nat) < 16384 := (i 1).isLt
    have h2 : (i 2 : Nat) < 128 := (i 2).isLt
    let t : Fin cfg0.N := ⟨(i 1).val / 1024 * 11 + (i 0).val / 4, lt_of_lt_of_eq (by omega : _ < 176) (show cfg0.N = 176 from N_0).symm⟩
    have ht : t.val = (i 1).val / 1024 * 11 + (i 0).val / 4 := rfl
    refine ⟨t, flush0_5 t, ?_⟩
    refine (Finset.ext_iff.mp (View.set_slice_whole main_v0 ((cfg0.win 5).rect t)) i).mpr (Rect.mem_set_unit.mpr ?_)
    intro a
    match a with
    | ⟨0, _⟩ => show cc0_transform_5 (grid0.coords t) 0 * 4 ≤ (i 0 : Nat) ∧ (i 0 : Nat) < cc0_transform_5 (grid0.coords t) 0 * 4 + 4
                rw [tr5, Matrix.cons_val_zero]; omega
    | ⟨1, _⟩ => show cc0_transform_5 (grid0.coords t) 1 * 1024 ≤ (i 1 : Nat) ∧ (i 1 : Nat) < cc0_transform_5 (grid0.coords t) 1 * 1024 + 1024
                rw [show cc0_transform_5 (grid0.coords t) 1 = t.val / 11 from congrFun (tr5 t) 1]; omega
    | ⟨2, _⟩ => show cc0_transform_5 (grid0.coords t) 2 * 128 ≤ (i 2 : Nat) ∧ (i 2 : Nat) < cc0_transform_5 (grid0.coords t) 2 * 128 + 128
                rw [show cc0_transform_5 (grid0.coords t) 2 = 0 from congrFun (tr5 t) 2]; omega

/-- The run, read: the output array at `result`, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final_o m c), (h c).2⟩) (Value.run_blocks m ρ)

end Cert.InProjIdeal.Hand

end
-- ==== Proof.InProjRef.lean ====
/-
  The input projection's reference at exact real arithmetic, read entry by entry; and what its precondition says of the tables.
-/
module

public import proofs.«01_k».proof.Proof.Gen.InProjReferenceIdeal.Run
public import proofs.«01_k».proof.Proof.Gen.Pre_tables
public import Idealize.ShloMosaic.Lib.Pointwise
public import proofs.«01_k».proof.Proof.Rotary
public import proofs.«01_k».proof.Proof.Tiles

@[expose] public section

set_option maxRecDepth 16384

noncomputable section

namespace Cert.InProjReferenceIdeal.Hand

open Cert.InProjReferenceIdeal Cert.InProjReferenceIdeal.Gen
open Idealize.ShloMosaic Idealize.ShloMosaic.TcCoe Idealize.SL.Sem

variable {F : FTy → Type} [FloatOps F]

/-- The cosines: a table's first sixteen columns. -/
def cos (A : FVec F S16384x128 .f32) : FVec F S2x8192x1x16 .f32 :=
  shapeCast _ (extractStridedSlice S16384x16 ![0, 0] A slices_S16384x128_S16384x16_0_0) shapeCasts_S16384x16_S2x8192x1x16
/-- The sines: a table's next sixteen. -/
def sin (D : FVec F S16384x128 .f32) : FVec F S2x8192x1x16 .f32 :=
  shapeCast _ (extractStridedSlice S16384x16 ![0, 16] D slices_S16384x128_S16384x16_0_16) shapeCasts_S16384x16_S2x8192x1x16
/-- The product, head by head. -/
def proj (X : FVec F S16384x2048 .bf16) (W : FVec F S4x2048x5632 .f32) : FVec F S2x8192x44x128 .f32 :=
  shapeCast _ (Host.dotGeneral dot_S16384x2048_S2048x5632_S16384x5632_1_0_0_1_n_n none (extf .f32 X bitsLt_bf16_f32)
    (shapeCast _ (extractStridedSlice S1x2048x5632 ![0, 0, 0] W slices_S4x2048x5632_S1x2048x5632_0_0_0) shapeCasts_S1x2048x5632_S2048x5632)) shapeCasts_S16384x5632_S2x8192x44x128
/-- Twelve heads, rotated. -/
def rope (t : FVec F S2x8192x12x128 .f32) (c s : FVec F S2x8192x1x16 .f32) : FVec F S2x8192x12x128 .f32 :=
  let t1 := extractStridedSlice S2x8192x12x16 ![0, 0, 0, 0] (extractStridedSlice S2x8192x12x32 ![0, 0, 0, 0] t slices_S2x8192x12x128_S2x8192x12x32_0_0_0_0) slices_S2x8192x12x32_S2x8192x12x16_0_0_0_0
  let t2 := extractStridedSlice S2x8192x12x16 ![0, 0, 0, 16] (extractStridedSlice S2x8192x12x32 ![0, 0, 0, 0] t slices_S2x8192x12x128_S2x8192x12x32_0_0_0_0) slices_S2x8192x12x32_S2x8192x12x16_0_0_0_16
  let c := broadcastInDim S2x8192x12x16 ![0, 1, 2, 3] bcast_S2x8192x1x16_S2x8192x12x16_0_1_2_3 c
  let s := broadcastInDim S2x8192x12x16 ![0, 1, 2, 3] bcast_S2x8192x1x16_S2x8192x12x16_0_1_2_3 s
  concatenate S2x8192x12x128 3
    [⟨S2x8192x12x32, concatenate S2x8192x12x32 3 [⟨S2x8192x12x16, subf (mulf t1 c) (mulf t2 s)⟩, ⟨S2x8192x12x16, addf (mulf t2 c) (mulf t1 s)⟩] concatenates_S2x8192x12x16_S2x8192x12x16_S2x8192x12x32_d3⟩,
     ⟨S2x8192x12x96, extractStridedSlice S2x8192x12x96 ![0, 0, 0, 32] t slices_S2x8192x12x128_S2x8192x12x96_0_0_0_32⟩] concatenates_S2x8192x12x32_S2x8192x12x96_S2x8192x12x128_d3
/-- The queries' heads of the product, rotated and scaled; -/
def queries (P : FVec F S2x8192x44x128 .f32) (c s : FVec F S2x8192x1x16 .f32) : FVec F S2x8192x12x128 .f32 :=
  mulf (rope (extractStridedSlice S2x8192x12x128 ![0, 0, 0, 0] P slices_S2x8192x44x128_S2x8192x12x128_0_0_0_0) c s)
    (broadcastInDim S2x8192x12x128 ![] bcast_S_S2x8192x12x128 (constant S_ .f32 0x3DB504F3#32))
/-- the keys', rotated; -/
def keys (P : FVec F S2x8192x44x128 .f32) (c s : FVec F S2x8192x1x16 .f32) : FVec F S2x8192x12x128 .f32 :=
  rope (extractStridedSlice S2x8192x12x128 ![0, 0, 12, 0] P slices_S2x8192x44x128_S2x8192x12x128_0_0_12_0) c s
/-- the remaining heads. -/
def rest (P : FVec F S2x8192x44x128 .f32) : FVec F S2x8192x20x128 .f32 :=
  extractStridedSlice S2x8192x20x128 ![0, 0, 24, 0] P slices_S2x8192x44x128_S2x8192x20x128_0_0_24_0
/-- The three as one array, its heads first. -/
def stack (Q K : FVec F S2x8192x12x128 .f32) (V : FVec F S2x8192x20x128 .f32) : FVec F S44x16384x128 .f32 :=
  shapeCast _ (transpose S44x2x8192x128 [2, 0, 1, 3] (concatenate S2x8192x44x128 2 [⟨S2x8192x12x128, Q⟩, ⟨S2x8192x12x128, K⟩, ⟨S2x8192x20x128, V⟩]
    concatenates_S2x8192x12x128_S2x8192x12x128_S2x8192x20x128_S2x8192x44x128_d2) transposes_S2x8192x44x128_S44x2x8192x128_2_0_1_3) shapeCasts_S44x2x8192x128_S44x16384x128
/-- The array, of the product. -/
def heads (P : FVec F S2x8192x44x128 .f32) (c s : FVec F S2x8192x1x16 .f32) : FVec F S44x16384x128 .f32 :=
  stack (queries P c s) (keys P c s) (rest P)

theorem result_eq (m : (ℓ : Loc nD τ sig) → Buf (Elt F) ℓ) (c : Dev nD) :
    Value.res_main_v48 m c = heads (proj (m ((c.tc : Thread nD τ).loc main_arg0)) (m ((c.tc : Thread nD τ).loc main_arg1)))
      (cos (m ((c.tc : Thread nD τ).loc main_arg2))) (sin (m ((c.tc : Thread nD τ).loc main_arg4))) := rfl

variable (X : S16384x2048.Idx → EReal) (W : S4x2048x5632.Idx → EReal) (A D : S16384x128.Idx → EReal)

/-- Row `s` of batch `b` as a row of all. -/
abbrev rowOf (b : Fin 2) (s : Fin 8192) : Fin 16384 := ⟨b.val * 8192 + s.val, by omega⟩

theorem cos_at (b : Fin 2) (s : Fin 8192) (e : Fin 16) :
    (cos (F := Ideal) A : S2x8192x1x16.Idx → EReal) (ix4 b s 0 e) = A (ix2 (rowOf b s) ⟨e.val, by omega⟩) := by
  unfold cos
  pointwise

theorem sin_at (b : Fin 2) (s : Fin 8192) (e : Fin 16) :
    (sin (F := Ideal) D : S2x8192x1x16.Idx → EReal) (ix4 b s 0 e) = D (ix2 (rowOf b s) ⟨16 + e.val, by omega⟩) := by
  unfold sin
  pointwise

theorem proj_at (b : Fin 2) (s : Fin 8192) (k : Fin 44) (e : Fin 128) :
    (proj (F := Ideal) X W : S2x8192x44x128.Idx → EReal) (ix4 b s k e) = Rotary.head X W (rowOf b s) k e := by
  unfold proj
  pointwise
  rfl

theorem rope_at (t : S2x8192x12x128.Idx → EReal) (c s : S2x8192x1x16.Idx → EReal) (b : Fin 2) (r : Fin 8192) (k : Fin 12) (e : Fin 128) :
    (rope (F := Ideal) t c s : S2x8192x12x128.Idx → EReal) (ix4 b r k e)
      = Rotary.rotated (fun e => t (ix4 b r k e)) (fun i => c (ix4 b r 0 i)) (fun i => s (ix4 b r 0 i)) e := by
  unfold rope
  pointwise
  rfl

variable (P : S2x8192x44x128.Idx → EReal) (c s : S2x8192x1x16.Idx → EReal)

theorem queries_at (b : Fin 2) (r : Fin 8192) (k : Fin 12) (e : Fin 128) :
    (queries (F := Ideal) P c s : S2x8192x12x128.Idx → EReal) (ix4 b r k e)
      = Rotary.rotated (fun e => P (ix4 b r ⟨k.val, by omega⟩ e)) (fun i => c (ix4 b r 0 i)) (fun i => s (ix4 b r 0 i)) e * Ideal.ofBits .f32 0x3DB504F3#32 := by
  unfold queries
  pointwise
  refine congrArg (· * Ideal.ofBits .f32 0x3DB504F3#32) ((rope_at _ c s b r k e).trans ?_)
  refine congrArg (Rotary.rotated · _ _ e) (funext fun e => ?_)
  pointwise

theorem keys_at (b : Fin 2) (r : Fin 8192) (k : Fin 12) (e : Fin 128) :
    (keys (F := Ideal) P c s : S2x8192x12x128.Idx → EReal) (ix4 b r k e)
      = Rotary.rotated (fun e => P (ix4 b r ⟨12 + k.val, by omega⟩ e)) (fun i => c (ix4 b r 0 i)) (fun i => s (ix4 b r 0 i)) e := by
  refine (rope_at _ c s b r k e).trans ?_
  refine congrArg (Rotary.rotated · _ _ e) (funext fun e => ?_)
  pointwise

theorem rest_at (b : Fin 2) (r : Fin 8192) (k : Fin 20) (e : Fin 128) :
    (rest (F := Ideal) P : S2x8192x20x128.Idx → EReal) (ix4 b r k e) = P (ix4 b r ⟨24 + k.val, by omega⟩ e) := by
  unfold rest
  pointwise

theorem stack_at (Q K : S2x8192x12x128.Idx → EReal) (V : S2x8192x20x128.Idx → EReal) (k : Fin 44) (p : Fin 16384) (e : Fin 128) :
    (stack (F := Ideal) Q K V : S44x16384x128.Idx → EReal) (ix3 k p e)
      = if h : k.val < 12 then Q (ix4 ⟨p.val / 8192, by omega⟩ ⟨p.val % 8192, by omega⟩ ⟨k.val, h⟩ e)
        else if h' : k.val - 12 < 12 then K (ix4 ⟨p.val / 8192, by omega⟩ ⟨p.val % 8192, by omega⟩ ⟨k.val - 12, h'⟩ e)
        else V (ix4 ⟨p.val / 8192, by omega⟩ ⟨p.val % 8192, by omega⟩ ⟨k.val - 12 - 12, by omega⟩ e) := by
  unfold stack
  pointwise

/-- The reference's array. -/
theorem result_at (k : Fin 44) (p : Fin 16384) (e : Fin 128) :
    (heads (F := Ideal) (proj (F := Ideal) X W) (cos (F := Ideal) A) (sin (F := Ideal) D) : S44x16384x128.Idx → EReal) (ix3 k p e)
      = Rotary.meant X W A D k p e := by
  have ep : rowOf ⟨p.val / 8192, by omega⟩ ⟨p.val % 8192, by omega⟩ = p := Fin.ext (by show p.val / 8192 * 8192 + p.val % 8192 = p.val; omega)
  refine (stack_at _ _ _ k p e).trans ?_
  unfold Rotary.meant Rotary.factor
  by_cases h12 : k.val < 12
  · rw [dif_pos h12, if_pos (by omega), if_pos h12, queries_at]
    simp only [proj_at, cos_at, sin_at, ep]
  · rw [dif_neg h12, if_neg h12]
    by_cases h24 : k.val < 24
    · have ek : (⟨12 + (k.val - 12), by omega⟩ : Fin 44) = k := Fin.ext (by show 12 + (k.val - 12) = k.val; omega)
      rw [dif_pos (by omega), if_pos h24, mul_one, keys_at]
      simp only [proj_at, cos_at, sin_at, ep, ek]
    · have ek : (⟨24 + (k.val - 12 - 12), by omega⟩ : Fin 44) = k := Fin.ext (by show 24 + (k.val - 12 - 12) = k.val; omega)
      rw [dif_neg (by omega), if_neg h24, rest_at]
      simp only [proj_at, ep, ek]

end Cert.InProjReferenceIdeal.Hand

namespace Cert.Pre_tables.Hand

open Idealize.ShloMosaic

/-- The precondition, read: every row of the three tables is a rotation's. -/
theorem tables_of {X : Vec Ideal Cert.Pre_tables.S16384x2048 .bf16} {W : Vec Ideal Cert.Pre_tables.S4x2048x5632 .f32}
    {A B D : Vec Ideal Cert.Pre_tables.S16384x128 .f32} (h : Cert.Pre_tables.fn (F := Ideal) X W A B D = fun _ => 1#1) (p : Fin 16384) :
    Rotary.Tables (Rotary.row A p) (Rotary.row B p) (Rotary.row D p) := by
  have all : ∀ e : Fin 128,
      (A (ix2 p e) = if h : e.val < 16 then A (ix2 p e) else if h : e.val - 16 < 16 then A (ix2 p ⟨e.val - 16, by omega⟩) else (1 : EReal))
      ∧ (B (ix2 p e) = if h : e.val < 16 then -(D (ix2 p ⟨16 + e.val, by omega⟩) : EReal) else if h : e.val - 16 < 16 then (0 : EReal) else 0)
      ∧ (D (ix2 p e) = if h : e.val < 16 then (0 : EReal) else if h : e.val - 16 < 16 then D (ix2 p ⟨16 + (e.val - 16), by omega⟩) else 0) := by
    intro e
    have h0 := congrFun h (ix2 p e)
    have h1 : Cert.Pre_tables.fn (F := Ideal) X W A B D (ix2 p e) = IntOp.andi (IntOp.andi
        (BitVec.ofBool (decide (A (ix2 p e) = if h : e.val < 16 then A (ix2 p e) else if h : e.val - 16 < 16 then A (ix2 p ⟨e.val - 16, by omega⟩) else (1 : EReal))))
        (BitVec.ofBool (decide (B (ix2 p e) = if h : e.val < 16 then -(D (ix2 p ⟨16 + e.val, by omega⟩) : EReal) else if h : e.val - 16 < 16 then (0 : EReal) else 0))))
        (BitVec.ofBool (decide (D (ix2 p e) = if h : e.val < 16 then (0 : EReal) else if h : e.val - 16 < 16 then D (ix2 p ⟨16 + (e.val - 16), by omega⟩) else 0))) := by
      unfold Cert.Pre_tables.fn
      pointwise
    obtain ⟨hab, hd⟩ := Moe.and_one (h1.symm.trans h0)
    obtain ⟨ha, hb⟩ := Moe.and_one hab
    exact ⟨of_decide_eq_true (Moe.ofBool_one ha), of_decide_eq_true (Moe.ofBool_one hb), of_decide_eq_true (Moe.ofBool_one hd)⟩
  refine ⟨fun e => (all e).1, fun e => (all e).2.1.trans ?_, fun e => ?_⟩
  · split_ifs <;> rfl
  · refine (all e).2.2.trans ?_
    by_cases h16 : e.val < 16
    · rw [dif_pos h16, dif_neg (by omega)]
    · rw [dif_neg h16]
      by_cases h32 : e.val - 16 < 16
      · rw [dif_pos h32, dif_pos (by omega)]
        exact congrArg (Rotary.row D p) (Fin.ext (by show 16 + (e.val - 16) = e.val; omega))
      · rw [dif_neg h32, dif_neg (by omega)]

end Cert.Pre_tables.Hand

end
-- ==== Proof.InProjClaims.lean ====
/-
  The claims about the input projection: it runs and leaves its arguments, and of a rotation's tables ends with the reference's
  array.
-/
module

public import proofs.«01_k».proof.Defs
public import proofs.«01_k».proof.Proof.Gen.InProj.Frame
public import proofs.«01_k».proof.Proof.InProjOut
public import proofs.«01_k».proof.Proof.InProjRef

@[expose] public section

noncomputable section

namespace Cert.Proof

open Idealize.ShloMosaic Idealize.ShloMosaic.TcCoe Idealize.SL.Sem

attribute [local instance] Cert.InProj.Gen.facts Cert.InProjIdeal.Gen.facts Cert.InProjReferenceIdeal.Gen.facts Cert.Pre_tables.Gen.facts

/-- As captured, it runs, its arguments end unchanged and every counter ends at zero; -/
theorem quiet_in_proj : Cert.quiescent_InProj := fun m g _ => Cert.InProj.Gen.frame m g

/-- so it does idealized, -/
theorem quiet_in_proj_ideal : Cert.quiescent_InProjIdeal := fun m g _ => Cert.InProjIdeal.Gen.frame m g
theorem quiet_in_proj_ideal_tables : Cert.quiescent_InProjIdeal_pre_tables := fun m g _ => Cert.InProjIdeal.Gen.frame m g

/-- and the reference. -/
theorem quiet_in_proj_reference : Cert.quiescent_InProjReferenceIdeal := fun m g _ =>
  (θ_run _ _ _).mono (fun r h => ⟨fun c => (h c).2, sem_eq_zero_of_no_sems (by decide) r.2⟩) (Cert.InProjReferenceIdeal.Value.run (F := Ideal) m g)
theorem quiet_in_proj_reference_tables : Cert.quiescent_InProjReferenceIdeal_pre_tables := fun m g _ => quiet_in_proj_reference m g trivial

/-- Of a rotation's tables, the idealized kernel and the reference end with the same array. -/
theorem in_proj_same : Cert.algebraic_InProjIdeal_InProjReferenceIdeal_pre_tables := by
  intro m g m' g' hp hm
  refine ⟨fun c => Cert.InProjIdeal.Hand.result m c, Cert.InProjIdeal.Hand.run m g, ?_⟩
  refine (θ_run _ _ _).mono (fun r h c => ⟨(h c).1.trans ?_, (h c).2⟩) (Cert.InProjReferenceIdeal.Value.run (F := Ideal) m' g')
  refine (Cert.InProjReferenceIdeal.Hand.result_eq m' c).trans ?_
  rw [(hm c).1, (hm c).2.1, (hm c).2.2.1, (hm c).2.2.2.2]
  funext y
  obtain ⟨k, p, e, rfl⟩ : ∃ k p e, y = ix3 k p e := ⟨y 0, y 1, y 2, eq_ix3 y⟩
  exact (Cert.InProjReferenceIdeal.Hand.result_at _ _ _ _ k p e).trans (Rotary.made_eq (fun p => Cert.Pre_tables.Hand.tables_of (hp c) p) k p e).symm

end Cert.Proof

end
-- ==== Proof.lean ====
/- The claims of `Cert.Claim` (proofs.«01_k».proof.Defs), assembled from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.KFrame
public import proofs.«01_k».proof.Proof.KOut
public import proofs.«01_k».proof.Proof.RefOut
public import proofs.«01_k».proof.Proof.Agree
public import proofs.«01_k».proof.Proof.Experts
public import proofs.«01_k».proof.Proof.DenseClaims
public import proofs.«01_k».proof.Proof.InProjClaims

@[expose] public section

noncomputable section

namespace Cert.Proof

open Idealize.ShloMosaic Idealize.ShloMosaic.TcCoe Idealize.SL.Sem

/-- The idealized kernel runs, its arguments end unchanged and every counter ends at zero. -/
theorem quiet_ideal : Cert.quiescent_KernelIdeal (hKernelIdeal := Cert.KernelIdeal.Gen.facts) := fun m g _ =>
  (θ_run _ _ _).mono (fun _ h => ⟨fun c => (h.1 c).2, h.2⟩) (Cert.KernelIdeal.Hand.run m g)

/-- The reference runs, its arguments end unchanged and every counter ends at zero. -/
theorem quiet_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Hand.run_at m g)

/-- Where the projection's queries and keys are real, the idealized kernel and the reference end with the same array. -/
theorem same : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hm
  refine ⟨fun c => Cert.KernelIdeal.Hand.result m c, ?_, ?_⟩
  · exact (θ_run _ _ _).mono (fun _ h => h.1) (Cert.KernelIdeal.Hand.run m g)
  · refine (θ_run _ _ _).mono (fun r h c => ⟨?_, (h c).2⟩) (Cert.ReferenceIdeal.Hand.run_at m' g')
    funext y
    obtain ⟨i, j, rfl⟩ : ∃ i j, y = ix2 i j := ⟨y 0, y 1, eq_ix2 y⟩
    refine ((h c).1 i j).trans ?_
    rw [(hm c).1, (hm c).2]
    exact (Attn.out_eq _ (fun k i e hk => Attn.pre_real _ _ (hpre c) k i e hk) _ _ _ _).symm

/-- All the claims. -/
theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.DenseUp.Gen.facts, Cert.DenseUpIdeal.Gen.facts, Cert.DenseUpReferenceIdeal.Gen.facts,
  Cert.DenseDown.Gen.facts, Cert.DenseDownIdeal.Gen.facts, Cert.DenseDownReferenceIdeal.Gen.facts,
  Cert.InProj.Gen.facts, Cert.InProjIdeal.Gen.facts, Cert.InProjReferenceIdeal.Gen.facts,
  Cert.Pre_finite.Gen.facts, Cert.Pre_up_experts.Gen.facts, Cert.Pre_up_tiles.Gen.facts, Cert.Pre_down_experts.Gen.facts, Cert.Pre_down_tiles.Gen.facts,
  Cert.Pre_tables.Gen.facts,
  fun m g _ => Cert.Kernel.Hand.quiet m g,
  quiet_ideal, fun m g _ => quiet_ideal m g trivial,
  quiet_reference, fun m g _ => quiet_reference m g trivial,
  quiet_up, quiet_up_ideal, quiet_up_ideal_tiles,
  quiet_up_reference, fun m g _ => quiet_up_reference m g trivial,
  quiet_down, quiet_down_ideal, quiet_down_ideal_tiles,
  quiet_down_reference, fun m g _ => quiet_down_reference m g trivial,
  quiet_dense_up, quiet_dense_up_ideal, quiet_dense_up_reference,
  quiet_dense_down, quiet_dense_down_ideal, quiet_dense_down_reference,
  quiet_in_proj, quiet_in_proj_ideal, quiet_in_proj_ideal_tables,
  quiet_in_proj_reference, quiet_in_proj_reference_tables,
  IdealRules.named_const.statement _ _ _ _ _ rfl,
  same, trivial, up_same, trivial, down_same, trivial, dense_up_same, trivial, dense_down_same, trivial, in_proj_same⟩

end Cert.Proof

end
